-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesRefIdeal (m : (ℓ : Loc Cert.CodesRefIdeal.nD Cert.CodesRefIdeal.τ Cert.CodesRefIdeal.sig) → Buf (Elt Ideal) ℓ) : Prop :=
  True

def Pre_CodesRef (m : (ℓ : Loc Cert.CodesRef.nD Cert.CodesRef.τ Cert.CodesRef.sig) → Buf (Elt Bits) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_Ranking (m : (ℓ : Loc Cert.Ranking.nD Cert.Ranking.τ Cert.Ranking.sig) → Buf (Elt Bits) ℓ) : Prop :=
  True

def Pre_RankingIdeal (m : (ℓ : Loc Cert.RankingIdeal.nD Cert.RankingIdeal.τ Cert.RankingIdeal.sig) → Buf (Elt Ideal) ℓ) : Prop :=
  True

def Pre_RankingRefIdeal (m : (ℓ : Loc Cert.RankingRefIdeal.nD Cert.RankingRefIdeal.τ Cert.RankingRefIdeal.sig) → Buf (Elt Ideal) ℓ) : Prop :=
  True

def Pre_Slots [hPre_no_ties : Cert.Pre_no_ties.Facts] (m : (ℓ : Loc Cert.Slots.nD Cert.Slots.τ Cert.Slots.sig) → Buf (Elt Bits) ℓ) : Prop :=
  ∀ c : Dev Cert.Slots.nD,
    (Cert.Pre_no_ties.fn (F := Bits) (m ((c.tc : Thread Cert.Slots.nD Cert.Slots.τ).loc Cert.Slots.main_arg0)) (m ((c.tc : Thread Cert.Slots.nD Cert.Slots.τ).loc Cert.Slots.main_arg1)) (m ((c.tc : Thread Cert.Slots.nD Cert.Slots.τ).loc Cert.Slots.main_arg2)) (m ((c.tc : Thread Cert.Slots.nD Cert.Slots.τ).loc Cert.Slots.main_arg3))) = (fun _ => 1#1)

def Pre_SlotsIdeal [hPre_no_ties : Cert.Pre_no_ties.Facts] (m : (ℓ : Loc Cert.SlotsIdeal.nD Cert.SlotsIdeal.τ Cert.SlotsIdeal.sig) → Buf (Elt Ideal) ℓ) : Prop :=
  ∀ c : Dev Cert.SlotsIdeal.nD,
    (Cert.Pre_no_ties.fn (F := Ideal) (m ((c.tc : Thread Cert.SlotsIdeal.nD Cert.SlotsIdeal.τ).loc Cert.SlotsIdeal.main_arg0)) (m ((c.tc : Thread Cert.SlotsIdeal.nD Cert.SlotsIdeal.τ).loc Cert.SlotsIdeal.main_arg1)) (m ((c.tc : Thread Cert.SlotsIdeal.nD Cert.SlotsIdeal.τ).loc Cert.SlotsIdeal.main_arg2)) (m ((c.tc : Thread Cert.SlotsIdeal.nD Cert.SlotsIdeal.τ).loc Cert.SlotsIdeal.main_arg3))) = (fun _ => 1#1)

def Pre_SlotsRefIdeal (m : (ℓ : Loc Cert.SlotsRefIdeal.nD Cert.SlotsRefIdeal.τ Cert.SlotsRefIdeal.sig) → Buf (Elt Ideal) ℓ) : Prop :=
  True

def Pre_SlotsRefIdeal_no_ties [hPre_no_ties : Cert.Pre_no_ties.Facts] (m : (ℓ : Loc Cert.SlotsRefIdeal.nD Cert.SlotsRefIdeal.τ Cert.SlotsRefIdeal.sig) → Buf (Elt Ideal) ℓ) : Prop :=
  ∀ c : Dev Cert.SlotsRefIdeal.nD,
    (Cert.Pre_no_ties.fn (F := Ideal) (m ((c.tc : Thread Cert.SlotsRefIdeal.nD Cert.SlotsRefIdeal.τ).loc Cert.SlotsRefIdeal.main_arg0)) (m ((c.tc : Thread Cert.SlotsRefIdeal.nD Cert.SlotsRefIdeal.τ).loc Cert.SlotsRefIdeal.main_arg1)) (m ((c.tc : Thread Cert.SlotsRefIdeal.nD Cert.SlotsRefIdeal.τ).loc Cert.SlotsRefIdeal.main_arg2)) (m ((c.tc : Thread Cert.SlotsRefIdeal.nD Cert.SlotsRefIdeal.τ).loc Cert.SlotsRefIdeal.main_arg3))) = (fun _ => 1#1)

def Pre_SlotsRef [hPre_no_ties : Cert.Pre_no_ties.Facts] (m : (ℓ : Loc Cert.SlotsRef.nD Cert.SlotsRef.τ Cert.SlotsRef.sig) → Buf (Elt Bits) ℓ) : Prop :=
  ∀ c : Dev Cert.SlotsRef.nD,
    (Cert.Pre_no_ties.fn (F := Bits) (m ((c.tc : Thread Cert.SlotsRef.nD Cert.SlotsRef.τ).loc Cert.SlotsRef.main_arg0)) (m ((c.tc : Thread Cert.SlotsRef.nD Cert.SlotsRef.τ).loc Cert.SlotsRef.main_arg1)) (m ((c.tc : Thread Cert.SlotsRef.nD Cert.SlotsRef.τ).loc Cert.SlotsRef.main_arg2)) (m ((c.tc : Thread Cert.SlotsRef.nD Cert.SlotsRef.τ).loc Cert.SlotsRef.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0))
      ∧ r.2.sem = fun _ => 0)

def quiescent_CodesRefIdeal [hCodesRefIdeal : Cert.CodesRefIdeal.Facts] : Prop :=
  ∀ (m : (ℓ : Loc Cert.CodesRefIdeal.nD Cert.CodesRefIdeal.τ Cert.CodesRefIdeal.sig) → Buf (Elt Ideal) ℓ) (g : Dev Cert.CodesRefIdeal.nD → PrngReg), Pre_CodesRefIdeal m →
    θ_run (Cert.CodesRefIdeal.defs (F := Ideal)) (onTc (τ := Cert.CodesRefIdeal.τ) (Cert.CodesRefIdeal.main (F := Ideal))) ⟨m, fun _ => 0, g⟩ (fun r => (∀ c : Dev Cert.CodesRefIdeal.nD,
      r.2.mem ((c.tc : Thread Cert.CodesRefIdeal.nD Cert.CodesRefIdeal.τ).loc Cert.CodesRefIdeal.main_arg0) = m ((c.tc : Thread Cert.CodesRefIdeal.nD Cert.CodesRefIdeal.τ).loc Cert.CodesRefIdeal.main_arg0))
      ∧ r.2.sem = fun _ => 0)

def quiescent_CodesRef [hCodesRef : Cert.CodesRef.Facts] : Prop :=
  ∀ (m : (ℓ : Loc Cert.CodesRef.nD Cert.CodesRef.τ Cert.CodesRef.sig) → Buf (Elt Bits) ℓ) (g : Dev Cert.CodesRef.nD → PrngReg), Pre_CodesRef m →
    θ_run (Cert.CodesRef.defs (F := Bits)) (onTc (τ := Cert.CodesRef.τ) (Cert.CodesRef.main (F := Bits))) ⟨m, fun _ => 0, g⟩ (fun r => (∀ c : Dev Cert.CodesRef.nD,
      r.2.mem ((c.tc : Thread Cert.CodesRef.nD Cert.CodesRef.τ).loc Cert.CodesRef.main_arg0) = m ((c.tc : Thread Cert.CodesRef.nD Cert.CodesRef.τ).loc Cert.CodesRef.main_arg0))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8)
      ∧ r.2.mem ((c.tc : Thread Cert.Attention.nD Cert.Attention.τ).loc Cert.Attention.main_arg9) = m ((c.tc : Thread Cert.Attention.nD Cert.Attention.τ).loc Cert.Attention.main_arg9)
      ∧ r.2.mem ((c.tc : Thread Cert.Attention.nD Cert.Attention.τ).loc Cert.Attention.main_arg10) = m ((c.tc : Thread Cert.Attention.nD Cert.Attention.τ).loc Cert.Attention.main_arg10)
      ∧ r.2.mem ((c.tc : Thread Cert.Attention.nD Cert.Attention.τ).loc Cert.Attention.main_arg11) = m ((c.tc : Thread Cert.Attention.nD Cert.Attention.τ).loc Cert.Attention.main_arg11)
      ∧ r.2.mem ((c.tc : Thread Cert.Attention.nD Cert.Attention.τ).loc Cert.Attention.main_arg12) = m ((c.tc : Thread Cert.Attention.nD Cert.Attention.τ).loc Cert.Attention.main_arg12)
      ∧ r.2.mem ((c.tc : Thread Cert.Attention.nD Cert.Attention.τ).loc Cert.Attention.main_arg13) = m ((c.tc : Thread Cert.Attention.nD Cert.Attention.τ).loc Cert.Attention.main_arg13)
      ∧ r.2.mem ((c.tc : Thread Cert.Attention.nD Cert.Attention.τ).loc Cert.Attention.main_arg14) = m ((c.tc : Thread Cert.Attention.nD Cert.Attention.τ).loc Cert.Attention.main_arg14)
      ∧ r.2.mem ((c.tc : Thread Cert.Attention.nD Cert.Attention.τ).loc Cert.Attention.main_arg15) = m ((c.tc : Thread Cert.Attention.nD Cert.Attention.τ).loc Cert.Attention.main_arg15)
      ∧ r.2.mem ((c.tc : Thread Cert.Attention.nD Cert.Attention.τ).loc Cert.Attention.main_arg16) = m ((c.tc : Thread Cert.Attention.nD Cert.Attention.τ).loc Cert.Attention.main_arg16))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
      ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
      ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
      ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
      ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7)
      ∧ r.2.mem ((c.tc : Thread Cert.AttentionRefIdeal.nD Cert.AttentionRefIdeal.τ).loc Cert.AttentionRefIdeal.main_arg8) = m ((c.tc : Thread Cert.AttentionRefIdeal.nD Cert.AttentionRefIdeal.τ).loc Cert.AttentionRefIdeal.main_arg8)
      ∧ r.2.mem ((c.tc : Thread Cert.AttentionRefIdeal.nD Cert.AttentionRefIdeal.τ).loc Cert.AttentionRefIdeal.main_arg9) = m ((c.tc : Thread Cert.AttentionRefIdeal.nD Cert.AttentionRefIdeal.τ).loc Cert.AttentionRefIdeal.main_arg9)
      ∧ r.2.mem ((c.tc : Thread Cert.AttentionRefIdeal.nD Cert.AttentionRefIdeal.τ).loc Cert.AttentionRefIdeal.main_arg10) = m ((c.tc : Thread Cert.AttentionRefIdeal.nD Cert.AttentionRefIdeal.τ).loc Cert.AttentionRefIdeal.main_arg10)
      ∧ r.2.mem ((c.tc : Thread Cert.AttentionRefIdeal.nD Cert.AttentionRefIdeal.τ).loc Cert.AttentionRefIdeal.main_arg11) = m ((c.tc : Thread Cert.AttentionRefIdeal.nD Cert.AttentionRefIdeal.τ).loc Cert.AttentionRefIdeal.main_arg11)
      ∧ r.2.mem ((c.tc : Thread Cert.AttentionRefIdeal.nD Cert.AttentionRefIdeal.τ).loc Cert.AttentionRefIdeal.main_arg12) = m ((c.tc : Thread Cert.AttentionRefIdeal.nD Cert.AttentionRefIdeal.τ).loc Cert.AttentionRefIdeal.main_arg12)
      ∧ r.2.mem ((c.tc : Thread Cert.AttentionRefIdeal.nD Cert.AttentionRefIdeal.τ).loc Cert.AttentionRefIdeal.main_arg13) = m ((c.tc : Thread Cert.AttentionRefIdeal.nD Cert.AttentionRefIdeal.τ).loc Cert.AttentionRefIdeal.main_arg13)
      ∧ r.2.mem ((c.tc : Thread Cert.AttentionRefIdeal.nD Cert.AttentionRefIdeal.τ).loc Cert.AttentionRefIdeal.main_arg14) = m ((c.tc : Thread Cert.AttentionRefIdeal.nD Cert.AttentionRefIdeal.τ).loc Cert.AttentionRefIdeal.main_arg14)
      ∧ r.2.mem ((c.tc : Thread Cert.AttentionRefIdeal.nD Cert.AttentionRefIdeal.τ).loc Cert.AttentionRefIdeal.main_arg15) = m ((c.tc : Thread Cert.AttentionRefIdeal.nD Cert.AttentionRefIdeal.τ).loc Cert.AttentionRefIdeal.main_arg15)
      ∧ r.2.mem ((c.tc : Thread Cert.AttentionRefIdeal.nD Cert.AttentionRefIdeal.τ).loc Cert.AttentionRefIdeal.main_arg16) = m ((c.tc : Thread Cert.AttentionRefIdeal.nD Cert.AttentionRefIdeal.τ).loc Cert.AttentionRefIdeal.main_arg16))
      ∧ r.2.sem = fun _ => 0)

def quiescent_Ranking [hRanking : Cert.Ranking.Facts] : Prop :=
  ∀ (m : (ℓ : Loc Cert.Ranking.nD Cert.Ranking.τ Cert.Ranking.sig) → Buf (Elt Bits) ℓ) (g : Dev Cert.Ranking.nD → PrngReg), Pre_Ranking m →
    θ_run (Cert.Ranking.defs (F := Bits)) (onTc (τ := Cert.Ranking.τ) (Cert.Ranking.main (F := Bits))) ⟨m, fun _ => 0, g⟩ (fun r => (∀ c : Dev Cert.Ranking.nD,
      r.2.mem ((c.tc : Thread Cert.Ranking.nD Cert.Ranking.τ).loc Cert.Ranking.main_arg0) = m ((c.tc : Thread Cert.Ranking.nD Cert.Ranking.τ).loc Cert.Ranking.main_arg0))
      ∧ r.2.sem = fun _ => 0)

def quiescent_RankingIdeal [hRankingIdeal : Cert.RankingIdeal.Facts] : Prop :=
  ∀ (m : (ℓ : Loc Cert.RankingIdeal.nD Cert.RankingIdeal.τ Cert.RankingIdeal.sig) → Buf (Elt Ideal) ℓ) (g : Dev Cert.RankingIdeal.nD → PrngReg), Pre_RankingIdeal m →
    θ_run (Cert.RankingIdeal.defs (F := Ideal)) (onTc (τ := Cert.RankingIdeal.τ) (Cert.RankingIdeal.main (F := Ideal))) ⟨m, fun _ => 0, g⟩ (fun r => (∀ c : Dev Cert.RankingIdeal.nD,
      r.2.mem ((c.tc : Thread Cert.RankingIdeal.nD Cert.RankingIdeal.τ).loc Cert.RankingIdeal.main_arg0) = m ((c.tc : Thread Cert.RankingIdeal.nD Cert.RankingIdeal.τ).loc Cert.RankingIdeal.main_arg0))
      ∧ r.2.sem = fun _ => 0)

def quiescent_RankingRefIdeal [hRankingRefIdeal : Cert.RankingRefIdeal.Facts] : Prop :=
  ∀ (m : (ℓ : Loc Cert.RankingRefIdeal.nD Cert.RankingRefIdeal.τ Cert.RankingRefIdeal.sig) → Buf (Elt Ideal) ℓ) (g : Dev Cert.RankingRefIdeal.nD → PrngReg), Pre_RankingRefIdeal m →
    θ_run (Cert.RankingRefIdeal.defs (F := Ideal)) (onTc (τ := Cert.RankingRefIdeal.τ) (Cert.RankingRefIdeal.main (F := Ideal))) ⟨m, fun _ => 0, g⟩ (fun r => (∀ c : Dev Cert.RankingRefIdeal.nD,
      r.2.mem ((c.tc : Thread Cert.RankingRefIdeal.nD Cert.RankingRefIdeal.τ).loc Cert.RankingRefIdeal.main_arg0) = m ((c.tc : Thread Cert.RankingRefIdeal.nD Cert.RankingRefIdeal.τ).loc Cert.RankingRefIdeal.main_arg0))
      ∧ r.2.sem = fun _ => 0)

def quiescent_Slots [hSlots : Cert.Slots.Facts] [hPre_no_ties : Cert.Pre_no_ties.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0)
      ∧ r.2.mem ((c.tc : Thread Cert.Slots.nD Cert.Slots.τ).loc Cert.Slots.main_arg1) = m ((c.tc : Thread Cert.Slots.nD Cert.Slots.τ).loc Cert.Slots.main_arg1)
      ∧ r.2.mem ((c.tc : Thread Cert.Slots.nD Cert.Slots.τ).loc Cert.Slots.main_arg2) = m ((c.tc : Thread Cert.Slots.nD Cert.Slots.τ).loc Cert.Slots.main_arg2)
      ∧ r.2.mem ((c.tc : Thread Cert.Slots.nD Cert.Slots.τ).loc Cert.Slots.main_arg3) = m ((c.tc : Thread Cert.Slots.nD Cert.Slots.τ).loc Cert.Slots.main_arg3))
      ∧ r.2.sem = fun _ => 0)

def quiescent_SlotsIdeal [hSlotsIdeal : Cert.SlotsIdeal.Facts] [hPre_no_ties : Cert.Pre_no_ties.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
      ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
      ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2)
      ∧ r.2.mem ((c.tc : Thread Cert.SlotsIdeal.nD Cert.SlotsIdeal.τ).loc Cert.SlotsIdeal.main_arg3) = m ((c.tc : Thread Cert.SlotsIdeal.nD Cert.SlotsIdeal.τ).loc Cert.SlotsIdeal.main_arg3))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0)
      ∧ r.2.mem ((c.tc : Thread Cert.SlotsRefIdeal.nD Cert.SlotsRefIdeal.τ).loc Cert.SlotsRefIdeal.main_arg1) = m ((c.tc : Thread Cert.SlotsRefIdeal.nD Cert.SlotsRefIdeal.τ).loc Cert.SlotsRefIdeal.main_arg1)
      ∧ r.2.mem ((c.tc : Thread Cert.SlotsRefIdeal.nD Cert.SlotsRefIdeal.τ).loc Cert.SlotsRefIdeal.main_arg2) = m ((c.tc : Thread Cert.SlotsRefIdeal.nD Cert.SlotsRefIdeal.τ).loc Cert.SlotsRefIdeal.main_arg2)
      ∧ r.2.mem ((c.tc : Thread Cert.SlotsRefIdeal.nD Cert.SlotsRefIdeal.τ).loc Cert.SlotsRefIdeal.main_arg3) = m ((c.tc : Thread Cert.SlotsRefIdeal.nD Cert.SlotsRefIdeal.τ).loc Cert.SlotsRefIdeal.main_arg3))
      ∧ r.2.sem = fun _ => 0)

def quiescent_SlotsRefIdeal_pre_no_ties [hSlotsRefIdeal : Cert.SlotsRefIdeal.Facts] [hPre_no_ties : Cert.Pre_no_ties.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal_no_ties m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0)
      ∧ r.2.mem ((c.tc : Thread Cert.SlotsRefIdeal.nD Cert.SlotsRefIdeal.τ).loc Cert.SlotsRefIdeal.main_arg1) = m ((c.tc : Thread Cert.SlotsRefIdeal.nD Cert.SlotsRefIdeal.τ).loc Cert.SlotsRefIdeal.main_arg1)
      ∧ r.2.mem ((c.tc : Thread Cert.SlotsRefIdeal.nD Cert.SlotsRefIdeal.τ).loc Cert.SlotsRefIdeal.main_arg2) = m ((c.tc : Thread Cert.SlotsRefIdeal.nD Cert.SlotsRefIdeal.τ).loc Cert.SlotsRefIdeal.main_arg2)
      ∧ r.2.mem ((c.tc : Thread Cert.SlotsRefIdeal.nD Cert.SlotsRefIdeal.τ).loc Cert.SlotsRefIdeal.main_arg3) = m ((c.tc : Thread Cert.SlotsRefIdeal.nD Cert.SlotsRefIdeal.τ).loc Cert.SlotsRefIdeal.main_arg3))
      ∧ r.2.sem = fun _ => 0)

def quiescent_SlotsRef [hSlotsRef : Cert.SlotsRef.Facts] [hPre_no_ties : Cert.Pre_no_ties.Facts] : Prop :=
  ∀ (m : (ℓ : Loc Cert.SlotsRef.nD Cert.SlotsRef.τ Cert.SlotsRef.sig) → Buf (Elt Bits) ℓ) (g : Dev Cert.SlotsRef.nD → PrngReg), Pre_SlotsRef m →
    θ_run (Cert.SlotsRef.defs (F := Bits)) (onTc (τ := Cert.SlotsRef.τ) (Cert.SlotsRef.main (F := Bits))) ⟨m, fun _ => 0, g⟩ (fun r => (∀ c : Dev Cert.SlotsRef.nD,
      r.2.mem ((c.tc : Thread Cert.SlotsRef.nD Cert.SlotsRef.τ).loc Cert.SlotsRef.main_arg0) = m ((c.tc : Thread Cert.SlotsRef.nD Cert.SlotsRef.τ).loc Cert.SlotsRef.main_arg0)
      ∧ r.2.mem ((c.tc : Thread Cert.SlotsRef.nD Cert.SlotsRef.τ).loc Cert.SlotsRef.main_arg1) = m ((c.tc : Thread Cert.SlotsRef.nD Cert.SlotsRef.τ).loc Cert.SlotsRef.main_arg1)
      ∧ r.2.mem ((c.tc : Thread Cert.SlotsRef.nD Cert.SlotsRef.τ).loc Cert.SlotsRef.main_arg2) = m ((c.tc : Thread Cert.SlotsRef.nD Cert.SlotsRef.τ).loc Cert.SlotsRef.main_arg2)
      ∧ r.2.mem ((c.tc : Thread Cert.SlotsRef.nD Cert.SlotsRef.τ).loc Cert.SlotsRef.main_arg3) = m ((c.tc : Thread Cert.SlotsRef.nD Cert.SlotsRef.τ).loc Cert.SlotsRef.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v0_0)) (v2 : (c : Dev Cert.Kernel.nD) → Buf (Elt Bits) ((c.tc : Thread Cert.Kernel.nD Cert.Kernel.τ).loc Cert.Kernel.main_v0_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v0_0) = v1 c
          ∧ r.2.mem ((c.tc : Thread Cert.Kernel.nD Cert.Kernel.τ).loc Cert.Kernel.main_v0_1) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v31) = v0 c
          ∧ r.2.mem ((c.tc : Thread Cert.Reference.nD Cert.Reference.τ).loc Cert.Reference.main_v16) = v1 c
          ∧ r.2.mem ((c.tc : Thread Cert.Reference.nD Cert.Reference.τ).loc Cert.Reference.main_v8) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Codes_CodesIdeal : Prop :=
  True

def algebraic_CodesIdeal_CodesRefIdeal [hCodesIdeal : Cert.CodesIdeal.Facts] [hCodesRefIdeal : Cert.CodesRefIdeal.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesRefIdeal.nD Cert.CodesRefIdeal.τ Cert.CodesRefIdeal.sig) → Buf (Elt Ideal) ℓ) (g' : Dev Cert.CodesRefIdeal.nD → PrngReg), Pre_CodesIdeal m →
    (∀ c : Dev Cert.CodesIdeal.nD,
      m' ((c.tc : Thread Cert.CodesRefIdeal.nD Cert.CodesRefIdeal.τ).loc Cert.CodesRefIdeal.main_arg0) = m ((c.tc : Thread Cert.CodesIdeal.nD Cert.CodesIdeal.τ).loc Cert.CodesIdeal.main_arg0)) →
    ∃ (v0 : (c : Dev Cert.CodesIdeal.nD) → Buf (Elt Ideal) ((c.tc : Thread Cert.CodesIdeal.nD Cert.CodesIdeal.τ).loc Cert.CodesIdeal.main_v0)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v0) = v0 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0))
      ∧ θ_run (Cert.CodesRefIdeal.defs (F := Ideal)) (onTc (τ := Cert.CodesRefIdeal.τ) (Cert.CodesRefIdeal.main (F := Ideal))) ⟨m', fun _ => 0, g'⟩ (fun r => ∀ c : Dev Cert.CodesRefIdeal.nD,
          r.2.mem ((c.tc : Thread Cert.CodesRefIdeal.nD Cert.CodesRefIdeal.τ).loc Cert.CodesRefIdeal.main_v16) = v0 c
          ∧ r.2.mem ((c.tc : Thread Cert.CodesRefIdeal.nD Cert.CodesRefIdeal.τ).loc Cert.CodesRefIdeal.main_arg0) = m' ((c.tc : Thread Cert.CodesRefIdeal.nD Cert.CodesRefIdeal.τ).loc Cert.CodesRefIdeal.main_arg0))

def bitexact_Codes_CodesRef [hCodes : Cert.Codes.Facts] [hCodesRef : Cert.CodesRef.Facts] : Prop :=
  ∀ (m : (ℓ : Loc Cert.Codes.nD Cert.Codes.τ Cert.Codes.sig) → Buf (Elt Bits) ℓ) (g : Dev Cert.Codes.nD → PrngReg)
    (m' : (ℓ : Loc Cert.CodesRef.nD Cert.CodesRef.τ Cert.CodesRef.sig) → Buf (Elt Bits) ℓ) (g' : Dev Cert.CodesRef.nD → PrngReg), Pre_Codes m →
    (∀ c : Dev Cert.Codes.nD,
      m' ((c.tc : Thread Cert.CodesRef.nD Cert.CodesRef.τ).loc Cert.CodesRef.main_arg0) = m ((c.tc : Thread Cert.Codes.nD Cert.Codes.τ).loc Cert.Codes.main_arg0)) →
    ∃ (v0 : (c : Dev Cert.Codes.nD) → Buf (Elt Bits) ((c.tc : Thread Cert.Codes.nD Cert.Codes.τ).loc Cert.Codes.main_v0)),
      θ_run (Cert.Codes.defs (F := Bits)) (onTc (τ := Cert.Codes.τ) (Cert.Codes.main (F := Bits))) ⟨m, fun _ => 0, g⟩ (fun r => ∀ c : Dev Cert.Codes.nD,
          r.2.mem ((c.tc : Thread Cert.Codes.nD Cert.Codes.τ).loc Cert.Codes.main_v0) = v0 c
          ∧ r.2.mem ((c.tc : Thread Cert.Codes.nD Cert.Codes.τ).loc Cert.Codes.main_arg0) = m ((c.tc : Thread Cert.Codes.nD Cert.Codes.τ).loc Cert.Codes.main_arg0))
      ∧ θ_run (Cert.CodesRef.defs (F := Bits)) (onTc (τ := Cert.CodesRef.τ) (Cert.CodesRef.main (F := Bits))) ⟨m', fun _ => 0, g'⟩ (fun r => ∀ c : Dev Cert.CodesRef.nD,
          r.2.mem ((c.tc : Thread Cert.CodesRef.nD Cert.CodesRef.τ).loc Cert.CodesRef.main_v16) = v0 c
          ∧ r.2.mem ((c.tc : Thread Cert.CodesRef.nD Cert.CodesRef.τ).loc Cert.CodesRef.main_arg0) = m' ((c.tc : Thread Cert.CodesRef.nD Cert.CodesRef.τ).loc Cert.CodesRef.main_arg0))

def preserves_Attention_AttentionIdeal : Prop :=
  True

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)
      ∧ m' ((c.tc : Thread Cert.AttentionRefIdeal.nD Cert.AttentionRefIdeal.τ).loc Cert.AttentionRefIdeal.main_arg8) = m ((c.tc : Thread Cert.AttentionIdeal.nD Cert.AttentionIdeal.τ).loc Cert.AttentionIdeal.main_arg8)
      ∧ m' ((c.tc : Thread Cert.AttentionRefIdeal.nD Cert.AttentionRefIdeal.τ).loc Cert.AttentionRefIdeal.main_arg9) = m ((c.tc : Thread Cert.AttentionIdeal.nD Cert.AttentionIdeal.τ).loc Cert.AttentionIdeal.main_arg9)
      ∧ m' ((c.tc : Thread Cert.AttentionRefIdeal.nD Cert.AttentionRefIdeal.τ).loc Cert.AttentionRefIdeal.main_arg10) = m ((c.tc : Thread Cert.AttentionIdeal.nD Cert.AttentionIdeal.τ).loc Cert.AttentionIdeal.main_arg10)
      ∧ m' ((c.tc : Thread Cert.AttentionRefIdeal.nD Cert.AttentionRefIdeal.τ).loc Cert.AttentionRefIdeal.main_arg11) = m ((c.tc : Thread Cert.AttentionIdeal.nD Cert.AttentionIdeal.τ).loc Cert.AttentionIdeal.main_arg11)
      ∧ m' ((c.tc : Thread Cert.AttentionRefIdeal.nD Cert.AttentionRefIdeal.τ).loc Cert.AttentionRefIdeal.main_arg12) = m ((c.tc : Thread Cert.AttentionIdeal.nD Cert.AttentionIdeal.τ).loc Cert.AttentionIdeal.main_arg12)
      ∧ m' ((c.tc : Thread Cert.AttentionRefIdeal.nD Cert.AttentionRefIdeal.τ).loc Cert.AttentionRefIdeal.main_arg13) = m ((c.tc : Thread Cert.AttentionIdeal.nD Cert.AttentionIdeal.τ).loc Cert.AttentionIdeal.main_arg13)
      ∧ m' ((c.tc : Thread Cert.AttentionRefIdeal.nD Cert.AttentionRefIdeal.τ).loc Cert.AttentionRefIdeal.main_arg14) = m ((c.tc : Thread Cert.AttentionIdeal.nD Cert.AttentionIdeal.τ).loc Cert.AttentionIdeal.main_arg14)
      ∧ m' ((c.tc : Thread Cert.AttentionRefIdeal.nD Cert.AttentionRefIdeal.τ).loc Cert.AttentionRefIdeal.main_arg15) = m ((c.tc : Thread Cert.AttentionIdeal.nD Cert.AttentionIdeal.τ).loc Cert.AttentionIdeal.main_arg15)
      ∧ m' ((c.tc : Thread Cert.AttentionRefIdeal.nD Cert.AttentionRefIdeal.τ).loc Cert.AttentionRefIdeal.main_arg16) = m ((c.tc : Thread Cert.AttentionIdeal.nD Cert.AttentionIdeal.τ).loc Cert.AttentionIdeal.main_arg16)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
          ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
          ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12)
          ∧ r.2.mem ((c.tc : Thread Cert.AttentionIdeal.nD Cert.AttentionIdeal.τ).loc Cert.AttentionIdeal.main_arg13) = m ((c.tc : Thread Cert.AttentionIdeal.nD Cert.AttentionIdeal.τ).loc Cert.AttentionIdeal.main_arg13)
          ∧ r.2.mem ((c.tc : Thread Cert.AttentionIdeal.nD Cert.AttentionIdeal.τ).loc Cert.AttentionIdeal.main_arg14) = m ((c.tc : Thread Cert.AttentionIdeal.nD Cert.AttentionIdeal.τ).loc Cert.AttentionIdeal.main_arg14)
          ∧ r.2.mem ((c.tc : Thread Cert.AttentionIdeal.nD Cert.AttentionIdeal.τ).loc Cert.AttentionIdeal.main_arg15) = m ((c.tc : Thread Cert.AttentionIdeal.nD Cert.AttentionIdeal.τ).loc Cert.AttentionIdeal.main_arg15)
          ∧ r.2.mem ((c.tc : Thread Cert.AttentionIdeal.nD Cert.AttentionIdeal.τ).loc Cert.AttentionIdeal.main_arg16) = m ((c.tc : Thread Cert.AttentionIdeal.nD Cert.AttentionIdeal.τ).loc Cert.AttentionIdeal.main_arg16))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v69) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7)
          ∧ r.2.mem ((c.tc : Thread Cert.AttentionRefIdeal.nD Cert.AttentionRefIdeal.τ).loc Cert.AttentionRefIdeal.main_arg8) = m' ((c.tc : Thread Cert.AttentionRefIdeal.nD Cert.AttentionRefIdeal.τ).loc Cert.AttentionRefIdeal.main_arg8)
          ∧ r.2.mem ((c.tc : Thread Cert.AttentionRefIdeal.nD Cert.AttentionRefIdeal.τ).loc Cert.AttentionRefIdeal.main_arg9) = m' ((c.tc : Thread Cert.AttentionRefIdeal.nD Cert.AttentionRefIdeal.τ).loc Cert.AttentionRefIdeal.main_arg9)
          ∧ r.2.mem ((c.tc : Thread Cert.AttentionRefIdeal.nD Cert.AttentionRefIdeal.τ).loc Cert.AttentionRefIdeal.main_arg10) = m' ((c.tc : Thread Cert.AttentionRefIdeal.nD Cert.AttentionRefIdeal.τ).loc Cert.AttentionRefIdeal.main_arg10)
          ∧ r.2.mem ((c.tc : Thread Cert.AttentionRefIdeal.nD Cert.AttentionRefIdeal.τ).loc Cert.AttentionRefIdeal.main_arg11) = m' ((c.tc : Thread Cert.AttentionRefIdeal.nD Cert.AttentionRefIdeal.τ).loc Cert.AttentionRefIdeal.main_arg11)
          ∧ r.2.mem ((c.tc : Thread Cert.AttentionRefIdeal.nD Cert.AttentionRefIdeal.τ).loc Cert.AttentionRefIdeal.main_arg12) = m' ((c.tc : Thread Cert.AttentionRefIdeal.nD Cert.AttentionRefIdeal.τ).loc Cert.AttentionRefIdeal.main_arg12)
          ∧ r.2.mem ((c.tc : Thread Cert.AttentionRefIdeal.nD Cert.AttentionRefIdeal.τ).loc Cert.AttentionRefIdeal.main_arg13) = m' ((c.tc : Thread Cert.AttentionRefIdeal.nD Cert.AttentionRefIdeal.τ).loc Cert.AttentionRefIdeal.main_arg13)
          ∧ r.2.mem ((c.tc : Thread Cert.AttentionRefIdeal.nD Cert.AttentionRefIdeal.τ).loc Cert.AttentionRefIdeal.main_arg14) = m' ((c.tc : Thread Cert.AttentionRefIdeal.nD Cert.AttentionRefIdeal.τ).loc Cert.AttentionRefIdeal.main_arg14)
          ∧ r.2.mem ((c.tc : Thread Cert.AttentionRefIdeal.nD Cert.AttentionRefIdeal.τ).loc Cert.AttentionRefIdeal.main_arg15) = m' ((c.tc : Thread Cert.AttentionRefIdeal.nD Cert.AttentionRefIdeal.τ).loc Cert.AttentionRefIdeal.main_arg15)
          ∧ r.2.mem ((c.tc : Thread Cert.AttentionRefIdeal.nD Cert.AttentionRefIdeal.τ).loc Cert.AttentionRefIdeal.main_arg16) = m' ((c.tc : Thread Cert.AttentionRefIdeal.nD Cert.AttentionRefIdeal.τ).loc Cert.AttentionRefIdeal.main_arg16))

def preserves_Ranking_RankingIdeal : Prop :=
  True

def algebraic_RankingIdeal_RankingRefIdeal [hRankingIdeal : Cert.RankingIdeal.Facts] [hRankingRefIdeal : Cert.RankingRefIdeal.Facts] : Prop :=
  ∀ (m : (ℓ : Loc Cert.RankingIdeal.nD Cert.RankingIdeal.τ Cert.RankingIdeal.sig) → Buf (Elt Ideal) ℓ) (g : Dev Cert.RankingIdeal.nD → PrngReg)
    (m' : (ℓ : Loc Cert.RankingRefIdeal.nD Cert.RankingRefIdeal.τ Cert.RankingRefIdeal.sig) → Buf (Elt Ideal) ℓ) (g' : Dev Cert.RankingRefIdeal.nD → PrngReg), Pre_RankingIdeal m →
    (∀ c : Dev Cert.RankingIdeal.nD,
      m' ((c.tc : Thread Cert.RankingRefIdeal.nD Cert.RankingRefIdeal.τ).loc Cert.RankingRefIdeal.main_arg0) = m ((c.tc : Thread Cert.RankingIdeal.nD Cert.RankingIdeal.τ).loc Cert.RankingIdeal.main_arg0)) →
    ∃ (v0 : (c : Dev Cert.RankingIdeal.nD) → Buf (Elt Ideal) ((c.tc : Thread Cert.RankingIdeal.nD Cert.RankingIdeal.τ).loc Cert.RankingIdeal.main_v0_0)) (v1 : (c : Dev Cert.RankingIdeal.nD) → Buf (Elt Ideal) ((c.tc : Thread Cert.RankingIdeal.nD Cert.RankingIdeal.τ).loc Cert.RankingIdeal.main_v0_1)),
      θ_run (Cert.RankingIdeal.defs (F := Ideal)) (onTc (τ := Cert.RankingIdeal.τ) (Cert.RankingIdeal.main (F := Ideal))) ⟨m, fun _ => 0, g⟩ (fun r => ∀ c : Dev Cert.RankingIdeal.nD,
          r.2.mem ((c.tc : Thread Cert.RankingIdeal.nD Cert.RankingIdeal.τ).loc Cert.RankingIdeal.main_v0_0) = v0 c
          ∧ r.2.mem ((c.tc : Thread Cert.RankingIdeal.nD Cert.RankingIdeal.τ).loc Cert.RankingIdeal.main_v0_1) = v1 c
          ∧ r.2.mem ((c.tc : Thread Cert.RankingIdeal.nD Cert.RankingIdeal.τ).loc Cert.RankingIdeal.main_arg0) = m ((c.tc : Thread Cert.RankingIdeal.nD Cert.RankingIdeal.τ).loc Cert.RankingIdeal.main_arg0))
      ∧ θ_run (Cert.RankingRefIdeal.defs (F := Ideal)) (onTc (τ := Cert.RankingRefIdeal.τ) (Cert.RankingRefIdeal.main (F := Ideal))) ⟨m', fun _ => 0, g'⟩ (fun r => ∀ c : Dev Cert.RankingRefIdeal.nD,
          r.2.mem ((c.tc : Thread Cert.RankingRefIdeal.nD Cert.RankingRefIdeal.τ).loc Cert.RankingRefIdeal.main_v29) = v0 c
          ∧ r.2.mem ((c.tc : Thread Cert.RankingRefIdeal.nD Cert.RankingRefIdeal.τ).loc Cert.RankingRefIdeal.main_v30) = v1 c
          ∧ r.2.mem ((c.tc : Thread Cert.RankingRefIdeal.nD Cert.RankingRefIdeal.τ).loc Cert.RankingRefIdeal.main_arg0) = m' ((c.tc : Thread Cert.RankingRefIdeal.nD Cert.RankingRefIdeal.τ).loc Cert.RankingRefIdeal.main_arg0))

def preserves_Slots_SlotsIdeal : Prop :=
  True

def algebraic_SlotsIdeal_SlotsRefIdeal [hSlotsIdeal : Cert.SlotsIdeal.Facts] [hSlotsRefIdeal : Cert.SlotsRefIdeal.Facts] [hPre_no_ties : Cert.Pre_no_ties.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)
      ∧ m' ((c.tc : Thread Cert.SlotsRefIdeal.nD Cert.SlotsRefIdeal.τ).loc Cert.SlotsRefIdeal.main_arg1) = m ((c.tc : Thread Cert.SlotsIdeal.nD Cert.SlotsIdeal.τ).loc Cert.SlotsIdeal.main_arg1)
      ∧ m' ((c.tc : Thread Cert.SlotsRefIdeal.nD Cert.SlotsRefIdeal.τ).loc Cert.SlotsRefIdeal.main_arg2) = m ((c.tc : Thread Cert.SlotsIdeal.nD Cert.SlotsIdeal.τ).loc Cert.SlotsIdeal.main_arg2)
      ∧ m' ((c.tc : Thread Cert.SlotsRefIdeal.nD Cert.SlotsRefIdeal.τ).loc Cert.SlotsRefIdeal.main_arg3) = m ((c.tc : Thread Cert.SlotsIdeal.nD Cert.SlotsIdeal.τ).loc Cert.SlotsIdeal.main_arg3)) →
    ∃ (v0 : (c : Dev Cert.SlotsIdeal.nD) → Buf (Elt Ideal) ((c.tc : Thread Cert.SlotsIdeal.nD Cert.SlotsIdeal.τ).loc Cert.SlotsIdeal.main_v0_0)) (v1 : (c : Dev Cert.SlotsIdeal.nD) → Buf (Elt Ideal) ((c.tc : Thread Cert.SlotsIdeal.nD Cert.SlotsIdeal.τ).loc Cert.SlotsIdeal.main_v0_1)) (v2 : (c : Dev Cert.SlotsIdeal.nD) → Buf (Elt Ideal) ((c.tc : Thread Cert.SlotsIdeal.nD Cert.SlotsIdeal.τ).loc Cert.SlotsIdeal.main_v0_2)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0_0) = v0 c
          ∧ r.2.mem ((c.tc : Thread Cert.SlotsIdeal.nD Cert.SlotsIdeal.τ).loc Cert.SlotsIdeal.main_v0_1) = v1 c
          ∧ r.2.mem ((c.tc : Thread Cert.SlotsIdeal.nD Cert.SlotsIdeal.τ).loc Cert.SlotsIdeal.main_v0_2) = v2 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
          ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
          ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2)
          ∧ r.2.mem ((c.tc : Thread Cert.SlotsIdeal.nD Cert.SlotsIdeal.τ).loc Cert.SlotsIdeal.main_arg3) = m ((c.tc : Thread Cert.SlotsIdeal.nD Cert.SlotsIdeal.τ).loc Cert.SlotsIdeal.main_arg3))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v62) = v0 c
          ∧ r.2.mem ((c.tc : Thread Cert.SlotsRefIdeal.nD Cert.SlotsRefIdeal.τ).loc Cert.SlotsRefIdeal.main_v40) = v1 c
          ∧ r.2.mem ((c.tc : Thread Cert.SlotsRefIdeal.nD Cert.SlotsRefIdeal.τ).loc Cert.SlotsRefIdeal.main_v67) = v2 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0)
          ∧ r.2.mem ((c.tc : Thread Cert.SlotsRefIdeal.nD Cert.SlotsRefIdeal.τ).loc Cert.SlotsRefIdeal.main_arg1) = m' ((c.tc : Thread Cert.SlotsRefIdeal.nD Cert.SlotsRefIdeal.τ).loc Cert.SlotsRefIdeal.main_arg1)
          ∧ r.2.mem ((c.tc : Thread Cert.SlotsRefIdeal.nD Cert.SlotsRefIdeal.τ).loc Cert.SlotsRefIdeal.main_arg2) = m' ((c.tc : Thread Cert.SlotsRefIdeal.nD Cert.SlotsRefIdeal.τ).loc Cert.SlotsRefIdeal.main_arg2)
          ∧ r.2.mem ((c.tc : Thread Cert.SlotsRefIdeal.nD Cert.SlotsRefIdeal.τ).loc Cert.SlotsRefIdeal.main_arg3) = m' ((c.tc : Thread Cert.SlotsRefIdeal.nD Cert.SlotsRefIdeal.τ).loc Cert.SlotsRefIdeal.main_arg3))

def bitexact_Slots_SlotsRef [hSlots : Cert.Slots.Facts] [hSlotsRef : Cert.SlotsRef.Facts] [hPre_no_ties : Cert.Pre_no_ties.Facts] : Prop :=
  ∀ (m : (ℓ : Loc Cert.Slots.nD Cert.Slots.τ Cert.Slots.sig) → Buf (Elt Bits) ℓ) (g : Dev Cert.Slots.nD → PrngReg)
    (m' : (ℓ : Loc Cert.SlotsRef.nD Cert.SlotsRef.τ Cert.SlotsRef.sig) → Buf (Elt Bits) ℓ) (g' : Dev Cert.SlotsRef.nD → PrngReg), Pre_Slots m →
    (∀ c : Dev Cert.Slots.nD,
      m' ((c.tc : Thread Cert.SlotsRef.nD Cert.SlotsRef.τ).loc Cert.SlotsRef.main_arg0) = m ((c.tc : Thread Cert.Slots.nD Cert.Slots.τ).loc Cert.Slots.main_arg0)
      ∧ m' ((c.tc : Thread Cert.SlotsRef.nD Cert.SlotsRef.τ).loc Cert.SlotsRef.main_arg1) = m ((c.tc : Thread Cert.Slots.nD Cert.Slots.τ).loc Cert.Slots.main_arg1)
      ∧ m' ((c.tc : Thread Cert.SlotsRef.nD Cert.SlotsRef.τ).loc Cert.SlotsRef.main_arg2) = m ((c.tc : Thread Cert.Slots.nD Cert.Slots.τ).loc Cert.Slots.main_arg2)
      ∧ m' ((c.tc : Thread Cert.SlotsRef.nD Cert.SlotsRef.τ).loc Cert.SlotsRef.main_arg3) = m ((c.tc : Thread Cert.Slots.nD Cert.Slots.τ).loc Cert.Slots.main_arg3)) →
    ∃ (v0 : (c : Dev Cert.Slots.nD) → Buf (Elt Bits) ((c.tc : Thread Cert.Slots.nD Cert.Slots.τ).loc Cert.Slots.main_v0_0)) (v1 : (c : Dev Cert.Slots.nD) → Buf (Elt Bits) ((c.tc : Thread Cert.Slots.nD Cert.Slots.τ).loc Cert.Slots.main_v0_1)) (v2 : (c : Dev Cert.Slots.nD) → Buf (Elt Bits) ((c.tc : Thread Cert.Slots.nD Cert.Slots.τ).loc Cert.Slots.main_v0_2)),
      θ_run (Cert.Slots.defs (F := Bits)) (onTc (τ := Cert.Slots.τ) (Cert.Slots.main (F := Bits))) ⟨m, fun _ => 0, g⟩ (fun r => ∀ c : Dev Cert.Slots.nD,
          r.2.mem ((c.tc : Thread Cert.Slots.nD Cert.Slots.τ).loc Cert.Slots.main_v0_0) = v0 c
          ∧ r.2.mem ((c.tc : Thread Cert.Slots.nD Cert.Slots.τ).loc Cert.Slots.main_v0_1) = v1 c
          ∧ r.2.mem ((c.tc : Thread Cert.Slots.nD Cert.Slots.τ).loc Cert.Slots.main_v0_2) = v2 c
          ∧ r.2.mem ((c.tc : Thread Cert.Slots.nD Cert.Slots.τ).loc Cert.Slots.main_arg0) = m ((c.tc : Thread Cert.Slots.nD Cert.Slots.τ).loc Cert.Slots.main_arg0)
          ∧ r.2.mem ((c.tc : Thread Cert.Slots.nD Cert.Slots.τ).loc Cert.Slots.main_arg1) = m ((c.tc : Thread Cert.Slots.nD Cert.Slots.τ).loc Cert.Slots.main_arg1)
          ∧ r.2.mem ((c.tc : Thread Cert.Slots.nD Cert.Slots.τ).loc Cert.Slots.main_arg2) = m ((c.tc : Thread Cert.Slots.nD Cert.Slots.τ).loc Cert.Slots.main_arg2)
          ∧ r.2.mem ((c.tc : Thread Cert.Slots.nD Cert.Slots.τ).loc Cert.Slots.main_arg3) = m ((c.tc : Thread Cert.Slots.nD Cert.Slots.τ).loc Cert.Slots.main_arg3))
      ∧ θ_run (Cert.SlotsRef.defs (F := Bits)) (onTc (τ := Cert.SlotsRef.τ) (Cert.SlotsRef.main (F := Bits))) ⟨m', fun _ => 0, g'⟩ (fun r => ∀ c : Dev Cert.SlotsRef.nD,
          r.2.mem ((c.tc : Thread Cert.SlotsRef.nD Cert.SlotsRef.τ).loc Cert.SlotsRef.main_v62) = v0 c
          ∧ r.2.mem ((c.tc : Thread Cert.SlotsRef.nD Cert.SlotsRef.τ).loc Cert.SlotsRef.main_v40) = v1 c
          ∧ r.2.mem ((c.tc : Thread Cert.SlotsRef.nD Cert.SlotsRef.τ).loc Cert.SlotsRef.main_v67) = v2 c
          ∧ r.2.mem ((c.tc : Thread Cert.SlotsRef.nD Cert.SlotsRef.τ).loc Cert.SlotsRef.main_arg0) = m' ((c.tc : Thread Cert.SlotsRef.nD Cert.SlotsRef.τ).loc Cert.SlotsRef.main_arg0)
          ∧ r.2.mem ((c.tc : Thread Cert.SlotsRef.nD Cert.SlotsRef.τ).loc Cert.SlotsRef.main_arg1) = m' ((c.tc : Thread Cert.SlotsRef.nD Cert.SlotsRef.τ).loc Cert.SlotsRef.main_arg1)
          ∧ r.2.mem ((c.tc : Thread Cert.SlotsRef.nD Cert.SlotsRef.τ).loc Cert.SlotsRef.main_arg2) = m' ((c.tc : Thread Cert.SlotsRef.nD Cert.SlotsRef.τ).loc Cert.SlotsRef.main_arg2)
          ∧ r.2.mem ((c.tc : Thread Cert.SlotsRef.nD Cert.SlotsRef.τ).loc Cert.SlotsRef.main_arg3) = m' ((c.tc : Thread Cert.SlotsRef.nD Cert.SlotsRef.τ).loc Cert.SlotsRef.main_arg3))

def Claim : Prop :=
  ∃ (hKernel : Cert.Kernel.Facts) (hKernelIdeal : Cert.KernelIdeal.Facts) (hReferenceIdeal : Cert.ReferenceIdeal.Facts) (hReference : Cert.Reference.Facts) (hCodes : Cert.Codes.Facts) (hCodesIdeal : Cert.CodesIdeal.Facts) (hCodesRefIdeal : Cert.CodesRefIdeal.Facts) (hCodesRef : Cert.CodesRef.Facts) (hAttention : Cert.Attention.Facts) (hAttentionIdeal : Cert.AttentionIdeal.Facts) (hAttentionRefIdeal : Cert.AttentionRefIdeal.Facts) (hRanking : Cert.Ranking.Facts) (hRankingIdeal : Cert.RankingIdeal.Facts) (hRankingRefIdeal : Cert.RankingRefIdeal.Facts) (hSlots : Cert.Slots.Facts) (hSlotsIdeal : Cert.SlotsIdeal.Facts) (hSlotsRefIdeal : Cert.SlotsRefIdeal.Facts) (hSlotsRef : Cert.SlotsRef.Facts) (hPre_in_range : Cert.Pre_in_range.Facts) (hPre_no_ties : Cert.Pre_no_ties.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Codes (hCodes := hCodes)
    ∧ quiescent_CodesIdeal (hCodesIdeal := hCodesIdeal)
    ∧ quiescent_CodesRefIdeal (hCodesRefIdeal := hCodesRefIdeal)
    ∧ quiescent_CodesRef (hCodesRef := hCodesRef)
    ∧ quiescent_Attention (hAttention := hAttention)
    ∧ quiescent_AttentionIdeal (hAttentionIdeal := hAttentionIdeal)
    ∧ quiescent_AttentionRefIdeal (hAttentionRefIdeal := hAttentionRefIdeal)
    ∧ quiescent_Ranking (hRanking := hRanking)
    ∧ quiescent_RankingIdeal (hRankingIdeal := hRankingIdeal)
    ∧ quiescent_RankingRefIdeal (hRankingRefIdeal := hRankingRefIdeal)
    ∧ quiescent_Slots (hSlots := hSlots) (hPre_no_ties := hPre_no_ties)
    ∧ quiescent_SlotsIdeal (hSlotsIdeal := hSlotsIdeal) (hPre_no_ties := hPre_no_ties)
    ∧ quiescent_SlotsRefIdeal (hSlotsRefIdeal := hSlotsRefIdeal)
    ∧ quiescent_SlotsRefIdeal_pre_no_ties (hSlotsRefIdeal := hSlotsRefIdeal) (hPre_no_ties := hPre_no_ties)
    ∧ quiescent_SlotsRef (hSlotsRef := hSlotsRef) (hPre_no_ties := hPre_no_ties)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Codes_CodesIdeal
    ∧ algebraic_CodesIdeal_CodesRefIdeal (hCodesIdeal := hCodesIdeal) (hCodesRefIdeal := hCodesRefIdeal)
    ∧ bitexact_Codes_CodesRef (hCodes := hCodes) (hCodesRef := hCodesRef)
    ∧ preserves_Attention_AttentionIdeal
    ∧ algebraic_AttentionIdeal_AttentionRefIdeal (hAttentionIdeal := hAttentionIdeal) (hAttentionRefIdeal := hAttentionRefIdeal)
    ∧ preserves_Ranking_RankingIdeal
    ∧ algebraic_RankingIdeal_RankingRefIdeal (hRankingIdeal := hRankingIdeal) (hRankingRefIdeal := hRankingRefIdeal)
    ∧ preserves_Slots_SlotsIdeal
    ∧ algebraic_SlotsIdeal_SlotsRefIdeal (hSlotsIdeal := hSlotsIdeal) (hSlotsRefIdeal := hSlotsRefIdeal) (hPre_no_ties := hPre_no_ties)
    ∧ bitexact_Slots_SlotsRef (hSlots := hSlots) (hSlotsRef := hSlotsRef) (hPre_no_ties := hPre_no_ties)
-- ==== Pre_in_range.lean ====
abbrev S65536 : Shape := ⟨1, ![65536]⟩
abbrev S16x64x64 : Shape := ⟨3, ![16, 64, 64]⟩
abbrev S65536x128 : Shape := ⟨2, ![65536, 128]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S16x64x64 : S_.BroadcastsInDim S16x64x64 (![] : Fin 0 → Fin S16x64x64.rank)
  reducesTo_S16x64x64_S_d0_1_2 : S16x64x64.ReducesTo [0, 1, 2] S_

variable [Facts]

def fn {F : FTy → Type} [FloatOps F] (main_arg0 : IVec S65536 32) (main_arg1 : IVec S16x64x64 32) (main_arg2 : FVec F S65536x128 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 256#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  let main_c_2 : IVec S_ 32 := constantI S_ 32 0#32
  let main_v6 : IVec S16x64x64 32 := broadcastInDim S16x64x64 ![] bcast_S_S16x64x64 main_c_2
  let main_v7 : IVec S16x64x64 1 := cmpi .sge main_arg1 main_v6
  let main_c_3 : IVec S_ 32 := constantI S_ 32 16384#32
  let main_v8 : IVec S16x64x64 32 := broadcastInDim S16x64x64 ![] bcast_S_S16x64x64 main_c_3
  let main_v9 : IVec S16x64x64 1 := cmpi .slt main_arg1 main_v8
  let main_v10 : IVec S16x64x64 1 := andi main_v7 main_v9
  let main_c_4 : IVec S_ 1 := constantI S_ 1 1#1
  let main_v11 : IVec S_ 1 := (fun x v => Host.reduce IntOp.andi x v reducesTo_S16x64x64_S_d0_1_2 h_S_) main_v10 main_c_4
  let main_v12 : IVec S_ 1 := andi main_v5 main_v11
  main_v12
-- ==== Pre_no_ties.lean ====
abbrev S16x64x64 : Shape := ⟨3, ![16, 64, 64]⟩
abbrev S4x1x64 : Shape := ⟨3, ![4, 1, 64]⟩
abbrev S4x64x64 : Shape := ⟨3, ![4, 64, 64]⟩
abbrev S16x64x63 : Shape := ⟨3, ![16, 64, 63]⟩
abbrev S_ : Shape := ⟨0, ![]⟩

class Facts : Prop where
  slices_S16x64x64_S16x64x63_0_0_1 : S16x64x64.Slices ![0, 0, 1] S16x64x63
  slices_S16x64x64_S16x64x63_0_0_0 : S16x64x64.Slices ![0, 0, 0] S16x64x63
  reducesTo_S16x64x63_S_d0_1_2 : S16x64x63.ReducesTo [0, 1, 2] S_
  h_S_ : 0 < S_.numel

variable [Facts]

def fn {F : FTy → Type} [FloatOps F] (main_arg0 : FVec F S16x64x64 .f32) (main_arg1 : IVec S16x64x64 32) (main_arg2 : IVec S4x1x64 32) (main_arg3 : IVec S4x64x64 32) : IVec S_ 1 :=
  let main_v0 : FVec F S16x64x63 .f32 := (extractStridedSlice S16x64x63 ![0, 0, 1] · slices_S16x64x64_S16x64x63_0_0_1) main_arg0
  let main_v1 : FVec F S16x64x63 .f32 := (extractStridedSlice S16x64x63 ![0, 0, 0] · slices_S16x64x64_S16x64x63_0_0_0) main_arg0
  let main_v2 : IVec S16x64x63 1 := cmpf .une main_v0 main_v1
  let main_c : IVec S_ 1 := constantI S_ 1 1#1
  let main_v3 : IVec S_ 1 := (fun x v => Host.reduce IntOp.andi x v reducesTo_S16x64x63_S_d0_1_2 h_S_) main_v2 main_c
  main_v3
-- ==== Kernel.lean ====
abbrev S65536 : Shape := ⟨1, ![65536]⟩
abbrev S16x64x64 : Shape := ⟨3, ![16, 64, 64]⟩
abbrev S65536x128 : Shape := ⟨2, ![65536, 128]⟩
abbrev S16384 : Shape := ⟨1, ![16384]⟩
abbrev S256 : Shape := ⟨1, ![256]⟩
abbrev S4096 : Shape := ⟨1, ![4096]⟩
abbrev S16 : Shape := ⟨1, ![16]⟩
abbrev S_ : Shape := ⟨0, ![]⟩
abbrev S512x128 : Shape := ⟨2, ![512, 128]⟩
abbrev S16x128 : Shape := ⟨2, ![16, 128]⟩
abbrev S2x128x128 : Shape := ⟨3, ![2, 128, 128]⟩
abbrev S1x16 : Shape := ⟨2, ![1, 16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Table → Nat
  | .hbm => 7
  | .local .scVector .vmem => 7
  | _ => 0

abbrev bufTy : (tb : Table) → Fin (nBuf tb) → BufTy
  | .hbm, ⟨0, _⟩ => ⟨S65536, .i32⟩
  | .hbm, ⟨1, _⟩ => ⟨S16x64x64, .i32⟩
  | .hbm, ⟨2, _⟩ => ⟨S65536x128, .f32⟩
  | .hbm, ⟨3, _⟩ => ⟨S16384, .i32⟩
  | .hbm, ⟨4, _⟩ => ⟨S256, .i32⟩
  | .hbm, ⟨5, _⟩ => ⟨S512x128, .i32⟩
  | .hbm, ⟨6, _⟩ => ⟨S65536x128, .f32⟩
  | .local .scVector .vmem, ⟨0, _⟩ => ⟨S4096, .i32⟩
  | .local .scVector .vmem, ⟨1, _⟩ => ⟨S16384, .i32⟩
  | .local .scVector .vmem, ⟨2, _⟩ => ⟨S256, .i32⟩
  | .local .scVector .vmem, ⟨3, _⟩ => ⟨S16384, .i32⟩
  | .local .scVector .vmem, ⟨4, _⟩ => ⟨S16x128, .i32⟩
  | .local .scVector .vmem, ⟨5, _⟩ => ⟨S16x128, .i32⟩
  | .local .scVector .vmem, ⟨6, _⟩ => ⟨S2x128x128, .f32⟩
  | _, _ => ⟨S65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v0_0_scv : Ref sig .scVector := ⟨.hbm, 3, rfl⟩
abbrev main_v0_1_scv : Ref sig .scVector := ⟨.hbm, 4, rfl⟩
abbrev main_v1_scv : Ref sig .scVector := ⟨.hbm, 5, rfl⟩
abbrev main_arg2_scv : Ref sig .scVector := ⟨.hbm, 2, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_3 : BitVec 32 := 0#32
  let c1024_i32 : BitVec 32 := 1024#32
  let v22 : BitVec 32 := Scalar.addi c0_i32_3 c1024_i32
  let c1_i32 : BitVec 32 := 1#32
  ⟨c0_i32_3, v22, c1_i32⟩
def k0_off1 (k0_t1 : Fin k0_t1_loop.trips) : Fin 1 → Nat :=
  let c0_i32_3 : BitVec 32 := 0#32
  let c1_i32 : BitVec 32 := 1#32
  let arg8 : BitVec 32 := Scf.iv c0_i32_3 c1_i32 k0_t1
  let c16_i32_9 : BitVec 32 := 16#32
  let v27 : BitVec 32 := Scalar.muli arg8 c16_i32_9
  let v28 : Index := Scalar.indexCast v27
  ![v28.toNat]
@[reducible] def k0_t2_loop : Scf.Loop 32 :=
  let c0_i32_6 : BitVec 32 := 0#32
  let c16_i32 : BitVec 32 := 16#32
  let v26 : BitVec 32 := Scalar.addi c0_i32_6 c16_i32
  let c1_i32_7 : BitVec 32 := 1#32
  ⟨c0_i32_6, v26, c1_i32_7⟩
def k0_off2 (k0_t2 : Fin k0_t2_loop.trips) : Fin 1 → Nat :=
  let c0_i32_6 : BitVec 32 := 0#32
  let c1_i32_7 : BitVec 32 := 1#32
  let arg8 : BitVec 32 := Scf.iv c0_i32_6 c1_i32_7 k0_t2
  let c4096_i32 : BitVec 32 := 4096#32
  let v27 : BitVec 32 := Scalar.muli arg8 c4096_i32
  ![v27.toNat]
@[reducible] def k0_t3_loop : Scf.Loop 32 :=
  let c0_i32_10 : BitVec 32 := 0#32
  let c256_i32 : BitVec 32 := 256#32
  let v28 : BitVec 32 := Scalar.addi c0_i32_10 c256_i32
  let c1_i32_11 : BitVec 32 := 1#32
  ⟨c0_i32_10, v28, c1_i32_11⟩
def k0_off3 (k0_t3 : Fin k0_t3_loop.trips) : Fin 1 → Nat :=
  let c0_i32_10 : BitVec 32 := 0#32
  let c1_i32_11 : BitVec 32 := 1#32
  let arg9 : BitVec 32 := Scf.iv c0_i32_10 c1_i32_11 k0_t3
  let c16_i32_13 : BitVec 32 := 16#32
  let v29 : BitVec 32 := Scalar.muli arg9 c16_i32_13
  let v30 : Index := Scalar.indexCast v29
  ![v30.toNat]

def k0_chk2 (i : grid0.Coords) (v47 : IVec S16 32) : Prop :=
  (∀ (k0_h1 : k0_cond1 i = 1#1), ∀ a x, ((![v47] : Fin 1 → IVec S16 32) a x).toNat < S16384.size a)
theorem k0_idx2_inb : ∀ (i : grid0.Coords) (v47 : IVec S16 32) (k0_hw2 : k0_chk2 i v47), ∀ (k0_h1 : k0_cond1 i = 1#1), ∀ a x, ((![v47] : Fin 1 → IVec S16 32) a x).toNat < S16384.size a := fun i v47 k0_hw2 k0_h1 => k0_hw2 k0_h1

def k0_chk1 (i : grid0.Coords) (v31 : IVec S16 32) : Prop :=
  (∀ (k0_h1 : k0_cond1 i = 1#1), ∀ a x, ((![v31] : Fin 1 → IVec S16 32) a x).toNat < S256.size a) ∧
  (∀ (k0_h1 : k0_cond1 i = 1#1), ∀ a x, ((![v31] : Fin 1 → IVec S16 32) a x).toNat < S256.size a)
theorem k0_idx1_inb : ∀ (i : grid0.Coords) (v31 : IVec S16 32) (k0_hw1 : k0_chk1 i v31), ∀ (k0_h1 : k0_cond1 i = 1#1), ∀ a x, ((![v31] : Fin 1 → IVec S16 32) a x).toNat < S256.size a := fun i v31 k0_hw1 k0_h1 => k0_hw1.1 k0_h1
theorem k0_idx3_inb : ∀ (i : grid0.Coords) (v31 : IVec S16 32) (k0_hw1 : k0_chk1 i v31), ∀ (k0_h1 : k0_cond1 i = 1#1), ∀ a x, ((![v31] : Fin 1 → IVec S16 32) a x).toNat < S256.size a := fun i v31 k0_hw1 k0_h1 => k0_hw1.2 k0_h1
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_938_r1 : BitVec 32 := 0#32
  ![v2.toNat, 0]

def k1_chk1 (v4 : IVec S16 32) : Prop :=
  (∀ a x, ((![v4] : Fin 1 → IVec S16 32) a x).toNat < S16384.size a)
theorem k1_idx1_inb : ∀ (v4 : IVec S16 32) (k1_hw1 : k1_chk1 v4), ∀ a x, ((![v4] : Fin 1 → IVec S16 32) a x).toNat < S16384.size a := fun v4 k1_hw1 => k1_hw1

def k1_chk2 (v9 : IVec S16 32) : Prop :=
  (∀ a x, ((![v9] : Fin 1 → IVec S16 32) a x).toNat < S16384.size a)
theorem k1_idx2_inb : ∀ (v9 : IVec S16 32) (k1_hw2 : k1_chk2 v9), ∀ a x, ((![v9] : Fin 1 → IVec S16 32) a x).toNat < S16384.size a := fun v9 k1_hw2 => k1_hw2

def k1_chk3 (v14 : IVec S16 32) : Prop :=
  (∀ a x, ((![v14] : Fin 1 → IVec S16 32) a x).toNat < S16384.size a)
theorem k1_idx3_inb : ∀ (v14 : IVec S16 32) (k1_hw3 : k1_chk3 v14), ∀ a x, ((![v14] : Fin 1 → IVec S16 32) a x).toNat < S16384.size a := fun v14 k1_hw3 => k1_hw3

def k1_chk4 (v19 : IVec S16 32) : Prop :=
  (∀ a x, ((![v19] : Fin 1 → IVec S16 32) a x).toNat < S16384.size a)
theorem k1_idx4_inb : ∀ (v19 : IVec S16 32) (k1_hw4 : k1_chk4 v19), ∀ a x, ((![v19] : Fin 1 → IVec S16 32) a x).toNat < S16384.size a := fun v19 k1_hw4 => k1_hw4

def k1_chk5 (v24 : IVec S16 32) : Prop :=
  (∀ a x, ((![v24] : Fin 1 → IVec S16 32) a x).toNat < S16384.size a)
theorem k1_idx5_inb : ∀ (v24 : IVec S16 32) (k1_hw5 : k1_chk5 v24), ∀ a x, ((![v24] : Fin 1 → IVec S16 32) a x).toNat < S16384.size a := fun v24 k1_hw5 => k1_hw5

def k1_chk6 (v29 : IVec S16 32) : Prop :=
  (∀ a x, ((![v29] : Fin 1 → IVec S16 32) a x).toNat < S16384.size a)
theorem k1_idx6_inb : ∀ (v29 : IVec S16 32) (k1_hw6 : k1_chk6 v29), ∀ a x, ((![v29] : Fin 1 → IVec S16 32) a x).toNat < S16384.size a := fun v29 k1_hw6 => k1_hw6

def k1_chk7 (v34 : IVec S16 32) : Prop :=
  (∀ a x, ((![v34] : Fin 1 → IVec S16 32) a x).toNat < S16384.size a)
theorem k1_idx7_inb : ∀ (v34 : IVec S16 32) (k1_hw7 : k1_chk7 v34), ∀ a x, ((![v34] : Fin 1 → IVec S16 32) a x).toNat < S16384.size a := fun v34 k1_hw7 => k1_hw7

def k1_chk8 (v39 : IVec S16 32) : Prop :=
  (∀ a x, ((![v39] : Fin 1 → IVec S16 32) a x).toNat < S16384.size a)
theorem k1_idx8_inb : ∀ (v39 : IVec S16 32) (k1_hw8 : k1_chk8 v39), ∀ a x, ((![v39] : Fin 1 → IVec S16 32) a x).toNat < S16384.size a := fun v39 k1_hw8 => k1_hw8

def k1_chk9 (v44 : IVec S16 32) : Prop :=
  (∀ a x, ((![v44] : Fin 1 → IVec S16 32) a x).toNat < S16384.size a)
theorem k1_idx9_inb : ∀ (v44 : IVec S16 32) (k1_hw9 : k1_chk9 v44), ∀ a x, ((![v44] : Fin 1 → IVec S16 32) a x).toNat < S16384.size a := fun v44 k1_hw9 => k1_hw9

def k1_chk10 (v49 : IVec S16 32) : Prop :=
  (∀ a x, ((![v49] : Fin 1 → IVec S16 32) a x).toNat < S16384.size a)
theorem k1_idx10_inb : ∀ (v49 : IVec S16 32) (k1_hw10 : k1_chk10 v49), ∀ a x, ((![v49] : Fin 1 → IVec S16 32) a x).toNat < S16384.size a := fun v49 k1_hw10 => k1_hw10

def k1_chk11 (v54 : IVec S16 32) : Prop :=
  (∀ a x, ((![v54] : Fin 1 → IVec S16 32) a x).toNat < S16384.size a)
theorem k1_idx11_inb : ∀ (v54 : IVec S16 32) (k1_hw11 : k1_chk11 v54), ∀ a x, ((![v54] : Fin 1 → IVec S16 32) a x).toNat < S16384.size a := fun v54 k1_hw11 => k1_hw11

def k1_chk12 (v59 : IVec S16 32) : Prop :=
  (∀ a x, ((![v59] : Fin 1 → IVec S16 32) a x).toNat < S16384.size a)
theorem k1_idx12_inb : ∀ (v59 : IVec S16 32) (k1_hw12 : k1_chk12 v59), ∀ a x, ((![v59] : Fin 1 → IVec S16 32) a x).toNat < S16384.size a := fun v59 k1_hw12 => k1_hw12

def k1_chk13 (v64 : IVec S16 32) : Prop :=
  (∀ a x, ((![v64] : Fin 1 → IVec S16 32) a x).toNat < S16384.size a)
theorem k1_idx13_inb : ∀ (v64 : IVec S16 32) (k1_hw13 : k1_chk13 v64), ∀ a x, ((![v64] : Fin 1 → IVec S16 32) a x).toNat < S16384.size a := fun v64 k1_hw13 => k1_hw13

def k1_chk14 (v69 : IVec S16 32) : Prop :=
  (∀ a x, ((![v69] : Fin 1 → IVec S16 32) a x).toNat < S16384.size a)
theorem k1_idx14_inb : ∀ (v69 : IVec S16 32) (k1_hw14 : k1_chk14 v69), ∀ a x, ((![v69] : Fin 1 → IVec S16 32) a x).toNat < S16384.size a := fun v69 k1_hw14 => k1_hw14

def k1_chk15 (v74 : IVec S16 32) : Prop :=
  (∀ a x, ((![v74] : Fin 1 → IVec S16 32) a x).toNat < S16384.size a)
theorem k1_idx15_inb : ∀ (v74 : IVec S16 32) (k1_hw15 : k1_chk15 v74), ∀ a x, ((![v74] : Fin 1 → IVec S16 32) a x).toNat < S16384.size a := fun v74 k1_hw15 => k1_hw15

def k1_chk16 (v79 : IVec S16 32) : Prop :=
  (∀ a x, ((![v79] : Fin 1 → IVec S16 32) a x).toNat < S16384.size a)
theorem k1_idx16_inb : ∀ (v79 : IVec S16 32) (k1_hw16 : k1_chk16 v79), ∀ a x, ((![v79] : Fin 1 → IVec S16 32) a x).toNat < S16384.size a := fun v79 k1_hw16 => k1_hw16

def k1_chk17 (v84 : IVec S16 32) : Prop :=
  (∀ a x, ((![v84] : Fin 1 → IVec S16 32) a x).toNat < S16384.size a)
theorem k1_idx17_inb : ∀ (v84 : IVec S16 32) (k1_hw17 : k1_chk17 v84), ∀ a x, ((![v84] : Fin 1 → IVec S16 32) a x).toNat < S16384.size a := fun v84 k1_hw17 => k1_hw17

def k1_chk18 (v89 : IVec S16 32) : Prop :=
  (∀ a x, ((![v89] : Fin 1 → IVec S16 32) a x).toNat < S16384.size a)
theorem k1_idx18_inb : ∀ (v89 : IVec S16 32) (k1_hw18 : k1_chk18 v89), ∀ a x, ((![v89] : Fin 1 → IVec S16 32) a x).toNat < S16384.size a := fun v89 k1_hw18 => k1_hw18

def k1_chk19 (v94 : IVec S16 32) : Prop :=
  (∀ a x, ((![v94] : Fin 1 → IVec S16 32) a x).toNat < S16384.size a)
theorem k1_idx19_inb : ∀ (v94 : IVec S16 32) (k1_hw19 : k1_chk19 v94), ∀ a x, ((![v94] : Fin 1 → IVec S16 32) a x).toNat < S16384.size a := fun v94 k1_hw19 => k1_hw19

def k1_chk20 (v99 : IVec S16 32) : Prop :=
  (∀ a x, ((![v99] : Fin 1 → IVec S16 32) a x).toNat < S16384.size a)
theorem k1_idx20_inb : ∀ (v99 : IVec S16 32) (k1_hw20 : k1_chk20 v99), ∀ a x, ((![v99] : Fin 1 → IVec S16 32) a x).toNat < S16384.size a := fun v99 k1_hw20 => k1_hw20

def k1_chk21 (v104 : IVec S16 32) : Prop :=
  (∀ a x, ((![v104] : Fin 1 → IVec S16 32) a x).toNat < S16384.size a)
theorem k1_idx21_inb : ∀ (v104 : IVec S16 32) (k1_hw21 : k1_chk21 v104), ∀ a x, ((![v104] : Fin 1 → IVec S16 32) a x).toNat < S16384.size a := fun v104 k1_hw21 => k1_hw21

def k1_chk22 (v109 : IVec S16 32) : Prop :=
  (∀ a x, ((![v109] : Fin 1 → IVec S16 32) a x).toNat < S16384.size a)
theorem k1_idx22_inb : ∀ (v109 : IVec S16 32) (k1_hw22 : k1_chk22 v109), ∀ a x, ((![v109] : Fin 1 → IVec S16 32) a x).toNat < S16384.size a := fun v109 k1_hw22 => k1_hw22

def k1_chk23 (v114 : IVec S16 32) : Prop :=
  (∀ a x, ((![v114] : Fin 1 → IVec S16 32) a x).toNat < S16384.size a)
theorem k1_idx23_inb : ∀ (v114 : IVec S16 32) (k1_hw23 : k1_chk23 v114), ∀ a x, ((![v114] : Fin 1 → IVec S16 32) a x).toNat < S16384.size a := fun v114 k1_hw23 => k1_hw23

def k1_chk24 (v119 : IVec S16 32) : Prop :=
  (∀ a x, ((![v119] : Fin 1 → IVec S16 32) a x).toNat < S16384.size a)
theorem k1_idx24_inb : ∀ (v119 : IVec S16 32) (k1_hw24 : k1_chk24 v119), ∀ a x, ((![v119] : Fin 1 → IVec S16 32) a x).toNat < S16384.size a := fun v119 k1_hw24 => k1_hw24

def k1_chk25 (v124 : IVec S16 32) : Prop :=
  (∀ a x, ((![v124] : Fin 1 → IVec S16 32) a x).toNat < S16384.size a)
theorem k1_idx25_inb : ∀ (v124 : IVec S16 32) (k1_hw25 : k1_chk25 v124), ∀ a x, ((![v124] : Fin 1 → IVec S16 32) a x).toNat < S16384.size a := fun v124 k1_hw25 => k1_hw25

def k1_chk26 (v129 : IVec S16 32) : Prop :=
  (∀ a x, ((![v129] : Fin 1 → IVec S16 32) a x).toNat < S16384.size a)
theorem k1_idx26_inb : ∀ (v129 : IVec S16 32) (k1_hw26 : k1_chk26 v129), ∀ a x, ((![v129] : Fin 1 → IVec S16 32) a x).toNat < S16384.size a := fun v129 k1_hw26 => k1_hw26

def k1_chk27 (v134 : IVec S16 32) : Prop :=
  (∀ a x, ((![v134] : Fin 1 → IVec S16 32) a x).toNat < S16384.size a)
theorem k1_idx27_inb : ∀ (v134 : IVec S16 32) (k1_hw27 : k1_chk27 v134), ∀ a x, ((![v134] : Fin 1 → IVec S16 32) a x).toNat < S16384.size a := fun v134 k1_hw27 => k1_hw27

def k1_chk28 (v139 : IVec S16 32) : Prop :=
  (∀ a x, ((![v139] : Fin 1 → IVec S16 32) a x).toNat < S16384.size a)
theorem k1_idx28_inb : ∀ (v139 : IVec S16 32) (k1_hw28 : k1_chk28 v139), ∀ a x, ((![v139] : Fin 1 → IVec S16 32) a x).toNat < S16384.size a := fun v139 k1_hw28 => k1_hw28

def k1_chk29 (v144 : IVec S16 32) : Prop :=
  (∀ a x, ((![v144] : Fin 1 → IVec S16 32) a x).toNat < S16384.size a)
theorem k1_idx29_inb : ∀ (v144 : IVec S16 32) (k1_hw29 : k1_chk29 v144), ∀ a x, ((![v144] : Fin 1 → IVec S16 32) a x).toNat < S16384.size a := fun v144 k1_hw29 => k1_hw29

def k1_chk30 (v149 : IVec S16 32) : Prop :=
  (∀ a x, ((![v149] : Fin 1 → IVec S16 32) a x).toNat < S16384.size a)
theorem k1_idx30_inb : ∀ (v149 : IVec S16 32) (k1_hw30 : k1_chk30 v149), ∀ a x, ((![v149] : Fin 1 → IVec S16 32) a x).toNat < S16384.size a := fun v149 k1_hw30 => k1_hw30

def k1_chk31 (v154 : IVec S16 32) : Prop :=
  (∀ a x, ((![v154] : Fin 1 → IVec S16 32) a x).toNat < S16384.size a)
theorem k1_idx31_inb : ∀ (v154 : IVec S16 32) (k1_hw31 : k1_chk31 v154), ∀ a x, ((![v154] : Fin 1 → IVec S16 32) a x).toNat < S16384.size a := fun v154 k1_hw31 => k1_hw31

def k1_chk32 (v159 : IVec S16 32) : Prop :=
  (∀ a x, ((![v159] : Fin 1 → IVec S16 32) a x).toNat < S16384.size a)
theorem k1_idx32_inb : ∀ (v159 : IVec S16 32) (k1_hw32 : k1_chk32 v159), ∀ a x, ((![v159] : Fin 1 → IVec S16 32) a x).toNat < S16384.size a := fun v159 k1_hw32 => k1_hw32

def k1_chk33 (v164 : IVec S16 32) : Prop :=
  (∀ a x, ((![v164] : Fin 1 → IVec S16 32) a x).toNat < S16384.size a)
theorem k1_idx33_inb : ∀ (v164 : IVec S16 32) (k1_hw33 : k1_chk33 v164), ∀ a x, ((![v164] : Fin 1 → IVec S16 32) a x).toNat < S16384.size a := fun v164 k1_hw33 => k1_hw33

def k1_chk34 (v169 : IVec S16 32) : Prop :=
  (∀ a x, ((![v169] : Fin 1 → IVec S16 32) a x).toNat < S16384.size a)
theorem k1_idx34_inb : ∀ (v169 : IVec S16 32) (k1_hw34 : k1_chk34 v169), ∀ a x, ((![v169] : Fin 1 → IVec S16 32) a x).toNat < S16384.size a := fun v169 k1_hw34 => k1_hw34

def k1_chk35 (v174 : IVec S16 32) : Prop :=
  (∀ a x, ((![v174] : Fin 1 → IVec S16 32) a x).toNat < S16384.size a)
theorem k1_idx35_inb : ∀ (v174 : IVec S16 32) (k1_hw35 : k1_chk35 v174), ∀ a x, ((![v174] : Fin 1 → IVec S16 32) a x).toNat < S16384.size a := fun v174 k1_hw35 => k1_hw35

def k1_chk36 (v179 : IVec S16 32) : Prop :=
  (∀ a x, ((![v179] : Fin 1 → IVec S16 32) a x).toNat < S16384.size a)
theorem k1_idx36_inb : ∀ (v179 : IVec S16 32) (k1_hw36 : k1_chk36 v179), ∀ a x, ((![v179] : Fin 1 → IVec S16 32) a x).toNat < S16384.size a := fun v179 k1_hw36 => k1_hw36

def k1_chk37 (v184 : IVec S16 32) : Prop :=
  (∀ a x, ((![v184] : Fin 1 → IVec S16 32) a x).toNat < S16384.size a)
theorem k1_idx37_inb : ∀ (v184 : IVec S16 32) (k1_hw37 : k1_chk37 v184), ∀ a x, ((![v184] : Fin 1 → IVec S16 32) a x).toNat < S16384.size a := fun v184 k1_hw37 => k1_hw37

def k1_chk38 (v189 : IVec S16 32) : Prop :=
  (∀ a x, ((![v189] : Fin 1 → IVec S16 32) a x).toNat < S16384.size a)
theorem k1_idx38_inb : ∀ (v189 : IVec S16 32) (k1_hw38 : k1_chk38 v189), ∀ a x, ((![v189] : Fin 1 → IVec S16 32) a x).toNat < S16384.size a := fun v189 k1_hw38 => k1_hw38

def k1_chk39 (v194 : IVec S16 32) : Prop :=
  (∀ a x, ((![v194] : Fin 1 → IVec S16 32) a x).toNat < S16384.size a)
theorem k1_idx39_inb : ∀ (v194 : IVec S16 32) (k1_hw39 : k1_chk39 v194), ∀ a x, ((![v194] : Fin 1 → IVec S16 32) a x).toNat < S16384.size a := fun v194 k1_hw39 => k1_hw39

def k1_chk40 (v199 : IVec S16 32) : Prop :=
  (∀ a x, ((![v199] : Fin 1 → IVec S16 32) a x).toNat < S16384.size a)
theorem k1_idx40_inb : ∀ (v199 : IVec S16 32) (k1_hw40 : k1_chk40 v199), ∀ a x, ((![v199] : Fin 1 → IVec S16 32) a x).toNat < S16384.size a := fun v199 k1_hw40 => k1_hw40

def k1_chk41 (v204 : IVec S16 32) : Prop :=
  (∀ a x, ((![v204] : Fin 1 → IVec S16 32) a x).toNat < S16384.size a)
theorem k1_idx41_inb : ∀ (v204 : IVec S16 32) (k1_hw41 : k1_chk41 v204), ∀ a x, ((![v204] : Fin 1 → IVec S16 32) a x).toNat < S16384.size a := fun v204 k1_hw41 => k1_hw41

def k1_chk42 (v209 : IVec S16 32) : Prop :=
  (∀ a x, ((![v209] : Fin 1 → IVec S16 32) a x).toNat < S16384.size a)
theorem k1_idx42_inb : ∀ (v209 : IVec S16 32) (k1_hw42 : k1_chk42 v209), ∀ a x, ((![v209] : Fin 1 → IVec S16 32) a x).toNat < S16384.size a := fun v209 k1_hw42 => k1_hw42

def k1_chk43 (v214 : IVec S16 32) : Prop :=
  (∀ a x, ((![v214] : Fin 1 → IVec S16 32) a x).toNat < S16384.size a)
theorem k1_idx43_inb : ∀ (v214 : IVec S16 32) (k1_hw43 : k1_chk43 v214), ∀ a x, ((![v214] : Fin 1 → IVec S16 32) a x).toNat < S16384.size a := fun v214 k1_hw43 => k1_hw43

def k1_chk44 (v219 : IVec S16 32) : Prop :=
  (∀ a x, ((![v219] : Fin 1 → IVec S16 32) a x).toNat < S16384.size a)
theorem k1_idx44_inb : ∀ (v219 : IVec S16 32) (k1_hw44 : k1_chk44 v219), ∀ a x, ((![v219] : Fin 1 → IVec S16 32) a x).toNat < S16384.size a := fun v219 k1_hw44 => k1_hw44

def k1_chk45 (v224 : IVec S16 32) : Prop :=
  (∀ a x, ((![v224] : Fin 1 → IVec S16 32) a x).toNat < S16384.size a)
theorem k1_idx45_inb : ∀ (v224 : IVec S16 32) (k1_hw45 : k1_chk45 v224), ∀ a x, ((![v224] : Fin 1 → IVec S16 32) a x).toNat < S16384.size a := fun v224 k1_hw45 => k1_hw45

def k1_chk46 (v229 : IVec S16 32) : Prop :=
  (∀ a x, ((![v229] : Fin 1 → IVec S16 32) a x).toNat < S16384.size a)
theorem k1_idx46_inb : ∀ (v229 : IVec S16 32) (k1_hw46 : k1_chk46 v229), ∀ a x, ((![v229] : Fin 1 → IVec S16 32) a x).toNat < S16384.size a := fun v229 k1_hw46 => k1_hw46

def k1_chk47 (v234 : IVec S16 32) : Prop :=
  (∀ a x, ((![v234] : Fin 1 → IVec S16 32) a x).toNat < S16384.size a)
theorem k1_idx47_inb : ∀ (v234 : IVec S16 32) (k1_hw47 : k1_chk47 v234), ∀ a x, ((![v234] : Fin 1 → IVec S16 32) a x).toNat < S16384.size a := fun v234 k1_hw47 => k1_hw47

def k1_chk48 (v239 : IVec S16 32) : Prop :=
  (∀ a x, ((![v239] : Fin 1 → IVec S16 32) a x).toNat < S16384.size a)
theorem k1_idx48_inb : ∀ (v239 : IVec S16 32) (k1_hw48 : k1_chk48 v239), ∀ a x, ((![v239] : Fin 1 → IVec S16 32) a x).toNat < S16384.size a := fun v239 k1_hw48 => k1_hw48

def k1_chk49 (v244 : IVec S16 32) : Prop :=
  (∀ a x, ((![v244] : Fin 1 → IVec S16 32) a x).toNat < S16384.size a)
theorem k1_idx49_inb : ∀ (v244 : IVec S16 32) (k1_hw49 : k1_chk49 v244), ∀ a x, ((![v244] : Fin 1 → IVec S16 32) a x).toNat < S16384.size a := fun v244 k1_hw49 => k1_hw49

def k1_chk50 (v249 : IVec S16 32) : Prop :=
  (∀ a x, ((![v249] : Fin 1 → IVec S16 32) a x).toNat < S16384.size a)
theorem k1_idx50_inb : ∀ (v249 : IVec S16 32) (k1_hw50 : k1_chk50 v249), ∀ a x, ((![v249] : Fin 1 → IVec S16 32) a x).toNat < S16384.size a := fun v249 k1_hw50 => k1_hw50

def k1_chk51 (v254 : IVec S16 32) : Prop :=
  (∀ a x, ((![v254] : Fin 1 → IVec S16 32) a x).toNat < S16384.size a)
theorem k1_idx51_inb : ∀ (v254 : IVec S16 32) (k1_hw51 : k1_chk51 v254), ∀ a x, ((![v254] : Fin 1 → IVec S16 32) a x).toNat < S16384.size a := fun v254 k1_hw51 => k1_hw51

def k1_chk52 (v259 : IVec S16 32) : Prop :=
  (∀ a x, ((![v259] : Fin 1 → IVec S16 32) a x).toNat < S16384.size a)
theorem k1_idx52_inb : ∀ (v259 : IVec S16 32) (k1_hw52 : k1_chk52 v259), ∀ a x, ((![v259] : Fin 1 → IVec S16 32) a x).toNat < S16384.size a := fun v259 k1_hw52 => k1_hw52

def k1_chk53 (v264 : IVec S16 32) : Prop :=
  (∀ a x, ((![v264] : Fin 1 → IVec S16 32) a x).toNat < S16384.size a)
theorem k1_idx53_inb : ∀ (v264 : IVec S16 32) (k1_hw53 : k1_chk53 v264), ∀ a x, ((![v264] : Fin 1 → IVec S16 32) a x).toNat < S16384.size a := fun v264 k1_hw53 => k1_hw53

def k1_chk54 (v269 : IVec S16 32) : Prop :=
  (∀ a x, ((![v269] : Fin 1 → IVec S16 32) a x).toNat < S16384.size a)
theorem k1_idx54_inb : ∀ (v269 : IVec S16 32) (k1_hw54 : k1_chk54 v269), ∀ a x, ((![v269] : Fin 1 → IVec S16 32) a x).toNat < S16384.size a := fun v269 k1_hw54 => k1_hw54

def k1_chk55 (v274 : IVec S16 32) : Prop :=
  (∀ a x, ((![v274] : Fin 1 → IVec S16 32) a x).toNat < S16384.size a)
theorem k1_idx55_inb : ∀ (v274 : IVec S16 32) (k1_hw55 : k1_chk55 v274), ∀ a x, ((![v274] : Fin 1 → IVec S16 32) a x).toNat < S16384.size a := fun v274 k1_hw55 => k1_hw55

def k1_chk56 (v279 : IVec S16 32) : Prop :=
  (∀ a x, ((![v279] : Fin 1 → IVec S16 32) a x).toNat < S16384.size a)
theorem k1_idx56_inb : ∀ (v279 : IVec S16 32) (k1_hw56 : k1_chk56 v279), ∀ a x, ((![v279] : Fin 1 → IVec S16 32) a x).toNat < S16384.size a := fun v279 k1_hw56 => k1_hw56

def k1_chk57 (v284 : IVec S16 32) : Prop :=
  (∀ a x, ((![v284] : Fin 1 → IVec S16 32) a x).toNat < S16384.size a)
theorem k1_idx57_inb : ∀ (v284 : IVec S16 32) (k1_hw57 : k1_chk57 v284), ∀ a x, ((![v284] : Fin 1 → IVec S16 32) a x).toNat < S16384.size a := fun v284 k1_hw57 => k1_hw57

def k1_chk58 (v289 : IVec S16 32) : Prop :=
  (∀ a x, ((![v289] : Fin 1 → IVec S16 32) a x).toNat < S16384.size a)
theorem k1_idx58_inb : ∀ (v289 : IVec S16 32) (k1_hw58 : k1_chk58 v289), ∀ a x, ((![v289] : Fin 1 → IVec S16 32) a x).toNat < S16384.size a := fun v289 k1_hw58 => k1_hw58

def k1_chk59 (v294 : IVec S16 32) : Prop :=
  (∀ a x, ((![v294] : Fin 1 → IVec S16 32) a x).toNat < S16384.size a)
theorem k1_idx59_inb : ∀ (v294 : IVec S16 32) (k1_hw59 : k1_chk59 v294), ∀ a x, ((![v294] : Fin 1 → IVec S16 32) a x).toNat < S16384.size a := fun v294 k1_hw59 => k1_hw59

def k1_chk60 (v299 : IVec S16 32) : Prop :=
  (∀ a x, ((![v299] : Fin 1 → IVec S16 32) a x).toNat < S16384.size a)
theorem k1_idx60_inb : ∀ (v299 : IVec S16 32) (k1_hw60 : k1_chk60 v299), ∀ a x, ((![v299] : Fin 1 → IVec S16 32) a x).toNat < S16384.size a := fun v299 k1_hw60 => k1_hw60

def k1_chk61 (v304 : IVec S16 32) : Prop :=
  (∀ a x, ((![v304] : Fin 1 → IVec S16 32) a x).toNat < S16384.size a)
theorem k1_idx61_inb : ∀ (v304 : IVec S16 32) (k1_hw61 : k1_chk61 v304), ∀ a x, ((![v304] : Fin 1 → IVec S16 32) a x).toNat < S16384.size a := fun v304 k1_hw61 => k1_hw61

def k1_chk62 (v309 : IVec S16 32) : Prop :=
  (∀ a x, ((![v309] : Fin 1 → IVec S16 32) a x).toNat < S16384.size a)
theorem k1_idx62_inb : ∀ (v309 : IVec S16 32) (k1_hw62 : k1_chk62 v309), ∀ a x, ((![v309] : Fin 1 → IVec S16 32) a x).toNat < S16384.size a := fun v309 k1_hw62 => k1_hw62

def k1_chk63 (v314 : IVec S16 32) : Prop :=
  (∀ a x, ((![v314] : Fin 1 → IVec S16 32) a x).toNat < S16384.size a)
theorem k1_idx63_inb : ∀ (v314 : IVec S16 32) (k1_hw63 : k1_chk63 v314), ∀ a x, ((![v314] : Fin 1 → IVec S16 32) a x).toNat < S16384.size a := fun v314 k1_hw63 => k1_hw63

def k1_chk64 (v319 : IVec S16 32) : Prop :=
  (∀ a x, ((![v319] : Fin 1 → IVec S16 32) a x).toNat < S16384.size a)
theorem k1_idx64_inb : ∀ (v319 : IVec S16 32) (k1_hw64 : k1_chk64 v319), ∀ a x, ((![v319] : Fin 1 → IVec S16 32) a x).toNat < S16384.size a := fun v319 k1_hw64 => k1_hw64

def k1_chk65 (v324 : IVec S16 32) : Prop :=
  (∀ a x, ((![v324] : Fin 1 → IVec S16 32) a x).toNat < S16384.size a)
theorem k1_idx65_inb : ∀ (v324 : IVec S16 32) (k1_hw65 : k1_chk65 v324), ∀ a x, ((![v324] : Fin 1 → IVec S16 32) a x).toNat < S16384.size a := fun v324 k1_hw65 => k1_hw65

def k1_chk66 (v329 : IVec S16 32) : Prop :=
  (∀ a x, ((![v329] : Fin 1 → IVec S16 32) a x).toNat < S16384.size a)
theorem k1_idx66_inb : ∀ (v329 : IVec S16 32) (k1_hw66 : k1_chk66 v329), ∀ a x, ((![v329] : Fin 1 → IVec S16 32) a x).toNat < S16384.size a := fun v329 k1_hw66 => k1_hw66

def k1_chk67 (v334 : IVec S16 32) : Prop :=
  (∀ a x, ((![v334] : Fin 1 → IVec S16 32) a x).toNat < S16384.size a)
theorem k1_idx67_inb : ∀ (v334 : IVec S16 32) (k1_hw67 : k1_chk67 v334), ∀ a x, ((![v334] : Fin 1 → IVec S16 32) a x).toNat < S16384.size a := fun v334 k1_hw67 => k1_hw67

def k1_chk68 (v339 : IVec S16 32) : Prop :=
  (∀ a x, ((![v339] : Fin 1 → IVec S16 32) a x).toNat < S16384.size a)
theorem k1_idx68_inb : ∀ (v339 : IVec S16 32) (k1_hw68 : k1_chk68 v339), ∀ a x, ((![v339] : Fin 1 → IVec S16 32) a x).toNat < S16384.size a := fun v339 k1_hw68 => k1_hw68

def k1_chk69 (v344 : IVec S16 32) : Prop :=
  (∀ a x, ((![v344] : Fin 1 → IVec S16 32) a x).toNat < S16384.size a)
theorem k1_idx69_inb : ∀ (v344 : IVec S16 32) (k1_hw69 : k1_chk69 v344), ∀ a x, ((![v344] : Fin 1 → IVec S16 32) a x).toNat < S16384.size a := fun v344 k1_hw69 => k1_hw69

def k1_chk70 (v349 : IVec S16 32) : Prop :=
  (∀ a x, ((![v349] : Fin 1 → IVec S16 32) a x).toNat < S16384.size a)
theorem k1_idx70_inb : ∀ (v349 : IVec S16 32) (k1_hw70 : k1_chk70 v349), ∀ a x, ((![v349] : Fin 1 → IVec S16 32) a x).toNat < S16384.size a := fun v349 k1_hw70 => k1_hw70

def k1_chk71 (v354 : IVec S16 32) : Prop :=
  (∀ a x, ((![v354] : Fin 1 → IVec S16 32) a x).toNat < S16384.size a)
theorem k1_idx71_inb : ∀ (v354 : IVec S16 32) (k1_hw71 : k1_chk71 v354), ∀ a x, ((![v354] : Fin 1 → IVec S16 32) a x).toNat < S16384.size a := fun v354 k1_hw71 => k1_hw71

def k1_chk72 (v359 : IVec S16 32) : Prop :=
  (∀ a x, ((![v359] : Fin 1 → IVec S16 32) a x).toNat < S16384.size a)
theorem k1_idx72_inb : ∀ (v359 : IVec S16 32) (k1_hw72 : k1_chk72 v359), ∀ a x, ((![v359] : Fin 1 → IVec S16 32) a x).toNat < S16384.size a := fun v359 k1_hw72 => k1_hw72

def k1_chk73 (v364 : IVec S16 32) : Prop :=
  (∀ a x, ((![v364] : Fin 1 → IVec S16 32) a x).toNat < S16384.size a)
theorem k1_idx73_inb : ∀ (v364 : IVec S16 32) (k1_hw73 : k1_chk73 v364), ∀ a x, ((![v364] : Fin 1 → IVec S16 32) a x).toNat < S16384.size a := fun v364 k1_hw73 => k1_hw73

def k1_chk74 (v369 : IVec S16 32) : Prop :=
  (∀ a x, ((![v369] : Fin 1 → IVec S16 32) a x).toNat < S16384.size a)
theorem k1_idx74_inb : ∀ (v369 : IVec S16 32) (k1_hw74 : k1_chk74 v369), ∀ a x, ((![v369] : Fin 1 → IVec S16 32) a x).toNat < S16384.size a := fun v369 k1_hw74 => k1_hw74

def k1_chk75 (v374 : IVec S16 32) : Prop :=
  (∀ a x, ((![v374] : Fin 1 → IVec S16 32) a x).toNat < S16384.size a)
theorem k1_idx75_inb : ∀ (v374 : IVec S16 32) (k1_hw75 : k1_chk75 v374), ∀ a x, ((![v374] : Fin 1 → IVec S16 32) a x).toNat < S16384.size a := fun v374 k1_hw75 => k1_hw75

def k1_chk76 (v379 : IVec S16 32) : Prop :=
  (∀ a x, ((![v379] : Fin 1 → IVec S16 32) a x).toNat < S16384.size a)
theorem k1_idx76_inb : ∀ (v379 : IVec S16 32) (k1_hw76 : k1_chk76 v379), ∀ a x, ((![v379] : Fin 1 → IVec S16 32) a x).toNat < S16384.size a := fun v379 k1_hw76 => k1_hw76

def k1_chk77 (v384 : IVec S16 32) : Prop :=
  (∀ a x, ((![v384] : Fin 1 → IVec S16 32) a x).toNat < S16384.size a)
theorem k1_idx77_inb : ∀ (v384 : IVec S16 32) (k1_hw77 : k1_chk77 v384), ∀ a x, ((![v384] : Fin 1 → IVec S16 32) a x).toNat < S16384.size a := fun v384 k1_hw77 => k1_hw77

def k1_chk78 (v389 : IVec S16 32) : Prop :=
  (∀ a x, ((![v389] : Fin 1 → IVec S16 32) a x).toNat < S16384.size a)
theorem k1_idx78_inb : ∀ (v389 : IVec S16 32) (k1_hw78 : k1_chk78 v389), ∀ a x, ((![v389] : Fin 1 → IVec S16 32) a x).toNat < S16384.size a := fun v389 k1_hw78 => k1_hw78

def k1_chk79 (v394 : IVec S16 32) : Prop :=
  (∀ a x, ((![v394] : Fin 1 → IVec S16 32) a x).toNat < S16384.size a)
theorem k1_idx79_inb : ∀ (v394 : IVec S16 32) (k1_hw79 : k1_chk79 v394), ∀ a x, ((![v394] : Fin 1 → IVec S16 32) a x).toNat < S16384.size a := fun v394 k1_hw79 => k1_hw79

def k1_chk80 (v399 : IVec S16 32) : Prop :=
  (∀ a x, ((![v399] : Fin 1 → IVec S16 32) a x).toNat < S16384.size a)
theorem k1_idx80_inb : ∀ (v399 : IVec S16 32) (k1_hw80 : k1_chk80 v399), ∀ a x, ((![v399] : Fin 1 → IVec S16 32) a x).toNat < S16384.size a := fun v399 k1_hw80 => k1_hw80

def k1_chk81 (v404 : IVec S16 32) : Prop :=
  (∀ a x, ((![v404] : Fin 1 → IVec S16 32) a x).toNat < S16384.size a)
theorem k1_idx81_inb : ∀ (v404 : IVec S16 32) (k1_hw81 : k1_chk81 v404), ∀ a x, ((![v404] : Fin 1 → IVec S16 32) a x).toNat < S16384.size a := fun v404 k1_hw81 => k1_hw81

def k1_chk82 (v409 : IVec S16 32) : Prop :=
  (∀ a x, ((![v409] : Fin 1 → IVec S16 32) a x).toNat < S16384.size a)
theorem k1_idx82_inb : ∀ (v409 : IVec S16 32) (k1_hw82 : k1_chk82 v409), ∀ a x, ((![v409] : Fin 1 → IVec S16 32) a x).toNat < S16384.size a := fun v409 k1_hw82 => k1_hw82

def k1_chk83 (v414 : IVec S16 32) : Prop :=
  (∀ a x, ((![v414] : Fin 1 → IVec S16 32) a x).toNat < S16384.size a)
theorem k1_idx83_inb : ∀ (v414 : IVec S16 32) (k1_hw83 : k1_chk83 v414), ∀ a x, ((![v414] : Fin 1 → IVec S16 32) a x).toNat < S16384.size a := fun v414 k1_hw83 => k1_hw83

def k1_chk84 (v419 : IVec S16 32) : Prop :=
  (∀ a x, ((![v419] : Fin 1 → IVec S16 32) a x).toNat < S16384.size a)
theorem k1_idx84_inb : ∀ (v419 : IVec S16 32) (k1_hw84 : k1_chk84 v419), ∀ a x, ((![v419] : Fin 1 → IVec S16 32) a x).toNat < S16384.size a := fun v419 k1_hw84 => k1_hw84

def k1_chk85 (v424 : IVec S16 32) : Prop :=
  (∀ a x, ((![v424] : Fin 1 → IVec S16 32) a x).toNat < S16384.size a)
theorem k1_idx85_inb : ∀ (v424 : IVec S16 32) (k1_hw85 : k1_chk85 v424), ∀ a x, ((![v424] : Fin 1 → IVec S16 32) a x).toNat < S16384.size a := fun v424 k1_hw85 => k1_hw85

def k1_chk86 (v429 : IVec S16 32) : Prop :=
  (∀ a x, ((![v429] : Fin 1 → IVec S16 32) a x).toNat < S16384.size a)
theorem k1_idx86_inb : ∀ (v429 : IVec S16 32) (k1_hw86 : k1_chk86 v429), ∀ a x, ((![v429] : Fin 1 → IVec S16 32) a x).toNat < S16384.size a := fun v429 k1_hw86 => k1_hw86

def k1_chk87 (v434 : IVec S16 32) : Prop :=
  (∀ a x, ((![v434] : Fin 1 → IVec S16 32) a x).toNat < S16384.size a)
theorem k1_idx87_inb : ∀ (v434 : IVec S16 32) (k1_hw87 : k1_chk87 v434), ∀ a x, ((![v434] : Fin 1 → IVec S16 32) a x).toNat < S16384.size a := fun v434 k1_hw87 => k1_hw87

def k1_chk88 (v439 : IVec S16 32) : Prop :=
  (∀ a x, ((![v439] : Fin 1 → IVec S16 32) a x).toNat < S16384.size a)
theorem k1_idx88_inb : ∀ (v439 : IVec S16 32) (k1_hw88 : k1_chk88 v439), ∀ a x, ((![v439] : Fin 1 → IVec S16 32) a x).toNat < S16384.size a := fun v439 k1_hw88 => k1_hw88

def k1_chk89 (v444 : IVec S16 32) : Prop :=
  (∀ a x, ((![v444] : Fin 1 → IVec S16 32) a x).toNat < S16384.size a)
theorem k1_idx89_inb : ∀ (v444 : IVec S16 32) (k1_hw89 : k1_chk89 v444), ∀ a x, ((![v444] : Fin 1 → IVec S16 32) a x).toNat < S16384.size a := fun v444 k1_hw89 => k1_hw89

def k1_chk90 (v449 : IVec S16 32) : Prop :=
  (∀ a x, ((![v449] : Fin 1 → IVec S16 32) a x).toNat < S16384.size a)
theorem k1_idx90_inb : ∀ (v449 : IVec S16 32) (k1_hw90 : k1_chk90 v449), ∀ a x, ((![v449] : Fin 1 → IVec S16 32) a x).toNat < S16384.size a := fun v449 k1_hw90 => k1_hw90

def k1_chk91 (v454 : IVec S16 32) : Prop :=
  (∀ a x, ((![v454] : Fin 1 → IVec S16 32) a x).toNat < S16384.size a)
theorem k1_idx91_inb : ∀ (v454 : IVec S16 32) (k1_hw91 : k1_chk91 v454), ∀ a x, ((![v454] : Fin 1 → IVec S16 32) a x).toNat < S16384.size a := fun v454 k1_hw91 => k1_hw91

def k1_chk92 (v459 : IVec S16 32) : Prop :=
  (∀ a x, ((![v459] : Fin 1 → IVec S16 32) a x).toNat < S16384.size a)
theorem k1_idx92_inb : ∀ (v459 : IVec S16 32) (k1_hw92 : k1_chk92 v459), ∀ a x, ((![v459] : Fin 1 → IVec S16 32) a x).toNat < S16384.size a := fun v459 k1_hw92 => k1_hw92

def k1_chk93 (v464 : IVec S16 32) : Prop :=
  (∀ a x, ((![v464] : Fin 1 → IVec S16 32) a x).toNat < S16384.size a)
theorem k1_idx93_inb : ∀ (v464 : IVec S16 32) (k1_hw93 : k1_chk93 v464), ∀ a x, ((![v464] : Fin 1 → IVec S16 32) a x).toNat < S16384.size a := fun v464 k1_hw93 => k1_hw93

def k1_chk94 (v469 : IVec S16 32) : Prop :=
  (∀ a x, ((![v469] : Fin 1 → IVec S16 32) a x).toNat < S16384.size a)
theorem k1_idx94_inb : ∀ (v469 : IVec S16 32) (k1_hw94 : k1_chk94 v469), ∀ a x, ((![v469] : Fin 1 → IVec S16 32) a x).toNat < S16384.size a := fun v469 k1_hw94 => k1_hw94

def k1_chk95 (v474 : IVec S16 32) : Prop :=
  (∀ a x, ((![v474] : Fin 1 → IVec S16 32) a x).toNat < S16384.size a)
theorem k1_idx95_inb : ∀ (v474 : IVec S16 32) (k1_hw95 : k1_chk95 v474), ∀ a x, ((![v474] : Fin 1 → IVec S16 32) a x).toNat < S16384.size a := fun v474 k1_hw95 => k1_hw95

def k1_chk96 (v479 : IVec S16 32) : Prop :=
  (∀ a x, ((![v479] : Fin 1 → IVec S16 32) a x).toNat < S16384.size a)
theorem k1_idx96_inb : ∀ (v479 : IVec S16 32) (k1_hw96 : k1_chk96 v479), ∀ a x, ((![v479] : Fin 1 → IVec S16 32) a x).toNat < S16384.size a := fun v479 k1_hw96 => k1_hw96

def k1_chk97 (v484 : IVec S16 32) : Prop :=
  (∀ a x, ((![v484] : Fin 1 → IVec S16 32) a x).toNat < S16384.size a)
theorem k1_idx97_inb : ∀ (v484 : IVec S16 32) (k1_hw97 : k1_chk97 v484), ∀ a x, ((![v484] : Fin 1 → IVec S16 32) a x).toNat < S16384.size a := fun v484 k1_hw97 => k1_hw97

def k1_chk98 (v489 : IVec S16 32) : Prop :=
  (∀ a x, ((![v489] : Fin 1 → IVec S16 32) a x).toNat < S16384.size a)
theorem k1_idx98_inb : ∀ (v489 : IVec S16 32) (k1_hw98 : k1_chk98 v489), ∀ a x, ((![v489] : Fin 1 → IVec S16 32) a x).toNat < S16384.size a := fun v489 k1_hw98 => k1_hw98

def k1_chk99 (v494 : IVec S16 32) : Prop :=
  (∀ a x, ((![v494] : Fin 1 → IVec S16 32) a x).toNat < S16384.size a)
theorem k1_idx99_inb : ∀ (v494 : IVec S16 32) (k1_hw99 : k1_chk99 v494), ∀ a x, ((![v494] : Fin 1 → IVec S16 32) a x).toNat < S16384.size a := fun v494 k1_hw99 => k1_hw99

def k1_chk100 (v499 : IVec S16 32) : Prop :=
  (∀ a x, ((![v499] : Fin 1 → IVec S16 32) a x).toNat < S16384.size a)
theorem k1_idx100_inb : ∀ (v499 : IVec S16 32) (k1_hw100 : k1_chk100 v499), ∀ a x, ((![v499] : Fin 1 → IVec S16 32) a x).toNat < S16384.size a := fun v499 k1_hw100 => k1_hw100

def k1_chk101 (v504 : IVec S16 32) : Prop :=
  (∀ a x, ((![v504] : Fin 1 → IVec S16 32) a x).toNat < S16384.size a)
theorem k1_idx101_inb : ∀ (v504 : IVec S16 32) (k1_hw101 : k1_chk101 v504), ∀ a x, ((![v504] : Fin 1 → IVec S16 32) a x).toNat < S16384.size a := fun v504 k1_hw101 => k1_hw101

def k1_chk102 (v509 : IVec S16 32) : Prop :=
  (∀ a x, ((![v509] : Fin 1 → IVec S16 32) a x).toNat < S16384.size a)
theorem k1_idx102_inb : ∀ (v509 : IVec S16 32) (k1_hw102 : k1_chk102 v509), ∀ a x, ((![v509] : Fin 1 → IVec S16 32) a x).toNat < S16384.size a := fun v509 k1_hw102 => k1_hw102

def k1_chk103 (v514 : IVec S16 32) : Prop :=
  (∀ a x, ((![v514] : Fin 1 → IVec S16 32) a x).toNat < S16384.size a)
theorem k1_idx103_inb : ∀ (v514 : IVec S16 32) (k1_hw103 : k1_chk103 v514), ∀ a x, ((![v514] : Fin 1 → IVec S16 32) a x).toNat < S16384.size a := fun v514 k1_hw103 => k1_hw103

def k1_chk104 (v519 : IVec S16 32) : Prop :=
  (∀ a x, ((![v519] : Fin 1 → IVec S16 32) a x).toNat < S16384.size a)
theorem k1_idx104_inb : ∀ (v519 : IVec S16 32) (k1_hw104 : k1_chk104 v519), ∀ a x, ((![v519] : Fin 1 → IVec S16 32) a x).toNat < S16384.size a := fun v519 k1_hw104 => k1_hw104

def k1_chk105 (v524 : IVec S16 32) : Prop :=
  (∀ a x, ((![v524] : Fin 1 → IVec S16 32) a x).toNat < S16384.size a)
theorem k1_idx105_inb : ∀ (v524 : IVec S16 32) (k1_hw105 : k1_chk105 v524), ∀ a x, ((![v524] : Fin 1 → IVec S16 32) a x).toNat < S16384.size a := fun v524 k1_hw105 => k1_hw105

def k1_chk106 (v529 : IVec S16 32) : Prop :=
  (∀ a x, ((![v529] : Fin 1 → IVec S16 32) a x).toNat < S16384.size a)
theorem k1_idx106_inb : ∀ (v529 : IVec S16 32) (k1_hw106 : k1_chk106 v529), ∀ a x, ((![v529] : Fin 1 → IVec S16 32) a x).toNat < S16384.size a := fun v529 k1_hw106 => k1_hw106

def k1_chk107 (v534 : IVec S16 32) : Prop :=
  (∀ a x, ((![v534] : Fin 1 → IVec S16 32) a x).toNat < S16384.size a)
theorem k1_idx107_inb : ∀ (v534 : IVec S16 32) (k1_hw107 : k1_chk107 v534), ∀ a x, ((![v534] : Fin 1 → IVec S16 32) a x).toNat < S16384.size a := fun v534 k1_hw107 => k1_hw107

def k1_chk108 (v539 : IVec S16 32) : Prop :=
  (∀ a x, ((![v539] : Fin 1 → IVec S16 32) a x).toNat < S16384.size a)
theorem k1_idx108_inb : ∀ (v539 : IVec S16 32) (k1_hw108 : k1_chk108 v539), ∀ a x, ((![v539] : Fin 1 → IVec S16 32) a x).toNat < S16384.size a := fun v539 k1_hw108 => k1_hw108

def k1_chk109 (v544 : IVec S16 32) : Prop :=
  (∀ a x, ((![v544] : Fin 1 → IVec S16 32) a x).toNat < S16384.size a)
theorem k1_idx109_inb : ∀ (v544 : IVec S16 32) (k1_hw109 : k1_chk109 v544), ∀ a x, ((![v544] : Fin 1 → IVec S16 32) a x).toNat < S16384.size a := fun v544 k1_hw109 => k1_hw109

def k1_chk110 (v549 : IVec S16 32) : Prop :=
  (∀ a x, ((![v549] : Fin 1 → IVec S16 32) a x).toNat < S16384.size a)
theorem k1_idx110_inb : ∀ (v549 : IVec S16 32) (k1_hw110 : k1_chk110 v549), ∀ a x, ((![v549] : Fin 1 → IVec S16 32) a x).toNat < S16384.size a := fun v549 k1_hw110 => k1_hw110

def k1_chk111 (v554 : IVec S16 32) : Prop :=
  (∀ a x, ((![v554] : Fin 1 → IVec S16 32) a x).toNat < S16384.size a)
theorem k1_idx111_inb : ∀ (v554 : IVec S16 32) (k1_hw111 : k1_chk111 v554), ∀ a x, ((![v554] : Fin 1 → IVec S16 32) a x).toNat < S16384.size a := fun v554 k1_hw111 => k1_hw111

def k1_chk112 (v559 : IVec S16 32) : Prop :=
  (∀ a x, ((![v559] : Fin 1 → IVec S16 32) a x).toNat < S16384.size a)
theorem k1_idx112_inb : ∀ (v559 : IVec S16 32) (k1_hw112 : k1_chk112 v559), ∀ a x, ((![v559] : Fin 1 → IVec S16 32) a x).toNat < S16384.size a := fun v559 k1_hw112 => k1_hw112

def k1_chk113 (v564 : IVec S16 32) : Prop :=
  (∀ a x, ((![v564] : Fin 1 → IVec S16 32) a x).toNat < S16384.size a)
theorem k1_idx113_inb : ∀ (v564 : IVec S16 32) (k1_hw113 : k1_chk113 v564), ∀ a x, ((![v564] : Fin 1 → IVec S16 32) a x).toNat < S16384.size a := fun v564 k1_hw113 => k1_hw113

def k1_chk114 (v569 : IVec S16 32) : Prop :=
  (∀ a x, ((![v569] : Fin 1 → IVec S16 32) a x).toNat < S16384.size a)
theorem k1_idx114_inb : ∀ (v569 : IVec S16 32) (k1_hw114 : k1_chk114 v569), ∀ a x, ((![v569] : Fin 1 → IVec S16 32) a x).toNat < S16384.size a := fun v569 k1_hw114 => k1_hw114

def k1_chk115 (v574 : IVec S16 32) : Prop :=
  (∀ a x, ((![v574] : Fin 1 → IVec S16 32) a x).toNat < S16384.size a)
theorem k1_idx115_inb : ∀ (v574 : IVec S16 32) (k1_hw115 : k1_chk115 v574), ∀ a x, ((![v574] : Fin 1 → IVec S16 32) a x).toNat < S16384.size a := fun v574 k1_hw115 => k1_hw115

def k1_chk116 (v579 : IVec S16 32) : Prop :=
  (∀ a x, ((![v579] : Fin 1 → IVec S16 32) a x).toNat < S16384.size a)
theorem k1_idx116_inb : ∀ (v579 : IVec S16 32) (k1_hw116 : k1_chk116 v579), ∀ a x, ((![v579] : Fin 1 → IVec S16 32) a x).toNat < S16384.size a := fun v579 k1_hw116 => k1_hw116

def k1_chk117 (v584 : IVec S16 32) : Prop :=
  (∀ a x, ((![v584] : Fin 1 → IVec S16 32) a x).toNat < S16384.size a)
theorem k1_idx117_inb : ∀ (v584 : IVec S16 32) (k1_hw117 : k1_chk117 v584), ∀ a x, ((![v584] : Fin 1 → IVec S16 32) a x).toNat < S16384.size a := fun v584 k1_hw117 => k1_hw117

def k1_chk118 (v589 : IVec S16 32) : Prop :=
  (∀ a x, ((![v589] : Fin 1 → IVec S16 32) a x).toNat < S16384.size a)
theorem k1_idx118_inb : ∀ (v589 : IVec S16 32) (k1_hw118 : k1_chk118 v589), ∀ a x, ((![v589] : Fin 1 → IVec S16 32) a x).toNat < S16384.size a := fun v589 k1_hw118 => k1_hw118

def k1_chk119 (v594 : IVec S16 32) : Prop :=
  (∀ a x, ((![v594] : Fin 1 → IVec S16 32) a x).toNat < S16384.size a)
theorem k1_idx119_inb : ∀ (v594 : IVec S16 32) (k1_hw119 : k1_chk119 v594), ∀ a x, ((![v594] : Fin 1 → IVec S16 32) a x).toNat < S16384.size a := fun v594 k1_hw119 => k1_hw119

def k1_chk120 (v599 : IVec S16 32) : Prop :=
  (∀ a x, ((![v599] : Fin 1 → IVec S16 32) a x).toNat < S16384.size a)
theorem k1_idx120_inb : ∀ (v599 : IVec S16 32) (k1_hw120 : k1_chk120 v599), ∀ a x, ((![v599] : Fin 1 → IVec S16 32) a x).toNat < S16384.size a := fun v599 k1_hw120 => k1_hw120

def k1_chk121 (v604 : IVec S16 32) : Prop :=
  (∀ a x, ((![v604] : Fin 1 → IVec S16 32) a x).toNat < S16384.size a)
theorem k1_idx121_inb : ∀ (v604 : IVec S16 32) (k1_hw121 : k1_chk121 v604), ∀ a x, ((![v604] : Fin 1 → IVec S16 32) a x).toNat < S16384.size a := fun v604 k1_hw121 => k1_hw121

def k1_chk122 (v609 : IVec S16 32) : Prop :=
  (∀ a x, ((![v609] : Fin 1 → IVec S16 32) a x).toNat < S16384.size a)
theorem k1_idx122_inb : ∀ (v609 : IVec S16 32) (k1_hw122 : k1_chk122 v609), ∀ a x, ((![v609] : Fin 1 → IVec S16 32) a x).toNat < S16384.size a := fun v609 k1_hw122 => k1_hw122

def k1_chk123 (v614 : IVec S16 32) : Prop :=
  (∀ a x, ((![v614] : Fin 1 → IVec S16 32) a x).toNat < S16384.size a)
theorem k1_idx123_inb : ∀ (v614 : IVec S16 32) (k1_hw123 : k1_chk123 v614), ∀ a x, ((![v614] : Fin 1 → IVec S16 32) a x).toNat < S16384.size a := fun v614 k1_hw123 => k1_hw123

def k1_chk124 (v619 : IVec S16 32) : Prop :=
  (∀ a x, ((![v619] : Fin 1 → IVec S16 32) a x).toNat < S16384.size a)
theorem k1_idx124_inb : ∀ (v619 : IVec S16 32) (k1_hw124 : k1_chk124 v619), ∀ a x, ((![v619] : Fin 1 → IVec S16 32) a x).toNat < S16384.size a := fun v619 k1_hw124 => k1_hw124

def k1_chk125 (v624 : IVec S16 32) : Prop :=
  (∀ a x, ((![v624] : Fin 1 → IVec S16 32) a x).toNat < S16384.size a)
theorem k1_idx125_inb : ∀ (v624 : IVec S16 32) (k1_hw125 : k1_chk125 v624), ∀ a x, ((![v624] : Fin 1 → IVec S16 32) a x).toNat < S16384.size a := fun v624 k1_hw125 => k1_hw125

def k1_chk126 (v629 : IVec S16 32) : Prop :=
  (∀ a x, ((![v629] : Fin 1 → IVec S16 32) a x).toNat < S16384.size a)
theorem k1_idx126_inb : ∀ (v629 : IVec S16 32) (k1_hw126 : k1_chk126 v629), ∀ a x, ((![v629] : Fin 1 → IVec S16 32) a x).toNat < S16384.size a := fun v629 k1_hw126 => k1_hw126

def k1_chk127 (v634 : IVec S16 32) : Prop :=
  (∀ a x, ((![v634] : Fin 1 → IVec S16 32) a x).toNat < S16384.size a)
theorem k1_idx127_inb : ∀ (v634 : IVec S16 32) (k1_hw127 : k1_chk127 v634), ∀ a x, ((![v634] : Fin 1 → IVec S16 32) a x).toNat < S16384.size a := fun v634 k1_hw127 => k1_hw127

def k1_chk128 (v639 : IVec S16 32) : Prop :=
  (∀ a x, ((![v639] : Fin 1 → IVec S16 32) a x).toNat < S16384.size a)
theorem k1_idx128_inb : ∀ (v639 : IVec S16 32) (k1_hw128 : k1_chk128 v639), ∀ a x, ((![v639] : Fin 1 → IVec S16 32) a x).toNat < S16384.size a := fun v639 k1_hw128 => k1_hw128
def k1_off2 (i : grid1.Coords) (c0_i32_510 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v643 : BitVec 32 := Scalar.muli v1 c2048_i32
  let v659 : BitVec 32 := Scalar.addi v643 c0_i32_510
  let c0_i32_514 : BitVec 32 := 0#32
  ![v659.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S65536 : Shape := ⟨1, ![65536]⟩
abbrev S16x64x64 : Shape := ⟨3, ![16, 64, 64]⟩
abbrev S65536x128 : Shape := ⟨2, ![65536, 128]⟩
abbrev S1x65536 : Shape := ⟨2, ![1, 65536]⟩
abbrev S256 : Shape := ⟨1, ![256]⟩
abbrev S256x1 : Shape := ⟨2, ![256, 1]⟩
abbrev S256x65536 : Shape := ⟨2, ![256, 65536]⟩
abbrev S_ : Shape := ⟨0, ![]⟩
abbrev S256x64 : Shape := ⟨2, ![256, 64]⟩
abbrev S16384 : Shape := ⟨1, ![16384]⟩
abbrev S65536x1 : Shape := ⟨2, ![65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S65536, .i32⟩
  | .hbm, ⟨1, _⟩ => ⟨S16x64x64, .i32⟩
  | .hbm, ⟨2, _⟩ => ⟨S65536x128, .f32⟩
  | .hbm, ⟨3, _⟩ => ⟨S65536, .i32⟩
  | .hbm, ⟨4, _⟩ => ⟨S1x65536, .i32⟩
  | .hbm, ⟨5, _⟩ => ⟨S256, .i32⟩
  | .hbm, ⟨6, _⟩ => ⟨S256x1, .i32⟩
  | .hbm, ⟨7, _⟩ => ⟨S256x65536, .i32⟩
  | .hbm, ⟨8, _⟩ => ⟨S256x65536, .i32⟩
  | .hbm, ⟨9, _⟩ => ⟨S256x65536, .i1⟩
  | .hbm, ⟨10, _⟩ => ⟨S256x65536, .i32⟩
  | .hbm, ⟨11, _⟩ => ⟨S_, .i32⟩
  | .hbm, ⟨12, _⟩ => ⟨S256, .i32⟩
  | .hbm, ⟨13, _⟩ => ⟨S1x65536, .i32⟩
  | .hbm, ⟨14, _⟩ => ⟨S_, .i32⟩
  | .hbm, ⟨15, _⟩ => ⟨S_, .i32⟩
  | .hbm, ⟨16, _⟩ => ⟨S256x65536, .i32⟩
  | .hbm, ⟨17, _⟩ => ⟨S256x65536, .i32⟩
  | .hbm, ⟨18, _⟩ => ⟨S256x65536, .i32⟩
  | .hbm, ⟨19, _⟩ => ⟨S256x65536, .i32⟩
  | .hbm, ⟨20, _⟩ => ⟨S256x64, .i32⟩
  | .hbm, ⟨21, _⟩ => ⟨S_, .i32⟩
  | .hbm, ⟨22, _⟩ => ⟨S256x64, .i32⟩
  | .hbm, ⟨23, _⟩ => ⟨S256x64, .i1⟩
  | .hbm, ⟨24, _⟩ => ⟨S_, .i32⟩
  | .hbm, ⟨25, _⟩ => ⟨S_, .i32⟩
  | .hbm, ⟨26, _⟩ => ⟨S256x64, .i32⟩
  | .hbm, ⟨27, _⟩ => ⟨S256x64, .i32⟩
  | .hbm, ⟨28, _⟩ => ⟨S16384, .i32⟩
  | .hbm, ⟨29, _⟩ => ⟨S65536, .i32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S65536x1, .i32⟩
  | .hbm, ⟨38, _⟩ => ⟨S65536, .i32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S65536x1, .i32⟩
  | .hbm, ⟨47, _⟩ => ⟨S65536x128, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call2_v0 : Ref sig .tc := ⟨.hbm, 25, rfl⟩
abbrev main_call2_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Codes.lean ====
abbrev S65536x4 : Shape := ⟨2, ![65536, 4]⟩
abbrev S65536 : Shape := ⟨1, ![65536]⟩
abbrev S8192x4 : Shape := ⟨2, ![8192, 4]⟩
abbrev S8192 : Shape := ⟨1, ![8192]⟩
abbrev S8192x1 : Shape := ⟨2, ![8192, 1]⟩

abbrev nBuf : Space → Nat
  | .hbm => 2
  | .vmem => 4
  | .smem => 0
  | _ => 0

abbrev bufTy : (tb : Table) → Fin (tcTables nBuf tb) → BufTy
  | .hbm, ⟨0, _⟩ => ⟨S65536x4, .i32⟩
  | .hbm, ⟨1, _⟩ => ⟨S65536, .i32⟩
  | .local _ .vmem, ⟨0, _⟩ => ⟨S8192x4, .i32⟩
  | .local _ .vmem, ⟨1, _⟩ => ⟨S8192x4, .i32⟩
  | .local _ .vmem, ⟨2, _⟩ => ⟨S8192, .i32⟩
  | .local _ .vmem, ⟨3, _⟩ => ⟨S8192, .i32⟩
  | _, _ => ⟨S65536x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CodesRef.lean ====
abbrev S65536x4 : Shape := ⟨2, ![65536, 4]⟩
abbrev S65536x1 : Shape := ⟨2, ![65536, 1]⟩
abbrev S65536 : Shape := ⟨1, ![65536]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S65536x4, .i32⟩
  | .hbm, ⟨1, _⟩ => ⟨S65536x1, .i32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i32⟩
  | .hbm, ⟨6, _⟩ => ⟨S65536x1, .i32⟩
  | .hbm, ⟨7, _⟩ => ⟨S65536, .i32⟩
  | .hbm, ⟨8, _⟩ => ⟨S65536, .i32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536, .i32⟩
  | .hbm, ⟨14, _⟩ => ⟨S65536, .i32⟩
  | .hbm, ⟨15, _⟩ => ⟨S_, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536, .i32⟩
  | .hbm, ⟨20, _⟩ => ⟨S65536, .i32⟩
  | _, _ => ⟨S65536x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Attention.lean ====
abbrev S16x64x128 : Shape := ⟨3, ![16, 64, 128]⟩
abbrev S16x4096x128 : Shape := ⟨3, ![16, 4096, 128]⟩
abbrev S16x64x64 : Shape := ⟨3, ![16, 64, 64]⟩
abbrev S16x64x3 : Shape := ⟨3, ![16, 64, 3]⟩
abbrev S4x128 : Shape := ⟨2, ![4, 128]⟩
abbrev S1x128 : Shape := ⟨2, ![1, 128]⟩
abbrev S128x128 : Shape := ⟨2, ![128, 128]⟩
abbrev S1x64x128 : Shape := ⟨3, ![1, 64, 128]⟩
abbrev S1x4096x128 : Shape := ⟨3, ![1, 4096, 128]⟩
abbrev S1x64x64 : Shape := ⟨3, ![1, 64, 64]⟩
abbrev S1x64x3 : Shape := ⟨3, ![1, 64, 3]⟩
abbrev S64x64 : Shape := ⟨2, ![64, 64]⟩
abbrev S64x3 : Shape := ⟨2, ![64, 3]⟩
abbrev S64x1 : Shape := ⟨2, ![64, 1]⟩
abbrev S64x64x1 : Shape := ⟨3, ![64, 64, 1]⟩
abbrev S128 : Shape := ⟨1, ![128]⟩
abbrev S1x1x128 : Shape := ⟨3, ![1, 1, 128]⟩
abbrev S64x64x128 : Shape := ⟨3, ![64, 64, 128]⟩
abbrev S4096x128 : Shape := ⟨2, ![4096, 128]⟩
abbrev S64x128 : Shape := ⟨2, ![64, 128]⟩
abbrev S64x1x128 : Shape := ⟨3, ![64, 1, 128]⟩
abbrev S64 : Shape := ⟨1, ![64]⟩

abbrev nBuf : Space → Nat
  | .hbm => 18
  | .vmem => 24
  | .smem => 0
  | _ => 0

abbrev bufTy : (tb : Table) → Fin (tcTables nBuf tb) → BufTy
  | .hbm, ⟨0, _⟩ => ⟨S16x64x128, .f32⟩
  | .hbm, ⟨1, _⟩ => ⟨S16x4096x128, .f32⟩
  | .hbm, ⟨2, _⟩ => ⟨S16x64x64, .i32⟩
  | .hbm, ⟨3, _⟩ => ⟨S16x64x3, .f32⟩
  | .hbm, ⟨4, _⟩ => ⟨S16x64x64, .f32⟩
  | .hbm, ⟨5, _⟩ => ⟨S4x128, .f32⟩
  | .hbm, ⟨6, _⟩ => ⟨S1x128, .f32⟩
  | .hbm, ⟨7, _⟩ => ⟨S128x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S1x128, .f32⟩
  | .hbm, ⟨13, _⟩ => ⟨S128x128, .f32⟩
  | .hbm, ⟨14, _⟩ => ⟨S1x128, .f32⟩
  | .hbm, ⟨15, _⟩ => ⟨S128x128, .f32⟩
  | .hbm, ⟨16, _⟩ => ⟨S1x128, .f32⟩
  | .hbm, ⟨17, _⟩ => ⟨S16x64x128, .f32⟩
  | .local _ .vmem, ⟨0, _⟩ => ⟨S1x64x128, .f32⟩
  | .local _ .vmem, ⟨1, _⟩ => ⟨S1x64x128, .f32⟩
  | .local _ .vmem, ⟨2, _⟩ => ⟨S1x4096x128, .f32⟩
  | .local _ .vmem, ⟨3, _⟩ => ⟨S1x4096x128, .f32⟩
  | .local _ .vmem, ⟨4, _⟩ => ⟨S1x64x64, .i32⟩
  | .local _ .vmem, ⟨5, _⟩ => ⟨S1x64x64, .i32⟩
  | .local _ .vmem, ⟨6, _⟩ => ⟨S1x64x3, .f32⟩
  | .local _ .vmem, ⟨7, _⟩ => ⟨S1x64x3, .f32⟩
  | .local _ .vmem, ⟨8, _⟩ => ⟨S1x64x64, .f32⟩
  | .local _ .vmem, ⟨9, _⟩ => ⟨S1x64x64, .f32⟩
  | .local _ .vmem, ⟨10, _⟩ => ⟨S4x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x64x128, .f32⟩
  | .local _ .vmem, ⟨23, _⟩ => ⟨S1x64x128, .f32⟩
  | _, _ => ⟨S16x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AttentionRefIdeal.lean ====
abbrev S16x64x128 : Shape := ⟨3, ![16, 64, 128]⟩
abbrev S16x4096x128 : Shape := ⟨3, ![16, 4096, 128]⟩
abbrev S16x64x64 : Shape := ⟨3, ![16, 64, 64]⟩
abbrev S16x64x3 : Shape := ⟨3, ![16, 64, 3]⟩
abbrev S4x128 : Shape := ⟨2, ![4, 128]⟩
abbrev S1x128 : Shape := ⟨2, ![1, 128]⟩
abbrev S128x128 : Shape := ⟨2, ![128, 128]⟩
abbrev S16x64x64x128 : Shape := ⟨4, ![16, 64, 64, 128]⟩
abbrev S_ : Shape := ⟨0, ![]⟩
abbrev S16x64x64x1 : Shape := ⟨4, ![16, 64, 64, 1]⟩
abbrev S16x64x64x3 : Shape := ⟨4, ![16, 64, 64, 3]⟩
abbrev S16x64x1x3 : Shape := ⟨4, ![16, 64, 1, 3]⟩
abbrev S16x64x64x4 : Shape := ⟨4, ![16, 64, 64, 4]⟩
abbrev S1x1x1x128 : Shape := ⟨4, ![1, 1, 1, 128]⟩
abbrev S1x1x128 : Shape := ⟨3, ![1, 1, 128]⟩
abbrev S16x64 : Shape := ⟨2, ![16, 64]⟩
abbrev S16x64x1 : Shape := ⟨3, ![16, 64, 1]⟩

abbrev nBuf : Space → Nat
  | .hbm => 180
  | .vmem => 0
  | .smem => 0
  | _ => 0

abbrev hbmTy0_0 (i : Nat) : BufTy := match i % 128 with
  | 0 => ⟨S16x64x128, .f32⟩
  | 1 => ⟨S16x4096x128, .f32⟩
  | 2 => ⟨S16x64x64, .i32⟩
  | 3 => ⟨S16x64x3, .f32⟩
  | 4 => ⟨S16x64x64, .f32⟩
  | 5 => ⟨S4x128, .f32⟩
  | 6 => ⟨S1x128, .f32⟩
  | 7 => ⟨S128x128, .f32⟩
  | 8 => ⟨S1x128, .f32⟩
  | 9 => ⟨S128x128, .f32⟩
  | 10 => ⟨S1x128, .f32⟩
  | 11 => ⟨S128x128, .f32⟩
  | 12 => ⟨S1x128, .f32⟩
  | 13 => ⟨S128x128, .f32⟩
  | 14 => ⟨S1x128, .f32⟩
  | 15 => ⟨S128x128, .f32⟩
  | 16 => ⟨S1x128, .f32⟩
  | 17 => ⟨S16x64x64x128, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S16x64x64, .i32⟩
  | 25 => ⟨S16x64x64, .i32⟩
  | 26 => ⟨S_, .i32⟩
  | 27 => ⟨S16x64x64, .i32⟩
  | 28 => ⟨S16x64x64, .i1⟩
  | 29 => ⟨S_, .i32⟩
  | 30 => ⟨S16x64x64, .i32⟩
  | 31 => ⟨S16x64x64, .i1⟩
  | 32 => ⟨S_, .i32⟩
  | 33 => ⟨S_, .i1⟩
  | 34 => ⟨S16x64x64, .i1⟩
  | 35 => ⟨S16x64x64, .i1⟩
  | 36 => ⟨S16x64x64, .i1⟩
  | 37 => ⟨S16x64x64, .i32⟩
  | 38 => ⟨S16x64x64, .i32⟩
  | 39 => ⟨S16x64x64, .i32⟩
  | 40 => ⟨S_, .i32⟩
  | 41 => ⟨S_, .i32⟩
  | 42 => ⟨S16x64x64, .i32⟩
  | 43 => ⟨S16x64x64, .i32⟩
  | 44 => ⟨S16x64x64, .i32⟩
  | 45 => ⟨S_, .i32⟩
  | 46 => ⟨S16x64x64, .i32⟩
  | 47 => ⟨S16x64x64, .i1⟩
  | 48 => ⟨S16x64x64, .i32⟩
  | 49 => ⟨S16x64x64, .i32⟩
  | 50 => ⟨S_, .i32⟩
  | 51 => ⟨S16x64x64, .i32⟩
  | 52 => ⟨S16x64x64, .i1⟩
  | 53 => ⟨S16x64x64, .i1⟩
  | 54 => ⟨S_, .i32⟩
  | 55 => ⟨S16x64x64, .i32⟩
  | 56 => ⟨S16x64x64, .i32⟩
  | 57 => ⟨S16x64x64, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S16x64x64, .i32⟩
  | 65 => ⟨S16x64x64, .i32⟩
  | 66 => ⟨S_, .i32⟩
  | 67 => ⟨S16x64x64, .i32⟩
  | 68 => ⟨S16x64x64, .i1⟩
  | 69 => ⟨S_, .i32⟩
  | 70 => ⟨S16x64x64, .i32⟩
  | 71 => ⟨S16x64x64, .i1⟩
  | 72 => ⟨S_, .i32⟩
  | 73 => ⟨S_, .i1⟩
  | 74 => ⟨S16x64x64, .i1⟩
  | 75 => ⟨S16x64x64, .i1⟩
  | 76 => ⟨S16x64x64, .i1⟩
  | 77 => ⟨S16x64x64, .i32⟩
  | 78 => ⟨S16x64x64, .i32⟩
  | 79 => ⟨S16x64x64, .i32⟩
  | 80 => ⟨S_, .i32⟩
  | 81 => ⟨S_, .i32⟩
  | 82 => ⟨S16x64x64, .i32⟩
  | 83 => ⟨S16x64x64, .i32⟩
  | 84 => ⟨S16x64x64, .i32⟩
  | 85 => ⟨S_, .i32⟩
  | 86 => ⟨S16x64x64, .i32⟩
  | 87 => ⟨S16x64x64, .i1⟩
  | 88 => ⟨S16x64x64, .i32⟩
  | 89 => ⟨S16x64x64, .i32⟩
  | 90 => ⟨S_, .i32⟩
  | 91 => ⟨S16x64x64, .i32⟩
  | 92 => ⟨S16x64x64, .i1⟩
  | 93 => ⟨S16x64x64, .i1⟩
  | 94 => ⟨S_, .i32⟩
  | 95 => ⟨S16x64x64, .i32⟩
  | 96 => ⟨S16x64x64, .i32⟩
  | 97 => ⟨S16x64x64, .i32⟩
  | 98 => ⟨S16x64x64x1, .i32⟩
  | 99 => ⟨S16x64x64x1, .i32⟩
  | 100 => ⟨S16x64x64x1, .i32⟩
  | 101 => ⟨S16x64x64x3, .i32⟩
  | 102 => ⟨S16x64x64x3, .f32⟩
  | 103 => ⟨S_, .f32⟩
  | 104 => ⟨S16x64x64x3, .f32⟩
  | 105 => ⟨S16x64x64x3, .f32⟩
  | 106 => ⟨S16x64x1x3, .f32⟩
  | 107 => ⟨S16x64x64x3, .f32⟩
  | 108 => ⟨S16x64x64x3, .f32⟩
  | 109 => ⟨S16x64x64x3, .f32⟩
  | 110 => ⟨S_, .f32⟩
  | 111 => ⟨S16x64x64, .f32⟩
  | 112 => ⟨S16x64x64x1, .f32⟩
  | 113 => ⟨S_, .f32⟩
  | 114 => ⟨S16x64x64x1, .f32⟩
  | 115 => ⟨S16x64x64x1, .f32⟩
  | 116 => ⟨S16x64x64x1, .f32⟩
  | 117 => ⟨S16x64x64x4, .f32⟩
  | 118 => ⟨S16x64x64x128, .f32⟩
  | 119 => ⟨S1x1x1x128, .f32⟩
  | 120 => ⟨S16x64x64x128, .f32⟩
  | 121 => ⟨S16x64x64x128, .f32⟩
  | 122 => ⟨S_, .f32⟩
  | 123 => ⟨S16x64x64x128, .f32⟩
  | 124 => ⟨S16x64x64x128, .f32⟩
  | 125 => ⟨S16x64x64x128, .f32⟩
  | 126 => ⟨S1x1x1x128, .f32⟩
  | 127 => ⟨S16x64x64x128, .f32⟩
  | _ => ⟨S16x64x128, .f32⟩

abbrev hbmTy0_1 (i : Nat) : BufTy := match i % 128 with
  | 0 => ⟨S16x64x64x128, .f32⟩
  | 1 => ⟨S16x64x64x128, .f32⟩
  | 2 => ⟨S16x64x128, .f32⟩
  | 3 => ⟨S1x1x128, .f32⟩
  | 4 => ⟨S16x64x128, .f32⟩
  | 5 => ⟨S16x64x128, .f32⟩
  | 6 => ⟨S16x64x64x128, .f32⟩
  | 7 => ⟨S1x1x1x128, .f32⟩
  | 8 => ⟨S16x64x64x128, .f32⟩
  | 9 => ⟨S16x64x64x128, .f32⟩
  | 10 => ⟨S16x64x64x128, .f32⟩
  | 11 => ⟨S1x1x1x128, .f32⟩
  | 12 => ⟨S16x64x64x128, .f32⟩
  | 13 => ⟨S16x64x64x128, .f32⟩
  | 14 => ⟨S16x64x64, .f32⟩
  | 15 => ⟨S_, .f32⟩
  | 16 => ⟨S16x64x64, .f32⟩
  | 17 => ⟨S16x64x64, .f32⟩
  | 18 => ⟨S_, .f32⟩
  | 19 => ⟨S16x64x64, .f32⟩
  | 20 => ⟨S16x64x64, .i1⟩
  | 21 => ⟨S_, .f32⟩
  | 22 => ⟨S_, .f32⟩
  | 23 => ⟨S16x64x64, .f32⟩
  | 24 => ⟨S16x64x64, .f32⟩
  | 25 => ⟨S_, .f32⟩
  | 26 => ⟨S16x64, .f32⟩
  | 27 => ⟨S16x64x1, .f32⟩
  | 28 => ⟨S16x64x64, .f32⟩
  | 29 => ⟨S16x64x64, .f32⟩
  | 30 => ⟨S16x64x64, .f32⟩
  | 31 => ⟨S_, .f32⟩
  | 32 => ⟨S16x64, .f32⟩
  | 33 => ⟨S16x64x1, .f32⟩
  | 34 => ⟨S16x64x64, .f32⟩
  | 35 => ⟨S16x64x64, .f32⟩
  | 36 => ⟨S16x64x128, .f32⟩
  | 37 => ⟨S16x64x128, .f32⟩
  | 38 => ⟨S1x1x128, .f32⟩
  | 39 => ⟨S16x64x128, .f32⟩
  | 40 => ⟨S16x64x128, .f32⟩
  | 41 => ⟨S_, .f32⟩
  | 42 => ⟨S16x64x64, .f32⟩
  | 43 => ⟨S16x64x64, .i1⟩
  | 44 => ⟨S_, .i1⟩
  | 45 => ⟨S16x64, .i1⟩
  | 46 => ⟨S16x64x1, .i1⟩
  | 47 => ⟨S_, .f32⟩
  | 48 => ⟨S_, .f32⟩
  | 49 => ⟨S16x64x128, .i1⟩
  | 50 => ⟨S16x64x128, .f32⟩
  | 51 => ⟨S16x64x128, .f32⟩
  | _ => ⟨S16x64x128, .f32⟩

abbrev hbmTy (i : Nat) : BufTy := match i / 128 with
  | 0 => hbmTy0_0 i
  | 1 => hbmTy0_1 i
  | _ => ⟨S16x64x128, .f32⟩

abbrev bufTy : (tb : Table) → Fin (tcTables nBuf tb) → BufTy
  | .hbm, ⟨i, _⟩ => hbmTy i
  | _, _ => ⟨S16x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v1 : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v2 : Ref sig .tc := ⟨.hbm, 57, rfl⟩
abbrev main_c_1 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v3 : Ref sig .tc := ⟨.hbm, 79, rfl⟩
abbrev main_c_2 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v4 : Ref sig .tc := ⟨.hbm, 97, rfl⟩
abbrev main_v5 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_v9 : Ref sig .tc := ⟨.hbm, 102, rfl⟩
abbrev main_cst : Ref sig .tc := ⟨.hbm, 103, rfl⟩
abbrev main_v10 : Ref sig .tc := ⟨.hbm, 104, rfl⟩
abbrev main_v11 : Ref sig .tc := ⟨.hbm, 105, rfl⟩
abbrev main_v12 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_cst_3 : Ref sig .tc := ⟨.hbm, 110, rfl⟩
abbrev main_v16 : Ref sig .tc := ⟨.hbm, 111, rfl⟩
abbrev main_v17 : Ref sig .tc := ⟨.hbm, 112, rfl⟩
abbrev main_cst_4 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_cst_5 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_cst_6 : Ref sig .tc := ⟨.hbm, 143, rfl⟩
abbrev main_v46 : Ref sig .tc := ⟨.hbm, 144, rfl⟩
abbrev main_v47 : Ref sig .tc := ⟨.hbm, 145, rfl⟩
abbrev main_cst_7 : Ref sig .tc := ⟨.hbm, 146, rfl⟩
abbrev main_v48 : Ref sig .tc := ⟨.hbm, 147, rfl⟩
abbrev main_v49 : Ref sig .tc := ⟨.hbm, 148, rfl⟩
abbrev main_cst_8 : Ref sig .tc := ⟨.hbm, 149, rfl⟩
abbrev main_call4_v0 : Ref sig .tc := ⟨.hbm, 150, rfl⟩
abbrev main_call4_v1 : Ref sig .tc := ⟨.hbm, 151, rfl⟩
abbrev main_v50 : Ref sig .tc := ⟨.hbm, 152, rfl⟩
abbrev main_cst_9 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_cst_10 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_cst_11 : Ref sig .tc := ⟨.hbm, 169, rfl⟩
abbrev main_v65 : Ref sig .tc := ⟨.hbm, 170, rfl⟩
abbrev main_v66 : Ref sig .tc := ⟨.hbm, 171, rfl⟩
abbrev main_c_12 : Ref sig .tc := ⟨.hbm, 172, rfl⟩
abbrev main_v67 : Ref sig .tc := ⟨.hbm, 173, rfl⟩
abbrev main_v68 : Ref sig .tc := ⟨.hbm, 174, rfl⟩
abbrev main_cst_13 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_v69 : Ref sig .tc := ⟨.hbm, 179, rfl⟩

abbrev nD : Nat := 1
abbrev τ : Topo := Topo.v7x

variable {F : FTy → Type} [FloatOps F]
-- ==== Ranking.lean ====
abbrev S1024x3 : Shape := ⟨2, ![1024, 3]⟩
abbrev S1024x64 : Shape := ⟨2, ![1024, 64]⟩
abbrev S1x64 : Shape := ⟨2, ![1, 64]⟩
abbrev S1024x1 : Shape := ⟨2, ![1024, 1]⟩

abbrev nBuf : Space → Nat
  | .hbm => 3
  | .vmem => 3
  | .smem => 0
  | _ => 0

abbrev bufTy : (tb : Table) → Fin (tcTables nBuf tb) → BufTy
  | .hbm, ⟨0, _⟩ => ⟨S1024x3, .f32⟩
  | .hbm, ⟨1, _⟩ => ⟨S1024x64, .f32⟩
  | .hbm, ⟨2, _⟩ => ⟨S1024x64, .i32⟩
  | .local _ .vmem, ⟨0, _⟩ => ⟨S1024x3, .f32⟩
  | .local _ .vmem, ⟨1, _⟩ => ⟨S1024x64, .f32⟩
  | .local _ .vmem, ⟨2, _⟩ => ⟨S1024x64, .i32⟩
  | _, _ => ⟨S1024x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RankingRefIdeal.lean ====
abbrev S1024x3 : Shape := ⟨2, ![1024, 3]⟩
abbrev S64 : Shape := ⟨1, ![64]⟩
abbrev S_ : Shape := ⟨0, ![]⟩
abbrev S64x1 : Shape := ⟨2, ![64, 1]⟩
abbrev S64x3 : Shape := ⟨2, ![64, 3]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S3x64 : Shape := ⟨2, ![3, 64]⟩

abbrev nBuf : Space → Nat
  | .hbm => 115
  | .vmem => 0
  | .smem => 0
  | _ => 0

abbrev bufTy : (tb : Table) → Fin (tcTables nBuf tb) → BufTy
  | .hbm, ⟨0, _⟩ => ⟨S1024x3, .f32⟩
  | .hbm, ⟨1, _⟩ => ⟨S64, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S_, .i1⟩
  | .hbm, ⟨18, _⟩ => ⟨S64, .i1⟩
  | .hbm, ⟨19, _⟩ => ⟨S64, .i1⟩
  | .hbm, ⟨20, _⟩ => ⟨S64, .i1⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i1⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S_, .i1⟩
  | .hbm, ⟨58, _⟩ => ⟨S64, .i1⟩
  | .hbm, ⟨59, _⟩ => ⟨S64, .i1⟩
  | .hbm, ⟨60, _⟩ => ⟨S64, .i1⟩
  | .hbm, ⟨61, _⟩ => ⟨S64, .i32⟩
  | .hbm, ⟨62, _⟩ => ⟨S64, .i32⟩
  | .hbm, ⟨63, _⟩ => ⟨S64, .i32⟩
  | .hbm, ⟨64, _⟩ => ⟨S_, .i32⟩
  | .hbm, ⟨65, _⟩ => ⟨S_, .i32⟩
  | .hbm, ⟨66, _⟩ => ⟨S64, .i32⟩
  | .hbm, ⟨67, _⟩ => ⟨S64, .i32⟩
  | .hbm, ⟨68, _⟩ => ⟨S64, .i32⟩
  | .hbm, ⟨69, _⟩ => ⟨S_, .i32⟩
  | .hbm, ⟨70, _⟩ => ⟨S64, .i32⟩
  | .hbm, ⟨71, _⟩ => ⟨S64, .i1⟩
  | .hbm, ⟨72, _⟩ => ⟨S64, .i32⟩
  | .hbm, ⟨73, _⟩ => ⟨S64, .i32⟩
  | .hbm, ⟨74, _⟩ => ⟨S_, .i32⟩
  | .hbm, ⟨75, _⟩ => ⟨S64, .i32⟩
  | .hbm, ⟨76, _⟩ => ⟨S64, .i1⟩
  | .hbm, ⟨77, _⟩ => ⟨S64, .i1⟩
  | .hbm, ⟨78, _⟩ => ⟨S_, .i32⟩
  | .hbm, ⟨79, _⟩ => ⟨S64, .i32⟩
  | .hbm, ⟨80, _⟩ => ⟨S64, .i32⟩
  | .hbm, ⟨81, _⟩ => ⟨S64, .i32⟩
  | .hbm, ⟨82, _⟩ => ⟨S64x1, .i32⟩
  | .hbm, ⟨83, _⟩ => ⟨S64x1, .i32⟩
  | .hbm, ⟨84, _⟩ => ⟨S64x1, .i32⟩
  | .hbm, ⟨85, _⟩ => ⟨S64x3, .i32⟩
  | .hbm, ⟨86, _⟩ => ⟨S64x3, .f32⟩
  | .hbm, ⟨87, _⟩ => ⟨S_, .f32⟩
  | .hbm, ⟨88, _⟩ => ⟨S64x3, .f32⟩
  | .hbm, ⟨89, _⟩ => ⟨S64x3, .f32⟩
  | .hbm, ⟨90, _⟩ => ⟨S1024x3, .f32⟩
  | .hbm, ⟨91, _⟩ => ⟨S_, .f32⟩
  | .hbm, ⟨92, _⟩ => ⟨S1024, .f32⟩
  | .hbm, ⟨93, _⟩ => ⟨S1024x1, .f32⟩
  | .hbm, ⟨94, _⟩ => ⟨S64x3, .f32⟩
  | .hbm, ⟨95, _⟩ => ⟨S_, .f32⟩
  | .hbm, ⟨96, _⟩ => ⟨S64, .f32⟩
  | .hbm, ⟨97, _⟩ => ⟨S1x64, .f32⟩
  | .hbm, ⟨98, _⟩ => ⟨S1024x64, .f32⟩
  | .hbm, ⟨99, _⟩ => ⟨S1024x64, .f32⟩
  | .hbm, ⟨100, _⟩ => ⟨S1024x64, .f32⟩
  | .hbm, ⟨101, _⟩ => ⟨S3x64, .f32⟩
  | .hbm, ⟨102, _⟩ => ⟨S1024x64, .f32⟩
  | .hbm, ⟨103, _⟩ => ⟨S_, .f32⟩
  | .hbm, ⟨104, _⟩ => ⟨S1024x64, .f32⟩
  | .hbm, ⟨105, _⟩ => ⟨S1024x64, .f32⟩
  | .hbm, ⟨106, _⟩ => ⟨S1024x64, .f32⟩
  | .hbm, ⟨107, _⟩ => ⟨S_, .f32⟩
  | .hbm, ⟨108, _⟩ => ⟨S1024x64, .f32⟩
  | .hbm, ⟨109, _⟩ => ⟨S1024x64, .f32⟩
  | .hbm, ⟨110, _⟩ => ⟨S1024x64, .f32⟩
  | .hbm, ⟨111, _⟩ => ⟨S1024x64, .f32⟩
  | .hbm, ⟨112, _⟩ => ⟨S1024x64, .i32⟩
  | .hbm, ⟨113, _⟩ => ⟨S1024x64, .f32⟩
  | .hbm, ⟨114, _⟩ => ⟨S1024x64, .i32⟩
  | _, _ => ⟨S1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v2 : Ref sig .tc := ⟨.hbm, 41, rfl⟩
abbrev main_c_1 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_c_1 : Ref sig .tc := ⟨.hbm, 50, rfl⟩
abbrev main_call2_v5 : Ref sig .tc := ⟨.hbm, 51, rfl⟩
abbrev main_call2_v6 : Ref sig .tc := ⟨.hbm, 52, rfl⟩
abbrev main_call2_c_2 : Ref sig .tc := ⟨.hbm, 53, rfl⟩
abbrev main_call2_v7 : Ref sig .tc := ⟨.hbm, 54, rfl⟩
abbrev main_call2_v8 : Ref sig .tc := ⟨.hbm, 55, rfl⟩
abbrev main_call2_c_3 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_v3 : Ref sig .tc := ⟨.hbm, 63, rfl⟩
abbrev main_c_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v4 : Ref sig .tc := ⟨.hbm, 81, rfl⟩
abbrev main_v5 : Ref sig .tc := ⟨.hbm, 82, rfl⟩
abbrev main_v6 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_cst : Ref sig .tc := ⟨.hbm, 87, rfl⟩
abbrev main_v10 : Ref sig .tc := ⟨.hbm, 88, rfl⟩
abbrev main_v11 : Ref sig .tc := ⟨.hbm, 89, rfl⟩
abbrev main_v12 : Ref sig .tc := ⟨.hbm, 90, rfl⟩
abbrev main_cst_3 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_cst_4 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_cst_5 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_cst_6 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_call5_v0 : Ref sig .tc := ⟨.hbm, 112, rfl⟩
abbrev main_call5_v1_0 : Ref sig .tc := ⟨.hbm, 113, rfl⟩
abbrev main_v30 : Ref sig .tc := ⟨.hbm, 114, rfl⟩

abbrev nD : Nat := 1
abbrev τ : Topo := Topo.v7x

variable {F : FTy → Type} [FloatOps F]
-- ==== Slots.lean ====
abbrev S16x64x64 : Shape := ⟨3, ![16, 64, 64]⟩
abbrev S4x1x64 : Shape := ⟨3, ![4, 1, 64]⟩
abbrev S4x64x64 : Shape := ⟨3, ![4, 64, 64]⟩
abbrev S1x64x64 : Shape := ⟨3, ![1, 64, 64]⟩
abbrev S1x1x64 : Shape := ⟨3, ![1, 1, 64]⟩
abbrev S64x64 : Shape := ⟨2, ![64, 64]⟩
abbrev S1x1x1 : Shape := ⟨3, ![1, 1, 1]⟩
abbrev S64x1 : Shape := ⟨2, ![64, 1]⟩
abbrev S64x63 : Shape := ⟨2, ![64, 63]⟩
abbrev S64x2 : Shape := ⟨2, ![64, 2]⟩
abbrev S64x62 : Shape := ⟨2, ![64, 62]⟩
abbrev S64x4 : Shape := ⟨2, ![64, 4]⟩
abbrev S64x60 : Shape := ⟨2, ![64, 60]⟩
abbrev S64x8 : Shape := ⟨2, ![64, 8]⟩
abbrev S64x56 : Shape := ⟨2, ![64, 56]⟩
abbrev S64x16 : Shape := ⟨2, ![64, 16]⟩
abbrev S64x48 : Shape := ⟨2, ![64, 48]⟩
abbrev S64x32 : Shape := ⟨2, ![64, 32]⟩
abbrev S1x64x1 : Shape := ⟨3, ![1, 64, 1]⟩
abbrev S1 : Shape := ⟨1, ![1]⟩
abbrev S64 : Shape := ⟨1, ![64]⟩
abbrev S64x512 : Shape := ⟨2, ![64, 512]⟩
abbrev S512 : Shape := ⟨1, ![512]⟩
abbrev S1x512 : Shape := ⟨2, ![1, 512]⟩

abbrev nBuf : Space → Nat
  | .hbm => 7
  | .vmem => 14
  | .smem => 0
  | _ => 0

abbrev bufTy : (tb : Table) → Fin (tcTables nBuf tb) → BufTy
  | .hbm, ⟨0, _⟩ => ⟨S16x64x64, .f32⟩
  | .hbm, ⟨1, _⟩ => ⟨S16x64x64, .i32⟩
  | .hbm, ⟨2, _⟩ => ⟨S4x1x64, .i32⟩
  | .hbm, ⟨3, _⟩ => ⟨S4x64x64, .i32⟩
  | .hbm, ⟨4, _⟩ => ⟨S16x64x64, .i32⟩
  | .hbm, ⟨5, _⟩ => ⟨S16x64x64, .i32⟩
  | .hbm, ⟨6, _⟩ => ⟨S16x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .i32⟩
  | .local _ .vmem, ⟨3, _⟩ => ⟨S1x64x64, .i32⟩
  | .local _ .vmem, ⟨4, _⟩ => ⟨S1x1x64, .i32⟩
  | .local _ .vmem, ⟨5, _⟩ => ⟨S1x1x64, .i32⟩
  | .local _ .vmem, ⟨6, _⟩ => ⟨S1x64x64, .i32⟩
  | .local _ .vmem, ⟨7, _⟩ => ⟨S1x64x64, .i32⟩
  | .local _ .vmem, ⟨8, _⟩ => ⟨S1x64x64, .i32⟩
  | .local _ .vmem, ⟨9, _⟩ => ⟨S1x64x64, .i32⟩
  | .local _ .vmem, ⟨10, _⟩ => ⟨S1x64x64, .i32⟩
  | .local _ .vmem, ⟨11, _⟩ => ⟨S1x64x64, .i32⟩
  | .local _ .vmem, ⟨12, _⟩ => ⟨S1x64x64, .f32⟩
  | .local _ .vmem, ⟨13, _⟩ => ⟨S1x64x64, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x64 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SlotsRef.lean ====
abbrev S16x64x64 : Shape := ⟨3, ![16, 64, 64]⟩
abbrev S4x1x64 : Shape := ⟨3, ![4, 1, 64]⟩
abbrev S4x64x64 : Shape := ⟨3, ![4, 64, 64]⟩
abbrev S4 : Shape := ⟨1, ![4]⟩
abbrev S4x4 : Shape := ⟨2, ![4, 4]⟩
abbrev S16 : Shape := ⟨1, ![16]⟩
abbrev S64 : Shape := ⟨1, ![64]⟩
abbrev S16x64x64x1 : Shape := ⟨4, ![16, 64, 64, 1]⟩
abbrev S1x1x1x64 : Shape := ⟨4, ![1, 1, 1, 64]⟩
abbrev S16x64x64x64 : Shape := ⟨4, ![16, 64, 64, 64]⟩
abbrev S4x4x1x64 : Shape := ⟨4, ![4, 4, 1, 64]⟩
abbrev S16x1x64 : Shape := ⟨3, ![16, 1, 64]⟩
abbrev S16x1x1x64 : Shape := ⟨4, ![16, 1, 1, 64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S16x64x1x64 : Shape := ⟨4, ![16, 64, 1, 64]⟩
abbrev S1x1x64x1 : Shape := ⟨4, ![1, 1, 64, 1]⟩
abbrev S16x1x1 : Shape := ⟨3, ![16, 1, 1]⟩
abbrev S1x1x64 : Shape := ⟨3, ![1, 1, 64]⟩

abbrev nBuf : Space → Nat
  | .hbm => 107
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S16x64x64, .i32⟩
  | .hbm, ⟨2, _⟩ => ⟨S4x1x64, .i32⟩
  | .hbm, ⟨3, _⟩ => ⟨S4x64x64, .i32⟩
  | .hbm, ⟨4, _⟩ => ⟨S4, .i32⟩
  | .hbm, ⟨5, _⟩ => ⟨S4x4, .i32⟩
  | .hbm, ⟨6, _⟩ => ⟨S16, .i32⟩
  | .hbm, ⟨7, _⟩ => ⟨S64, .i32⟩
  | .hbm, ⟨8, _⟩ => ⟨S64, .i32⟩
  | .hbm, ⟨9, _⟩ => ⟨S16x64x64x1, .i32⟩
  | .hbm, ⟨10, _⟩ => ⟨S1x1x1x64, .i32⟩
  | .hbm, ⟨11, _⟩ => ⟨S16x64x64x64, .i32⟩
  | .hbm, ⟨12, _⟩ => ⟨S16x64x64x64, .i32⟩
  | .hbm, ⟨13, _⟩ => ⟨S16x64x64x64, .i1⟩
  | .hbm, ⟨14, _⟩ => ⟨S4x4x1x64, .i32⟩
  | .hbm, ⟨15, _⟩ => ⟨S16x1x64, .i32⟩
  | .hbm, ⟨16, _⟩ => ⟨S16x1x1x64, .i32⟩
  | .hbm, ⟨17, _⟩ => ⟨S_, .i32⟩
  | .hbm, ⟨18, _⟩ => ⟨S_, .i32⟩
  | .hbm, ⟨19, _⟩ => ⟨S16x64x64x64, .i32⟩
  | .hbm, ⟨20, _⟩ => ⟨S16x64x64x64, .i32⟩
  | .hbm, ⟨21, _⟩ => ⟨S16x64x64x64, .i32⟩
  | .hbm, ⟨22, _⟩ => ⟨S_, .i32⟩
  | .hbm, ⟨23, _⟩ => ⟨S16x64x64, .i32⟩
  | .hbm, ⟨24, _⟩ => ⟨S64x1, .i32⟩
  | .hbm, ⟨25, _⟩ => ⟨S1x64, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S16x64x1x64, .i32⟩
  | .hbm, ⟨30, _⟩ => ⟨S_, .i32⟩
  | .hbm, ⟨31, _⟩ => ⟨S_, .i32⟩
  | .hbm, ⟨32, _⟩ => ⟨S16x64x64x64, .i1⟩
  | .hbm, ⟨33, _⟩ => ⟨S16x64x64x64, .i32⟩
  | .hbm, ⟨34, _⟩ => ⟨S16x64x64x64, .i32⟩
  | .hbm, ⟨35, _⟩ => ⟨S16x64x64x64, .i32⟩
  | .hbm, ⟨36, _⟩ => ⟨S_, .i32⟩
  | .hbm, ⟨37, _⟩ => ⟨S16x64x64, .i32⟩
  | .hbm, ⟨38, _⟩ => ⟨S16x64x1x64, .i32⟩
  | .hbm, ⟨39, _⟩ => ⟨S64x1, .i32⟩
  | .hbm, ⟨40, _⟩ => ⟨S1x1x64x1, .i32⟩
  | .hbm, ⟨41, _⟩ => ⟨S16x64x64x64, .i32⟩
  | .hbm, ⟨42, _⟩ => ⟨S16x64x64x64, .i32⟩
  | .hbm, ⟨43, _⟩ => ⟨S16x64x64x64, .i1⟩
  | .hbm, ⟨44, _⟩ => ⟨S16x64x64x64, .i32⟩
  | .hbm, ⟨45, _⟩ => ⟨S_, .i32⟩
  | .hbm, ⟨46, _⟩ => ⟨S16x64x64, .i32⟩
  | .hbm, ⟨47, _⟩ => ⟨S_, .i32⟩
  | .hbm, ⟨48, _⟩ => ⟨S16x64x64, .i32⟩
  | .hbm, ⟨49, _⟩ => ⟨S16x64x64, .i32⟩
  | .hbm, ⟨50, _⟩ => ⟨S16x64x64x1, .i32⟩
  | .hbm, ⟨51, _⟩ => ⟨S1x1x1x64, .i32⟩
  | .hbm, ⟨52, _⟩ => ⟨S16x64x64x64, .i32⟩
  | .hbm, ⟨53, _⟩ => ⟨S16x64x64x64, .i32⟩
  | .hbm, ⟨54, _⟩ => ⟨S16x64x64x64, .i1⟩
  | .hbm, ⟨55, _⟩ => ⟨S16x64x1x64, .i32⟩
  | .hbm, ⟨56, _⟩ => ⟨S_, .i32⟩
  | .hbm, ⟨57, _⟩ => ⟨S_, .i32⟩
  | .hbm, ⟨58, _⟩ => ⟨S16x64x64x64, .i32⟩
  | .hbm, ⟨59, _⟩ => ⟨S16x64x64x64, .i32⟩
  | .hbm, ⟨60, _⟩ => ⟨S16x64x64x64, .i32⟩
  | .hbm, ⟨61, _⟩ => ⟨S_, .i32⟩
  | .hbm, ⟨62, _⟩ => ⟨S16x64x64, .i32⟩
  | .hbm, ⟨63, _⟩ => ⟨S16x64x64, .i32⟩
  | .hbm, ⟨64, _⟩ => ⟨S16x64x1x64, .i32⟩
  | .hbm, ⟨65, _⟩ => ⟨S_, .i32⟩
  | .hbm, ⟨66, _⟩ => ⟨S_, .i32⟩
  | .hbm, ⟨67, _⟩ => ⟨S16x64x64x64, .i32⟩
  | .hbm, ⟨68, _⟩ => ⟨S16x64x64x64, .i32⟩
  | .hbm, ⟨69, _⟩ => ⟨S16x64x64x64, .i32⟩
  | .hbm, ⟨70, _⟩ => ⟨S_, .i32⟩
  | .hbm, ⟨71, _⟩ => ⟨S16x64x64, .i32⟩
  | .hbm, ⟨72, _⟩ => ⟨S16x64x1x64, .f32⟩
  | .hbm, ⟨73, _⟩ => ⟨S_, .f32⟩
  | .hbm, ⟨74, _⟩ => ⟨S16x64x1x64, .f32⟩
  | .hbm, ⟨75, _⟩ => ⟨S16x64x1x64, .i1⟩
  | .hbm, ⟨76, _⟩ => ⟨S16x64x64x64, .i1⟩
  | .hbm, ⟨77, _⟩ => ⟨S16x64x64x64, .i1⟩
  | .hbm, ⟨78, _⟩ => ⟨S_, .i1⟩
  | .hbm, ⟨79, _⟩ => ⟨S16x64x64, .i1⟩
  | .hbm, ⟨80, _⟩ => ⟨S16x1x1, .i32⟩
  | .hbm, ⟨81, _⟩ => ⟨S_, .i32⟩
  | .hbm, ⟨82, _⟩ => ⟨S16x1x1, .i32⟩
  | .hbm, ⟨83, _⟩ => ⟨S16x1x1, .i32⟩
  | .hbm, ⟨84, _⟩ => ⟨S16x64x64, .i32⟩
  | .hbm, ⟨85, _⟩ => ⟨S16x64x64, .i32⟩
  | .hbm, ⟨86, _⟩ => ⟨S_, .i32⟩
  | .hbm, ⟨87, _⟩ => ⟨S16x64x64, .i32⟩
  | .hbm, ⟨88, _⟩ => ⟨S16x64x64, .i32⟩
  | .hbm, ⟨89, _⟩ => ⟨S1x1x64, .i32⟩
  | .hbm, ⟨90, _⟩ => ⟨S16x64x64, .i32⟩
  | .hbm, ⟨91, _⟩ => ⟨S16x64x64, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S16x64x64, .i32⟩
  | .hbm, ⟨96, _⟩ => ⟨S16x64x64, .i32⟩
  | .hbm, ⟨97, _⟩ => ⟨S_, .i32⟩
  | .hbm, ⟨98, _⟩ => ⟨S16x64x64, .i32⟩
  | .hbm, ⟨99, _⟩ => ⟨S16x64x64, .i32⟩
  | .hbm, ⟨100, _⟩ => ⟨S16x64x64, .i32⟩
  | .hbm, ⟨101, _⟩ => ⟨S_, .i32⟩
  | .hbm, ⟨102, _⟩ => ⟨S16x64x64, .i32⟩
  | .hbm, ⟨103, _⟩ => ⟨S16x64x64, .i1⟩
  | .hbm, ⟨104, _⟩ => ⟨S16x64x64, .i1⟩
  | .hbm, ⟨105, _⟩ => ⟨S16x64x64, .i32⟩
  | .hbm, ⟨106, _⟩ => ⟨S16x64x64, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_cst : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_c_13 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v61 : Ref sig .tc := ⟨.hbm, 99, rfl⟩
abbrev main_v62 : Ref sig .tc := ⟨.hbm, 100, rfl⟩
abbrev main_c_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩

abbrev nD : Nat := 1
abbrev τ : Topo := Topo.v7x

variable {F : FTy → Type} [FloatOps F]
-- ==== Proof.Step.lean ====
/-
  The table of the first 64 voxels of each cell and the cells' counts, after the first `n` voxels, and one step of
  sixteen voxels: the indexed stores of the step, from the state after `n` voxels, leave the state after `n + 16`.
  Everything here is about words and numbers; no program is mentioned.
-/
module

public import Idealize.ShloMosaic.PureOps
public import Mathlib.Data.Nat.Count
public import Mathlib.Data.Nat.Find

@[expose] public section

noncomputable section

namespace Cert.CellTable

open Idealize.ShloMosaic

/-- The cell of voxel number `l`, from the array of the voxels' cells (zero past its end). -/
def cellOf (codes : IVec ⟨1, ![65536]⟩ 32) (l : ℕ) : BitVec 32 :=
  if h : l < 65536 then codes (Shape.ofLane (d := ![65536]) ⟨l, h⟩) else 0#32

theorem cellOf_lt {codes : IVec ⟨1, ![65536]⟩ 32} (h : ∀ j, (codes j).toNat < 256) (l : ℕ) : (cellOf codes l).toNat < 256 := by
  unfold cellOf; split
  · exact h _
  · decide

variable (c : ℕ → BitVec 32)

/-- Of the first `n` voxels, how many lie in cell `g`. -/
abbrev members (g : BitVec 32) (n : ℕ) : ℕ := Nat.count (fun l => c l = g) n

/-- Of the first `n` voxels, the `p`-th that lies in cell `g`; 0 where there is none. -/
def slot (g : BitVec 32) (p n : ℕ) : ℕ :=
  if h : ∃ l, l < n ∧ c l = g ∧ members c g l = p then Nat.find h else 0

theorem slot_of {g : BitVec 32} {p n l : ℕ} (hl : l < n) (hg : c l = g) (hp : members c g l = p) : slot c g p n = l := by
  have h : ∃ l, l < n ∧ c l = g ∧ members c g l = p := ⟨l, hl, hg, hp⟩
  unfold slot
  rw [dif_pos h]
  obtain ⟨-, h2, h3⟩ := Nat.find_spec h
  exact Nat.count_injective (p := fun l => c l = g) h2 hg (h3.trans hp.symm)

theorem slot_none {g : BitVec 32} {p n : ℕ} (h : ¬ ∃ l, l < n ∧ c l = g ∧ members c g l = p) : slot c g p n = 0 := dif_neg h

/-- The 256 counts after `n` voxels. -/
def cntAt (n : ℕ) : IVec ⟨1, ![256]⟩ 32 := fun j => BitVec.ofNat 32 (members c (BitVec.ofNat 32 (j 0).val) n)

/-- The table after `n` voxels: 64 slots for each of the 256 cells. -/
def tabAt (n : ℕ) : IVec ⟨1, ![16384]⟩ 32 :=
  fun j => BitVec.ofNat 32 (slot c (BitVec.ofNat 32 ((j 0).val / 64)) ((j 0).val % 64) n)

theorem cntAt_zero : cntAt c 0 = fun _ => 0#32 := by
  funext j; simp [cntAt, members]

theorem tabAt_zero : tabAt c 0 = fun _ => 0#32 := by
  funext j
  unfold tabAt
  rw [slot_none]
  rintro ⟨l, h, -⟩
  exact absurd h (by omega)

/-! ## An indexed store, read at one element -/

section Store

variable {α ι κ : Type} [DecidableEq ι]

/-- Writing in turn at the elements that the lanes of a list hit: an element no lane hits keeps its value. -/
theorem foldl_miss (hit : ι → κ → Prop) [∀ k j, Decidable (hit k j)] (v : ι → α) (j : κ) (l : List ι) (f : κ → α)
    (h : ∀ k ∈ l, ¬ hit k j) : l.foldl (fun g k => fun j => if hit k j then v k else g j) f j = f j := by
  induction l generalizing f with
  | nil => rfl
  | cons a l ih =>
    rw [List.foldl_cons, ih _ fun k hk => h k (List.mem_cons_of_mem _ hk)]
    exact if_neg (h a List.mem_cons_self)

/-- An element hit by exactly one lane holds that lane's value. -/
theorem foldl_hit (hit : ι → κ → Prop) [∀ k j, Decidable (hit k j)] (v : ι → α) (j : κ) (l : List ι) (f : κ → α) (k : ι)
    (hk : k ∈ l) (hhit : hit k j) (huniq : ∀ k' ∈ l, hit k' j → k' = k) :
    l.foldl (fun g k => fun j => if hit k j then v k else g j) f j = v k := by
  induction l generalizing f with
  | nil => cases hk
  | cons a l ih =>
    rw [List.foldl_cons]
    by_cases hl : k ∈ l
    · exact ih _ hl fun k' hk' => huniq k' (List.mem_cons_of_mem _ hk')
    · have ha : a = k := by
        rcases List.mem_cons.mp hk with h | h
        · exact h.symm
        · exact absurd h hl
      subst ha
      rw [foldl_miss]
      · exact if_pos hhit
      · intro k' hk' hh
        exact hl (huniq k' (List.mem_cons_of_mem _ hk') hh ▸ hk')

end Store

section StoreIdx

variable {F : FTy → Type} [FloatOps F] {N : ℕ}

theorem ofLane_zero (k : Fin 16) : (Shape.ofLane (d := ![16]) k) 0 = k := rfl

/-- Lane `k` of a sixteen-lane indexed store writes element `j`. -/
def Hits (idx : IVec ⟨1, ![16]⟩ 32) (mask : IVec ⟨1, ![16]⟩ 1) (k : Fin 16) (j : (⟨1, ![N]⟩ : Shape).Idx) : Prop :=
  mask (Shape.ofLane (d := ![16]) k) = 1#1 ∧ (j 0).val = (idx (Shape.ofLane (d := ![16]) k)).toNat

instance (idx : IVec ⟨1, ![16]⟩ 32) (mask : IVec ⟨1, ![16]⟩ 1) (k : Fin 16) (j : (⟨1, ![N]⟩ : Shape).Idx) :
    Decidable (Hits idx mask k j) := by unfold Hits; infer_instance

theorem storeIdx_eq (f : Vec F ⟨1, ![N]⟩ .i32) (idx : IVec ⟨1, ![16]⟩ 32) (v : Vec F ⟨1, ![16]⟩ .i32) (mask : IVec ⟨1, ![16]⟩ 1)
    (h : ∀ a x, ((![idx] : Fin 1 → IVec ⟨1, ![16]⟩ 32) a x).toNat < (⟨1, ![N]⟩ : Shape).size a) :
    storeIdx (F := F) (s := ⟨1, ![N]⟩) (e := .i32) f ![idx] v mask false h
      = (List.finRange 16).foldl (fun g k => fun j => if Hits idx mask k j then v (Shape.ofLane (d := ![16]) k) else g j) f := by
  unfold storeIdx
  congr 1
  funext g k j
  by_cases hm : mask (Shape.ofLane (d := ![16]) k) = 1
  · rw [if_pos hm]
    simp only [Hits, Bool.false_eq_true, if_false]
    refine if_congr ?_ rfl rfl
    constructor
    · intro e; exact ⟨hm, e 0⟩
    · intro e a
      have ha : a = 0 := Subsingleton.elim (α := Fin 1) _ _
      subst ha; exact e.2
  · rw [if_neg hm, if_neg fun e => hm e.1]

end StoreIdx

/-! ## One step of sixteen voxels -/

section Step

variable {F : FTy → Type} [FloatOps F]

/-- How many earlier voxels share the cell of voxel `n + k`. -/
abbrev rank (n k : ℕ) : ℕ := members c (c (n + k)) (n + k)

theorem toNat_ofNat {n : ℕ} (h : n < 2 ^ 32) : (BitVec.ofNat 32 n).toNat = n := by
  rw [BitVec.toNat_ofNat]; exact Nat.mod_eq_of_lt h

theorem ofNat_toNat_eq (b : BitVec 32) : BitVec.ofNat 32 b.toNat = b := by simp

/-- The table's store: lane `k` (where its rank is below 64) writes voxel `n + k` in its slot. -/
theorem store_tab {n : ℕ} (hc : ∀ l, (c l).toNat < 256) (idx v : IVec ⟨1, ![16]⟩ 32) (mask : IVec ⟨1, ![16]⟩ 1)
    (h : ∀ a x, ((![idx] : Fin 1 → IVec ⟨1, ![16]⟩ 32) a x).toNat < (⟨1, ![16384]⟩ : Shape).size a)
    (hidx : ∀ x : (⟨1, ![16]⟩ : Shape).Idx, rank c n (x 0).val < 64 → (idx x).toNat = (c (n + (x 0).val)).toNat * 64 + rank c n (x 0).val)
    (hv : ∀ x : (⟨1, ![16]⟩ : Shape).Idx, v x = BitVec.ofNat 32 (n + (x 0).val))
    (hm : ∀ x : (⟨1, ![16]⟩ : Shape).Idx, mask x = 1#1 ↔ rank c n (x 0).val < 64) :
    storeIdx (F := F) (s := ⟨1, ![16384]⟩) (e := .i32) (tabAt c n) ![idx] v mask false h = tabAt c (n + 16) := by
  rw [storeIdx_eq]
  funext j
  have hj : (j 0).val < 16384 := (j 0).isLt
  have hG : (BitVec.ofNat 32 ((j 0).val / 64)).toNat = (j 0).val / 64 := toNat_ofNat (by omega)
  -- what a hit says
  have hhit : ∀ k : Fin 16, Hits idx mask k j ↔
      (c (n + k.val) = BitVec.ofNat 32 ((j 0).val / 64) ∧ rank c n k.val = (j 0).val % 64) := by
    intro k
    unfold Hits
    rw [hm]
    constructor
    · rintro ⟨h1, h2⟩
      have e := hidx (Shape.ofLane (d := ![16]) k) h1
      rw [ofLane_zero] at h1 e
      rw [e] at h2
      refine ⟨?_, by omega⟩
      apply BitVec.eq_of_toNat_eq
      rw [hG]; omega
    · rintro ⟨h1, h2⟩
      have hr : rank c n k.val < 64 := by rw [h2]; omega
      refine ⟨hr, ?_⟩
      rw [hidx _ hr]
      show _ = (c (n + k.val)).toNat * 64 + rank c n k.val
      rw [h1, hG, h2]; omega
  by_cases hex : ∃ k : Fin 16, Hits idx mask k j
  · obtain ⟨k, hk⟩ := hex
    rw [foldl_hit (fun k j => Hits idx mask k j) _ j _ _ k (List.mem_finRange k) hk, hv]
    · obtain ⟨h1, h2⟩ := (hhit k).mp hk
      show BitVec.ofNat 32 (n + k.val) = BitVec.ofNat 32 (slot c _ _ _)
      congr 1
      unfold rank at h2
      rw [h1] at h2
      exact (slot_of c (by omega) h1 h2).symm
    · intro k' _ hk'
      obtain ⟨h1, h2⟩ := (hhit k).mp hk
      obtain ⟨h1', h2'⟩ := (hhit k').mp hk'
      unfold rank at h2 h2'
      rw [h1] at h2; rw [h1'] at h2'
      have := Nat.count_injective (p := fun l => c l = BitVec.ofNat 32 ((j 0).val / 64)) h1' h1 (h2'.trans h2.symm)
      exact Fin.ext (by omega)
  · rw [foldl_miss (fun k j => Hits idx mask k j) _ j _ _ fun k _ hk => hex ⟨k, hk⟩]
    show BitVec.ofNat 32 (slot c _ _ _) = BitVec.ofNat 32 (slot c _ _ _)
    congr 1
    by_cases h1 : ∃ l, l < n ∧ c l = BitVec.ofNat 32 ((j 0).val / 64) ∧ members c (BitVec.ofNat 32 ((j 0).val / 64)) l = (j 0).val % 64
    · obtain ⟨l, e1, e2, e3⟩ := h1
      rw [slot_of c e1 e2 e3, slot_of c (show l < n + 16 by omega) e2 e3]
    · rw [slot_none c h1, slot_none c]
      rintro ⟨l, e1, e2, e3⟩
      have hln : n ≤ l := by
        by_contra hlt
        exact h1 ⟨l, by omega, e2, e3⟩
      have e : n + (l - n) = l := by omega
      refine hex ⟨⟨l - n, by omega⟩, (hhit _).mpr ⟨?_, ?_⟩⟩
      · show c (n + (l - n)) = _
        rw [e]; exact e2
      · show members c (c (n + (l - n))) (n + (l - n)) = _
        rw [e, e2]; exact e3

/-- The counts' store: the last lane of each cell among the sixteen writes one more than its rank. -/
theorem store_cnt {n : ℕ} (hc : ∀ l, (c l).toNat < 256) (idx v : IVec ⟨1, ![16]⟩ 32) (mask : IVec ⟨1, ![16]⟩ 1)
    (h : ∀ a x, ((![idx] : Fin 1 → IVec ⟨1, ![16]⟩ 32) a x).toNat < (⟨1, ![256]⟩ : Shape).size a)
    (hidx : ∀ x : (⟨1, ![16]⟩ : Shape).Idx, idx x = c (n + (x 0).val))
    (hv : ∀ x : (⟨1, ![16]⟩ : Shape).Idx, v x = BitVec.ofNat 32 (rank c n (x 0).val + 1))
    (hm : ∀ x : (⟨1, ![16]⟩ : Shape).Idx, mask x = 1#1 ↔ ∀ y : (⟨1, ![16]⟩ : Shape).Idx, (x 0).val < (y 0).val → c (n + (y 0).val) ≠ c (n + (x 0).val)) :
    storeIdx (F := F) (s := ⟨1, ![256]⟩) (e := .i32) (cntAt c n) ![idx] v mask false h = cntAt c (n + 16) := by
  rw [storeIdx_eq]
  funext j
  have hj : (j 0).val < 256 := (j 0).isLt
  have hG : (BitVec.ofNat 32 (j 0).val).toNat = (j 0).val := toNat_ofNat (by omega)
  have hhit : ∀ k : Fin 16, Hits idx mask k j ↔
      (c (n + k.val) = BitVec.ofNat 32 (j 0).val ∧ ∀ k' : Fin 16, k < k' → c (n + k'.val) ≠ BitVec.ofNat 32 (j 0).val) := by
    intro k
    unfold Hits
    rw [hm, hidx]
    show ((∀ y : (⟨1, ![16]⟩ : Shape).Idx, k.val < (y 0).val → c (n + (y 0).val) ≠ c (n + k.val)) ∧ (j 0).val = (c (n + k.val)).toNat) ↔ _
    constructor
    · rintro ⟨h1, h2⟩
      have e : c (n + k.val) = BitVec.ofNat 32 (j 0).val := by rw [h2, ofNat_toNat_eq]
      refine ⟨e, fun k' hk' => ?_⟩
      rw [← e]; exact h1 (Shape.ofLane (d := ![16]) k') hk'
    · rintro ⟨h1, h2⟩
      refine ⟨fun y hy => ?_, by rw [h1, hG]⟩
      rw [h1]; exact h2 (y 0) hy
  by_cases hex : ∃ k : Fin 16, c (n + k.val) = BitVec.ofNat 32 (j 0).val
  · -- the last such lane
    obtain ⟨k, hk, hmax⟩ : ∃ k : Fin 16, c (n + k.val) = BitVec.ofNat 32 (j 0).val ∧ ∀ k' : Fin 16, k < k' → c (n + k'.val) ≠ BitVec.ofNat 32 (j 0).val := by
      let s : Finset (Fin 16) := Finset.univ.filter fun k : Fin 16 => c (n + k.val) = BitVec.ofNat 32 (j 0).val
      have hs : s.Nonempty := by
        obtain ⟨k, hk⟩ := hex
        exact ⟨k, Finset.mem_filter.mpr ⟨Finset.mem_univ _, hk⟩⟩
      refine ⟨s.max' hs, (Finset.mem_filter.mp (s.max'_mem hs)).2, fun k' hk' e => ?_⟩
      exact absurd (s.le_max' k' (Finset.mem_filter.mpr ⟨Finset.mem_univ _, e⟩)) (not_le.mpr hk')
    rw [foldl_hit (fun k j => Hits idx mask k j) _ j _ _ k (List.mem_finRange k) ((hhit k).mpr ⟨hk, hmax⟩), hv]
    · show BitVec.ofNat 32 (rank c n k.val + 1) = BitVec.ofNat 32 (members c _ _)
      congr 1
      have hz : Nat.count (fun i => c (n + k.val + 1 + i) = BitVec.ofNat 32 (j 0).val) (15 - k.val) = 0 :=
        Nat.count_iff_forall_not.mpr fun i hi e =>
          hmax ⟨k.val + 1 + i, by omega⟩ (Fin.lt_def.mpr (by show k.val < k.val + 1 + i; omega)) (by
            show c (n + (k.val + 1 + i)) = _
            rw [← e]; congr 1; omega)
      unfold rank members
      rw [hk, show n + 16 = (n + k.val + 1) + (15 - k.val) by omega, Nat.count_add (fun l => c l = BitVec.ofNat 32 (j 0).val) (n + k.val + 1), hz,
        Nat.count_succ (fun l => c l = BitVec.ofNat 32 (j 0).val) (n + k.val), if_pos hk]
    · intro k' _ hk'
      obtain ⟨e1, e2⟩ := (hhit k').mp hk'
      rcases lt_trichotomy k k' with hlt | heq | hgt
      · exact absurd e1 (hmax k' hlt)
      · exact heq.symm
      · exact absurd hk (e2 k hgt)
  · rw [foldl_miss (fun k j => Hits idx mask k j) _ j _ _ fun k _ hk => hex ⟨k, ((hhit k).mp hk).1⟩]
    show BitVec.ofNat 32 (members c _ _) = BitVec.ofNat 32 (members c _ _)
    congr 1
    have hz : Nat.count (fun k => c (n + k) = BitVec.ofNat 32 (j 0).val) 16 = 0 :=
      Nat.count_iff_forall_not.mpr fun i hi e => hex ⟨⟨i, hi⟩, e⟩
    unfold members
    rw [Nat.count_add, hz]; rfl

/-- The running count of equal words among sixteen lanes, all in play: lane `x` counts those up to and including it. -/
theorem scanCount_snd (g : IVec ⟨1, ![16]⟩ 32) (ones : IVec ⟨1, ![16]⟩ 1) (hones : ∀ x, ones x = 1#1) (x : (⟨1, ![16]⟩ : Shape).Idx) :
    (scanCount ones g).2 x = BitVec.ofNat 32 (Nat.count (fun k => ∃ h : k < 16, g (Shape.ofLane (d := ![16]) (⟨k, h⟩ : Fin 16)) = g x) ((x 0).val + 1)) := by
  unfold scanCount
  dsimp only
  refine (if_pos (hones x)).trans ?_
  congr 1
  rw [Nat.count_eq_card_filter_range]
  refine Finset.card_bij (fun y _ => (y 0).val) ?_ ?_ ?_
  · intro y hy
    obtain ⟨-, h1, -, h2⟩ := Finset.mem_filter.mp hy
    rw [Shape.rowMajor_val_one, Shape.rowMajor_val_one] at h1
    refine Finset.mem_filter.mpr ⟨Finset.mem_range.mpr (by omega), ⟨(y 0).isLt, ?_⟩⟩
    rw [← h2]; congr 1
    funext a
    have ha : a = 0 := Subsingleton.elim (α := Fin 1) _ _
    subst ha; rfl
  · intro y _ y' _ e
    funext a
    have ha : a = 0 := Subsingleton.elim (α := Fin 1) _ _
    subst ha; exact Fin.ext e
  · intro k hk
    obtain ⟨h1, h2, h3⟩ := Finset.mem_filter.mp hk
    refine ⟨Shape.ofLane (d := ![16]) ⟨k, h2⟩, Finset.mem_filter.mpr ⟨Finset.mem_univ _, ?_, hones _, h3⟩, rfl⟩
    rw [Shape.rowMajor_val_one, Shape.rowMajor_val_one]
    have := Finset.mem_range.mp h1
    show k ≤ _
    omega

/-- The last-occurrence mask: set where no later lane holds the same word. -/
theorem scanCount_fst (g : IVec ⟨1, ![16]⟩ 32) (ones : IVec ⟨1, ![16]⟩ 1) (hones : ∀ x, ones x = 1#1) (x : (⟨1, ![16]⟩ : Shape).Idx) :
    (scanCount ones g).1 x = 1#1 ↔ ∀ y : (⟨1, ![16]⟩ : Shape).Idx, (x 0).val < (y 0).val → g y ≠ g x := by
  unfold scanCount
  dsimp only
  constructor
  · intro e y hy
    by_contra hne
    rw [if_neg] at e
    · exact absurd e (by decide)
    · rintro ⟨-, h⟩
      exact h y (by rw [Shape.rowMajor_val_one, Shape.rowMajor_val_one]; exact hy) ⟨hones y, hne⟩
  · intro h
    rw [if_pos]
    · rfl
    · refine ⟨hones x, fun y hy e => h y ?_ e.2⟩
      rw [Shape.rowMajor_val_one, Shape.rowMajor_val_one] at hy; exact hy

/-- The rank of lane `x`'s voxel in its cell, as the step computes it: the cell's count so far, and the lanes up to and
    including `x` in the same cell, less one. -/
theorem pos_eq {n : ℕ} (g zeros lanes cn : IVec ⟨1, ![16]⟩ 32) (ones ones' : IVec ⟨1, ![16]⟩ 1) (hones : ∀ x, ones x = 1#1)
    (hones' : ∀ x, ones' x = 1#1) (hz : ∀ x, zeros x = 0#32)
    (hl : ∀ x : (⟨1, ![16]⟩ : Shape).Idx, lanes x = BitVec.ofNat 32 (x 0).val) (hg : ∀ x : (⟨1, ![16]⟩ : Shape).Idx, g x = c (n + (x 0).val))
    (hcn : ∀ x : (⟨1, ![16]⟩ : Shape).Idx, cn x = BitVec.ofNat 32 (members c (c (n + (x 0).val)) n)) (x : (⟨1, ![16]⟩ : Shape).Idx) :
    cn x + ((scanCount ones g).2 x - ((scanCount ones' zeros).2 x - lanes x)) = BitVec.ofNat 32 (rank c n (x 0).val) := by
  have hx : (x 0).val < 16 := (x 0).isLt
  have hb : (scanCount ones' zeros).2 x - lanes x = 1#32 := by
    rw [scanCount_snd _ _ hones', hl]
    have : Nat.count (fun k => ∃ h : k < 16, zeros (Shape.ofLane (d := ![16]) (⟨k, h⟩ : Fin 16)) = zeros x) ((x 0).val + 1) = (x 0).val + 1 := by
      apply Nat.count_of_forall
      intro k hk
      exact ⟨by omega, by rw [hz, hz]⟩
    rw [this]
    apply BitVec.eq_of_toNat_eq
    rw [BitVec.toNat_sub, toNat_ofNat (by omega), toNat_ofNat (by omega)]
    simp only [BitVec.toNat_ofNat]
    omega
  rw [hb, scanCount_snd _ _ hones, hcn]
  have hcount : Nat.count (fun k => ∃ h : k < 16, g (Shape.ofLane (d := ![16]) (⟨k, h⟩ : Fin 16)) = g x) ((x 0).val + 1)
      = Nat.count (fun k => c (n + k) = c (n + (x 0).val)) (x 0).val + 1 := by
    rw [Nat.count_succ, if_pos ⟨hx, by congr 1; funext a; have ha : a = 0 := Subsingleton.elim (α := Fin 1) _ _; subst ha; rfl⟩]
    congr 1
    rw [Nat.count_eq_card_filter_range, Nat.count_eq_card_filter_range]
    congr 1
    apply Finset.filter_congr
    intro k hk
    have hk' := Finset.mem_range.mp hk
    constructor
    · rintro ⟨h, e⟩
      rw [hg, hg] at e; exact e
    · intro e
      refine ⟨by omega, ?_⟩
      rw [hg, hg]; exact e
  rw [hcount]
  have hr : rank c n (x 0).val = members c (c (n + (x 0).val)) n + Nat.count (fun k => c (n + k) = c (n + (x 0).val)) (x 0).val := by
    unfold rank members
    exact Nat.count_add _ _ _
  rw [hr]
  simp only [BitVec.ofNat_add]
  rw [BitVec.add_sub_cancel]

theorem rank_le (n k : ℕ) : rank c n k ≤ n + k := Nat.count_le _

end Step

end Cert.CellTable

end
-- ==== Proof.Setup.lean ====
/-
  The two SparseCore calls' set-up: the program as the launch theorem sees it, the arrays and what they hold at the end,
  and what each call hands its tiles and takes back. In the counting call tile 0 of SparseCore 0 does the work; in the
  gathering call each of the thirty-two tiles gathers 2048 of the 65536 rows.
-/
module

public import proofs.«01_k».proof.Defs
public import proofs.«01_k».proof.Proof.Step
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Pointwise.Index
public import Idealize.ShloMosaic.Lib.ShareLeaves
public import Idealize.ShloMosaic.Lib.SparseCore.Stream
public import Idealize.ShloMosaic.Lib.Tactic
public import proofs.«01_k».proof.Proof.Gen.KernelIdeal
public import proofs.«01_k».proof.Proof.Gen.KernelIdeal.Skeleton

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The arrays and the buffers -/

variable (m : (ℓ : Loc nD τ sig) → Buf (Elt F) ℓ) (ρ : Dev nD → PrngReg)

abbrev aLoc (d : Dev nD) : Loc nD τ sig := (SparseCore.T d).loc main_arg0
abbrev tLoc (d : Dev nD) : Loc nD τ sig := (SparseCore.T d).loc main_v0_0
abbrev nLoc (d : Dev nD) : Loc nD τ sig := (SparseCore.T d).loc main_v0_1

abbrev iLoc (d : Dev nD) : Loc nD τ sig := (SparseCore.T d).loc main_arg1
abbrev fLoc (d : Dev nD) : Loc nD τ sig := (SparseCore.T d).loc main_arg2
abbrev xLoc (d : Dev nD) : Loc nD τ sig := (SparseCore.T d).loc main_v1
abbrev vLoc (d : Dev nD) : Loc nD τ sig := (SparseCore.T d).loc main_v2

local notation "vV" => (Memref.whole Cert.KernelIdeal.main_v2_scv : Memref Cert.KernelIdeal.sig Kind.scVector Space.hbm Cert.KernelIdeal.S65536x128 EltTy.f32)

/-- The voxels' cells, from the launch memory, by voxel number. -/
abbrev cells (d : Dev nD) : ℕ → BitVec 32 := cellOf (m (aLoc d))

/-- The finished table and the finished counts. -/
abbrev tabFin (d : Dev nD) : Buf (Elt F) (tLoc d) := tabAt (cells m d) 65536
abbrev cntFin (d : Dev nD) : Buf (Elt F) (nLoc d) := cntAt (cells m d) 65536

/-- The slots the rows are named by, as 512 rows of 128 words: what the reshape before the gathering call leaves. -/
abbrev slots (d : Dev nD) : Buf (Elt F) (xLoc d) := shapeCast S512x128 (m (iLoc d)) shapeCasts_S16x64x64_S512x128

/-- The word of a table that a slot number names. -/
abbrev look (T : IVec S16384 32) (v : BitVec 32) : BitVec 32 := T (Shape.ofLane (d := ![16384]) (Fin.ofNat 16384 v.toNat))

/-- The finished rows: row `y` is the feature row of the voxel found in the table at slot `y`. -/
def rowsFin (d : Dev nD) : Buf (Elt F) (vLoc d) := fun y : S65536x128.Idx =>
  m (fLoc d) (ix2 (Fin.ofNat 65536
    (look (tabFin m d) (slots m d (ix2 (⟨(y 0).val / 128, Nat.div_lt_of_lt_mul (y 0).isLt⟩ : Fin 512) (⟨(y 0).val % 128, Nat.mod_lt _ (by decide)⟩ : Fin 128)))).toNat) (y 1))

/-- Every voxel's cell is one of the 256, every slot number one of the 16384. -/
def PreOK : Prop := (∀ (d : Dev nD) (j : S65536.Idx), (m (aLoc d) j).toNat < 256) ∧ ∀ (d : Dev nD) (j : S16x64x64.Idx), (m (iLoc d) j).toNat < 16384

variable [FloatOps F]

/-! ## What the handshakes carry: the counting call -/

abbrev aPts (d : Dev nD) : sProp 𝕄 := aLoc d ↦{fullShare} m (aLoc d)
abbrev tPts (d : Dev nD) (f : Buf (Elt F) (tLoc d)) : sProp 𝕄 := tLoc d ↦{fullShare} f
abbrev nPts (d : Dev nD) (f : Buf (Elt F) (nLoc d)) : sProp 𝕄 := nLoc d ↦{fullShare} f

/-- What goes in: the cells and the two results' arrays, whatever these hold. -/
abbrev goesIn (d : Dev nD) : sProp 𝕄 := iprop(aPts m d ∗ tPts d (m (tLoc d)) ∗ nPts d (m (nLoc d)))
/-- What comes back: the cells, the table and the counts. -/
abbrev comesOut (d : Dev nD) : sProp 𝕄 := iprop(aPts m d ∗ tPts d (tabFin m d) ∗ nPts d (cntFin m d))

/-- `A` for number 0, nothing for the others. -/
def onZero (A : sProp 𝕄) (c : ℕ) : sProp 𝕄 := if c = 0 then A else iprop(emp)

omit [FloatOps F] in
theorem onZero_zero (A : sProp 𝕄) : onZero A 0 = A := if_pos rfl
omit [FloatOps F] in
theorem onZero_pos (A : sProp 𝕄) {c : ℕ} (h : c ≠ 0) : onZero A c = iprop(emp) := if_neg h

omit [FloatOps F] in
instance onZero_storable (A : sProp 𝕄) [BI.Storable (upEmb : UEmb _ 𝕄) A] (c : ℕ) : BI.Storable (upEmb : UEmb _ 𝕄) (onZero A c) := by
  unfold onZero; split <;> infer_instance

/-! ## What the handshakes carry: the gathering call -/

def coordsG (c : Fin (grid1.bound 0)) (s : Fin (grid1.bound 1)) : grid1.Coords :=
  fun | 0 => c | 1 => s | ⟨_ + 2, h⟩ => absurd h (Nat.not_lt.2 (Nat.le_add_left _ _))

/-- Tile `(c, s)`'s share of what all tiles read. -/
abbrev rq (c : Fin 2) (s : Fin 16) : PosShare TreeShare := leaf 4 (leaf 1 fullShare c) s

/-- The `r`-th of a tile's sixteen blocks of 128 rows, as the tile addresses it. -/
abbrev outK (L : grid1.Coords) (r : Fin 16) : Memref sig .scVector .hbm S128x128 .f32 :=
  (vV).slice (Rect.unit (s := S65536x128) (k1_off2 L (BitVec.ofNat 32 (128 * r.val))) S128x128.size (k1_off2_inb L r)) (fun _ => rfl)
abbrev outSet (L : grid1.Coords) (r : Fin 16) : Finset S65536x128.Idx := (outK L r).view.set

/-- What tile `(c, s)` reads: a share of the table, of the slots and of the features. -/
abbrev reads (d : Dev nD) (c : Fin 2) (s : Fin 16) : sProp 𝕄 :=
  iprop((tLoc d ↦{rq c s} tabFin m d) ∗ (xLoc d ↦{rq c s} slots m d) ∗ fLoc d ↦{rq c s} m (fLoc d))
/-- Its sixteen blocks of rows, at the contents `f`. -/
abbrev blocks (d : Dev nD) (c : Fin 2) (s : Fin 16) (f : Buf (Elt F) (vLoc d)) : sProp 𝕄 :=
  bigSep Finset.univ fun r : Fin 16 => vLoc d ↦[outSet (coordsG c s) r]{fullShare} f
abbrev tileIn (d : Dev nD) (c : Fin 2) (s : Fin 16) : sProp 𝕄 := iprop(reads m d c s ∗ blocks d c s (m (vLoc d)))
abbrev tileOut (d : Dev nD) (c : Fin 2) (s : Fin 16) : sProp 𝕄 := iprop(reads m d c s ∗ blocks d c s (rowsFin m d))

/-- The counting call: everything goes to SparseCore 0 and there to tile 0. The gathering call: every tile its part, a
    SparseCore the parts of its sixteen tiles. -/
def P : (K (F := F)).Pay (nD := nD) (Val := Elt F) (Name := ℕ) (U := UU) where
  st := fun q d c => match q, c with
    | 0, c => onZero (goesIn m d) c.val
    | 1, c => bigSep Finset.univ fun s : Fin 16 => tileIn m d c s
  dn := fun q d c => match q, c with
    | 0, c => onZero (comesOut m d) c.val
    | 1, c => bigSep Finset.univ fun s : Fin 16 => tileOut m d c s
  go := fun q d c i => match q, c, i with
    | 0, c, i => onZero (onZero (goesIn m d) c.val) i.val
    | 1, c, i => tileIn m d c i
  td := fun q d c i => match q, c, i with
    | 0, c, i => onZero (onZero (comesOut m d) c.val) i.val
    | 1, c, i => tileOut m d c i
  x := fun _ _ => iprop(emp)

instance P_storable : (P (F := F) m).IsStorable where
  st q d c := match q, c with
    | 0, c => (inferInstance : BI.Storable (upEmb : UEmb _ 𝕄) (onZero (goesIn m d) c.val))
    | 1, c => (inferInstance : BI.Storable (upEmb : UEmb _ 𝕄) (bigSep Finset.univ fun s : Fin 16 => tileIn m d c s))
  dn q d c := match q, c with
    | 0, c => (inferInstance : BI.Storable (upEmb : UEmb _ 𝕄) (onZero (comesOut m d) c.val))
    | 1, c => (inferInstance : BI.Storable (upEmb : UEmb _ 𝕄) (bigSep Finset.univ fun s : Fin 16 => tileOut m d c s))
  go q d c i := match q, c, i with
    | 0, c, i => (inferInstance : BI.Storable (upEmb : UEmb _ 𝕄) (onZero (onZero (goesIn m d) c.val) i.val))
    | 1, c, i => (inferInstance : BI.Storable (upEmb : UEmb _ 𝕄) (tileIn m d c i))
  td q d c i := match q, c, i with
    | 0, c, i => (inferInstance : BI.Storable (upEmb : UEmb _ 𝕄) (onZero (onZero (comesOut m d) c.val) i.val))
    | 1, c, i => (inferInstance : BI.Storable (upEmb : UEmb _ 𝕄) (tileOut m d c i))

end Cert.Proof.Calls

end
-- ==== Proof.Tile.lean ====
/-
  The counting call's body on a tile: tile 0 of SparseCore 0 does the work.
-/
module

public import proofs.«01_k».proof.Proof.Setup

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "aV" => (Memref.whole Cert.KernelIdeal.main_arg0_scv : Memref Cert.KernelIdeal.sig Kind.scVector Space.hbm Cert.KernelIdeal.S65536 EltTy.i32)
local notation "tV" => (Memref.whole Cert.KernelIdeal.main_v0_0_scv : Memref Cert.KernelIdeal.sig Kind.scVector Space.hbm Cert.KernelIdeal.S16384 EltTy.i32)
local notation "nV" => (Memref.whole Cert.KernelIdeal.main_v0_1_scv : Memref Cert.KernelIdeal.sig Kind.scVector Space.hbm Cert.KernelIdeal.S256 EltTy.i32)
local notation "cS" => (Memref.whole Cert.KernelIdeal.cc0_scratch0 : Memref Cert.KernelIdeal.sig Kind.scVector Space.vmem Cert.KernelIdeal.S4096 EltTy.i32)
local notation "tS" => (Memref.whole Cert.KernelIdeal.cc0_scratch1 : Memref Cert.KernelIdeal.sig Kind.scVector Space.vmem Cert.KernelIdeal.S16384 EltTy.i32)
local notation "nS" => (Memref.whole Cert.KernelIdeal.cc0_scratch2 : Memref Cert.KernelIdeal.sig Kind.scVector Space.vmem Cert.KernelIdeal.S256 EltTy.i32)

variable (m : (ℓ : Loc nD τ sig) → Buf (Elt F) ℓ) (ρ : Dev nD → PrngReg)

variable [FloatOps F]

/-! ## The body on a tile -/

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

omit [FloatOps F] in
theorem pts_aV (f : Buf (Elt F) (aLoc d)) : ((aV).view.loc (thr d L) ↦{fullShare} f : sProp 𝕄) = aLoc d ↦{fullShare} f := rfl
omit [FloatOps F] in
theorem pts_tV (f : Buf (Elt F) (tLoc d)) : ((tV).view.loc (thr d L) ↦{fullShare} f : sProp 𝕄) = tLoc d ↦{fullShare} f := rfl
omit [FloatOps F] in
theorem pts_nV (f : Buf (Elt F) (nLoc d)) : ((nV).view.loc (thr d L) ↦{fullShare} f : sProp 𝕄) = nLoc d ↦{fullShare} f := rfl

omit [FloatOps F] in
theorem pts_nS_access (f : Buf (Elt F) ((thr d L).loc cc0_scratch2)) :
    (((nS).access (.whole S256)).loc (thr d L) ↦{fullShare} f : sProp 𝕄) = (nS).view.loc (thr d L) ↦{fullShare} f := rfl
omit [FloatOps F] in
theorem pts_nS_set (f : Buf (Elt F) ((thr d L).loc cc0_scratch2)) :
    (((nS).access (.whole S256)).loc (thr d L) ↦[((nS).access (.whole S256)).set]{fullShare} f : sProp 𝕄) = (nS).view.loc (thr d L) ↦{fullShare} f := by
  rw [show ((nS).access (.whole S256)).set = Finset.univ from Memref.set_access_whole _]
omit [FloatOps F] in
theorem pts_tS_set (f : Buf (Elt F) ((thr d L).loc cc0_scratch1)) :
    (((tS).access (.whole S16384)).loc (thr d L) ↦[((tS).access (.whole S16384)).set]{fullShare} f : sProp 𝕄) = (tS).view.loc (thr d L) ↦{fullShare} f := by
  rw [show ((tS).access (.whole S16384)).set = Finset.univ from Memref.set_access_whole _]

abbrev cAcell (d : Dev nD) (L : grid0.Coords) : GSem nD τ sig := (thr d L, .dma cc0_scoped0.sem)
abbrev cBcell (d : Dev nD) (L : grid0.Coords) : GSem nD τ sig := (thr d L, .dma cc0_scoped1.sem)
abbrev cCcell (d : Dev nD) (L : grid0.Coords) : GSem nD τ sig := (thr d L, .dma cc0_scoped2.sem)

omit [FloatOps F] in
theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped2.sem : SemLoc sig).isScoped .scVector = true; decide⟩⟩⟩)]

abbrev sRef (b : Ref sig .scVector) (L : grid0.Coords) : DevRef τ sig := (Proc.scVector (cV L) (jV L)).devRef b

omit [FloatOps F] in
/-- The three scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (sRef cc0_scratch0 L)).erase (sRef cc0_scratch1 L)).erase (sRef cc0_scratch2 L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := sRef cc0_scratch0 L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := sRef cc0_scratch1 L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := sRef cc0_scratch2 L) rfl⟩⟩)]

omit [FloatOps F] in
theorem trips_one : k0_t1_loop.trips = 1024 := by decide
omit [FloatOps F] in
theorem trips_two : k0_t2_loop.trips = 16 := by decide
omit [FloatOps F] in
theorem trips_three : k0_t3_loop.trips = 256 := by decide

/-- One trip of the zeroing loop. -/
theorem zero_step (k : Fin k0_t1_loop.trips) (inb : ∀ a, (k0_off1 k) a + S16.size a ≤ S16384.size a)
    (f : Buf (Elt F) ((thr d L).loc cc0_scratch1)) (hf : ∀ j : S16384.Idx, (j 0).val < 16 * k.val → f j = 0#32)
    (j : S16384.Idx) (hj : (j 0).val < 16 * (k.val + 1)) :
    (tS).view.writes (Elt F) f [⟨Rect.unit (s := S16384) (k0_off1 k) S16.size inb, k0_pay8⟩] j = 0#32 := by
  have ho : k0_off1 k 0 = 16 * k.val := by rw [k0_off1_eq]; rfl
  by_cases h : (j 0).val < 16 * k.val
  · refine Eq.trans ?_ (hf j h)
    exact View.read_writes_cons_miss_of_axis (tS).view f ⟨Rect.unit (s := S16384) (k0_off1 k) S16.size inb, k0_pay8⟩ [] j 0 (16 * k.val) 16 ho rfl rfl (.inl h)
  · refine (View.read_writes_cons_hit_of_coords (tS).view f (Rect.unit (s := S16384) (k0_off1 k) S16.size inb) k0_pay8 []
      (Shape.ofLane (d := ![16]) (⟨(j 0).val - 16 * k.val, by omega⟩ : Fin 16)) j ?_).trans rfl
    intro a
    have ha : a = 0 := Subsingleton.elim (α := Fin 1) _ _
    subst ha
    show (j 0).val = k0_off1 k 0 + 1 * ((j 0).val - 16 * k.val)
    omega

/-! ## The step's payloads -/

section Payloads

variable (c : ℕ → BitVec 32) (n : ℕ)

/-- The lane numbers. -/
abbrev lanes : IVec S16 32 := iota Kind.scVector S16 32 [0] iota_S16_d0_w32_scVector

omit [FloatOps F] in
theorem lanes_apply (x : S16.Idx) : lanes x = BitVec.ofNat 32 (x 0).val := by
  show BitVec.ofNat 32 (0 * 16 + (x 0).val) = _
  rw [Nat.zero_mul, Nat.zero_add]

variable (g cn : Vec F S16 .i32) (hg : ∀ x : S16.Idx, g x = c (n + (x 0).val))
  (hcn : ∀ x : S16.Idx, cn x = BitVec.ofNat 32 (members c (c (n + (x 0).val)) n))

include hg hcn in
theorem pay3_eq (x : S16.Idx) : k0_pay3 k0_pay8 lanes k0_pay9 g cn x = BitVec.ofNat 32 (rank c n (x 0).val) :=
  pos_eq c g k0_pay8 lanes cn k0_pay1 k0_pay9 (fun _ => rfl) (fun _ => rfl) (fun _ => rfl) lanes_apply hg hcn x

include hg hcn in
theorem pay4_eq (hn : n + 16 ≤ 65536) (x : S16.Idx) : k0_pay4 k0_pay8 lanes k0_pay9 g cn x = 1#1 ↔ rank c n (x 0).val < 64 := by
  have hx : (x 0).val < 16 := (x 0).isLt
  have hr := rank_le c n (x 0).val
  show IntOp.cmpi .slt (k0_pay3 k0_pay8 lanes k0_pay9 g cn x) 64#32 = 1#1 ↔ _
  rw [pay3_eq c n g cn hg hcn]
  generalize rank c n (x 0).val = r at hr
  have hb (p : Bool) : (BitVec.ofBool p = 1#1) ↔ p = true := by cases p <;> decide
  simp only [IntOp.cmpi, hb, BitVec.slt_eq_decide, decide_eq_true_eq, BitVec.toInt_eq_toNat_cond, BitVec.toNat_ofNat, Nat.reducePow, Nat.reduceMod]
  omega

include hg hcn in
theorem pay6_of_lt (hn : n + 16 ≤ 65536) (hc : ∀ l, (c l).toNat < 256) (x : S16.Idx) (h : rank c n (x 0).val < 64) :
    (k0_pay6 k0_pay8 lanes k0_pay9 g cn x).toNat = (c (n + (x 0).val)).toNat * 64 + rank c n (x 0).val := by
  have e : k0_pay6 k0_pay8 lanes k0_pay9 g cn x
      = if k0_pay4 k0_pay8 lanes k0_pay9 g cn x = 1#1 then g x * 64#32 + k0_pay3 k0_pay8 lanes k0_pay9 g cn x else 0#32 := rfl
  rw [e, if_pos ((pay4_eq c n g cn hg hcn hn x).mpr h), pay3_eq c n g cn hg hcn, hg]
  have hcx := hc (n + (x 0).val)
  rw [BitVec.toNat_add, BitVec.toNat_mul, BitVec.toNat_ofNat, BitVec.toNat_ofNat]
  omega

include hg hcn in
theorem pay6_lt (hn : n + 16 ≤ 65536) (hc : ∀ l, (c l).toNat < 256) (x : S16.Idx) :
    (k0_pay6 k0_pay8 lanes k0_pay9 g cn x).toNat < 16384 := by
  by_cases h : rank c n (x 0).val < 64
  · rw [pay6_of_lt c n g cn hg hcn hn hc x h]
    have hcx := hc (n + (x 0).val)
    omega
  · have e : k0_pay6 k0_pay8 lanes k0_pay9 g cn x
      = if k0_pay4 k0_pay8 lanes k0_pay9 g cn x = 1#1 then g x * 64#32 + k0_pay3 k0_pay8 lanes k0_pay9 g cn x else 0#32 := rfl
    rw [e, if_neg fun h' => h ((pay4_eq c n g cn hg hcn hn x).mp h')]
    decide

omit [FloatOps F] in
theorem pay5_eq (k : Fin k0_t2_loop.trips) (j : Fin k0_t3_loop.trips) (x : S16.Idx) :
    k0_pay5 lanes k j x = BitVec.ofNat 32 (4096 * k.val + 16 * j.val + (x 0).val) := by
  have hk : k.val < 16 := trips_two ▸ k.isLt
  have hj : j.val < 256 := trips_three ▸ j.isLt
  have hx : (x 0).val < 16 := (x 0).isLt
  have e : k0_pay5 lanes k j x = Scf.iv 0#32 1#32 k * 4096#32 + Scf.iv 0#32 1#32 j * 16#32 + lanes x := rfl
  rw [e, lanes_apply]
  apply BitVec.eq_of_toNat_eq
  simp only [Scf.iv, BitVec.toNat_add, BitVec.toNat_mul, BitVec.toNat_ofNat, Nat.reducePow, Nat.reduceMod]
  omega

include hg hcn in
/-- The step's two stores, from the state after `n` voxels, leave the state after `n + 16`. -/
theorem tab_step (hn : n + 16 ≤ 65536) (hc : ∀ l, (c l).toNat < 256) (k : Fin k0_t2_loop.trips) (j : Fin k0_t3_loop.trips)
    (hkj : n = 4096 * k.val + 16 * j.val) (h : ∀ a x, ((![k0_pay6 k0_pay8 lanes k0_pay9 g cn] : Fin 1 → IVec S16 32) a x).toNat < S16384.size a) :
    storeIdx (F := F) (s := S16384) (e := .i32) (tabAt c n) ![k0_pay6 k0_pay8 lanes k0_pay9 g cn] (k0_pay5 lanes k j) (k0_pay4 k0_pay8 lanes k0_pay9 g cn) false h
      = tabAt c (n + 16) :=
  store_tab c hc _ _ _ h (fun x hx => pay6_of_lt c n g cn hg hcn hn hc x hx) (fun x => by rw [pay5_eq, hkj]) (fun x => pay4_eq c n g cn hg hcn hn x)

include hg hcn in
theorem cnt_step (hc : ∀ l, (c l).toNat < 256) (h : ∀ a x, ((![g] : Fin 1 → IVec S16 32) a x).toNat < S256.size a) :
    storeIdx (F := F) (s := S256) (e := .i32) (cntAt c n) ![g] (k0_pay7 k0_pay8 lanes k0_pay9 g cn) (k0_pay2 g) false h = cntAt c (n + 16) := by
  refine store_cnt c hc _ _ _ h hg (fun x => ?_) (fun x => ?_)
  · show k0_pay3 k0_pay8 lanes k0_pay9 g cn x + 1#32 = _
    rw [pay3_eq c n g cn hg hcn, ← BitVec.ofNat_add]
  · refine (scanCount_fst g k0_pay1 (fun _ => rfl) x).trans ?_
    simp only [hg]

omit hcn in
include hg in
theorem cn_eq (hc : ∀ l, (c l).toNat < 256) (h : ∀ a x, ((![g] : Fin 1 → IVec S16 32) a x).toNat < S256.size a) (x : S16.Idx) :
    loadIdx (F := F) (s := S256) (e := .i32) (cntAt c n) ![g] h x = BitVec.ofNat 32 (members c (c (n + (x 0).val)) n) := by
  show BitVec.ofNat 32 (members c (BitVec.ofNat 32 (g x).toNat) n) = _
  rw [hg, ofNat_toNat_eq]

end Payloads

/-- The zeroing loop's invariant: after `k` trips the table's first `16 k` words are zero. -/
def invZ (k : ℕ) (_ : Unit) : sProp 𝕄 :=
  iprop(∃ f : Buf (Elt F) ((thr d L).loc cc0_scratch1), ⌜∀ j : S16384.Idx, (j 0).val < 16 * k → f j = 0#32⌝ ∗ ((tS).view.loc (thr d L) ↦{fullShare} f))

/-- The outer loop's invariant: after `k` trips the table and the counts are those of the first `4096 k` voxels. -/
def invO (O : CellTallies nD τ sig (HIx 2)) (W : Waits sig (HIx 2)) (k : ℕ) (_ : Unit) : sProp 𝕄 :=
  iprop(Transfers.MayWaits (thr d L) (none : HIx 2) O
    ∗ ((aV).view.loc (thr d L) ↦{fullShare} m (aLoc d))
    ∗ (∃ f, (cS).view.loc (thr d L) ↦{fullShare} f)
    ∗ ((tS).view.loc (thr d L) ↦{fullShare} (tabAt (cells m d) (4096 * k) : Buf (Elt F) ((thr d L).loc cc0_scratch1)))
    ∗ ((nS).view.loc (thr d L) ↦{fullShare} (cntAt (cells m d) (4096 * k) : Buf (Elt F) ((thr d L).loc cc0_scratch2)))
    ∗ semVal (cAcell d L) 0
    ∗ ∃ W', ⌜∀ p ∈ W', p ∈ W ∨ p.2 = none⌝ ∗ owes (thr d L) O W')

/-- The inner loop's invariant, in trip `k` of the outer loop: after `j` steps the table and the counts are those of the
    first `4096 k + 16 j` voxels; the chunk's buffer holds the cells of voxels `4096 k …`. -/
def invI (k : ℕ) (g : Buf (Elt F) ((thr d L).loc cc0_scratch0)) (j : ℕ) (_ : Unit) : sProp 𝕄 :=
  iprop(((cS).view.loc (thr d L) ↦{fullShare} g)
    ∗ ((tS).view.loc (thr d L) ↦{fullShare} (tabAt (cells m d) (4096 * k + 16 * j) : Buf (Elt F) ((thr d L).loc cc0_scratch1)))
    ∗ ((nS).view.loc (thr d L) ↦{fullShare} (cntAt (cells m d) (4096 * k + 16 * j) : Buf (Elt F) ((thr d L).loc cc0_scratch2))))

/-- The sixteen zero stores, the last one first. -/
abbrev zeroPieces : List (View.Piece (Elt F) S256 .i32) :=
  [⟨Rect.unit ![240] S16.size inb_S256_S16_240, k0_pay8⟩, ⟨Rect.unit ![224] S16.size inb_S256_S16_224, k0_pay8⟩,
        ⟨Rect.unit ![208] S16.size inb_S256_S16_208, k0_pay8⟩, ⟨Rect.unit ![192] S16.size inb_S256_S16_192, k0_pay8⟩,
        ⟨Rect.unit ![176] S16.size inb_S256_S16_176, k0_pay8⟩, ⟨Rect.unit ![160] S16.size inb_S256_S16_160, k0_pay8⟩,
        ⟨Rect.unit ![144] S16.size inb_S256_S16_144, k0_pay8⟩, ⟨Rect.unit ![128] S16.size inb_S256_S16_128, k0_pay8⟩,
        ⟨Rect.unit ![112] S16.size inb_S256_S16_112, k0_pay8⟩, ⟨Rect.unit ![96] S16.size inb_S256_S16_96, k0_pay8⟩,
        ⟨Rect.unit ![80] S16.size inb_S256_S16_80, k0_pay8⟩, ⟨Rect.unit ![64] S16.size inb_S256_S16_64, k0_pay8⟩,
        ⟨Rect.unit ![48] S16.size inb_S256_S16_48, k0_pay8⟩, ⟨Rect.unit ![32] S16.size inb_S256_S16_32, k0_pay8⟩,
        ⟨Rect.unit ![16] S16.size inb_S256_S16_16, k0_pay8⟩, ⟨Rect.unit ![0] S16.size inb_S256_S16_0, k0_pay8⟩]

omit [FloatOps F] in
/-- They leave the counts all zero. -/
theorem zeroed (c : ℕ → BitVec 32) (f : Buf (Elt F) ((thr d L).loc cc0_scratch2)) :
    (nS).view.writes (Elt F) f
      [⟨Rect.unit ![240] S16.size inb_S256_S16_240, k0_pay8⟩, ⟨Rect.unit ![224] S16.size inb_S256_S16_224, k0_pay8⟩,
        ⟨Rect.unit ![208] S16.size inb_S256_S16_208, k0_pay8⟩, ⟨Rect.unit ![192] S16.size inb_S256_S16_192, k0_pay8⟩,
        ⟨Rect.unit ![176] S16.size inb_S256_S16_176, k0_pay8⟩, ⟨Rect.unit ![160] S16.size inb_S256_S16_160, k0_pay8⟩,
        ⟨Rect.unit ![144] S16.size inb_S256_S16_144, k0_pay8⟩, ⟨Rect.unit ![128] S16.size inb_S256_S16_128, k0_pay8⟩,
        ⟨Rect.unit ![112] S16.size inb_S256_S16_112, k0_pay8⟩, ⟨Rect.unit ![96] S16.size inb_S256_S16_96, k0_pay8⟩,
        ⟨Rect.unit ![80] S16.size inb_S256_S16_80, k0_pay8⟩, ⟨Rect.unit ![64] S16.size inb_S256_S16_64, k0_pay8⟩,
        ⟨Rect.unit ![48] S16.size inb_S256_S16_48, k0_pay8⟩, ⟨Rect.unit ![32] S16.size inb_S256_S16_32, k0_pay8⟩,
        ⟨Rect.unit ![16] S16.size inb_S256_S16_16, k0_pay8⟩, ⟨Rect.unit ![0] S16.size inb_S256_S16_0, k0_pay8⟩]
      = (cntAt c 0 : Buf (Elt F) ((thr d L).loc cc0_scratch2)) := by
  rw [cntAt_zero]
  funext y
  have key := View.read_writes_apply_of_pieces (nS).view f (fun _ => 0#32) (zeroPieces (F := F)) (by
    intro p hp
    simp only [zeroPieces, List.mem_cons, List.not_mem_nil, or_false] at hp
    rcases hp with h | h | h | h | h | h | h | h | h | h | h | h | h | h | h | h <;> subst h <;> exact fun _ => rfl) y
    (View.cover_of_tiled _ ![16] (by rfl) y)
  exact key

set_option maxHeartbeats 4000000 in
/-- The body on tile 0 of SparseCore 0. -/
theorem body_zero (hF : (K (F := F)).Facts) (hpre : PreOK m) (h1 : k0_cond1 L = 1#1) (O : CellTallies nD τ sig (HIx 2)) (W : Waits sig (HIx 2)) (hO : ∀ g, O g none = 0) :
    iprop(levAts (K (F := F)).L (K (F := F)).lev ∗ emp ∗ goesIn m d
        ∗ scopedBufs (thr d L) ∗ scopedSems0 (thr d L) ∗ owes (thr d L) O W)
      ⊢ wp frame (wpE (defs₀ (F := F)) 𝒱₀ (thr d L) none) Set.univ
          (cc0__sc_count_body L aV (Memref.isWhole_whole _) tV (Memref.isWhole_whole _) nV (Memref.isWhole_whole _)
            cS (Memref.isWhole_whole _) tS (Memref.isWhole_whole _) nS (Memref.isWhole_whole _) cc0_scoped0 cc0_scoped1 cc0_scoped2)
          fun _ => iprop(comesOut m d
            ∗ scopedBufs (thr d L) ∗ scopedSems0 (thr d L)
            ∗ ∃ W', ⌜∀ p ∈ W', p ∈ W ∨ p.2 = none⌝ ∗ owes (thr d L) O W') := by
  have k0_h1 := h1
  simp only [cc0__sc_count_body_eq_skeleton]; unfold cc0__sc_count_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Ha, Ht, Hn⟩, ⟨⟨%f0, Hs0⟩, ⟨%f1, Hs1⟩, ⟨%f2, Hs2⟩, Hbufs⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Ha' := (Entails.of_eq (pts_aV (F := F) d L _).symm) $$ Ha
  ihave Ht' := (Entails.of_eq (pts_tV (F := F) d L _).symm) $$ Ht
  ihave Hn' := (Entails.of_eq (pts_nV (F := F) d L _).symm) $$ Hn
  ihave Hs0' := (Entails.of_eq (show ((thr d L).loc cc0_scratch0 ↦{fullShare} f0 : sProp 𝕄) = (cS).view.loc (thr d L) ↦{fullShare} f0 from rfl)) $$ Hs0
  ihave Hs1' := (Entails.of_eq (show ((thr d L).loc cc0_scratch1 ↦{fullShare} f1 : sProp 𝕄) = (tS).view.loc (thr d L) ↦{fullShare} f1 from rfl)) $$ Hs1
  ihave Hs2' := (Entails.of_eq (show ((thr d L).loc cc0_scratch2 ↦{fullShare} f2 : sProp 𝕄) = (nS).view.loc (thr d L) ↦{fullShare} f2 from rfl)) $$ Hs2
  sl_exec
  rw [wp_bind]
  sl_for (invZ d L) $$ [Hs1']
  case region =>
    intro k _
    unfold invZ
    iintro ⟨%f, %hf, Hs⟩
    sl_exec
    sl_step
    iexists _; isplitr
    swap; · iexact Hs
    ipureintro; intro j hj; exact zero_step d L k _ f hf j hj
  · unfold invZ
    iexists f1; isplitr
    · ipureintro; intro j hj; exact absurd hj (by omega)
    · iexact Hs1'
  iintro %_ HI
  unfold invZ
  icases HI with ⟨%fz, %hfz, Hs1'⟩
  sl_exec
  have htz : fz = (tabAt (cells m d) 0 : Buf (Elt F) ((thr d L).loc cc0_scratch1)) := by
    rw [tabAt_zero]
    exact funext fun j => hfz j (by rw [show Scf.trips k0_t1_loop.lb k0_t1_loop.ub k0_t1_loop.st = 1024 from trips_one]; exact (j 0).isLt)
  subst htz
  rw [zeroed d L (cells m d)]
  sl_for (invO m d L O W) $$ [Hmw Ha' Hs0' Hs1' Hs2' HsemA HO]
  case region =>
    intro k _
    unfold invO
    iintro ⟨Hmw, Ha, ⟨%g, Hc⟩, Ht, Hn, Hsem, %W', %hW', HO⟩
    sl_exec (disch := exact View.amount_pos _ _ (show 0 < S4096.numel by decide))
    have hk : k.val < 16 := Nat.lt_of_lt_of_eq k.isLt trips_two
    have hc : ∀ l, (cells m d l).toNat < 256 := fun l => cellOf_lt (hpre.1 d) l
    -- the chunk's buffer holds the cells of voxels `4096 k …`
    have hg : ∀ x : S4096.Idx, (View.write (Elt F) (cS).view g (body_zero.sl.dma0 m d L h1 k) Finset.univ : Buf (Elt F) ((thr d L).loc cc0_scratch0)) x
        = cells m d (4096 * k.val + (x 0).val) := by
      intro x
      rw [View.write_whole_univ]
      unfold body_zero.sl.dma0
      have hx : (x 0).val < 4096 := (x 0).isLt
      show m (aLoc d) _ = cellOf (m (aLoc d)) (4096 * k.val + (x 0).val)
      unfold cellOf
      rw [dif_pos (show 4096 * k.val + (x 0).val < 65536 by omega)]
      refine congrArg (m (aLoc d)) (funext fun a => Fin.ext ?_)
      have ha : a = 0 := Subsingleton.elim (α := Fin 1) _ _
      subst ha
      show k0_off2 k 0 + 1 * (x 0).val = 4096 * k.val + (x 0).val
      rw [k0_off2_eq]
      show 4096 * k.val + 1 * (x 0).val = 4096 * k.val + (x 0).val
      omega
    generalize (View.write (Elt F) (cS).view g (body_zero.sl.dma0 m d L h1 k) Finset.univ : Buf (Elt F) ((thr d L).loc cc0_scratch0)) = g' at hg
    sl_for (invI m d L k.val g') $$ [Hc Ht Hn]
    case region =>
      intro j _
      have hj : j.val < 256 := Nat.lt_of_lt_of_eq j.isLt trips_three
      unfold invI
      iintro ⟨Hc, Ht, Hn⟩
      sl_exec
      have hv : ∀ x : S16.Idx, (View.readAt (Elt F) (cS).view (Rect.unit (s := S4096) (k0_off3 j) S16.size (k0_off3_inb L j h1)).toLoadRect g' : Vec F S16 .i32) x
          = cells m d (4096 * k.val + 16 * j.val + (x 0).val) := by
        intro x
        refine (hg _).trans (congrArg (cells m d) ?_)
        show 4096 * k.val + (k0_off3 j 0 + 1 * (x 0).val) = _
        rw [k0_off3_eq]
        show 4096 * k.val + (16 * j.val + 1 * (x 0).val) = _
        omega
      generalize (View.readAt (Elt F) (cS).view (Rect.unit (s := S4096) (k0_off3 j) S16.size (k0_off3_inb L j h1)).toLoadRect g' : Vec F S16 .i32) = v31 at hv
      have hin : ∀ a x, ((![v31] : Fin 1 → IVec S16 32) a x).toNat < S256.size a := by
        intro a x
        have ha : a = 0 := Subsingleton.elim (α := Fin 1) _ _
        subst ha
        show (v31 x).toNat < 256
        rw [hv]; exact hc _
      rw [wp_assume_of _ _ _ _ (show k0_chk1 L v31 from ⟨fun _ => hin, fun _ => hin⟩)]
      ihave Hn' := (Entails.of_eq (pts_nS_access (F := F) d L _).symm) $$ Hn
      iapply (SparseCore.wp_vectorLoadIdx 𝒱₀ (thr d L) none Set.univ (base := (nS)) (S := Finset.univ) (q := fullShare) (Finset.subset_univ _)) $$ Hn'; iintro Hn'
      have hr : View.read (Elt F) ((nS).access (.whole cc0_scratch2.ty.shape)) (cntAt (cells m d) (4096 * k.val + 16 * j.val) : Buf (Elt F) ((thr d L).loc cc0_scratch2))
          = cntAt (cells m d) (4096 * k.val + 16 * j.val) := Memref.read_access_whole (Elt F) cc0_scratch2 _
      have hv32 : ∀ x : S16.Idx, (loadIdx (F := F) (s := S256) (e := .i32) (cntAt (cells m d) (4096 * k.val + 16 * j.val)) ![v31] hin : Vec F S16 .i32) x
          = BitVec.ofNat 32 (members (cells m d) (cells m d (4096 * k.val + 16 * j.val + (x 0).val)) (4096 * k.val + 16 * j.val)) :=
        fun x => cn_eq (cells m d) _ v31 hv hc hin x
      rw [← hr] at hv32
      generalize (loadIdx (F := F) (s := S256) (e := .i32) (View.read (Elt F) ((nS).access (.whole cc0_scratch2.ty.shape)) (cntAt (cells m d) (4096 * k.val + 16 * j.val) : Buf (Elt F) ((thr d L).loc cc0_scratch2))) ![v31] hin : Vec F S16 .i32) = v32 at hv32 ⊢
      have hn16 : 4096 * k.val + 16 * j.val + 16 ≤ 65536 := by omega
      have hin2 : ∀ a x, ((![k0_pay6 k0_pay8 body_zero.sl.v23 k0_pay9 v31 v32] : Fin 1 → IVec S16 32) a x).toNat < S16384.size a := by
        intro a x
        have ha : a = 0 := Subsingleton.elim (α := Fin 1) _ _
        subst ha
        exact pay6_lt (cells m d) _ v31 v32 hv hv32 hn16 hc x
      have hp6 : k0_chk2 L (k0_pay6 k0_pay8 body_zero.sl.v23 k0_pay9 v31 v32) := fun _ => hin2
      refine BIBase.Entails.trans ?_ (Entails.of_eq (wp_assume_of _ _ _ _ hp6).symm)
      iintro ⟨⟨Hc, Ht⟩, Hn'⟩
      ihave Ht' := (Entails.of_eq (pts_tS_set (F := F) d L _).symm) $$ Ht
      iapply (SparseCore.wp_vectorStoreIdx 𝒱₀ (thr d L) none Set.univ (base := (tS))) $$ Ht'; iintro Ht'
      ihave Hn := (Entails.of_eq (pts_nS_access (F := F) d L _)) $$ Hn'
      ihave Hn' := (Entails.of_eq (pts_nS_set (F := F) d L _).symm) $$ Hn
      iapply (SparseCore.wp_vectorStoreIdx 𝒱₀ (thr d L) none Set.univ (base := (nS))) $$ Hn'; iintro Hn'
      ihave Ht := (Entails.of_eq (pts_tS_set (F := F) d L _)) $$ Ht'
      ihave Hn := (Entails.of_eq (pts_nS_set (F := F) d L _)) $$ Hn'
      have hr1 : View.read (Elt F) ((tS).access (.whole cc0_scratch1.ty.shape)) (tabAt (cells m d) (4096 * k.val + 16 * j.val) : Buf (Elt F) ((thr d L).loc cc0_scratch1))
          = tabAt (cells m d) (4096 * k.val + 16 * j.val) := Memref.read_access_whole (Elt F) cc0_scratch1 _
      rw [Memref.write_access_whole_univ, Memref.write_access_whole_univ, hr, hr1]
      unfold body_zero.sl.v23
      ihave Ht' := (Entails.of_eq (congrArg (fun f : Buf (Elt F) ((thr d L).loc cc0_scratch1) => ((tS).view.loc (thr d L) ↦{fullShare} f : sProp 𝕄))
        (tab_step (F := F) (cells m d) (4096 * k.val + 16 * j.val) v31 v32 hv hv32 hn16 hc k j rfl hin2))) $$ Ht
      ihave Hn' := (Entails.of_eq (congrArg (fun f : Buf (Elt F) ((thr d L).loc cc0_scratch2) => ((nS).view.loc (thr d L) ↦{fullShare} f : sProp 𝕄))
        (cnt_step (F := F) (cells m d) _ v31 v32 hv hv32 hc hin))) $$ Hn
      rw [show 4096 * k.val + 16 * j.val + 16 = 4096 * k.val + 16 * (j.val + 1) by omega]
      sl_step
      isplitl [Hc]; · iexact Hc
      isplitl [Ht']; · iexact Ht'
      iexact Hn'
    · unfold invI
      isplitl [Hc]; · iexact Hc
      isplitl [Ht]; · iexact Ht
      iexact Hn
    iintro %_ HI
    unfold invI
    icases HI with ⟨Hc, Ht, Hn⟩
    rw [show Scf.trips k0_t3_loop.lb k0_t3_loop.ub k0_t3_loop.st = 256 from trips_three, show 4096 * k.val + 16 * 256 = 4096 * (k.val + 1) by omega]
    sl_exec
    sl_step
    isplitl [Hmw]; · iexact Hmw
    isplitl [Ha]; · iexact Ha
    isplitl [Hc]; · iexists _; iexact Hc
    isplitl [Ht]; · iexact Ht
    isplitl [Hn]; · iexact Hn
    isplitl [Hsem]; · iexact Hsem
    iexists _; isplitr
    swap; · iexact HO
    ipureintro; intro p hp
    rcases Finset.mem_insert.mp hp with hp | hp; · exact .inr (hp ▸ rfl)
    exact hW' p hp
  · unfold invO
    isplitl [Hmw]; · iexact Hmw
    isplitl [Ha']; · iexact Ha'
    isplitl [Hs0']; · iexists _; iexact Hs0'
    isplitl [Hs1']; · iexact Hs1'
    isplitl [Hs2']; · iexact Hs2'
    isplitl [HsemA]; · iexact HsemA
    iexists W; isplitr
    · ipureintro; exact fun p hp => .inl hp
    · iexact HO
  iintro %_ HI
  unfold invO
  icases HI with ⟨-, Ha', ⟨%g0, Hs0'⟩, Hs1', Hs2', HsemA, %W', %hW', HO⟩
  sl_exec
  sl_step
  have e16 : Scf.trips k0_t2_loop.lb k0_t2_loop.ub k0_t2_loop.st = 16 := trips_two
  isplitl [Ha' Ht' Hn']
  · isplitl [Ha']; · iapply (Entails.of_eq (pts_aV (F := F) d L _)); iexact Ha'
    isplitl [Ht']
    · iapply (Entails.of_eq (show ((tV).view.loc (thr d L) ↦{fullShare} View.write (Elt F) (tV).view (m (tLoc d)) (body_zero.sl.dma0_1 m d) Finset.univ : sProp 𝕄)
        = tPts d (tabFin m d) by
          rw [View.write_whole_univ]
          show (tLoc d ↦{fullShare} (tabAt (cells m d) (4096 * Scf.trips k0_t2_loop.lb k0_t2_loop.ub k0_t2_loop.st) : Buf (Elt F) (tLoc d)) : sProp 𝕄) = _
          rw [e16]))
      iexact Ht'
    · iapply (Entails.of_eq (show ((nV).view.loc (thr d L) ↦{fullShare} View.write (Elt F) (nV).view (m (nLoc d)) (body_zero.sl.dma0_2 m d) Finset.univ : sProp 𝕄)
        = nPts d (cntFin m d) by
          rw [View.write_whole_univ]
          show (nLoc d ↦{fullShare} (cntAt (cells m d) (4096 * Scf.trips k0_t2_loop.lb k0_t2_loop.ub k0_t2_loop.st) : Buf (Elt F) (nLoc d)) : sProp 𝕄) = _
          rw [e16]))
      iexact Hn'
  isplitl [Hs0' Hs1' Hs2' Hbufs]
  · isplitl [Hs0']; · iexists _; iexact Hs0'
    isplitl [Hs1']; · iexists _; iexact Hs1'
    isplitl [Hs2']; · iexists _; iexact Hs2'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

end Cert.Proof.Calls

end
-- ==== Proof.Lookup.lean ====
/-
  The gathering call's lookups: the tile's 2048 slot numbers, sixteen at a time, looked up in the table.
-/
module

public import proofs.«01_k».proof.Proof.Setup

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

variable [FloatOps F]

section Lookup

variable (d : Dev nD) (L : grid1.Coords)

abbrev cG (L : grid1.Coords) : Fin τ.nSC := (L 0).castLE hcore1
abbrev jG (L : grid1.Coords) : Fin τ.nSub := (L 1).castLE hsub1
abbrev thrG (d : Dev nD) (L : grid1.Coords) : Thread nD τ := V d (cG L) (jG L)

/-! ## Sixteen words looked up -/

variable (T : IVec S16384 32) (I f : IVec S16x128 32)

/-- The list after the first `16 n` words have been looked up; the rest as in `f`. -/
def found (n : ℕ) : IVec S16x128 32 := fun y => if 128 * (y 0).val + (y 1).val < 16 * n then look T (I y) else f y

omit [FloatOps F] in
theorem cast_back (x : S1x16.Idx) :
    Shape.reshapeEquiv shapeCasts_S1x16_S16 (Shape.reshapeEquiv shapeCasts_S16_S1x16 x) = x :=
  (Shape.reshapeEquiv_reshapeEquiv _ _ _).trans (Shape.reshapeEquiv_self _ _)

variable (off : Fin 2 → ℕ) (inb : ∀ a, off a + S1x16.size a ≤ S16x128.size a)

/-- The slot numbers a step reads. -/
abbrev nums : IVec S16 32 :=
  shapeCast S16 (View.readAt (Elt F) (iS).view (Rect.unit (s := S16x128) off S1x16.size inb).toLoadRect I : Vec F S1x16 .i32) shapeCasts_S1x16_S16

theorem nums_lt (hI : ∀ y, (I y).toNat < 16384) (a : Fin 1) (x : S16.Idx) :
    ((![nums (F := F) I off inb] : Fin 1 → IVec S16 32) a x).toNat < S16384.size a := by
  have ha : a = 0 := Subsingleton.elim (α := Fin 1) _ _
  subst ha
  exact hI _

/-- The sixteen words of the table a step looks up. -/
abbrev vals (hI : ∀ y, (I y).toNat < 16384) : Vec F S16 .i32 :=
  loadIdx (F := F) (s := S16384) (e := .i32) T ![nums (F := F) I off inb] (nums_lt (F := F) I off inb hI)

theorem vals_eq (hI : ∀ y, (I y).toNat < 16384) (x : S16.Idx) : vals (F := F) T I off inb hI x = look T (nums (F := F) I off inb x) := by
  refine congrArg T (funext fun a => Fin.ext ?_)
  have ha : a = 0 := Subsingleton.elim (α := Fin 1) _ _
  subst ha
  exact (Nat.mod_eq_of_lt (hI _)).symm

include d L in
theorem stored (n : ℕ) (hI : ∀ y, (I y).toNat < 16384) (h0 : off 0 = n / 8) (h1 : off 1 = 16 * (n % 8)) :
    (nS).view.writes (Elt F) (found T I f n : Buf (Elt F) ((thrG d L).loc cc1_scratch2))
        [⟨Rect.unit (s := S16x128) off S1x16.size inb, shapeCast S1x16 (vals (F := F) T I off inb hI) shapeCasts_S16_S1x16⟩]
      = (found T I f (n + 1) : Buf (Elt F) ((thrG d L).loc cc1_scratch2)) := by
  funext y
  have hy1 : (y 1).val < 128 := (y 1).isLt
  have key : ∀ (g : Buf (Elt F) ((thrG d L).loc cc1_scratch2)), (nS).view.read (Elt F) g = g := fun g => View.read_whole cc1_scratch2 g
  refine (congrFun (key _) y).symm.trans ?_
  by_cases hit : (y 0).val = n / 8 ∧ 16 * (n % 8) ≤ (y 1).val ∧ (y 1).val < 16 * (n % 8) + 16
  · obtain ⟨e0, e1, e2⟩ := hit
    have hx : ∀ a, (y a).val = off a + 1 * ((ix2 (0 : Fin 1) (⟨(y 1).val - 16 * (n % 8), by omega⟩ : Fin 16) : S1x16.Idx) a).val := by
      intro a
      match a with
      | ⟨0, _⟩ => show (y 0).val = off 0 + 1 * 0; omega
      | ⟨1, _⟩ => show (y 1).val = off 1 + 1 * ((y 1).val - 16 * (n % 8)); omega
    refine (View.read_writes_cons_hit_of_coords (nS).view _ (Rect.unit (s := S16x128) off S1x16.size inb) _ [] _ y hx).trans ?_
    have hlt : 128 * (y 0).val + (y 1).val < 16 * (n + 1) := by omega
    refine ((vals_eq (F := F) T I off inb hI _).trans ?_).trans (if_pos hlt).symm
    refine congrArg (look T) ?_
    show I ((Rect.unit (s := S16x128) off S1x16.size inb).emb (Shape.reshapeEquiv shapeCasts_S1x16_S16 (Shape.reshapeEquiv shapeCasts_S16_S1x16 _))) = I y
    rw [cast_back]
    exact congrArg I (Rect.emb_eq_of_coords _ _ y hx)
  · have hmiss : (nS).view.read (Elt F) ((nS).view.writes (Elt F) (found T I f n : Buf (Elt F) ((thrG d L).loc cc1_scratch2))
        [⟨Rect.unit (s := S16x128) off S1x16.size inb, shapeCast S1x16 (vals (F := F) T I off inb hI) shapeCasts_S16_S1x16⟩]) y
        = found T I f n y := by
      by_cases e0 : (y 0).val = n / 8
      · exact View.read_writes_cons_miss_of_axis (nS).view _ ⟨Rect.unit (s := S16x128) off S1x16.size inb, _⟩ [] y 1 (16 * (n % 8)) 16 h1 rfl rfl (by omega)
      · exact View.read_writes_cons_miss_of_axis (nS).view _ ⟨Rect.unit (s := S16x128) off S1x16.size inb, _⟩ [] y 0 (n / 8) 1 h0 rfl rfl (by omega)
    refine hmiss.trans ?_
    unfold found
    refine if_congr ?_ rfl rfl
    constructor <;> intro h <;> omega

/-- What a step holds: the table, the slot numbers, the list so far. -/
abbrev St (n : ℕ) : sProp 𝕄 :=
  iprop(((tS).view.loc (thrG d L) ↦{fullShare} (T : Buf (Elt F) ((thrG d L).loc cc1_scratch0)))
    ∗ ((iS).view.loc (thrG d L) ↦{fullShare} (I : Buf (Elt F) ((thrG d L).loc cc1_scratch1)))
    ∗ ((nS).view.loc (thrG d L) ↦{fullShare} (found T I f n : Buf (Elt F) ((thrG d L).loc cc1_scratch2))))

omit [FloatOps F] in
theorem pts_tS (g : Buf (Elt F) ((thrG d L).loc cc1_scratch0)) :
    (((tS).access (.whole S16384)).loc (thrG d L) ↦{fullShare} g : sProp 𝕄) = (tS).view.loc (thrG d L) ↦{fullShare} g := rfl

/-- One lookup: a check that holds, then sixteen words of the table. -/
theorem wp_look {α : Type} {Q : α → sProp 𝕄} {C : Prop} {dec : Decidable C} (hC : C) (v : IVec S16 32)
    (hin : ∀ a x, ((![v] : Fin 1 → IVec S16 32) a x).toNat < S16384.size a)
    {hl : (tS).view.Loads}
    {k : Vec F S16 .i32 → Prog (TpuEff nD τ sig (Elt F) Λ₀ (thrG d L).2) α} :
    ((tS).view.loc (thrG d L) ↦{fullShare} (T : Buf (Elt F) ((thrG d L).loc cc1_scratch0)) : sProp 𝕄)
      ⊢ iprop((((tS).view.loc (thrG d L) ↦{fullShare} (T : Buf (Elt F) ((thrG d L).loc cc1_scratch0)))
          -∗ wp frame (wpE (defs₀ (F := F)) 𝒱₀ (thrG d L) none) Set.univ (k (loadIdx (F := F) (s := S16384) (e := .i32) T ![v] hin)) Q)
        -∗ wp frame (wpE (defs₀ (F := F)) 𝒱₀ (thrG d L) none) Set.univ
            (.op (.assume C dec) fun _ => SparseCore.vectorLoadIdx (tS) ![v] hin hl >>= k) Q) := by
  rw [wp_assume_of _ _ _ _ hC]
  iintro Ht Hk
  iapply (SparseCore.wp_vectorLoadIdx 𝒱₀ (thrG d L) none Set.univ (base := (tS)) (S := Finset.univ) (q := fullShare) (Finset.subset_univ _)) $$ Ht
  iintro Ht
  rw [show View.read (Elt F) ((tS).access (Rect.whole cc1_scratch0.ty.shape)) T = T from Memref.read_access_whole (Elt F) cc1_scratch0 T]
  ihave Ht := (Entails.of_eq (pts_tS d L _)) $$ Ht
  iapply Hk $$ Ht

/-- `wp_look` where the lookup is the last thing done. -/
theorem wp_look_last {Q : Vec F S16 .i32 → sProp 𝕄} {C : Prop} {dec : Decidable C} (hC : C) (v : IVec S16 32)
    (hin : ∀ a x, ((![v] : Fin 1 → IVec S16 32) a x).toNat < S16384.size a)
    {hl : (tS).view.Loads} :
    ((tS).view.loc (thrG d L) ↦{fullShare} (T : Buf (Elt F) ((thrG d L).loc cc1_scratch0)) : sProp 𝕄)
      ⊢ iprop((((tS).view.loc (thrG d L) ↦{fullShare} (T : Buf (Elt F) ((thrG d L).loc cc1_scratch0)))
          -∗ wp frame (wpE (defs₀ (F := F)) 𝒱₀ (thrG d L) none) Set.univ
            (pure (loadIdx (F := F) (s := S16384) (e := .i32) T ![v] hin) : Prog (TpuEff nD τ sig (Elt F) Λ₀ (thrG d L).2) (Vec F S16 .i32)) Q)
        -∗ wp frame (wpE (defs₀ (F := F)) 𝒱₀ (thrG d L) none) Set.univ
            (.op (.assume C dec) fun _ => SparseCore.vectorLoadIdx (tS) ![v] hin hl) Q) := by
  have h := wp_look d L T (Q := Q) (dec := dec) hC v hin (hl := hl) (k := pure)
  simpa only [bind_pure] using h

/-- A check that holds is passed. -/
theorem wp_check {α : Type} {Q : α → sProp 𝕄} {C : Prop} {dec : Decidable C} (hC : C)
    {k : PLift C → Prog (TpuEff nD τ sig (Elt F) Λ₀ (thrG d L).2) α} :
    (wp frame (wpE (defs₀ (F := F)) 𝒱₀ (thrG d L) none) Set.univ (k ⟨hC⟩) Q : sProp 𝕄)
      ⊢ wp frame (wpE (defs₀ (F := F)) 𝒱₀ (thrG d L) none) Set.univ (.op (.assume C dec) k) Q := by
  rw [wp_assume_of _ _ _ _ hC]

/-- `wp_look` where the check has been made before. -/
theorem wp_looked {α : Type} {Q : α → sProp 𝕄} (v : IVec S16 32)
    (hin : ∀ a x, ((![v] : Fin 1 → IVec S16 32) a x).toNat < S16384.size a)
    {hl : (tS).view.Loads}
    {k : Vec F S16 .i32 → Prog (TpuEff nD τ sig (Elt F) Λ₀ (thrG d L).2) α} :
    ((tS).view.loc (thrG d L) ↦{fullShare} (T : Buf (Elt F) ((thrG d L).loc cc1_scratch0)) : sProp 𝕄)
      ⊢ iprop((((tS).view.loc (thrG d L) ↦{fullShare} (T : Buf (Elt F) ((thrG d L).loc cc1_scratch0)))
          -∗ wp frame (wpE (defs₀ (F := F)) 𝒱₀ (thrG d L) none) Set.univ (k (loadIdx (F := F) (s := S16384) (e := .i32) T ![v] hin)) Q)
        -∗ wp frame (wpE (defs₀ (F := F)) 𝒱₀ (thrG d L) none) Set.univ (SparseCore.vectorLoadIdx (tS) ![v] hin hl >>= k) Q) := by
  iintro Ht Hk
  iapply (SparseCore.wp_vectorLoadIdx 𝒱₀ (thrG d L) none Set.univ (base := (tS)) (S := Finset.univ) (q := fullShare) (Finset.subset_univ _)) $$ Ht
  iintro Ht
  rw [show View.read (Elt F) ((tS).access (Rect.whole cc1_scratch0.ty.shape)) T = T from Memref.read_access_whole (Elt F) cc1_scratch0 T]
  ihave Ht := (Entails.of_eq (pts_tS d L _)) $$ Ht
  iapply Hk $$ Ht

/-- The list with one step's words stored over it is the list one step on. -/
theorem pts_stored (n : ℕ) (hI : ∀ y, (I y).toNat < 16384) (h0 : off 0 = n / 8) (h1 : off 1 = 16 * (n % 8)) :
    ((nS).view.loc (thrG d L) ↦{fullShare} ((nS).view.writes (Elt F) (found T I f n : Buf (Elt F) ((thrG d L).loc cc1_scratch2))
        [⟨Rect.unit (s := S16x128) off S1x16.size inb, shapeCast S1x16 (vals (F := F) T I off inb hI) shapeCasts_S16_S1x16⟩]) : sProp 𝕄)
      ⊢ (nS).view.loc (thrG d L) ↦{fullShare} (found T I f (n + 1) : Buf (Elt F) ((thrG d L).loc cc1_scratch2)) :=
  Entails.of_eq (congrArg (fun g : Buf (Elt F) ((thrG d L).loc cc1_scratch2) => ((nS).view.loc (thrG d L) ↦{fullShare} g : sProp 𝕄))
    (stored d L T I f off inb n hI h0 h1))

end Lookup

end Cert.Proof.Calls

end
-- ==== Proof.LookupA.lean ====
/-
    The gathering call's lookups, first part: the steps of the first half of the list, group by group.
-/
module

public import proofs.«01_k».proof.Proof.Lookup

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Lookup

variable [FloatOps F] (d : Dev nD) (L : grid1.Coords)
variable (T : IVec S16384 32) (I f : IVec S16x128 32)

set_option maxHeartbeats 800000 in
theorem part2 {α : Type} {Q : α → sProp 𝕄} (hI : ∀ y, (I y).toNat < 16384)
    {k : (Vec F S16 .i32) → Prog (TpuEff nD τ sig (Elt F) Λ₀ (thrG d L).2) α} :
    St d L T I f 3 ⊢ iprop((St d L T I f 7 -∗ wp frame (wpE (defs₀ (F := F)) 𝒱₀ (thrG d L) none) Set.univ (k ((vals (F := F) T I ![0, 112] inb_S16x128_S1x16_0_112 hI))) Q)
      -∗ wp frame (wpE (defs₀ (F := F)) 𝒱₀ (thrG d L) none) Set.univ
        (k1_part2 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part2_eq_skeleton]; unfold k1_part2_skel
  iintro ⟨Ht, Hi, Hn⟩ Hk
  sl_exec
  iapply (wp_look d L T (nums_lt (F := F) I ![0, 48] inb_S16x128_S1x16_0_48 hI) _ (nums_lt (F := F) I ![0, 48] inb_S16x128_S1x16_0_48 hI)) $$ Ht; iintro Ht; sl_exec
  ihave Hn := (pts_stored d L T I f ![0, 48] inb_S16x128_S1x16_0_48 3 hI rfl rfl) $$ Hn
  iapply (wp_look d L T (nums_lt (F := F) I ![0, 64] inb_S16x128_S1x16_0_64 hI) _ (nums_lt (F := F) I ![0, 64] inb_S16x128_S1x16_0_64 hI)) $$ Ht; iintro Ht; sl_exec
  ihave Hn := (pts_stored d L T I f ![0, 64] inb_S16x128_S1x16_0_64 4 hI rfl rfl) $$ Hn
  iapply (wp_look d L T (nums_lt (F := F) I ![0, 80] inb_S16x128_S1x16_0_80 hI) _ (nums_lt (F := F) I ![0, 80] inb_S16x128_S1x16_0_80 hI)) $$ Ht; iintro Ht; sl_exec
  ihave Hn := (pts_stored d L T I f ![0, 80] inb_S16x128_S1x16_0_80 5 hI rfl rfl) $$ Hn
  iapply (wp_look d L T (nums_lt (F := F) I ![0, 96] inb_S16x128_S1x16_0_96 hI) _ (nums_lt (F := F) I ![0, 96] inb_S16x128_S1x16_0_96 hI)) $$ Ht; iintro Ht; sl_exec
  ihave Hn := (pts_stored d L T I f ![0, 96] inb_S16x128_S1x16_0_96 6 hI rfl rfl) $$ Hn
  iapply (wp_look d L T (nums_lt (F := F) I ![0, 112] inb_S16x128_S1x16_0_112 hI) _ (nums_lt (F := F) I ![0, 112] inb_S16x128_S1x16_0_112 hI)) $$ Ht; iintro Ht; sl_exec
  iapply Hk
  isplitl [Ht]; iexact Ht
  isplitl [Hi]; iexact Hi
  iexact Hn

set_option maxHeartbeats 800000 in
theorem part3 {α : Type} {Q : α → sProp 𝕄} (hI : ∀ y, (I y).toNat < 16384)
    {k : (Vec F S16 .i32) → Prog (TpuEff nD τ sig (Elt F) Λ₀ (thrG d L).2) α} :
    St d L T I f 7 ⊢ iprop((St d L T I f 12 -∗ wp frame (wpE (defs₀ (F := F)) 𝒱₀ (thrG d L) none) Set.univ (k (nums (F := F) I ![1, 64] inb_S16x128_S1x16_1_64)) Q)
      -∗ wp frame (wpE (defs₀ (F := F)) 𝒱₀ (thrG d L) none) Set.univ
        (k1_part3 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![0, 112] inb_S16x128_S1x16_0_112 hI) >>= k) Q) := by
  rw [wp_bind]; simp only [k1_part3_eq_skeleton]; unfold k1_part3_skel
  iintro ⟨Ht, Hi, Hn⟩ Hk
  sl_exec
  ihave Hn := (pts_stored d L T I f ![0, 112] inb_S16x128_S1x16_0_112 7 hI rfl rfl) $$ Hn
  iapply (wp_look d L T (nums_lt (F := F) I ![1, 0] inb_S16x128_S1x16_1_0 hI) _ (nums_lt (F := F) I ![1, 0] inb_S16x128_S1x16_1_0 hI)) $$ Ht; iintro Ht; sl_exec
  ihave Hn := (pts_stored d L T I f ![1, 0] inb_S16x128_S1x16_1_0 8 hI rfl rfl) $$ Hn
  iapply (wp_look d L T (nums_lt (F := F) I ![1, 16] inb_S16x128_S1x16_1_16 hI) _ (nums_lt (F := F) I ![1, 16] inb_S16x128_S1x16_1_16 hI)) $$ Ht; iintro Ht; sl_exec
  ihave Hn := (pts_stored d L T I f ![1, 16] inb_S16x128_S1x16_1_16 9 hI rfl rfl) $$ Hn
  iapply (wp_look d L T (nums_lt (F := F) I ![1, 32] inb_S16x128_S1x16_1_32 hI) _ (nums_lt (F := F) I ![1, 32] inb_S16x128_S1x16_1_32 hI)) $$ Ht; iintro Ht; sl_exec
  ihave Hn := (pts_stored d L T I f ![1, 32] inb_S16x128_S1x16_1_32 10 hI rfl rfl) $$ Hn
  iapply (wp_look d L T (nums_lt (F := F) I ![1, 48] inb_S16x128_S1x16_1_48 hI) _ (nums_lt (F := F) I ![1, 48] inb_S16x128_S1x16_1_48 hI)) $$ Ht; iintro Ht; sl_exec
  ihave Hn := (pts_stored d L T I f ![1, 48] inb_S16x128_S1x16_1_48 11 hI rfl rfl) $$ Hn
  iapply Hk
  isplitl [Ht]; iexact Ht
  isplitl [Hi]; iexact Hi
  iexact Hn

set_option maxHeartbeats 800000 in
theorem part4 {α : Type} {Q : α → sProp 𝕄} (hI : ∀ y, (I y).toNat < 16384)
    {k : (PUnit) → Prog (TpuEff nD τ sig (Elt F) Λ₀ (thrG d L).2) α} :
    St d L T I f 12 ⊢ iprop((St d L T I f 17 -∗ wp frame (wpE (defs₀ (F := F)) 𝒱₀ (thrG d L) none) Set.univ (k ⟨⟩) Q)
      -∗ wp frame (wpE (defs₀ (F := F)) 𝒱₀ (thrG d L) none) Set.univ
        (k1_part4 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (nums (F := F) I ![1, 64] inb_S16x128_S1x16_1_64) >>= k) Q) := by
  rw [wp_bind]; simp only [k1_part4_eq_skeleton]; unfold k1_part4_skel
  iintro ⟨Ht, Hi, Hn⟩ Hk
  have hc : k1_chk13 (nums (F := F) I ![1, 64] inb_S16x128_S1x16_1_64) := (nums_lt (F := F) I ![1, 64] inb_S16x128_S1x16_1_64 hI); sl_exec; iapply (wp_looked d L T _ (nums_lt (F := F) I ![1, 64] inb_S16x128_S1x16_1_64 hI)) $$ Ht; iintro Ht; sl_exec
  ihave Hn := (pts_stored d L T I f ![1, 64] inb_S16x128_S1x16_1_64 12 hI rfl rfl) $$ Hn
  iapply (wp_look d L T (nums_lt (F := F) I ![1, 80] inb_S16x128_S1x16_1_80 hI) _ (nums_lt (F := F) I ![1, 80] inb_S16x128_S1x16_1_80 hI)) $$ Ht; iintro Ht; sl_exec
  ihave Hn := (pts_stored d L T I f ![1, 80] inb_S16x128_S1x16_1_80 13 hI rfl rfl) $$ Hn
  iapply (wp_look d L T (nums_lt (F := F) I ![1, 96] inb_S16x128_S1x16_1_96 hI) _ (nums_lt (F := F) I ![1, 96] inb_S16x128_S1x16_1_96 hI)) $$ Ht; iintro Ht; sl_exec
  ihave Hn := (pts_stored d L T I f ![1, 96] inb_S16x128_S1x16_1_96 14 hI rfl rfl) $$ Hn
  iapply (wp_look d L T (nums_lt (F := F) I ![1, 112] inb_S16x128_S1x16_1_112 hI) _ (nums_lt (F := F) I ![1, 112] inb_S16x128_S1x16_1_112 hI)) $$ Ht; iintro Ht; sl_exec
  ihave Hn := (pts_stored d L T I f ![1, 112] inb_S16x128_S1x16_1_112 15 hI rfl rfl) $$ Hn
  iapply (wp_look d L T (nums_lt (F := F) I ![2, 0] inb_S16x128_S1x16_2_0 hI) _ (nums_lt (F := F) I ![2, 0] inb_S16x128_S1x16_2_0 hI)) $$ Ht; iintro Ht; sl_exec
  ihave Hn := (pts_stored d L T I f ![2, 0] inb_S16x128_S1x16_2_0 16 hI rfl rfl) $$ Hn
  iapply Hk
  isplitl [Ht]; iexact Ht
  isplitl [Hi]; iexact Hi
  iexact Hn

set_option maxHeartbeats 800000 in
theorem part5 {α : Type} {Q : α → sProp 𝕄} (hI : ∀ y, (I y).toNat < 16384)
    {k : (Σ' (v110 : Vec F S16 .i32), BitVec 32) → Prog (TpuEff nD τ sig (Elt F) Λ₀ (thrG d L).2) α} :
    St d L T I f 17 ⊢ iprop((St d L T I f 21 -∗ wp frame (wpE (defs₀ (F := F)) 𝒱₀ (thrG d L) none) Set.univ (k ⟨(vals (F := F) T I ![2, 80] inb_S16x128_S1x16_2_80 hI), 2#32⟩) Q)
      -∗ wp frame (wpE (defs₀ (F := F)) 𝒱₀ (thrG d L) none) Set.univ
        (k1_part5 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part5_eq_skeleton]; unfold k1_part5_skel
  iintro ⟨Ht, Hi, Hn⟩ Hk
  sl_exec
  iapply (wp_look d L T (nums_lt (F := F) I ![2, 16] inb_S16x128_S1x16_2_16 hI) _ (nums_lt (F := F) I ![2, 16] inb_S16x128_S1x16_2_16 hI)) $$ Ht; iintro Ht; sl_exec
  ihave Hn := (pts_stored d L T I f ![2, 16] inb_S16x128_S1x16_2_16 17 hI rfl rfl) $$ Hn
  iapply (wp_look d L T (nums_lt (F := F) I ![2, 32] inb_S16x128_S1x16_2_32 hI) _ (nums_lt (F := F) I ![2, 32] inb_S16x128_S1x16_2_32 hI)) $$ Ht; iintro Ht; sl_exec
  ihave Hn := (pts_stored d L T I f ![2, 32] inb_S16x128_S1x16_2_32 18 hI rfl rfl) $$ Hn
  iapply (wp_look d L T (nums_lt (F := F) I ![2, 48] inb_S16x128_S1x16_2_48 hI) _ (nums_lt (F := F) I ![2, 48] inb_S16x128_S1x16_2_48 hI)) $$ Ht; iintro Ht; sl_exec
  ihave Hn := (pts_stored d L T I f ![2, 48] inb_S16x128_S1x16_2_48 19 hI rfl rfl) $$ Hn
  iapply (wp_look d L T (nums_lt (F := F) I ![2, 64] inb_S16x128_S1x16_2_64 hI) _ (nums_lt (F := F) I ![2, 64] inb_S16x128_S1x16_2_64 hI)) $$ Ht; iintro Ht; sl_exec
  ihave Hn := (pts_stored d L T I f ![2, 64] inb_S16x128_S1x16_2_64 20 hI rfl rfl) $$ Hn
  iapply (wp_look d L T (nums_lt (F := F) I ![2, 80] inb_S16x128_S1x16_2_80 hI) _ (nums_lt (F := F) I ![2, 80] inb_S16x128_S1x16_2_80 hI)) $$ Ht; iintro Ht; sl_exec
  iapply Hk
  isplitl [Ht]; iexact Ht
  isplitl [Hi]; iexact Hi
  iexact Hn

set_option maxHeartbeats 800000 in
theorem part6 {α : Type} {Q : α → sProp 𝕄} (hI : ∀ y, (I y).toNat < 16384) (c2_i32_76 : BitVec 32)
    {k : (PUnit) → Prog (TpuEff nD τ sig (Elt F) Λ₀ (thrG d L).2) α} :
    St d L T I f 21 ⊢ iprop((St d L T I f 26 -∗ wp frame (wpE (defs₀ (F := F)) 𝒱₀ (thrG d L) none) Set.univ (k ⟨⟩) Q)
      -∗ wp frame (wpE (defs₀ (F := F)) 𝒱₀ (thrG d L) none) Set.univ
        (k1_part6 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![2, 80] inb_S16x128_S1x16_2_80 hI) c2_i32_76 >>= k) Q) := by
  rw [wp_bind]; simp only [k1_part6_eq_skeleton]; unfold k1_part6_skel
  iintro ⟨Ht, Hi, Hn⟩ Hk
  sl_exec
  ihave Hn := (pts_stored d L T I f ![2, 80] inb_S16x128_S1x16_2_80 21 hI rfl rfl) $$ Hn
  iapply (wp_look d L T (nums_lt (F := F) I ![2, 96] inb_S16x128_S1x16_2_96 hI) _ (nums_lt (F := F) I ![2, 96] inb_S16x128_S1x16_2_96 hI)) $$ Ht; iintro Ht; sl_exec
  ihave Hn := (pts_stored d L T I f ![2, 96] inb_S16x128_S1x16_2_96 22 hI rfl rfl) $$ Hn
  iapply (wp_look d L T (nums_lt (F := F) I ![2, 112] inb_S16x128_S1x16_2_112 hI) _ (nums_lt (F := F) I ![2, 112] inb_S16x128_S1x16_2_112 hI)) $$ Ht; iintro Ht; sl_exec
  ihave Hn := (pts_stored d L T I f ![2, 112] inb_S16x128_S1x16_2_112 23 hI rfl rfl) $$ Hn
  iapply (wp_look d L T (nums_lt (F := F) I ![3, 0] inb_S16x128_S1x16_3_0 hI) _ (nums_lt (F := F) I ![3, 0] inb_S16x128_S1x16_3_0 hI)) $$ Ht; iintro Ht; sl_exec
  ihave Hn := (pts_stored d L T I f ![3, 0] inb_S16x128_S1x16_3_0 24 hI rfl rfl) $$ Hn
  iapply (wp_look d L T (nums_lt (F := F) I ![3, 16] inb_S16x128_S1x16_3_16 hI) _ (nums_lt (F := F) I ![3, 16] inb_S16x128_S1x16_3_16 hI)) $$ Ht; iintro Ht; sl_exec
  ihave Hn := (pts_stored d L T I f ![3, 16] inb_S16x128_S1x16_3_16 25 hI rfl rfl) $$ Hn
  iapply Hk
  isplitl [Ht]; iexact Ht
  isplitl [Hi]; iexact Hi
  iexact Hn

set_option maxHeartbeats 800000 in
theorem part7 {α : Type} {Q : α → sProp 𝕄} (hI : ∀ y, (I y).toNat < 16384)
    {k : (Σ' (v155 : Vec F S16 .i32), Vec F S1x16 .i32) → Prog (TpuEff nD τ sig (Elt F) Λ₀ (thrG d L).2) α} :
    St d L T I f 26 ⊢ iprop((St d L T I f 30 -∗ wp frame (wpE (defs₀ (F := F)) 𝒱₀ (thrG d L) none) Set.univ (k ⟨(vals (F := F) T I ![3, 96] inb_S16x128_S1x16_3_96 hI), (View.readAt (Elt F) (nS).view (Rect.unit (s := S16x128) ![3, 96] S1x16.size inb_S16x128_S1x16_3_96).toLoadRect (found T I f 30))⟩) Q)
      -∗ wp frame (wpE (defs₀ (F := F)) 𝒱₀ (thrG d L) none) Set.univ
        (k1_part7 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part7_eq_skeleton]; unfold k1_part7_skel
  iintro ⟨Ht, Hi, Hn⟩ Hk
  sl_exec
  iapply (wp_look d L T (nums_lt (F := F) I ![3, 32] inb_S16x128_S1x16_3_32 hI) _ (nums_lt (F := F) I ![3, 32] inb_S16x128_S1x16_3_32 hI)) $$ Ht; iintro Ht; sl_exec
  ihave Hn := (pts_stored d L T I f ![3, 32] inb_S16x128_S1x16_3_32 26 hI rfl rfl) $$ Hn
  iapply (wp_look d L T (nums_lt (F := F) I ![3, 48] inb_S16x128_S1x16_3_48 hI) _ (nums_lt (F := F) I ![3, 48] inb_S16x128_S1x16_3_48 hI)) $$ Ht; iintro Ht; sl_exec
  ihave Hn := (pts_stored d L T I f ![3, 48] inb_S16x128_S1x16_3_48 27 hI rfl rfl) $$ Hn
  iapply (wp_look d L T (nums_lt (F := F) I ![3, 64] inb_S16x128_S1x16_3_64 hI) _ (nums_lt (F := F) I ![3, 64] inb_S16x128_S1x16_3_64 hI)) $$ Ht; iintro Ht; sl_exec
  ihave Hn := (pts_stored d L T I f ![3, 64] inb_S16x128_S1x16_3_64 28 hI rfl rfl) $$ Hn
  iapply (wp_look d L T (nums_lt (F := F) I ![3, 80] inb_S16x128_S1x16_3_80 hI) _ (nums_lt (F := F) I ![3, 80] inb_S16x128_S1x16_3_80 hI)) $$ Ht; iintro Ht; sl_exec
  ihave Hn := (pts_stored d L T I f ![3, 80] inb_S16x128_S1x16_3_80 29 hI rfl rfl) $$ Hn
  iapply (wp_look d L T (nums_lt (F := F) I ![3, 96] inb_S16x128_S1x16_3_96 hI) _ (nums_lt (F := F) I ![3, 96] inb_S16x128_S1x16_3_96 hI)) $$ Ht; iintro Ht; sl_exec
  iapply Hk
  isplitl [Ht]; iexact Ht
  isplitl [Hi]; iexact Hi
  iexact Hn

set_option maxHeartbeats 800000 in
theorem part8 {α : Type} {Q : α → sProp 𝕄} (hI : ∀ y, (I y).toNat < 16384) (v157_ld : Vec F S1x16 .i32)
    {k : (Σ' (v179 : Vec F S16 .i32), k1_chk36 v179) → Prog (TpuEff nD τ sig (Elt F) Λ₀ (thrG d L).2) α} :
    St d L T I f 30 ⊢ iprop((St d L T I f 35 -∗ wp frame (wpE (defs₀ (F := F)) 𝒱₀ (thrG d L) none) Set.univ (k ⟨(nums (F := F) I ![4, 48] inb_S16x128_S1x16_4_48), (nums_lt (F := F) I ![4, 48] inb_S16x128_S1x16_4_48 hI)⟩) Q)
      -∗ wp frame (wpE (defs₀ (F := F)) 𝒱₀ (thrG d L) none) Set.univ
        (k1_part8 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![3, 96] inb_S16x128_S1x16_3_96 hI) v157_ld >>= k) Q) := by
  rw [wp_bind]; simp only [k1_part8_eq_skeleton]; unfold k1_part8_skel
  iintro ⟨Ht, Hi, Hn⟩ Hk
  sl_exec
  ihave Hn := (pts_stored d L T I f ![3, 96] inb_S16x128_S1x16_3_96 30 hI rfl rfl) $$ Hn
  iapply (wp_look d L T (nums_lt (F := F) I ![3, 112] inb_S16x128_S1x16_3_112 hI) _ (nums_lt (F := F) I ![3, 112] inb_S16x128_S1x16_3_112 hI)) $$ Ht; iintro Ht; sl_exec
  ihave Hn := (pts_stored d L T I f ![3, 112] inb_S16x128_S1x16_3_112 31 hI rfl rfl) $$ Hn
  iapply (wp_look d L T (nums_lt (F := F) I ![4, 0] inb_S16x128_S1x16_4_0 hI) _ (nums_lt (F := F) I ![4, 0] inb_S16x128_S1x16_4_0 hI)) $$ Ht; iintro Ht; sl_exec
  ihave Hn := (pts_stored d L T I f ![4, 0] inb_S16x128_S1x16_4_0 32 hI rfl rfl) $$ Hn
  iapply (wp_look d L T (nums_lt (F := F) I ![4, 16] inb_S16x128_S1x16_4_16 hI) _ (nums_lt (F := F) I ![4, 16] inb_S16x128_S1x16_4_16 hI)) $$ Ht; iintro Ht; sl_exec
  ihave Hn := (pts_stored d L T I f ![4, 16] inb_S16x128_S1x16_4_16 33 hI rfl rfl) $$ Hn
  iapply (wp_look d L T (nums_lt (F := F) I ![4, 32] inb_S16x128_S1x16_4_32 hI) _ (nums_lt (F := F) I ![4, 32] inb_S16x128_S1x16_4_32 hI)) $$ Ht; iintro Ht; sl_exec
  ihave Hn := (pts_stored d L T I f ![4, 32] inb_S16x128_S1x16_4_32 34 hI rfl rfl) $$ Hn
  iapply (wp_check d L (nums_lt (F := F) I ![4, 48] inb_S16x128_S1x16_4_48 hI)); sl_exec
  iapply Hk
  isplitl [Ht]; iexact Ht
  isplitl [Hi]; iexact Hi
  iexact Hn

set_option maxHeartbeats 800000 in
theorem part9 {α : Type} {Q : α → sProp 𝕄} (hI : ∀ y, (I y).toNat < 16384) (k1_hw36 : k1_chk36 (nums (F := F) I ![4, 48] inb_S16x128_S1x16_4_48))
    {k : (BitVec 32) → Prog (TpuEff nD τ sig (Elt F) Λ₀ (thrG d L).2) α} :
    St d L T I f 35 ⊢ iprop((St d L T I f 40 -∗ wp frame (wpE (defs₀ (F := F)) 𝒱₀ (thrG d L) none) Set.univ (k (5#32)) Q)
      -∗ wp frame (wpE (defs₀ (F := F)) 𝒱₀ (thrG d L) none) Set.univ
        (k1_part9 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (nums (F := F) I ![4, 48] inb_S16x128_S1x16_4_48) k1_hw36 >>= k) Q) := by
  rw [wp_bind]; simp only [k1_part9_eq_skeleton]; unfold k1_part9_skel
  iintro ⟨Ht, Hi, Hn⟩ Hk
  iapply (wp_looked d L T _ (nums_lt (F := F) I ![4, 48] inb_S16x128_S1x16_4_48 hI)) $$ Ht; iintro Ht; sl_exec
  ihave Hn := (pts_stored d L T I f ![4, 48] inb_S16x128_S1x16_4_48 35 hI rfl rfl) $$ Hn
  iapply (wp_look d L T (nums_lt (F := F) I ![4, 64] inb_S16x128_S1x16_4_64 hI) _ (nums_lt (F := F) I ![4, 64] inb_S16x128_S1x16_4_64 hI)) $$ Ht; iintro Ht; sl_exec
  ihave Hn := (pts_stored d L T I f ![4, 64] inb_S16x128_S1x16_4_64 36 hI rfl rfl) $$ Hn
  iapply (wp_look d L T (nums_lt (F := F) I ![4, 80] inb_S16x128_S1x16_4_80 hI) _ (nums_lt (F := F) I ![4, 80] inb_S16x128_S1x16_4_80 hI)) $$ Ht; iintro Ht; sl_exec
  ihave Hn := (pts_stored d L T I f ![4, 80] inb_S16x128_S1x16_4_80 37 hI rfl rfl) $$ Hn
  iapply (wp_look d L T (nums_lt (F := F) I ![4, 96] inb_S16x128_S1x16_4_96 hI) _ (nums_lt (F := F) I ![4, 96] inb_S16x128_S1x16_4_96 hI)) $$ Ht; iintro Ht; sl_exec
  ihave Hn := (pts_stored d L T I f ![4, 96] inb_S16x128_S1x16_4_96 38 hI rfl rfl) $$ Hn
  iapply (wp_look d L T (nums_lt (F := F) I ![4, 112] inb_S16x128_S1x16_4_112 hI) _ (nums_lt (F := F) I ![4, 112] inb_S16x128_S1x16_4_112 hI)) $$ Ht; iintro Ht; sl_exec
  ihave Hn := (pts_stored d L T I f ![4, 112] inb_S16x128_S1x16_4_112 39 hI rfl rfl) $$ Hn
  iapply Hk
  isplitl [Ht]; iexact Ht
  isplitl [Hi]; iexact Hi
  iexact Hn

set_option maxHeartbeats 800000 in
theorem part10 {α : Type} {Q : α → sProp 𝕄} (hI : ∀ y, (I y).toNat < 16384) (c5_i32 : BitVec 32)
    {k : (Vec F S16 .i32) → Prog (TpuEff nD τ sig (Elt F) Λ₀ (thrG d L).2) α} :
    St d L T I f 40 ⊢ iprop((St d L T I f 44 -∗ wp frame (wpE (defs₀ (F := F)) 𝒱₀ (thrG d L) none) Set.univ (k ((vals (F := F) T I ![5, 64] inb_S16x128_S1x16_5_64 hI))) Q)
      -∗ wp frame (wpE (defs₀ (F := F)) 𝒱₀ (thrG d L) none) Set.univ
        (k1_part10 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 c5_i32 >>= k) Q) := by
  rw [wp_bind]; simp only [k1_part10_eq_skeleton]; unfold k1_part10_skel
  iintro ⟨Ht, Hi, Hn⟩ Hk
  sl_exec
  iapply (wp_look d L T (nums_lt (F := F) I ![5, 0] inb_S16x128_S1x16_5_0 hI) _ (nums_lt (F := F) I ![5, 0] inb_S16x128_S1x16_5_0 hI)) $$ Ht; iintro Ht; sl_exec
  ihave Hn := (pts_stored d L T I f ![5, 0] inb_S16x128_S1x16_5_0 40 hI rfl rfl) $$ Hn
  iapply (wp_look d L T (nums_lt (F := F) I ![5, 16] inb_S16x128_S1x16_5_16 hI) _ (nums_lt (F := F) I ![5, 16] inb_S16x128_S1x16_5_16 hI)) $$ Ht; iintro Ht; sl_exec
  ihave Hn := (pts_stored d L T I f ![5, 16] inb_S16x128_S1x16_5_16 41 hI rfl rfl) $$ Hn
  iapply (wp_look d L T (nums_lt (F := F) I ![5, 32] inb_S16x128_S1x16_5_32 hI) _ (nums_lt (F := F) I ![5, 32] inb_S16x128_S1x16_5_32 hI)) $$ Ht; iintro Ht; sl_exec
  ihave Hn := (pts_stored d L T I f ![5, 32] inb_S16x128_S1x16_5_32 42 hI rfl rfl) $$ Hn
  iapply (wp_look d L T (nums_lt (F := F) I ![5, 48] inb_S16x128_S1x16_5_48 hI) _ (nums_lt (F := F) I ![5, 48] inb_S16x128_S1x16_5_48 hI)) $$ Ht; iintro Ht; sl_exec
  ihave Hn := (pts_stored d L T I f ![5, 48] inb_S16x128_S1x16_5_48 43 hI rfl rfl) $$ Hn
  iapply (wp_look d L T (nums_lt (F := F) I ![5, 64] inb_S16x128_S1x16_5_64 hI) _ (nums_lt (F := F) I ![5, 64] inb_S16x128_S1x16_5_64 hI)) $$ Ht; iintro Ht; sl_exec
  iapply Hk
  isplitl [Ht]; iexact Ht
  isplitl [Hi]; iexact Hi
  iexact Hn

set_option maxHeartbeats 800000 in
theorem part11 {α : Type} {Q : α → sProp 𝕄} (hI : ∀ y, (I y).toNat < 16384)
    {k : (Vec F S1x16 .i32) → Prog (TpuEff nD τ sig (Elt F) Λ₀ (thrG d L).2) α} :
    St d L T I f 44 ⊢ iprop((St d L T I f 49 -∗ wp frame (wpE (defs₀ (F := F)) 𝒱₀ (thrG d L) none) Set.univ (k ((View.readAt (Elt F) (iS).view (Rect.unit (s := S16x128) ![6, 16] S1x16.size inb_S16x128_S1x16_6_16).toLoadRect I))) Q)
      -∗ wp frame (wpE (defs₀ (F := F)) 𝒱₀ (thrG d L) none) Set.univ
        (k1_part11 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![5, 64] inb_S16x128_S1x16_5_64 hI) >>= k) Q) := by
  rw [wp_bind]; simp only [k1_part11_eq_skeleton]; unfold k1_part11_skel
  iintro ⟨Ht, Hi, Hn⟩ Hk
  sl_exec
  ihave Hn := (pts_stored d L T I f ![5, 64] inb_S16x128_S1x16_5_64 44 hI rfl rfl) $$ Hn
  iapply (wp_look d L T (nums_lt (F := F) I ![5, 80] inb_S16x128_S1x16_5_80 hI) _ (nums_lt (F := F) I ![5, 80] inb_S16x128_S1x16_5_80 hI)) $$ Ht; iintro Ht; sl_exec
  ihave Hn := (pts_stored d L T I f ![5, 80] inb_S16x128_S1x16_5_80 45 hI rfl rfl) $$ Hn
  iapply (wp_look d L T (nums_lt (F := F) I ![5, 96] inb_S16x128_S1x16_5_96 hI) _ (nums_lt (F := F) I ![5, 96] inb_S16x128_S1x16_5_96 hI)) $$ Ht; iintro Ht; sl_exec
  ihave Hn := (pts_stored d L T I f ![5, 96] inb_S16x128_S1x16_5_96 46 hI rfl rfl) $$ Hn
  iapply (wp_look d L T (nums_lt (F := F) I ![5, 112] inb_S16x128_S1x16_5_112 hI) _ (nums_lt (F := F) I ![5, 112] inb_S16x128_S1x16_5_112 hI)) $$ Ht; iintro Ht; sl_exec
  ihave Hn := (pts_stored d L T I f ![5, 112] inb_S16x128_S1x16_5_112 47 hI rfl rfl) $$ Hn
  iapply (wp_look d L T (nums_lt (F := F) I ![6, 0] inb_S16x128_S1x16_6_0 hI) _ (nums_lt (F := F) I ![6, 0] inb_S16x128_S1x16_6_0 hI)) $$ Ht; iintro Ht; sl_exec
  ihave Hn := (pts_stored d L T I f ![6, 0] inb_S16x128_S1x16_6_0 48 hI rfl rfl) $$ Hn
  iapply Hk
  isplitl [Ht]; iexact Ht
  isplitl [Hi]; iexact Hi
  iexact Hn

end Lookup

end Cert.Proof.Calls

end
-- ==== Proof.LookupB.lean ====
/-
    The gathering call's lookups, second part.
-/
module

public import proofs.«01_k».proof.Proof.LookupA

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Lookup

variable [FloatOps F] (d : Dev nD) (L : grid1.Coords)
variable (T : IVec S16384 32) (I f : IVec S16x128 32)

set_option maxHeartbeats 800000 in
theorem part12 {α : Type} {Q : α → sProp 𝕄} (hI : ∀ y, (I y).toNat < 16384)
    {k : (Vec F S16 .i32) → Prog (TpuEff nD τ sig (Elt F) Λ₀ (thrG d L).2) α} :
    St d L T I f 49 ⊢ iprop((St d L T I f 53 -∗ wp frame (wpE (defs₀ (F := F)) 𝒱₀ (thrG d L) none) Set.univ (k ((vals (F := F) T I ![6, 80] inb_S16x128_S1x16_6_80 hI))) Q)
      -∗ wp frame (wpE (defs₀ (F := F)) 𝒱₀ (thrG d L) none) Set.univ
        (k1_part12 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (View.readAt (Elt F) (iS).view (Rect.unit (s := S16x128) ![6, 16] S1x16.size inb_S16x128_S1x16_6_16).toLoadRect I) >>= k) Q) := by
  rw [wp_bind]; simp only [k1_part12_eq_skeleton]; unfold k1_part12_skel
  iintro ⟨Ht, Hi, Hn⟩ Hk
  have hc : k1_chk50 (nums (F := F) I ![6, 16] inb_S16x128_S1x16_6_16) := (nums_lt (F := F) I ![6, 16] inb_S16x128_S1x16_6_16 hI); sl_exec; iapply (wp_looked d L T _ (nums_lt (F := F) I ![6, 16] inb_S16x128_S1x16_6_16 hI)) $$ Ht; iintro Ht; sl_exec
  ihave Hn := (pts_stored d L T I f ![6, 16] inb_S16x128_S1x16_6_16 49 hI rfl rfl) $$ Hn
  iapply (wp_look d L T (nums_lt (F := F) I ![6, 32] inb_S16x128_S1x16_6_32 hI) _ (nums_lt (F := F) I ![6, 32] inb_S16x128_S1x16_6_32 hI)) $$ Ht; iintro Ht; sl_exec
  ihave Hn := (pts_stored d L T I f ![6, 32] inb_S16x128_S1x16_6_32 50 hI rfl rfl) $$ Hn
  iapply (wp_look d L T (nums_lt (F := F) I ![6, 48] inb_S16x128_S1x16_6_48 hI) _ (nums_lt (F := F) I ![6, 48] inb_S16x128_S1x16_6_48 hI)) $$ Ht; iintro Ht; sl_exec
  ihave Hn := (pts_stored d L T I f ![6, 48] inb_S16x128_S1x16_6_48 51 hI rfl rfl) $$ Hn
  iapply (wp_look d L T (nums_lt (F := F) I ![6, 64] inb_S16x128_S1x16_6_64 hI) _ (nums_lt (F := F) I ![6, 64] inb_S16x128_S1x16_6_64 hI)) $$ Ht; iintro Ht; sl_exec
  ihave Hn := (pts_stored d L T I f ![6, 64] inb_S16x128_S1x16_6_64 52 hI rfl rfl) $$ Hn
  iapply (wp_look d L T (nums_lt (F := F) I ![6, 80] inb_S16x128_S1x16_6_80 hI) _ (nums_lt (F := F) I ![6, 80] inb_S16x128_S1x16_6_80 hI)) $$ Ht; iintro Ht; sl_exec
  iapply Hk
  isplitl [Ht]; iexact Ht
  isplitl [Hi]; iexact Hi
  iexact Hn

set_option maxHeartbeats 800000 in
theorem part13 {α : Type} {Q : α → sProp 𝕄} (hI : ∀ y, (I y).toNat < 16384)
    {k : (Vec F S16 .i32) → Prog (TpuEff nD τ sig (Elt F) Λ₀ (thrG d L).2) α} :
    St d L T I f 53 ⊢ iprop((St d L T I f 58 -∗ wp frame (wpE (defs₀ (F := F)) 𝒱₀ (thrG d L) none) Set.univ (k ((vals (F := F) T I ![7, 32] inb_S16x128_S1x16_7_32 hI))) Q)
      -∗ wp frame (wpE (defs₀ (F := F)) 𝒱₀ (thrG d L) none) Set.univ
        (k1_part13 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![6, 80] inb_S16x128_S1x16_6_80 hI) >>= k) Q) := by
  rw [wp_bind]; simp only [k1_part13_eq_skeleton]; unfold k1_part13_skel
  iintro ⟨Ht, Hi, Hn⟩ Hk
  sl_exec
  ihave Hn := (pts_stored d L T I f ![6, 80] inb_S16x128_S1x16_6_80 53 hI rfl rfl) $$ Hn
  iapply (wp_look d L T (nums_lt (F := F) I ![6, 96] inb_S16x128_S1x16_6_96 hI) _ (nums_lt (F := F) I ![6, 96] inb_S16x128_S1x16_6_96 hI)) $$ Ht; iintro Ht; sl_exec
  ihave Hn := (pts_stored d L T I f ![6, 96] inb_S16x128_S1x16_6_96 54 hI rfl rfl) $$ Hn
  iapply (wp_look d L T (nums_lt (F := F) I ![6, 112] inb_S16x128_S1x16_6_112 hI) _ (nums_lt (F := F) I ![6, 112] inb_S16x128_S1x16_6_112 hI)) $$ Ht; iintro Ht; sl_exec
  ihave Hn := (pts_stored d L T I f ![6, 112] inb_S16x128_S1x16_6_112 55 hI rfl rfl) $$ Hn
  iapply (wp_look d L T (nums_lt (F := F) I ![7, 0] inb_S16x128_S1x16_7_0 hI) _ (nums_lt (F := F) I ![7, 0] inb_S16x128_S1x16_7_0 hI)) $$ Ht; iintro Ht; sl_exec
  ihave Hn := (pts_stored d L T I f ![7, 0] inb_S16x128_S1x16_7_0 56 hI rfl rfl) $$ Hn
  iapply (wp_look d L T (nums_lt (F := F) I ![7, 16] inb_S16x128_S1x16_7_16 hI) _ (nums_lt (F := F) I ![7, 16] inb_S16x128_S1x16_7_16 hI)) $$ Ht; iintro Ht; sl_exec
  ihave Hn := (pts_stored d L T I f ![7, 16] inb_S16x128_S1x16_7_16 57 hI rfl rfl) $$ Hn
  iapply (wp_look_last d L T (nums_lt (F := F) I ![7, 32] inb_S16x128_S1x16_7_32 hI) _ (nums_lt (F := F) I ![7, 32] inb_S16x128_S1x16_7_32 hI)) $$ Ht; iintro Ht; sl_exec
  iapply Hk
  isplitl [Ht]; iexact Ht
  isplitl [Hi]; iexact Hi
  iexact Hn

set_option maxHeartbeats 800000 in
theorem part14 {α : Type} {Q : α → sProp 𝕄} (hI : ∀ y, (I y).toNat < 16384)
    {k : (PUnit) → Prog (TpuEff nD τ sig (Elt F) Λ₀ (thrG d L).2) α} :
    St d L T I f 58 ⊢ iprop((St d L T I f 63 -∗ wp frame (wpE (defs₀ (F := F)) 𝒱₀ (thrG d L) none) Set.univ (k ⟨⟩) Q)
      -∗ wp frame (wpE (defs₀ (F := F)) 𝒱₀ (thrG d L) none) Set.univ
        (k1_part14 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![7, 32] inb_S16x128_S1x16_7_32 hI) >>= k) Q) := by
  rw [wp_bind]; simp only [k1_part14_eq_skeleton]; unfold k1_part14_skel
  iintro ⟨Ht, Hi, Hn⟩ Hk
  sl_exec
  ihave Hn := (pts_stored d L T I f ![7, 32] inb_S16x128_S1x16_7_32 58 hI rfl rfl) $$ Hn
  iapply (wp_look d L T (nums_lt (F := F) I ![7, 48] inb_S16x128_S1x16_7_48 hI) _ (nums_lt (F := F) I ![7, 48] inb_S16x128_S1x16_7_48 hI)) $$ Ht; iintro Ht; sl_exec
  ihave Hn := (pts_stored d L T I f ![7, 48] inb_S16x128_S1x16_7_48 59 hI rfl rfl) $$ Hn
  iapply (wp_look d L T (nums_lt (F := F) I ![7, 64] inb_S16x128_S1x16_7_64 hI) _ (nums_lt (F := F) I ![7, 64] inb_S16x128_S1x16_7_64 hI)) $$ Ht; iintro Ht; sl_exec
  ihave Hn := (pts_stored d L T I f ![7, 64] inb_S16x128_S1x16_7_64 60 hI rfl rfl) $$ Hn
  iapply (wp_look d L T (nums_lt (F := F) I ![7, 80] inb_S16x128_S1x16_7_80 hI) _ (nums_lt (F := F) I ![7, 80] inb_S16x128_S1x16_7_80 hI)) $$ Ht; iintro Ht; sl_exec
  ihave Hn := (pts_stored d L T I f ![7, 80] inb_S16x128_S1x16_7_80 61 hI rfl rfl) $$ Hn
  iapply (wp_look d L T (nums_lt (F := F) I ![7, 96] inb_S16x128_S1x16_7_96 hI) _ (nums_lt (F := F) I ![7, 96] inb_S16x128_S1x16_7_96 hI)) $$ Ht; iintro Ht; sl_exec
  ihave Hn := (pts_stored d L T I f ![7, 96] inb_S16x128_S1x16_7_96 62 hI rfl rfl) $$ Hn
  iapply Hk
  isplitl [Ht]; iexact Ht
  isplitl [Hi]; iexact Hi
  iexact Hn

set_option maxHeartbeats 800000 in
theorem part15 {α : Type} {Q : α → sProp 𝕄} (hI : ∀ y, (I y).toNat < 16384)
    {k : (Vec F S16 .i32) → Prog (TpuEff nD τ sig (Elt F) Λ₀ (thrG d L).2) α} :
    St d L T I f 63 ⊢ iprop((St d L T I f 67 -∗ wp frame (wpE (defs₀ (F := F)) 𝒱₀ (thrG d L) none) Set.univ (k ((vals (F := F) T I ![8, 48] inb_S16x128_S1x16_8_48 hI))) Q)
      -∗ wp frame (wpE (defs₀ (F := F)) 𝒱₀ (thrG d L) none) Set.univ
        (k1_part15 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part15_eq_skeleton]; unfold k1_part15_skel
  iintro ⟨Ht, Hi, Hn⟩ Hk
  sl_exec
  iapply (wp_look d L T (nums_lt (F := F) I ![7, 112] inb_S16x128_S1x16_7_112 hI) _ (nums_lt (F := F) I ![7, 112] inb_S16x128_S1x16_7_112 hI)) $$ Ht; iintro Ht; sl_exec
  ihave Hn := (pts_stored d L T I f ![7, 112] inb_S16x128_S1x16_7_112 63 hI rfl rfl) $$ Hn
  iapply (wp_look d L T (nums_lt (F := F) I ![8, 0] inb_S16x128_S1x16_8_0 hI) _ (nums_lt (F := F) I ![8, 0] inb_S16x128_S1x16_8_0 hI)) $$ Ht; iintro Ht; sl_exec
  ihave Hn := (pts_stored d L T I f ![8, 0] inb_S16x128_S1x16_8_0 64 hI rfl rfl) $$ Hn
  iapply (wp_look d L T (nums_lt (F := F) I ![8, 16] inb_S16x128_S1x16_8_16 hI) _ (nums_lt (F := F) I ![8, 16] inb_S16x128_S1x16_8_16 hI)) $$ Ht; iintro Ht; sl_exec
  ihave Hn := (pts_stored d L T I f ![8, 16] inb_S16x128_S1x16_8_16 65 hI rfl rfl) $$ Hn
  iapply (wp_look d L T (nums_lt (F := F) I ![8, 32] inb_S16x128_S1x16_8_32 hI) _ (nums_lt (F := F) I ![8, 32] inb_S16x128_S1x16_8_32 hI)) $$ Ht; iintro Ht; sl_exec
  ihave Hn := (pts_stored d L T I f ![8, 32] inb_S16x128_S1x16_8_32 66 hI rfl rfl) $$ Hn
  iapply (wp_look d L T (nums_lt (F := F) I ![8, 48] inb_S16x128_S1x16_8_48 hI) _ (nums_lt (F := F) I ![8, 48] inb_S16x128_S1x16_8_48 hI)) $$ Ht; iintro Ht; sl_exec
  iapply Hk
  isplitl [Ht]; iexact Ht
  isplitl [Hi]; iexact Hi
  iexact Hn

set_option maxHeartbeats 800000 in
theorem part16 {α : Type} {Q : α → sProp 𝕄} (hI : ∀ y, (I y).toNat < 16384)
    {k : (Vec F S16 .i32) → Prog (TpuEff nD τ sig (Elt F) Λ₀ (thrG d L).2) α} :
    St d L T I f 67 ⊢ iprop((St d L T I f 72 -∗ wp frame (wpE (defs₀ (F := F)) 𝒱₀ (thrG d L) none) Set.univ (k (nums (F := F) I ![9, 0] inb_S16x128_S1x16_9_0)) Q)
      -∗ wp frame (wpE (defs₀ (F := F)) 𝒱₀ (thrG d L) none) Set.univ
        (k1_part16 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![8, 48] inb_S16x128_S1x16_8_48 hI) >>= k) Q) := by
  rw [wp_bind]; simp only [k1_part16_eq_skeleton]; unfold k1_part16_skel
  iintro ⟨Ht, Hi, Hn⟩ Hk
  sl_exec
  ihave Hn := (pts_stored d L T I f ![8, 48] inb_S16x128_S1x16_8_48 67 hI rfl rfl) $$ Hn
  iapply (wp_look d L T (nums_lt (F := F) I ![8, 64] inb_S16x128_S1x16_8_64 hI) _ (nums_lt (F := F) I ![8, 64] inb_S16x128_S1x16_8_64 hI)) $$ Ht; iintro Ht; sl_exec
  ihave Hn := (pts_stored d L T I f ![8, 64] inb_S16x128_S1x16_8_64 68 hI rfl rfl) $$ Hn
  iapply (wp_look d L T (nums_lt (F := F) I ![8, 80] inb_S16x128_S1x16_8_80 hI) _ (nums_lt (F := F) I ![8, 80] inb_S16x128_S1x16_8_80 hI)) $$ Ht; iintro Ht; sl_exec
  ihave Hn := (pts_stored d L T I f ![8, 80] inb_S16x128_S1x16_8_80 69 hI rfl rfl) $$ Hn
  iapply (wp_look d L T (nums_lt (F := F) I ![8, 96] inb_S16x128_S1x16_8_96 hI) _ (nums_lt (F := F) I ![8, 96] inb_S16x128_S1x16_8_96 hI)) $$ Ht; iintro Ht; sl_exec
  ihave Hn := (pts_stored d L T I f ![8, 96] inb_S16x128_S1x16_8_96 70 hI rfl rfl) $$ Hn
  iapply (wp_look d L T (nums_lt (F := F) I ![8, 112] inb_S16x128_S1x16_8_112 hI) _ (nums_lt (F := F) I ![8, 112] inb_S16x128_S1x16_8_112 hI)) $$ Ht; iintro Ht; sl_exec
  ihave Hn := (pts_stored d L T I f ![8, 112] inb_S16x128_S1x16_8_112 71 hI rfl rfl) $$ Hn
  iapply Hk
  isplitl [Ht]; iexact Ht
  isplitl [Hi]; iexact Hi
  iexact Hn

set_option maxHeartbeats 800000 in
theorem part17 {α : Type} {Q : α → sProp 𝕄} (hI : ∀ y, (I y).toNat < 16384)
    {k : (PUnit) → Prog (TpuEff nD τ sig (Elt F) Λ₀ (thrG d L).2) α} :
    St d L T I f 72 ⊢ iprop((St d L T I f 77 -∗ wp frame (wpE (defs₀ (F := F)) 𝒱₀ (thrG d L) none) Set.univ (k ⟨⟩) Q)
      -∗ wp frame (wpE (defs₀ (F := F)) 𝒱₀ (thrG d L) none) Set.univ
        (k1_part17 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (nums (F := F) I ![9, 0] inb_S16x128_S1x16_9_0) >>= k) Q) := by
  rw [wp_bind]; simp only [k1_part17_eq_skeleton]; unfold k1_part17_skel
  iintro ⟨Ht, Hi, Hn⟩ Hk
  have hc : k1_chk73 (nums (F := F) I ![9, 0] inb_S16x128_S1x16_9_0) := (nums_lt (F := F) I ![9, 0] inb_S16x128_S1x16_9_0 hI); sl_exec; iapply (wp_looked d L T _ (nums_lt (F := F) I ![9, 0] inb_S16x128_S1x16_9_0 hI)) $$ Ht; iintro Ht; sl_exec
  ihave Hn := (pts_stored d L T I f ![9, 0] inb_S16x128_S1x16_9_0 72 hI rfl rfl) $$ Hn
  iapply (wp_look d L T (nums_lt (F := F) I ![9, 16] inb_S16x128_S1x16_9_16 hI) _ (nums_lt (F := F) I ![9, 16] inb_S16x128_S1x16_9_16 hI)) $$ Ht; iintro Ht; sl_exec
  ihave Hn := (pts_stored d L T I f ![9, 16] inb_S16x128_S1x16_9_16 73 hI rfl rfl) $$ Hn
  iapply (wp_look d L T (nums_lt (F := F) I ![9, 32] inb_S16x128_S1x16_9_32 hI) _ (nums_lt (F := F) I ![9, 32] inb_S16x128_S1x16_9_32 hI)) $$ Ht; iintro Ht; sl_exec
  ihave Hn := (pts_stored d L T I f ![9, 32] inb_S16x128_S1x16_9_32 74 hI rfl rfl) $$ Hn
  iapply (wp_look d L T (nums_lt (F := F) I ![9, 48] inb_S16x128_S1x16_9_48 hI) _ (nums_lt (F := F) I ![9, 48] inb_S16x128_S1x16_9_48 hI)) $$ Ht; iintro Ht; sl_exec
  ihave Hn := (pts_stored d L T I f ![9, 48] inb_S16x128_S1x16_9_48 75 hI rfl rfl) $$ Hn
  iapply (wp_look d L T (nums_lt (F := F) I ![9, 64] inb_S16x128_S1x16_9_64 hI) _ (nums_lt (F := F) I ![9, 64] inb_S16x128_S1x16_9_64 hI)) $$ Ht; iintro Ht; sl_exec
  ihave Hn := (pts_stored d L T I f ![9, 64] inb_S16x128_S1x16_9_64 76 hI rfl rfl) $$ Hn
  iapply Hk
  isplitl [Ht]; iexact Ht
  isplitl [Hi]; iexact Hi
  iexact Hn

set_option maxHeartbeats 800000 in
theorem part18 {α : Type} {Q : α → sProp 𝕄} (hI : ∀ y, (I y).toNat < 16384)
    {k : (Σ' (v410 : Vec F S16 .i32), BitVec 32) → Prog (TpuEff nD τ sig (Elt F) Λ₀ (thrG d L).2) α} :
    St d L T I f 77 ⊢ iprop((St d L T I f 81 -∗ wp frame (wpE (defs₀ (F := F)) 𝒱₀ (thrG d L) none) Set.univ (k ⟨(vals (F := F) T I ![10, 16] inb_S16x128_S1x16_10_16 hI), 10#32⟩) Q)
      -∗ wp frame (wpE (defs₀ (F := F)) 𝒱₀ (thrG d L) none) Set.univ
        (k1_part18 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part18_eq_skeleton]; unfold k1_part18_skel
  iintro ⟨Ht, Hi, Hn⟩ Hk
  sl_exec
  iapply (wp_look d L T (nums_lt (F := F) I ![9, 80] inb_S16x128_S1x16_9_80 hI) _ (nums_lt (F := F) I ![9, 80] inb_S16x128_S1x16_9_80 hI)) $$ Ht; iintro Ht; sl_exec
  ihave Hn := (pts_stored d L T I f ![9, 80] inb_S16x128_S1x16_9_80 77 hI rfl rfl) $$ Hn
  iapply (wp_look d L T (nums_lt (F := F) I ![9, 96] inb_S16x128_S1x16_9_96 hI) _ (nums_lt (F := F) I ![9, 96] inb_S16x128_S1x16_9_96 hI)) $$ Ht; iintro Ht; sl_exec
  ihave Hn := (pts_stored d L T I f ![9, 96] inb_S16x128_S1x16_9_96 78 hI rfl rfl) $$ Hn
  iapply (wp_look d L T (nums_lt (F := F) I ![9, 112] inb_S16x128_S1x16_9_112 hI) _ (nums_lt (F := F) I ![9, 112] inb_S16x128_S1x16_9_112 hI)) $$ Ht; iintro Ht; sl_exec
  ihave Hn := (pts_stored d L T I f ![9, 112] inb_S16x128_S1x16_9_112 79 hI rfl rfl) $$ Hn
  iapply (wp_look d L T (nums_lt (F := F) I ![10, 0] inb_S16x128_S1x16_10_0 hI) _ (nums_lt (F := F) I ![10, 0] inb_S16x128_S1x16_10_0 hI)) $$ Ht; iintro Ht; sl_exec
  ihave Hn := (pts_stored d L T I f ![10, 0] inb_S16x128_S1x16_10_0 80 hI rfl rfl) $$ Hn
  iapply (wp_look d L T (nums_lt (F := F) I ![10, 16] inb_S16x128_S1x16_10_16 hI) _ (nums_lt (F := F) I ![10, 16] inb_S16x128_S1x16_10_16 hI)) $$ Ht; iintro Ht; sl_exec
  iapply Hk
  isplitl [Ht]; iexact Ht
  isplitl [Hi]; iexact Hi
  iexact Hn

set_option maxHeartbeats 800000 in
theorem part19 {α : Type} {Q : α → sProp 𝕄} (hI : ∀ y, (I y).toNat < 16384) (c10_i32_308 : BitVec 32)
    {k : (PUnit) → Prog (TpuEff nD τ sig (Elt F) Λ₀ (thrG d L).2) α} :
    St d L T I f 81 ⊢ iprop((St d L T I f 86 -∗ wp frame (wpE (defs₀ (F := F)) 𝒱₀ (thrG d L) none) Set.univ (k ⟨⟩) Q)
      -∗ wp frame (wpE (defs₀ (F := F)) 𝒱₀ (thrG d L) none) Set.univ
        (k1_part19 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![10, 16] inb_S16x128_S1x16_10_16 hI) c10_i32_308 >>= k) Q) := by
  rw [wp_bind]; simp only [k1_part19_eq_skeleton]; unfold k1_part19_skel
  iintro ⟨Ht, Hi, Hn⟩ Hk
  sl_exec
  ihave Hn := (pts_stored d L T I f ![10, 16] inb_S16x128_S1x16_10_16 81 hI rfl rfl) $$ Hn
  iapply (wp_look d L T (nums_lt (F := F) I ![10, 32] inb_S16x128_S1x16_10_32 hI) _ (nums_lt (F := F) I ![10, 32] inb_S16x128_S1x16_10_32 hI)) $$ Ht; iintro Ht; sl_exec
  ihave Hn := (pts_stored d L T I f ![10, 32] inb_S16x128_S1x16_10_32 82 hI rfl rfl) $$ Hn
  iapply (wp_look d L T (nums_lt (F := F) I ![10, 48] inb_S16x128_S1x16_10_48 hI) _ (nums_lt (F := F) I ![10, 48] inb_S16x128_S1x16_10_48 hI)) $$ Ht; iintro Ht; sl_exec
  ihave Hn := (pts_stored d L T I f ![10, 48] inb_S16x128_S1x16_10_48 83 hI rfl rfl) $$ Hn
  iapply (wp_look d L T (nums_lt (F := F) I ![10, 64] inb_S16x128_S1x16_10_64 hI) _ (nums_lt (F := F) I ![10, 64] inb_S16x128_S1x16_10_64 hI)) $$ Ht; iintro Ht; sl_exec
  ihave Hn := (pts_stored d L T I f ![10, 64] inb_S16x128_S1x16_10_64 84 hI rfl rfl) $$ Hn
  iapply (wp_look d L T (nums_lt (F := F) I ![10, 80] inb_S16x128_S1x16_10_80 hI) _ (nums_lt (F := F) I ![10, 80] inb_S16x128_S1x16_10_80 hI)) $$ Ht; iintro Ht; sl_exec
  ihave Hn := (pts_stored d L T I f ![10, 80] inb_S16x128_S1x16_10_80 85 hI rfl rfl) $$ Hn
  iapply Hk
  isplitl [Ht]; iexact Ht
  isplitl [Hi]; iexact Hi
  iexact Hn

set_option maxHeartbeats 800000 in
theorem part20 {α : Type} {Q : α → sProp 𝕄} (hI : ∀ y, (I y).toNat < 16384)
    {k : (Σ' (v455 : Vec F S16 .i32), Vec F S1x16 .i32) → Prog (TpuEff nD τ sig (Elt F) Λ₀ (thrG d L).2) α} :
    St d L T I f 86 ⊢ iprop((St d L T I f 90 -∗ wp frame (wpE (defs₀ (F := F)) 𝒱₀ (thrG d L) none) Set.univ (k ⟨(vals (F := F) T I ![11, 32] inb_S16x128_S1x16_11_32 hI), (View.readAt (Elt F) (nS).view (Rect.unit (s := S16x128) ![11, 32] S1x16.size inb_S16x128_S1x16_11_32).toLoadRect (found T I f 90))⟩) Q)
      -∗ wp frame (wpE (defs₀ (F := F)) 𝒱₀ (thrG d L) none) Set.univ
        (k1_part20 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part20_eq_skeleton]; unfold k1_part20_skel
  iintro ⟨Ht, Hi, Hn⟩ Hk
  sl_exec
  iapply (wp_look d L T (nums_lt (F := F) I ![10, 96] inb_S16x128_S1x16_10_96 hI) _ (nums_lt (F := F) I ![10, 96] inb_S16x128_S1x16_10_96 hI)) $$ Ht; iintro Ht; sl_exec
  ihave Hn := (pts_stored d L T I f ![10, 96] inb_S16x128_S1x16_10_96 86 hI rfl rfl) $$ Hn
  iapply (wp_look d L T (nums_lt (F := F) I ![10, 112] inb_S16x128_S1x16_10_112 hI) _ (nums_lt (F := F) I ![10, 112] inb_S16x128_S1x16_10_112 hI)) $$ Ht; iintro Ht; sl_exec
  ihave Hn := (pts_stored d L T I f ![10, 112] inb_S16x128_S1x16_10_112 87 hI rfl rfl) $$ Hn
  iapply (wp_look d L T (nums_lt (F := F) I ![11, 0] inb_S16x128_S1x16_11_0 hI) _ (nums_lt (F := F) I ![11, 0] inb_S16x128_S1x16_11_0 hI)) $$ Ht; iintro Ht; sl_exec
  ihave Hn := (pts_stored d L T I f ![11, 0] inb_S16x128_S1x16_11_0 88 hI rfl rfl) $$ Hn
  iapply (wp_look d L T (nums_lt (F := F) I ![11, 16] inb_S16x128_S1x16_11_16 hI) _ (nums_lt (F := F) I ![11, 16] inb_S16x128_S1x16_11_16 hI)) $$ Ht; iintro Ht; sl_exec
  ihave Hn := (pts_stored d L T I f ![11, 16] inb_S16x128_S1x16_11_16 89 hI rfl rfl) $$ Hn
  iapply (wp_look d L T (nums_lt (F := F) I ![11, 32] inb_S16x128_S1x16_11_32 hI) _ (nums_lt (F := F) I ![11, 32] inb_S16x128_S1x16_11_32 hI)) $$ Ht; iintro Ht; sl_exec
  iapply Hk
  isplitl [Ht]; iexact Ht
  isplitl [Hi]; iexact Hi
  iexact Hn

end Lookup

end Cert.Proof.Calls

end
-- ==== Proof.LookupC.lean ====
/-
    The gathering call's lookups, last part.
-/
module

public import proofs.«01_k».proof.Proof.LookupB

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Lookup

variable [FloatOps F] (d : Dev nD) (L : grid1.Coords)
variable (T : IVec S16384 32) (I f : IVec S16x128 32)

set_option maxHeartbeats 800000 in
theorem part21 {α : Type} {Q : α → sProp 𝕄} (hI : ∀ y, (I y).toNat < 16384) (v457_ld : Vec F S1x16 .i32)
    {k : (Σ' (v479 : Vec F S16 .i32), k1_chk96 v479) → Prog (TpuEff nD τ sig (Elt F) Λ₀ (thrG d L).2) α} :
    St d L T I f 90 ⊢ iprop((St d L T I f 95 -∗ wp frame (wpE (defs₀ (F := F)) 𝒱₀ (thrG d L) none) Set.univ (k ⟨(nums (F := F) I ![11, 112] inb_S16x128_S1x16_11_112), (nums_lt (F := F) I ![11, 112] inb_S16x128_S1x16_11_112 hI)⟩) Q)
      -∗ wp frame (wpE (defs₀ (F := F)) 𝒱₀ (thrG d L) none) Set.univ
        (k1_part21 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![11, 32] inb_S16x128_S1x16_11_32 hI) v457_ld >>= k) Q) := by
  rw [wp_bind]; simp only [k1_part21_eq_skeleton]; unfold k1_part21_skel
  iintro ⟨Ht, Hi, Hn⟩ Hk
  sl_exec
  ihave Hn := (pts_stored d L T I f ![11, 32] inb_S16x128_S1x16_11_32 90 hI rfl rfl) $$ Hn
  iapply (wp_look d L T (nums_lt (F := F) I ![11, 48] inb_S16x128_S1x16_11_48 hI) _ (nums_lt (F := F) I ![11, 48] inb_S16x128_S1x16_11_48 hI)) $$ Ht; iintro Ht; sl_exec
  ihave Hn := (pts_stored d L T I f ![11, 48] inb_S16x128_S1x16_11_48 91 hI rfl rfl) $$ Hn
  iapply (wp_look d L T (nums_lt (F := F) I ![11, 64] inb_S16x128_S1x16_11_64 hI) _ (nums_lt (F := F) I ![11, 64] inb_S16x128_S1x16_11_64 hI)) $$ Ht; iintro Ht; sl_exec
  ihave Hn := (pts_stored d L T I f ![11, 64] inb_S16x128_S1x16_11_64 92 hI rfl rfl) $$ Hn
  iapply (wp_look d L T (nums_lt (F := F) I ![11, 80] inb_S16x128_S1x16_11_80 hI) _ (nums_lt (F := F) I ![11, 80] inb_S16x128_S1x16_11_80 hI)) $$ Ht; iintro Ht; sl_exec
  ihave Hn := (pts_stored d L T I f ![11, 80] inb_S16x128_S1x16_11_80 93 hI rfl rfl) $$ Hn
  iapply (wp_look d L T (nums_lt (F := F) I ![11, 96] inb_S16x128_S1x16_11_96 hI) _ (nums_lt (F := F) I ![11, 96] inb_S16x128_S1x16_11_96 hI)) $$ Ht; iintro Ht; sl_exec
  ihave Hn := (pts_stored d L T I f ![11, 96] inb_S16x128_S1x16_11_96 94 hI rfl rfl) $$ Hn
  iapply (wp_check d L (nums_lt (F := F) I ![11, 112] inb_S16x128_S1x16_11_112 hI)); sl_exec
  iapply Hk
  isplitl [Ht]; iexact Ht
  isplitl [Hi]; iexact Hi
  iexact Hn

set_option maxHeartbeats 800000 in
theorem part22 {α : Type} {Q : α → sProp 𝕄} (hI : ∀ y, (I y).toNat < 16384) (k1_hw96 : k1_chk96 (nums (F := F) I ![11, 112] inb_S16x128_S1x16_11_112))
    {k : (BitVec 32) → Prog (TpuEff nD τ sig (Elt F) Λ₀ (thrG d L).2) α} :
    St d L T I f 95 ⊢ iprop((St d L T I f 100 -∗ wp frame (wpE (defs₀ (F := F)) 𝒱₀ (thrG d L) none) Set.univ (k (12#32)) Q)
      -∗ wp frame (wpE (defs₀ (F := F)) 𝒱₀ (thrG d L) none) Set.univ
        (k1_part22 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (nums (F := F) I ![11, 112] inb_S16x128_S1x16_11_112) k1_hw96 >>= k) Q) := by
  rw [wp_bind]; simp only [k1_part22_eq_skeleton]; unfold k1_part22_skel
  iintro ⟨Ht, Hi, Hn⟩ Hk
  iapply (wp_looked d L T _ (nums_lt (F := F) I ![11, 112] inb_S16x128_S1x16_11_112 hI)) $$ Ht; iintro Ht; sl_exec
  ihave Hn := (pts_stored d L T I f ![11, 112] inb_S16x128_S1x16_11_112 95 hI rfl rfl) $$ Hn
  iapply (wp_look d L T (nums_lt (F := F) I ![12, 0] inb_S16x128_S1x16_12_0 hI) _ (nums_lt (F := F) I ![12, 0] inb_S16x128_S1x16_12_0 hI)) $$ Ht; iintro Ht; sl_exec
  ihave Hn := (pts_stored d L T I f ![12, 0] inb_S16x128_S1x16_12_0 96 hI rfl rfl) $$ Hn
  iapply (wp_look d L T (nums_lt (F := F) I ![12, 16] inb_S16x128_S1x16_12_16 hI) _ (nums_lt (F := F) I ![12, 16] inb_S16x128_S1x16_12_16 hI)) $$ Ht; iintro Ht; sl_exec
  ihave Hn := (pts_stored d L T I f ![12, 16] inb_S16x128_S1x16_12_16 97 hI rfl rfl) $$ Hn
  iapply (wp_look d L T (nums_lt (F := F) I ![12, 32] inb_S16x128_S1x16_12_32 hI) _ (nums_lt (F := F) I ![12, 32] inb_S16x128_S1x16_12_32 hI)) $$ Ht; iintro Ht; sl_exec
  ihave Hn := (pts_stored d L T I f ![12, 32] inb_S16x128_S1x16_12_32 98 hI rfl rfl) $$ Hn
  iapply (wp_look d L T (nums_lt (F := F) I ![12, 48] inb_S16x128_S1x16_12_48 hI) _ (nums_lt (F := F) I ![12, 48] inb_S16x128_S1x16_12_48 hI)) $$ Ht; iintro Ht; sl_exec
  ihave Hn := (pts_stored d L T I f ![12, 48] inb_S16x128_S1x16_12_48 99 hI rfl rfl) $$ Hn
  iapply Hk
  isplitl [Ht]; iexact Ht
  isplitl [Hi]; iexact Hi
  iexact Hn

set_option maxHeartbeats 800000 in
theorem part23 {α : Type} {Q : α → sProp 𝕄} (hI : ∀ y, (I y).toNat < 16384) (c12_i32_380 : BitVec 32)
    {k : (Vec F S16 .i32) → Prog (TpuEff nD τ sig (Elt F) Λ₀ (thrG d L).2) α} :
    St d L T I f 100 ⊢ iprop((St d L T I f 104 -∗ wp frame (wpE (defs₀ (F := F)) 𝒱₀ (thrG d L) none) Set.univ (k ((vals (F := F) T I ![13, 0] inb_S16x128_S1x16_13_0 hI))) Q)
      -∗ wp frame (wpE (defs₀ (F := F)) 𝒱₀ (thrG d L) none) Set.univ
        (k1_part23 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 c12_i32_380 >>= k) Q) := by
  rw [wp_bind]; simp only [k1_part23_eq_skeleton]; unfold k1_part23_skel
  iintro ⟨Ht, Hi, Hn⟩ Hk
  sl_exec
  iapply (wp_look d L T (nums_lt (F := F) I ![12, 64] inb_S16x128_S1x16_12_64 hI) _ (nums_lt (F := F) I ![12, 64] inb_S16x128_S1x16_12_64 hI)) $$ Ht; iintro Ht; sl_exec
  ihave Hn := (pts_stored d L T I f ![12, 64] inb_S16x128_S1x16_12_64 100 hI rfl rfl) $$ Hn
  iapply (wp_look d L T (nums_lt (F := F) I ![12, 80] inb_S16x128_S1x16_12_80 hI) _ (nums_lt (F := F) I ![12, 80] inb_S16x128_S1x16_12_80 hI)) $$ Ht; iintro Ht; sl_exec
  ihave Hn := (pts_stored d L T I f ![12, 80] inb_S16x128_S1x16_12_80 101 hI rfl rfl) $$ Hn
  iapply (wp_look d L T (nums_lt (F := F) I ![12, 96] inb_S16x128_S1x16_12_96 hI) _ (nums_lt (F := F) I ![12, 96] inb_S16x128_S1x16_12_96 hI)) $$ Ht; iintro Ht; sl_exec
  ihave Hn := (pts_stored d L T I f ![12, 96] inb_S16x128_S1x16_12_96 102 hI rfl rfl) $$ Hn
  iapply (wp_look d L T (nums_lt (F := F) I ![12, 112] inb_S16x128_S1x16_12_112 hI) _ (nums_lt (F := F) I ![12, 112] inb_S16x128_S1x16_12_112 hI)) $$ Ht; iintro Ht; sl_exec
  ihave Hn := (pts_stored d L T I f ![12, 112] inb_S16x128_S1x16_12_112 103 hI rfl rfl) $$ Hn
  iapply (wp_look d L T (nums_lt (F := F) I ![13, 0] inb_S16x128_S1x16_13_0 hI) _ (nums_lt (F := F) I ![13, 0] inb_S16x128_S1x16_13_0 hI)) $$ Ht; iintro Ht; sl_exec
  iapply Hk
  isplitl [Ht]; iexact Ht
  isplitl [Hi]; iexact Hi
  iexact Hn

set_option maxHeartbeats 800000 in
theorem part24 {α : Type} {Q : α → sProp 𝕄} (hI : ∀ y, (I y).toNat < 16384)
    {k : (Vec F S1x16 .i32) → Prog (TpuEff nD τ sig (Elt F) Λ₀ (thrG d L).2) α} :
    St d L T I f 104 ⊢ iprop((St d L T I f 109 -∗ wp frame (wpE (defs₀ (F := F)) 𝒱₀ (thrG d L) none) Set.univ (k ((View.readAt (Elt F) (iS).view (Rect.unit (s := S16x128) ![13, 80] S1x16.size inb_S16x128_S1x16_13_80).toLoadRect I))) Q)
      -∗ wp frame (wpE (defs₀ (F := F)) 𝒱₀ (thrG d L) none) Set.univ
        (k1_part24 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![13, 0] inb_S16x128_S1x16_13_0 hI) >>= k) Q) := by
  rw [wp_bind]; simp only [k1_part24_eq_skeleton]; unfold k1_part24_skel
  iintro ⟨Ht, Hi, Hn⟩ Hk
  sl_exec
  ihave Hn := (pts_stored d L T I f ![13, 0] inb_S16x128_S1x16_13_0 104 hI rfl rfl) $$ Hn
  iapply (wp_look d L T (nums_lt (F := F) I ![13, 16] inb_S16x128_S1x16_13_16 hI) _ (nums_lt (F := F) I ![13, 16] inb_S16x128_S1x16_13_16 hI)) $$ Ht; iintro Ht; sl_exec
  ihave Hn := (pts_stored d L T I f ![13, 16] inb_S16x128_S1x16_13_16 105 hI rfl rfl) $$ Hn
  iapply (wp_look d L T (nums_lt (F := F) I ![13, 32] inb_S16x128_S1x16_13_32 hI) _ (nums_lt (F := F) I ![13, 32] inb_S16x128_S1x16_13_32 hI)) $$ Ht; iintro Ht; sl_exec
  ihave Hn := (pts_stored d L T I f ![13, 32] inb_S16x128_S1x16_13_32 106 hI rfl rfl) $$ Hn
  iapply (wp_look d L T (nums_lt (F := F) I ![13, 48] inb_S16x128_S1x16_13_48 hI) _ (nums_lt (F := F) I ![13, 48] inb_S16x128_S1x16_13_48 hI)) $$ Ht; iintro Ht; sl_exec
  ihave Hn := (pts_stored d L T I f ![13, 48] inb_S16x128_S1x16_13_48 107 hI rfl rfl) $$ Hn
  iapply (wp_look d L T (nums_lt (F := F) I ![13, 64] inb_S16x128_S1x16_13_64 hI) _ (nums_lt (F := F) I ![13, 64] inb_S16x128_S1x16_13_64 hI)) $$ Ht; iintro Ht; sl_exec
  ihave Hn := (pts_stored d L T I f ![13, 64] inb_S16x128_S1x16_13_64 108 hI rfl rfl) $$ Hn
  iapply Hk
  isplitl [Ht]; iexact Ht
  isplitl [Hi]; iexact Hi
  iexact Hn

set_option maxHeartbeats 800000 in
theorem part25 {α : Type} {Q : α → sProp 𝕄} (hI : ∀ y, (I y).toNat < 16384)
    {k : (Vec F S16 .i32) → Prog (TpuEff nD τ sig (Elt F) Λ₀ (thrG d L).2) α} :
    St d L T I f 109 ⊢ iprop((St d L T I f 113 -∗ wp frame (wpE (defs₀ (F := F)) 𝒱₀ (thrG d L) none) Set.univ (k ((vals (F := F) T I ![14, 16] inb_S16x128_S1x16_14_16 hI))) Q)
      -∗ wp frame (wpE (defs₀ (F := F)) 𝒱₀ (thrG d L) none) Set.univ
        (k1_part25 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (View.readAt (Elt F) (iS).view (Rect.unit (s := S16x128) ![13, 80] S1x16.size inb_S16x128_S1x16_13_80).toLoadRect I) >>= k) Q) := by
  rw [wp_bind]; simp only [k1_part25_eq_skeleton]; unfold k1_part25_skel
  iintro ⟨Ht, Hi, Hn⟩ Hk
  have hc : k1_chk110 (nums (F := F) I ![13, 80] inb_S16x128_S1x16_13_80) := (nums_lt (F := F) I ![13, 80] inb_S16x128_S1x16_13_80 hI); sl_exec; iapply (wp_looked d L T _ (nums_lt (F := F) I ![13, 80] inb_S16x128_S1x16_13_80 hI)) $$ Ht; iintro Ht; sl_exec
  ihave Hn := (pts_stored d L T I f ![13, 80] inb_S16x128_S1x16_13_80 109 hI rfl rfl) $$ Hn
  iapply (wp_look d L T (nums_lt (F := F) I ![13, 96] inb_S16x128_S1x16_13_96 hI) _ (nums_lt (F := F) I ![13, 96] inb_S16x128_S1x16_13_96 hI)) $$ Ht; iintro Ht; sl_exec
  ihave Hn := (pts_stored d L T I f ![13, 96] inb_S16x128_S1x16_13_96 110 hI rfl rfl) $$ Hn
  iapply (wp_look d L T (nums_lt (F := F) I ![13, 112] inb_S16x128_S1x16_13_112 hI) _ (nums_lt (F := F) I ![13, 112] inb_S16x128_S1x16_13_112 hI)) $$ Ht; iintro Ht; sl_exec
  ihave Hn := (pts_stored d L T I f ![13, 112] inb_S16x128_S1x16_13_112 111 hI rfl rfl) $$ Hn
  iapply (wp_look d L T (nums_lt (F := F) I ![14, 0] inb_S16x128_S1x16_14_0 hI) _ (nums_lt (F := F) I ![14, 0] inb_S16x128_S1x16_14_0 hI)) $$ Ht; iintro Ht; sl_exec
  ihave Hn := (pts_stored d L T I f ![14, 0] inb_S16x128_S1x16_14_0 112 hI rfl rfl) $$ Hn
  iapply (wp_look d L T (nums_lt (F := F) I ![14, 16] inb_S16x128_S1x16_14_16 hI) _ (nums_lt (F := F) I ![14, 16] inb_S16x128_S1x16_14_16 hI)) $$ Ht; iintro Ht; sl_exec
  iapply Hk
  isplitl [Ht]; iexact Ht
  isplitl [Hi]; iexact Hi
  iexact Hn

set_option maxHeartbeats 800000 in
theorem part26 {α : Type} {Q : α → sProp 𝕄} (hI : ∀ y, (I y).toNat < 16384)
    {k : (Vec F S16 .i32) → Prog (TpuEff nD τ sig (Elt F) Λ₀ (thrG d L).2) α} :
    St d L T I f 113 ⊢ iprop((St d L T I f 118 -∗ wp frame (wpE (defs₀ (F := F)) 𝒱₀ (thrG d L) none) Set.univ (k ((vals (F := F) T I ![14, 96] inb_S16x128_S1x16_14_96 hI))) Q)
      -∗ wp frame (wpE (defs₀ (F := F)) 𝒱₀ (thrG d L) none) Set.univ
        (k1_part26 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![14, 16] inb_S16x128_S1x16_14_16 hI) >>= k) Q) := by
  rw [wp_bind]; simp only [k1_part26_eq_skeleton]; unfold k1_part26_skel
  iintro ⟨Ht, Hi, Hn⟩ Hk
  sl_exec
  ihave Hn := (pts_stored d L T I f ![14, 16] inb_S16x128_S1x16_14_16 113 hI rfl rfl) $$ Hn
  iapply (wp_look d L T (nums_lt (F := F) I ![14, 32] inb_S16x128_S1x16_14_32 hI) _ (nums_lt (F := F) I ![14, 32] inb_S16x128_S1x16_14_32 hI)) $$ Ht; iintro Ht; sl_exec
  ihave Hn := (pts_stored d L T I f ![14, 32] inb_S16x128_S1x16_14_32 114 hI rfl rfl) $$ Hn
  iapply (wp_look d L T (nums_lt (F := F) I ![14, 48] inb_S16x128_S1x16_14_48 hI) _ (nums_lt (F := F) I ![14, 48] inb_S16x128_S1x16_14_48 hI)) $$ Ht; iintro Ht; sl_exec
  ihave Hn := (pts_stored d L T I f ![14, 48] inb_S16x128_S1x16_14_48 115 hI rfl rfl) $$ Hn
  iapply (wp_look d L T (nums_lt (F := F) I ![14, 64] inb_S16x128_S1x16_14_64 hI) _ (nums_lt (F := F) I ![14, 64] inb_S16x128_S1x16_14_64 hI)) $$ Ht; iintro Ht; sl_exec
  ihave Hn := (pts_stored d L T I f ![14, 64] inb_S16x128_S1x16_14_64 116 hI rfl rfl) $$ Hn
  iapply (wp_look d L T (nums_lt (F := F) I ![14, 80] inb_S16x128_S1x16_14_80 hI) _ (nums_lt (F := F) I ![14, 80] inb_S16x128_S1x16_14_80 hI)) $$ Ht; iintro Ht; sl_exec
  ihave Hn := (pts_stored d L T I f ![14, 80] inb_S16x128_S1x16_14_80 117 hI rfl rfl) $$ Hn
  iapply (wp_look_last d L T (nums_lt (F := F) I ![14, 96] inb_S16x128_S1x16_14_96 hI) _ (nums_lt (F := F) I ![14, 96] inb_S16x128_S1x16_14_96 hI)) $$ Ht; iintro Ht; sl_exec
  iapply Hk
  isplitl [Ht]; iexact Ht
  isplitl [Hi]; iexact Hi
  iexact Hn

set_option maxHeartbeats 800000 in
theorem part27 {α : Type} {Q : α → sProp 𝕄} (hI : ∀ y, (I y).toNat < 16384)
    {k : (PUnit) → Prog (TpuEff nD τ sig (Elt F) Λ₀ (thrG d L).2) α} :
    St d L T I f 118 ⊢ iprop((St d L T I f 123 -∗ wp frame (wpE (defs₀ (F := F)) 𝒱₀ (thrG d L) none) Set.univ (k ⟨⟩) Q)
      -∗ wp frame (wpE (defs₀ (F := F)) 𝒱₀ (thrG d L) none) Set.univ
        (k1_part27 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 (vals (F := F) T I ![14, 96] inb_S16x128_S1x16_14_96 hI) >>= k) Q) := by
  rw [wp_bind]; simp only [k1_part27_eq_skeleton]; unfold k1_part27_skel
  iintro ⟨Ht, Hi, Hn⟩ Hk
  sl_exec
  ihave Hn := (pts_stored d L T I f ![14, 96] inb_S16x128_S1x16_14_96 118 hI rfl rfl) $$ Hn
  iapply (wp_look d L T (nums_lt (F := F) I ![14, 112] inb_S16x128_S1x16_14_112 hI) _ (nums_lt (F := F) I ![14, 112] inb_S16x128_S1x16_14_112 hI)) $$ Ht; iintro Ht; sl_exec
  ihave Hn := (pts_stored d L T I f ![14, 112] inb_S16x128_S1x16_14_112 119 hI rfl rfl) $$ Hn
  iapply (wp_look d L T (nums_lt (F := F) I ![15, 0] inb_S16x128_S1x16_15_0 hI) _ (nums_lt (F := F) I ![15, 0] inb_S16x128_S1x16_15_0 hI)) $$ Ht; iintro Ht; sl_exec
  ihave Hn := (pts_stored d L T I f ![15, 0] inb_S16x128_S1x16_15_0 120 hI rfl rfl) $$ Hn
  iapply (wp_look d L T (nums_lt (F := F) I ![15, 16] inb_S16x128_S1x16_15_16 hI) _ (nums_lt (F := F) I ![15, 16] inb_S16x128_S1x16_15_16 hI)) $$ Ht; iintro Ht; sl_exec
  ihave Hn := (pts_stored d L T I f ![15, 16] inb_S16x128_S1x16_15_16 121 hI rfl rfl) $$ Hn
  iapply (wp_look d L T (nums_lt (F := F) I ![15, 32] inb_S16x128_S1x16_15_32 hI) _ (nums_lt (F := F) I ![15, 32] inb_S16x128_S1x16_15_32 hI)) $$ Ht; iintro Ht; sl_exec
  ihave Hn := (pts_stored d L T I f ![15, 32] inb_S16x128_S1x16_15_32 122 hI rfl rfl) $$ Hn
  iapply Hk
  isplitl [Ht]; iexact Ht
  isplitl [Hi]; iexact Hi
  iexact Hn

set_option maxHeartbeats 800000 in
theorem part28 {α : Type} {Q : α → sProp 𝕄} (hI : ∀ y, (I y).toNat < 16384)
    {k : (Vec F S16 .i32) → Prog (TpuEff nD τ sig (Elt F) Λ₀ (thrG d L).2) α} :
    St d L T I f 123 ⊢ iprop((St d L T I f 127 -∗ wp frame (wpE (defs₀ (F := F)) 𝒱₀ (thrG d L) none) Set.univ (k ((vals (F := F) T I ![15, 112] inb_S16x128_S1x16_15_112 hI))) Q)
      -∗ wp frame (wpE (defs₀ (F := F)) 𝒱₀ (thrG d L) none) Set.univ
        (k1_part28 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1  >>= k) Q) := by
  rw [wp_bind]; simp only [k1_part28_eq_skeleton]; unfold k1_part28_skel
  iintro ⟨Ht, Hi, Hn⟩ Hk
  sl_exec
  iapply (wp_look d L T (nums_lt (F := F) I ![15, 48] inb_S16x128_S1x16_15_48 hI) _ (nums_lt (F := F) I ![15, 48] inb_S16x128_S1x16_15_48 hI)) $$ Ht; iintro Ht; sl_exec
  ihave Hn := (pts_stored d L T I f ![15, 48] inb_S16x128_S1x16_15_48 123 hI rfl rfl) $$ Hn
  iapply (wp_look d L T (nums_lt (F := F) I ![15, 64] inb_S16x128_S1x16_15_64 hI) _ (nums_lt (F := F) I ![15, 64] inb_S16x128_S1x16_15_64 hI)) $$ Ht; iintro Ht; sl_exec
  ihave Hn := (pts_stored d L T I f ![15, 64] inb_S16x128_S1x16_15_64 124 hI rfl rfl) $$ Hn
  iapply (wp_look d L T (nums_lt (F := F) I ![15, 80] inb_S16x128_S1x16_15_80 hI) _ (nums_lt (F := F) I ![15, 80] inb_S16x128_S1x16_15_80 hI)) $$ Ht; iintro Ht; sl_exec
  ihave Hn := (pts_stored d L T I f ![15, 80] inb_S16x128_S1x16_15_80 125 hI rfl rfl) $$ Hn
  iapply (wp_look d L T (nums_lt (F := F) I ![15, 96] inb_S16x128_S1x16_15_96 hI) _ (nums_lt (F := F) I ![15, 96] inb_S16x128_S1x16_15_96 hI)) $$ Ht; iintro Ht; sl_exec
  ihave Hn := (pts_stored d L T I f ![15, 96] inb_S16x128_S1x16_15_96 126 hI rfl rfl) $$ Hn
  iapply (wp_look d L T (nums_lt (F := F) I ![15, 112] inb_S16x128_S1x16_15_112 hI) _ (nums_lt (F := F) I ![15, 112] inb_S16x128_S1x16_15_112 hI)) $$ Ht; iintro Ht; sl_exec
  iapply Hk
  isplitl [Ht]; iexact Ht
  isplitl [Hi]; iexact Hi
  iexact Hn

end Lookup

end Cert.Proof.Calls

end
-- ==== Proof.Rows.lean ====
/-
    The gathering call's stages: rows gathered into one buffer while the other is copied out.
-/
module

public import proofs.«01_k».proof.Proof.LookupC

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Rows

variable [FloatOps F] (m : (ℓ : Loc nD τ sig) → Buf (Elt F) ℓ) (d : Dev nD) (L : grid1.Coords)

/-! ## The pieces a stage addresses -/

/-- One of the two row buffers. -/
abbrev buf (off : Fin 3 → ℕ) (inb : ∀ a, off a + S1x128x128.size a ≤ S2x128x128.size a) : Memref sig .scVector .vmem S128x128 .f32 :=
  ((rS).slice (Rect.unit (s := S2x128x128) off S1x128x128.size inb) (fun _ => rfl)).squeeze S128x128 squeezes_S1x128x128_S128x128
/-- One row of the list of row numbers. -/
abbrev row (off : Fin 2 → ℕ) (inb : ∀ a, off a + S1x128.size a ≤ S16x128.size a) : Memref sig .scVector .vmem S128 .i32 :=
  ((nS).slice (Rect.unit (s := S16x128) off S1x128.size inb) (fun _ => rfl)).squeeze S128 squeezes_S1x128_S128
/-- The features, as the gather addresses them. -/
abbrev featA : Memref sig .scVector .hbm S65536x128 .f32 :=
  (fV).slice (Rect.unit (s := S65536x128) ![0, 0] S65536x128.size inb_S65536x128_S65536x128_0_0) (fun _ => rfl)

/-- The tile's list of row numbers, finished. -/
def words : IVec S16x128 32 := fun y =>
  look (tabFin m d) (slots m d (ix2 (⟨32 * (L 1).val + 16 * (L 0).val + (y 0).val, by
    have h0 : (L 0).val < 2 := (L 0).isLt; have h1 : (L 1).val < 16 := (L 1).isLt; have h2 : (y 0).val < 16 := (y 0).isLt; omega⟩ : Fin 512) (y 1)))

theorem tabFin_lt (j : S16384.Idx) : (tabFin m d j : BitVec 32).toNat < 65536 := by
  show (tabAt _ 65536 j).toNat < 65536
  unfold tabAt
  rw [BitVec.toNat_ofNat]
  refine lt_of_le_of_lt (Nat.mod_le _ _) ?_
  unfold CellTable.slot
  split
  · next h => exact (Nat.find_spec h).1
  · decide

theorem words_lt (y : S16x128.Idx) : (words m d L y).toNat < 65536 := tabFin_lt m d _

omit [FloatOps F] in
theorem row_emb (off : Fin 2 → ℕ) (inb : ∀ a, off a + S1x128.size a ≤ S16x128.size a) (h1 : off 1 = 0) (x : S128.Idx) :
    (Rect.unit (s := S16x128) off S1x128.size inb).emb (Shape.reshapeEquiv squeezes_S1x128_S128.numel_eq x)
      = (ix2 (⟨off 0, by have := inb 0; change off 0 + 1 ≤ 16 at this; omega⟩ : Fin 16) (x 0) : S16x128.Idx) := by
  have e : Shape.reshapeEquiv squeezes_S1x128_S128.numel_eq x = (ix2 (0 : Fin 1) (x 0) : S1x128.Idx) := by
    apply Shape.reshapeEquiv_eq_of_rowMajor
    rw [Shape.rowMajor_val_one, Shape.rowMajor_val_two]
    show 0 * 128 + (x 0).val = (x 0).val
    omega
  rw [e]
  apply Rect.emb_eq_of_coords
  intro a
  match a with
  | ⟨0, _⟩ => rfl
  | ⟨1, _⟩ => show (x 0).val = off 1 + 1 * (x 0).val; omega

theorem row_lt (off : Fin 2 → ℕ) (inb : ∀ a, off a + S1x128.size a ≤ S16x128.size a) (x : S128.Idx) :
    ((row off inb).view.read (Elt F) (words m d L : Buf (Elt F) ((row off inb).view.loc (thrG d L))) x).toNat
      < S65536x128.size gathers_S65536x128_S128x128.axis := by
  rw [View.read_apply]
  exact words_lt m d L _

omit [FloatOps F] in
theorem lane_val (k : Fin S128.numel) : ((S128.rowMajor.symm k) 0).val = k.val :=
  (Shape.rowMajor_val_one (S128.rowMajor.symm k)).symm.trans (congrArg Fin.val (Equiv.apply_symm_apply _ _))

/-- What the gather of list row `j` brings is block `j` of the finished rows. -/
theorem gathered (j : Fin 16) (off : Fin 2 → ℕ) (inb : ∀ a, off a + S1x128.size a ≤ S16x128.size a) (h0 : off 0 = j.val) (h1 : off 1 = 0) :
    SparseCore.gatherPayload (F := F) (e := .f32) gathers_S65536x128_S128x128
        ((featA).view.read (Elt F) (m (fLoc d)))
        (SparseCore.rows (F := F) ((row off inb).view.read (Elt F) (words m d L : Buf (Elt F) ((row off inb).view.loc (thrG d L)))) rfl (row_lt m d L off inb))
      = (outK L j).view.read (Elt F) (rowsFin m d) := by
  funext x
  have hx0 : (x 0).val < 128 := (x 0).isLt
  have hL0 : (L 0).val < 2 := (L 0).isLt
  have hL1 : (L 1).val < 16 := (L 1).isLt
  have hj : j.val < 16 := j.isLt
  let r := SparseCore.rows (F := F) ((row off inb).view.read (Elt F) (words m d L : Buf (Elt F) ((row off inb).view.loc (thrG d L)))) (rfl : S128.numel = S128x128.size gathers_S65536x128_S128x128.axis') (row_lt m d L off inb)
  have er : (r (x 0)).val = (words m d L (ix2 (⟨j.val, hj⟩ : Fin 16) (x 0))).toNat := by
    show ((words m d L) ((Rect.unit (s := S16x128) off S1x128.size inb).emb (Shape.reshapeEquiv squeezes_S1x128_S128.numel_eq _))).toNat = _
    rw [row_emb off inb h1]
    congr 2
    funext a
    match a with
    | ⟨0, _⟩ => exact Fin.ext h0
    | ⟨1, _⟩ =>
      exact Fin.ext (lane_val _)
  have ey : ∀ a, (((outK L j).view.emb x) a).val = k1_off2 L (BitVec.ofNat 32 (128 * j.val)) a + 1 * (x a).val := fun a => rfl
  rw [k1_off2_eq L j] at ey
  show m (fLoc d) _ = rowsFin m d ((outK L j).view.emb x)
  unfold rowsFin
  refine congrArg (m (fLoc d)) (funext fun a => Fin.ext ?_)
  match a with
  | ⟨0, _⟩ =>
    show 0 + 1 * (gathers_S65536x128_S128x128.idx r x 0).val = (look (tabFin m d) _).toNat % 65536
    have e0 : (gathers_S65536x128_S128x128.idx r x 0).val = (r (x 0)).val :=
      congrArg Fin.val (Shape.Gathers.idx_axis gathers_S65536x128_S128x128 r x)
    have hy0 : ((outK L j).view.emb x 0).val = 4096 * (L 1).val + 2048 * (L 0).val + 128 * j.val + 1 * (x 0).val := ey 0
    rw [e0, er, Nat.mod_eq_of_lt (tabFin_lt m d _), Nat.zero_add, Nat.one_mul]
    refine congrArg (fun z : S512x128.Idx => (look (tabFin m d) (slots m d z)).toNat) (funext fun a => ?_)
    match a with
    | ⟨0, _⟩ => apply Fin.ext; show 32 * (L 1).val + 16 * (L 0).val + j.val = ((outK L j).view.emb x 0).val / 128; omega
    | ⟨1, _⟩ => apply Fin.ext; show (x 0).val = ((outK L j).view.emb x 0).val % 128; omega
  | ⟨1, _⟩ =>
    show 0 + 1 * (gathers_S65536x128_S128x128.idx r x 1).val = ((outK L j).view.emb x 1).val
    have e1 := Shape.Gathers.idx_of_ne gathers_S65536x128_S128x128 r x 1 (by decide)
    have hy1 : ((outK L j).view.emb x 1).val = 0 + 1 * (x 1).val := ey 1
    have e2 : (gathers_S65536x128_S128x128.idx r x 1).val = (x 1).val := e1
    omega

/-! ## What a stage holds -/

/-- A row buffer, at any contents. -/
def Free (off : Fin 3 → ℕ) (inb : ∀ a, off a + S1x128x128.size a ≤ S2x128x128.size a) : sProp 𝕄 :=
  iprop(∃ g : Buf (Elt F) ((buf off inb).view.loc (thrG d L)), (buf off inb).view.loc (thrG d L) ↦[(buf off inb).view.set]{fullShare} g)

/-- A row buffer that holds block `j` of the finished rows. -/
def Filled (off : Fin 3 → ℕ) (inb : ∀ a, off a + S1x128x128.size a ≤ S2x128x128.size a) (j : Fin 16) : sProp 𝕄 :=
  iprop(∃ g : Buf (Elt F) ((buf off inb).view.loc (thrG d L)), ⌜(buf off inb).view.read (Elt F) g = (outK L j).view.read (Elt F) (rowsFin m d)⌝
    ∗ ((buf off inb).view.loc (thrG d L) ↦[(buf off inb).view.set]{fullShare} g))

/-- A row buffer being filled with block `j`: the gather under way, and what it left of the features and of the list. -/
def Gath (q : PosShare TreeShare) (off : Fin 3 → ℕ) (inb : ∀ a, off a + S1x128x128.size a ≤ S2x128x128.size a) (j : Fin 16) : sProp 𝕄 :=
  iprop(∃ offn : Fin 2 → ℕ, ∃ inbn : (∀ a, offn a + S1x128.size a ≤ S16x128.size a), ∃ g : Buf (Elt F) ((buf off inb).view.loc (thrG d L)),
    Transfers.Flight countersEmb (thrG d L) (.dma cc1_scratch4.sem) (default : HIx 2) (buf off inb).view.dmaCredit
        iprop(((buf off inb).view.loc (thrG d L) ↦[(buf off inb).view.set]{fullShare}
              (buf off inb).view.write (Elt F) g ((outK L j).view.read (Elt F) (rowsFin m d)) Finset.univ)
          ∗ ((featA).view.loc (thrG d L) ↦[(featA).view.set]{q} (m (fLoc d) : Buf (Elt F) ((featA).view.loc (thrG d L))))
          ∗ ((row offn inbn).view.loc (thrG d L) ↦[(row offn inbn).view.set]{fullShare} (words m d L : Buf (Elt F) ((row offn inbn).view.loc (thrG d L)))))
      ∗ ((featA).view.loc (thrG d L) ↦[Finset.univ \ (featA).view.set]{q} (m (fLoc d) : Buf (Elt F) ((featA).view.loc (thrG d L))))
      ∗ ((row offn inbn).view.loc (thrG d L) ↦[Finset.univ \ (row offn inbn).view.set]{fullShare} (words m d L : Buf (Elt F) ((row offn inbn).view.loc (thrG d L)))))

/-- The tile's sixteen blocks, the first `n` finished. -/
def blk (n : ℕ) : sProp 𝕄 :=
  bigSep Finset.univ fun r : Fin 16 => (vLoc d ↦[outSet L r]{fullShare} (if r.val < n then rowsFin m d else m (vLoc d)) : sProp 𝕄)

/-- Block `j` being copied out of a row buffer, and the other blocks. -/
def Copy (off : Fin 3 → ℕ) (inb : ∀ a, off a + S1x128x128.size a ≤ S2x128x128.size a) (j : Fin 16) : sProp 𝕄 :=
  iprop(∃ g : Buf (Elt F) ((buf off inb).view.loc (thrG d L)), ∃ f : Buf (Elt F) (vLoc d), ⌜∀ i ∈ outSet L j, f i = rowsFin m d i⌝
    ∗ Transfers.Flight countersEmb (thrG d L) (.dma cc1_scratch5.sem) (default : HIx 2) (outK L j).view.dmaCredit
        iprop(((outK L j).view.loc (thrG d L) ↦[(outK L j).view.set]{fullShare} f)
          ∗ ((buf off inb).view.loc (thrG d L) ↦[(buf off inb).view.set]{fullShare} g))
    ∗ bigSep (Finset.univ.erase j) fun r : Fin 16 => (vLoc d ↦[outSet L r]{fullShare} (if r.val < j.val then rowsFin m d else m (vLoc d)) : sProp 𝕄))

omit [FloatOps F] in
theorem blk_take (j : Fin 16) :
    blk m d L j.val = iprop(((outK L j).view.loc (thrG d L) ↦[(outK L j).view.set]{fullShare} (m (vLoc d) : Buf (Elt F) ((outK L j).view.loc (thrG d L))))
      ∗ bigSep (Finset.univ.erase j) fun r : Fin 16 => (vLoc d ↦[outSet L r]{fullShare} (if r.val < j.val then rowsFin m d else m (vLoc d)) : sProp 𝕄)) := by
  unfold blk
  rw [SparseCore.bigSep_erase' (Finset.mem_univ j), if_neg (Nat.lt_irrefl _)]

omit [FloatOps F] in
theorem blk_put (j : Fin 16) :
    blk m d L (j.val + 1) = iprop(((outK L j).view.loc (thrG d L) ↦[(outK L j).view.set]{fullShare} (rowsFin m d : Buf (Elt F) ((outK L j).view.loc (thrG d L))))
      ∗ bigSep (Finset.univ.erase j) fun r : Fin 16 => (vLoc d ↦[outSet L r]{fullShare} (if r.val < j.val then rowsFin m d else m (vLoc d)) : sProp 𝕄)) := by
  unfold blk
  rw [SparseCore.bigSep_erase' (Finset.mem_univ j), if_pos (Nat.lt_succ_self _)]
  congr 1
  refine bigSep_congr fun r hr => ?_
  have hne : r.val ≠ j.val := fun e => (Finset.mem_erase.mp hr).1 (Fin.ext e)
  rw [if_congr (show r.val < j.val + 1 ↔ r.val < j.val by omega) rfl rfl]

variable (O : CellTallies nD τ sig (HIx 2)) (W : Waits sig (HIx 2))

/-- What the tile owes, its waits beyond those it began with being its own. -/
def Ow : sProp 𝕄 := iprop(∃ W', ⌜∀ p ∈ W', p ∈ W ∨ p.2 = none⌝ ∗ owes (thrG d L) O W')

/-- A gather of list row `j` into a row buffer is started. -/
theorem gather_start {α : Type} {Q : α → sProp 𝕄} {k : PUnit → Prog (TpuEff nD τ sig (Elt F) Λ₀ (thrG d L).2) α}
    (q : PosShare TreeShare) (off : Fin 3 → ℕ) (inb : ∀ a, off a + S1x128x128.size a ≤ S2x128x128.size a) (j : Fin 16)
    (offn : Fin 2 → ℕ) (inbn : ∀ a, offn a + S1x128.size a ≤ S16x128.size a) (h0 : offn 0 = j.val) (h1 : offn 1 = 0)
    {hsrc : (featA).view.WordExact} {he : EltTy.f32.bits = 32} {hsp : Space.hbm = .hbm ∨ Space.hbm = .shared} {hr : S65536x128.StreamRows 0} :
    iprop(((fV).view.loc (thrG d L) ↦{q} (m (fLoc d) : Buf (Elt F) ((fV).view.loc (thrG d L))))
        ∗ ((nS).view.loc (thrG d L) ↦{fullShare} (words m d L : Buf (Elt F) ((nS).view.loc (thrG d L))))
        ∗ Free d L off inb ∗ semVal (thrG d L, SemLoc.dma cc1_scratch4.sem) 0)
      ⊢ iprop((Gath m d L q off inb j -∗ wp frame (wpE (defs₀ (F := F)) 𝒱₀ (thrG d L) none) Set.univ (k ⟨⟩) Q)
        -∗ wp frame (wpE (defs₀ (F := F)) 𝒱₀ (thrG d L) none) Set.univ
          (SparseCore.enqueueIndirectGather rfl (featA) (buf off inb) gathers_S65536x128_S128x128 (row offn inbn) rfl cc1_scratch4.sem hsrc he hsp hr >>= k) Q) := by
  have hN : ∑ j, ((buf off inb).slice (S128x128.rowRect gathers_S65536x128_S128x128.axis' j) (S128x128.stride_rowRect gathers_S65536x128_S128x128.axis' j)).view.dmaCredit
      = (buf off inb).view.dmaCredit := SparseCore.sum_rowCredit_eq_dmaCredit _ _ (fun _ => rfl)
  iintro ⟨Hf, Hn, Hb, Hs⟩ Hk
  unfold Free
  icases Hb with ⟨%g, Hb⟩
  ihave Hf := (pointsTo_split_subset (q := q) (f := (m (fLoc d) : Buf (Elt F) ((featA).view.loc (thrG d L)))) (ℓ := (featA).view.loc (thrG d L)) (I := (featA).view.set) (S := Finset.univ) (Finset.subset_univ _)).1 $$ Hf
  icases Hf with ⟨Hf, Hfr⟩
  ihave Hn := (pointsTo_split_subset (q := fullShare) (f := (words m d L : Buf (Elt F) ((row offn inbn).view.loc (thrG d L)))) (ℓ := (row offn inbn).view.loc (thrG d L)) (I := (row offn inbn).view.set) (S := Finset.univ) (Finset.subset_univ _)).1 $$ Hn
  icases Hn with ⟨Hn, Hnr⟩
  iapply (SparseCore.wp_indirectGatherLocal countersEmb 𝒱₀ (thrG d L) none (hg := gathers_S65536x128_S128x128) (default : HIx 2)
      (buf off inb).view.dmaCredit hN (by decide) (row_lt m d L offn inbn)) $$ [Hf Hb Hn Hs]
  · isplitl [Hf]; · iexact Hf
    isplitl [Hb]; · iexact Hb
    isplitl [Hn]; · iexact Hn
    iexact Hs
  rw [gathered m d L j offn inbn h0 h1]
  iintro Hfl
  iapply Hk
  unfold Gath
  iexists offn; iexists inbn; iexists g
  isplitl [Hfl]; · iexact Hfl
  isplitl [Hfr]; · iexact Hfr
  iexact Hnr

/-- Its wait: the row buffer holds block `j`. -/
theorem gather_wait {α : Type} {Q : α → sProp 𝕄} {k : PUnit → Prog (TpuEff nD τ sig (Elt F) Λ₀ (thrG d L).2) α}
    (q : PosShare TreeShare) (off : Fin 3 → ℕ) (inb : ∀ a, off a + S1x128x128.size a ≤ S2x128x128.size a) (j : Fin 16)
    {hsrc : (featA).view.WordExact} {hdst : (buf off inb).view.WordExact} :
    iprop(Gath m d L q off inb j ∗ Ow d L O W ∗ Transfers.MayWaits (thrG d L) (default : HIx 2) O)
      ⊢ iprop((iprop(((fV).view.loc (thrG d L) ↦{q} (m (fLoc d) : Buf (Elt F) ((fV).view.loc (thrG d L))))
            ∗ ((nS).view.loc (thrG d L) ↦{fullShare} (words m d L : Buf (Elt F) ((nS).view.loc (thrG d L))))
            ∗ Filled m d L off inb j ∗ semVal (thrG d L, SemLoc.dma cc1_scratch4.sem) 0 ∗ Ow d L O W)
          -∗ wp frame (wpE (defs₀ (F := F)) 𝒱₀ (thrG d L) none) Set.univ (k ⟨⟩) Q)
        -∗ wp frame (wpE (defs₀ (F := F)) 𝒱₀ (thrG d L) none) Set.univ
          (SparseCore.waitIndirectGather cc1_scratch4.sem (featA) (buf off inb) hsrc hdst >>= k) Q) := by
  iintro ⟨Hg, HO, Hmw⟩ Hk
  unfold Gath Ow
  icases Hg with ⟨%offn, %inbn, %g, Hfl, Hfr, Hnr⟩
  icases HO with ⟨%W', %hW', HO⟩
  unfold SparseCore.waitIndirectGather
  iapply (Transfers.wp_waitLocalO countersEmb 𝒱₀ (thrG d L) none (default : HIx 2) (rfl : (buf off inb).view.dmaCredit = _)) $$ [Hfl HO Hmw]
  · isplitl [Hfl]; · iexact Hfl
    isplitl [HO]; · iexact HO
    iapply (Transfers.MayWaits.elim (SemLoc.dma cc1_scratch4.sem)) $$ Hmw
  iintro ⟨⟨Hb, Hf, Hn⟩, Hs, HO⟩
  ihave Hf := (pointsTo_split_subset (q := q) (f := (m (fLoc d) : Buf (Elt F) ((featA).view.loc (thrG d L)))) (ℓ := (featA).view.loc (thrG d L)) (I := (featA).view.set) (S := Finset.univ) (Finset.subset_univ _)).2 $$ [Hf Hfr]
  · isplitl [Hf] <;> iassumption
  ihave Hn := (pointsTo_split_subset (q := fullShare) (f := (words m d L : Buf (Elt F) ((row offn inbn).view.loc (thrG d L)))) (ℓ := (row offn inbn).view.loc (thrG d L)) (I := (row offn inbn).view.set) (S := Finset.univ) (Finset.subset_univ _)).2 $$ [Hn Hnr]
  · isplitl [Hn] <;> iassumption
  iapply Hk
  isplitl [Hf]; · iexact Hf
  isplitl [Hn]; · iexact Hn
  isplitl [Hb]
  · unfold Filled
    iexists _
    isplitr
    swap; · iexact Hb
    ipureintro
    exact View.read_write_univ _ _
  isplitl [Hs]; · iexact Hs
  iexists _; isplitr
  swap; · iexact HO
  ipureintro; intro p hp
  rcases Finset.mem_insert.mp hp with hp | hp; · exact .inr (hp ▸ rfl)
  exact hW' p hp

/-- Block `j` starts being copied out. -/
theorem copy_start {α : Type} {Q : α → sProp 𝕄} {k : PUnit → Prog (TpuEff nD τ sig (Elt F) Λ₀ (thrG d L).2) α}
    (off : Fin 3 → ℕ) (inb : ∀ a, off a + S1x128x128.size a ≤ S2x128x128.size a) (j : Fin 16)
    {hsrc : (buf off inb).view.WordExact} {hdst : (outK L j).view.WordExact} {hsem : DmaTarget.Typed (nD := nD) Space.vmem (.dma cc1_scratch5.sem) (DmaTarget.here (p := (thrG d L).2) (outK L j))} :
    iprop(Filled m d L off inb j ∗ blk m d L j.val ∗ semVal (thrG d L, SemLoc.dma cc1_scratch5.sem) 0)
      ⊢ iprop((Copy m d L off inb j -∗ wp frame (wpE (defs₀ (F := F)) 𝒱₀ (thrG d L) none) Set.univ (k ⟨⟩) Q)
        -∗ wp frame (wpE (defs₀ (F := F)) 𝒱₀ (thrG d L) none) Set.univ
          (Prog.lift (.enqueueDma (buf off inb) (.here (outK L j)) (.dma cc1_scratch5.sem) hsrc hdst hsem) >>= k) Q) := by
  iintro ⟨Hb, Ho, Hs⟩ Hk
  unfold Filled
  icases Hb with ⟨%g, %hg, Hb⟩
  ihave Ho := (Entails.of_eq (blk_take m d L j)) $$ Ho
  icases Ho with ⟨Hoj, Hor⟩
  have key := Transfers.wp_dmaLocal countersEmb (defs := defs₀ (F := F)) 𝒱₀ (thrG d L) none (Q := Q) (src := buf off inb) (via := .same) (dst := outK L j) (sm := .dma cc1_scratch5.sem)
    (hsrc := hsrc) (hdst := hdst) (hsem := hsem) (k := k) (q := fullShare) (fs := g)
    (Sd := outSet L j) (fd := (m (vLoc d) : Buf (Elt F) ((outK L j).view.loc (thrG d L)))) (default : HIx 2) (outK L j).view.dmaCredit rfl
    (View.amount_pos _ (.dma cc1_scratch5.sem) (show 0 < S128x128.numel by decide)) (Finset.Subset.refl _)
  iapply key $$ [Hb Hoj Hs]
  · isplitl [Hb]; · iexact Hb
    isplitl [Hoj]; · iexact Hoj
    iexact Hs
  iintro Hfl
  iapply Hk
  unfold Copy
  iexists g; iexists _
  isplitr
  swap
  · isplitl [Hfl]; · iexact Hfl
    iexact Hor
  ipureintro
  intro i hi
  obtain ⟨x, -, rfl⟩ := Finset.mem_map.mp hi
  exact (congrFun (View.read_write_univ (v := (outK L j).view) (m (vLoc d)) _) x).trans (congrFun hg x)

/-- Its wait: one block more is finished. -/
theorem copy_wait {α : Type} {Q : α → sProp 𝕄} {k : PUnit → Prog (TpuEff nD τ sig (Elt F) Λ₀ (thrG d L).2) α}
    (off : Fin 3 → ℕ) (inb : ∀ a, off a + S1x128x128.size a ≤ S2x128x128.size a) (j : Fin 16)
    {hsrc : (buf off inb).view.WordExact} {hdst : (outK L j).view.WordExact} :
    iprop(Copy m d L off inb j ∗ Ow d L O W ∗ Transfers.MayWaits (thrG d L) (default : HIx 2) O)
      ⊢ iprop((iprop(Free d L off inb ∗ blk m d L (j.val + 1) ∗ semVal (thrG d L, SemLoc.dma cc1_scratch5.sem) 0 ∗ Ow d L O W)
          -∗ wp frame (wpE (defs₀ (F := F)) 𝒱₀ (thrG d L) none) Set.univ (k ⟨⟩) Q)
        -∗ wp frame (wpE (defs₀ (F := F)) 𝒱₀ (thrG d L) none) Set.univ
          (Prog.lift (.waitDma2 cc1_scratch5.sem (buf off inb) (outK L j) hsrc hdst) >>= k) Q) := by
  iintro ⟨Hc, HO, Hmw⟩ Hk
  unfold Copy Ow
  icases Hc with ⟨%g, %f, %hf, Hfl, Hor⟩
  icases HO with ⟨%W', %hW', HO⟩
  iapply (Transfers.wp_waitLocalO countersEmb 𝒱₀ (thrG d L) none (default : HIx 2) (rfl : (outK L j).view.dmaCredit = _)) $$ [Hfl HO Hmw]
  · isplitl [Hfl]; · iexact Hfl
    isplitl [HO]; · iexact HO
    iapply (Transfers.MayWaits.elim (SemLoc.dma cc1_scratch5.sem)) $$ Hmw
  iintro ⟨⟨Hoj, Hb⟩, Hs, HO⟩
  iapply Hk
  isplitl [Hb]
  · unfold Free
    iexists g; iexact Hb
  isplitl [Hoj Hor]
  · iapply (Entails.of_eq (blk_put m d L j).symm)
    isplitl [Hoj]
    · iapply (Entails.of_eq (pointsTo_congr hf)); iexact Hoj
    · iexact Hor
  isplitl [Hs]; · iexact Hs
  iexists _; isplitr
  swap; · iexact HO
  ipureintro; intro p hp
  rcases Finset.mem_insert.mp hp with hp | hp; · exact .inr (hp ▸ rfl)
  exact hW' p hp

end Rows

end Cert.Proof.Calls

end
-- ==== Proof.Stages.lean ====
/-
    The gathering call's stages, in the order the tile goes through them.
-/
module

public import proofs.«01_k».proof.Proof.Rows

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Rows

variable [FloatOps F] (m : (ℓ : Loc nD τ sig) → Buf (Elt F) ℓ) (d : Dev nD) (L : grid1.Coords)
variable (q : PosShare TreeShare) (O : CellTallies nD τ sig (HIx 2)) (W : Waits sig (HIx 2))

set_option maxHeartbeats 800000 in
theorem part29 {α : Type} {Q : α → sProp 𝕄} (T : IVec S16384 32) (I f : IVec S16x128 32) (hI : ∀ y, (I y).toNat < 16384) (hw : found T I f 128 = words m d L) (v1 : BitVec 32)
    {k : BitVec 32 → Prog (TpuEff nD τ sig (Elt F) Λ₀ (thrG d L).2) α} :
    iprop((St d L T I f 127 ∗ ((fV).view.loc (thrG d L) ↦{q} (m (fLoc d) : Buf (Elt F) ((fV).view.loc (thrG d L))))
          ∗ semVal (thrG d L, SemLoc.dma cc1_scratch4.sem) 0
          ∗ Free d L ![0, 0, 0] inb_S2x128x128_S1x128x128_0_0_0
          ∗ Free d L ![1, 0, 0] inb_S2x128x128_S1x128x128_1_0_0
          ∗ blk m d L 0
          ∗ semVal (thrG d L, SemLoc.dma cc1_scratch5.sem) 0
          ∗ Ow d L O W)
        ∗ Transfers.MayWaits (thrG d L) (default : HIx 2) O)
      ⊢ iprop((iprop(((tS).view.loc (thrG d L) ↦{fullShare} (T : Buf (Elt F) ((thrG d L).loc cc1_scratch0)))
          ∗ ((iS).view.loc (thrG d L) ↦{fullShare} (I : Buf (Elt F) ((thrG d L).loc cc1_scratch1)))
          ∗ Gath m d L q ![1, 0, 0] inb_S2x128x128_S1x128x128_1_0_0 1
          ∗ Copy m d L ![0, 0, 0] inb_S2x128x128_S1x128x128_0_0_0 0
          ∗ Ow d L O W)
          -∗ wp frame (wpE (defs₀ (F := F)) 𝒱₀ (thrG d L) none) Set.univ (k (Scalar.muli v1 2048#32)) Q)
        -∗ wp frame (wpE (defs₀ (F := F)) 𝒱₀ (thrG d L) none) Set.univ
        (k1_part29 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v1 (vals (F := F) T I ![15, 112] inb_S16x128_S1x16_15_112 hI) >>= k) Q) := by
  rw [wp_bind]; simp only [k1_part29_eq_skeleton]; unfold k1_part29_skel
  iintro ⟨⟨⟨Ht, Hi, Hn⟩, Hf, Hs4, Hb0, Hb1, Ho, Hs5, HO⟩, #Hmw⟩ Hk
  sl_exec
  ihave Hn := (pts_stored d L T I f ![15, 112] inb_S16x128_S1x16_15_112 127 hI rfl rfl) $$ Hn
  ihave Hn := (Entails.of_eq (congrArg (fun g : Buf (Elt F) ((thrG d L).loc cc1_scratch2) => ((nS).view.loc (thrG d L) ↦{fullShare} g : sProp 𝕄)) hw)) $$ Hn
  iapply (gather_start m d L q ![0, 0, 0] inb_S2x128x128_S1x128x128_0_0_0 0 ![0, 0] inb_S16x128_S1x128_0_0 rfl rfl) $$ [Hf Hn Hb0 Hs4]
  · isplitl [Hf]; · iexact Hf
    isplitl [Hn]; · iexact Hn
    isplitl [Hb0]; · iexact Hb0
    iexact Hs4
  iintro Hg
  iapply (gather_wait m d L O W q ![0, 0, 0] inb_S2x128x128_S1x128x128_0_0_0 0) $$ [Hg HO]
  · isplitl [Hg]; · iexact Hg
    isplitl [HO]; · iexact HO
    iexact Hmw
  iintro ⟨Hf, Hn, Hb0, Hs4, HO⟩
  iapply (gather_start m d L q ![1, 0, 0] inb_S2x128x128_S1x128x128_1_0_0 1 ![1, 0] inb_S16x128_S1x128_1_0 rfl rfl) $$ [Hf Hn Hb1 Hs4]
  · isplitl [Hf]; · iexact Hf
    isplitl [Hn]; · iexact Hn
    isplitl [Hb1]; · iexact Hb1
    iexact Hs4
  iintro Hg
  iapply (copy_start m d L ![0, 0, 0] inb_S2x128x128_S1x128x128_0_0_0 0) $$ [Hb0 Ho Hs5]
  · isplitl [Hb0]; · iexact Hb0
    isplitl [Ho]; · iexact Ho
    iexact Hs5
  iintro Hc
  sl_step
  iapply Hk
  isplitl [Ht]; · iexact Ht
  isplitl [Hi]; · iexact Hi
  isplitl [Hg]; · iexact Hg
  isplitl [Hc]; · iexact Hc
  iexact HO

set_option maxHeartbeats 800000 in
theorem part30 {α : Type} {Q : α → sProp 𝕄} (v643 : BitVec 32)
    {k : PUnit → Prog (TpuEff nD τ sig (Elt F) Λ₀ (thrG d L).2) α} :
    iprop((Gath m d L q ![1, 0, 0] inb_S2x128x128_S1x128x128_1_0_0 1
          ∗ Copy m d L ![0, 0, 0] inb_S2x128x128_S1x128x128_0_0_0 0
          ∗ Ow d L O W)
        ∗ Transfers.MayWaits (thrG d L) (default : HIx 2) O)
      ⊢ iprop((iprop(Gath m d L q ![0, 0, 0] inb_S2x128x128_S1x128x128_0_0_0 2
          ∗ Copy m d L ![1, 0, 0] inb_S2x128x128_S1x128x128_1_0_0 1
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part30 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part30_eq_skeleton]; unfold k1_part30_skel
  iintro ⟨⟨Hg, Hc, HO⟩, #Hmw⟩ Hk
  iapply (copy_wait m d L O W ![0, 0, 0] inb_S2x128x128_S1x128x128_0_0_0 0) $$ [Hc HO]
  · isplitl [Hc]; · iexact Hc
    isplitl [HO]; · iexact HO
    iexact Hmw
  iintro ⟨Hb0, Ho, Hs5, HO⟩
  iapply (gather_wait m d L O W q ![1, 0, 0] inb_S2x128x128_S1x128x128_1_0_0 1) $$ [Hg HO]
  · isplitl [Hg]; · iexact Hg
    isplitl [HO]; · iexact HO
    iexact Hmw
  iintro ⟨Hf, Hn, Hb1, Hs4, HO⟩
  iapply (gather_start m d L q ![0, 0, 0] inb_S2x128x128_S1x128x128_0_0_0 2 ![2, 0] inb_S16x128_S1x128_2_0 rfl rfl) $$ [Hf Hn Hb0 Hs4]
  · isplitl [Hf]; · iexact Hf
    isplitl [Hn]; · iexact Hn
    isplitl [Hb0]; · iexact Hb0
    iexact Hs4
  iintro Hg
  iapply (copy_start m d L ![1, 0, 0] inb_S2x128x128_S1x128x128_1_0_0 1) $$ [Hb1 Ho Hs5]
  · isplitl [Hb1]; · iexact Hb1
    isplitl [Ho]; · iexact Ho
    iexact Hs5
  iintro Hc
  sl_step
  iapply Hk
  isplitl [Hg]; · iexact Hg
  isplitl [Hc]; · iexact Hc
  iexact HO

set_option maxHeartbeats 800000 in
theorem part31 {α : Type} {Q : α → sProp 𝕄} (v643 : BitVec 32)
    {k : PUnit → Prog (TpuEff nD τ sig (Elt F) Λ₀ (thrG d L).2) α} :
    iprop((Gath m d L q ![0, 0, 0] inb_S2x128x128_S1x128x128_0_0_0 2
          ∗ Copy m d L ![1, 0, 0] inb_S2x128x128_S1x128x128_1_0_0 1
          ∗ Ow d L O W)
        ∗ Transfers.MayWaits (thrG d L) (default : HIx 2) O)
      ⊢ iprop((iprop(Gath m d L q ![1, 0, 0] inb_S2x128x128_S1x128x128_1_0_0 3
          ∗ Copy m d L ![0, 0, 0] inb_S2x128x128_S1x128x128_0_0_0 2
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part31 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part31_eq_skeleton]; unfold k1_part31_skel
  iintro ⟨⟨Hg, Hc, HO⟩, #Hmw⟩ Hk
  iapply (copy_wait m d L O W ![1, 0, 0] inb_S2x128x128_S1x128x128_1_0_0 1) $$ [Hc HO]
  · isplitl [Hc]; · iexact Hc
    isplitl [HO]; · iexact HO
    iexact Hmw
  iintro ⟨Hb1, Ho, Hs5, HO⟩
  iapply (gather_wait m d L O W q ![0, 0, 0] inb_S2x128x128_S1x128x128_0_0_0 2) $$ [Hg HO]
  · isplitl [Hg]; · iexact Hg
    isplitl [HO]; · iexact HO
    iexact Hmw
  iintro ⟨Hf, Hn, Hb0, Hs4, HO⟩
  iapply (gather_start m d L q ![1, 0, 0] inb_S2x128x128_S1x128x128_1_0_0 3 ![3, 0] inb_S16x128_S1x128_3_0 rfl rfl) $$ [Hf Hn Hb1 Hs4]
  · isplitl [Hf]; · iexact Hf
    isplitl [Hn]; · iexact Hn
    isplitl [Hb1]; · iexact Hb1
    iexact Hs4
  iintro Hg
  iapply (copy_start m d L ![0, 0, 0] inb_S2x128x128_S1x128x128_0_0_0 2) $$ [Hb0 Ho Hs5]
  · isplitl [Hb0]; · iexact Hb0
    isplitl [Ho]; · iexact Ho
    iexact Hs5
  iintro Hc
  sl_step
  iapply Hk
  isplitl [Hg]; · iexact Hg
  isplitl [Hc]; · iexact Hc
  iexact HO

set_option maxHeartbeats 800000 in
theorem part32 {α : Type} {Q : α → sProp 𝕄} (v643 : BitVec 32)
    {k : PUnit → Prog (TpuEff nD τ sig (Elt F) Λ₀ (thrG d L).2) α} :
    iprop((Gath m d L q ![1, 0, 0] inb_S2x128x128_S1x128x128_1_0_0 3
          ∗ Copy m d L ![0, 0, 0] inb_S2x128x128_S1x128x128_0_0_0 2
          ∗ Ow d L O W)
        ∗ Transfers.MayWaits (thrG d L) (default : HIx 2) O)
      ⊢ iprop((iprop(Gath m d L q ![0, 0, 0] inb_S2x128x128_S1x128x128_0_0_0 4
          ∗ Copy m d L ![1, 0, 0] inb_S2x128x128_S1x128x128_1_0_0 3
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part32 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part32_eq_skeleton]; unfold k1_part32_skel
  iintro ⟨⟨Hg, Hc, HO⟩, #Hmw⟩ Hk
  iapply (copy_wait m d L O W ![0, 0, 0] inb_S2x128x128_S1x128x128_0_0_0 2) $$ [Hc HO]
  · isplitl [Hc]; · iexact Hc
    isplitl [HO]; · iexact HO
    iexact Hmw
  iintro ⟨Hb0, Ho, Hs5, HO⟩
  iapply (gather_wait m d L O W q ![1, 0, 0] inb_S2x128x128_S1x128x128_1_0_0 3) $$ [Hg HO]
  · isplitl [Hg]; · iexact Hg
    isplitl [HO]; · iexact HO
    iexact Hmw
  iintro ⟨Hf, Hn, Hb1, Hs4, HO⟩
  iapply (gather_start m d L q ![0, 0, 0] inb_S2x128x128_S1x128x128_0_0_0 4 ![4, 0] inb_S16x128_S1x128_4_0 rfl rfl) $$ [Hf Hn Hb0 Hs4]
  · isplitl [Hf]; · iexact Hf
    isplitl [Hn]; · iexact Hn
    isplitl [Hb0]; · iexact Hb0
    iexact Hs4
  iintro Hg
  iapply (copy_start m d L ![1, 0, 0] inb_S2x128x128_S1x128x128_1_0_0 3) $$ [Hb1 Ho Hs5]
  · isplitl [Hb1]; · iexact Hb1
    isplitl [Ho]; · iexact Ho
    iexact Hs5
  iintro Hc
  sl_step
  iapply Hk
  isplitl [Hg]; · iexact Hg
  isplitl [Hc]; · iexact Hc
  iexact HO

set_option maxHeartbeats 800000 in
theorem part33 {α : Type} {Q : α → sProp 𝕄} (v643 : BitVec 32)
    {k : PUnit → Prog (TpuEff nD τ sig (Elt F) Λ₀ (thrG d L).2) α} :
    iprop((Gath m d L q ![0, 0, 0] inb_S2x128x128_S1x128x128_0_0_0 4
          ∗ Copy m d L ![1, 0, 0] inb_S2x128x128_S1x128x128_1_0_0 3
          ∗ Ow d L O W)
        ∗ Transfers.MayWaits (thrG d L) (default : HIx 2) O)
      ⊢ iprop((iprop(Gath m d L q ![1, 0, 0] inb_S2x128x128_S1x128x128_1_0_0 5
          ∗ Free d L ![0, 0, 0] inb_S2x128x128_S1x128x128_0_0_0
          ∗ blk m d L 5
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part33 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part33_eq_skeleton]; unfold k1_part33_skel
  iintro ⟨⟨Hg, Hc, HO⟩, #Hmw⟩ Hk
  iapply (copy_wait m d L O W ![1, 0, 0] inb_S2x128x128_S1x128x128_1_0_0 3) $$ [Hc HO]
  · isplitl [Hc]; · iexact Hc
    isplitl [HO]; · iexact HO
    iexact Hmw
  iintro ⟨Hb1, Ho, Hs5, HO⟩
  iapply (gather_wait m d L O W q ![0, 0, 0] inb_S2x128x128_S1x128x128_0_0_0 4) $$ [Hg HO]
  · isplitl [Hg]; · iexact Hg
    isplitl [HO]; · iexact HO
    iexact Hmw
  iintro ⟨Hf, Hn, Hb0, Hs4, HO⟩
  iapply (gather_start m d L q ![1, 0, 0] inb_S2x128x128_S1x128x128_1_0_0 5 ![5, 0] inb_S16x128_S1x128_5_0 rfl rfl) $$ [Hf Hn Hb1 Hs4]
  · isplitl [Hf]; · iexact Hf
    isplitl [Hn]; · iexact Hn
    isplitl [Hb1]; · iexact Hb1
    iexact Hs4
  iintro Hg
  iapply (copy_start m d L ![0, 0, 0] inb_S2x128x128_S1x128x128_0_0_0 4) $$ [Hb0 Ho Hs5]
  · isplitl [Hb0]; · iexact Hb0
    isplitl [Ho]; · iexact Ho
    iexact Hs5
  iintro Hc
  iapply (copy_wait m d L O W ![0, 0, 0] inb_S2x128x128_S1x128x128_0_0_0 4) $$ [Hc HO]
  · isplitl [Hc]; · iexact Hc
    isplitl [HO]; · iexact HO
    iexact Hmw
  iintro ⟨Hb0, Ho, Hs5, HO⟩
  sl_step
  iapply Hk
  isplitl [Hg]; · iexact Hg
  isplitl [Hb0]; · iexact Hb0
  isplitl [Ho]; · iexact Ho
  isplitl [Hs5]; · iexact Hs5
  iexact HO

set_option maxHeartbeats 800000 in
theorem part34 {α : Type} {Q : α → sProp 𝕄} (v643 : BitVec 32)
    {k : PUnit → Prog (TpuEff nD τ sig (Elt F) Λ₀ (thrG d L).2) α} :
    iprop((Gath m d L q ![1, 0, 0] inb_S2x128x128_S1x128x128_1_0_0 5
          ∗ Free d L ![0, 0, 0] inb_S2x128x128_S1x128x128_0_0_0
          ∗ blk m d L 5
          ∗ semVal (thrG d L, SemLoc.dma cc1_scratch5.sem) 0
          ∗ Ow d L O W)
        ∗ Transfers.MayWaits (thrG d L) (default : HIx 2) O)
      ⊢ iprop((iprop(Gath m d L q ![0, 0, 0] inb_S2x128x128_S1x128x128_0_0_0 6
          ∗ Free d L ![1, 0, 0] inb_S2x128x128_S1x128x128_1_0_0
          ∗ blk m d L 6
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part34 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part34_eq_skeleton]; unfold k1_part34_skel
  iintro ⟨⟨Hg, Hb0, Ho, Hs5, HO⟩, #Hmw⟩ Hk
  iapply (gather_wait m d L O W q ![1, 0, 0] inb_S2x128x128_S1x128x128_1_0_0 5) $$ [Hg HO]
  · isplitl [Hg]; · iexact Hg
    isplitl [HO]; · iexact HO
    iexact Hmw
  iintro ⟨Hf, Hn, Hb1, Hs4, HO⟩
  iapply (gather_start m d L q ![0, 0, 0] inb_S2x128x128_S1x128x128_0_0_0 6 ![6, 0] inb_S16x128_S1x128_6_0 rfl rfl) $$ [Hf Hn Hb0 Hs4]
  · isplitl [Hf]; · iexact Hf
    isplitl [Hn]; · iexact Hn
    isplitl [Hb0]; · iexact Hb0
    iexact Hs4
  iintro Hg
  iapply (copy_start m d L ![1, 0, 0] inb_S2x128x128_S1x128x128_1_0_0 5) $$ [Hb1 Ho Hs5]
  · isplitl [Hb1]; · iexact Hb1
    isplitl [Ho]; · iexact Ho
    iexact Hs5
  iintro Hc
  iapply (copy_wait m d L O W ![1, 0, 0] inb_S2x128x128_S1x128x128_1_0_0 5) $$ [Hc HO]
  · isplitl [Hc]; · iexact Hc
    isplitl [HO]; · iexact HO
    iexact Hmw
  iintro ⟨Hb1, Ho, Hs5, HO⟩
  sl_step
  iapply Hk
  isplitl [Hg]; · iexact Hg
  isplitl [Hb1]; · iexact Hb1
  isplitl [Ho]; · iexact Ho
  isplitl [Hs5]; · iexact Hs5
  iexact HO

set_option maxHeartbeats 800000 in
theorem part35 {α : Type} {Q : α → sProp 𝕄} (v643 : BitVec 32)
    {k : PUnit → Prog (TpuEff nD τ sig (Elt F) Λ₀ (thrG d L).2) α} :
    iprop((Gath m d L q ![0, 0, 0] inb_S2x128x128_S1x128x128_0_0_0 6
          ∗ Free d L ![1, 0, 0] inb_S2x128x128_S1x128x128_1_0_0
          ∗ blk m d L 6
          ∗ semVal (thrG d L, SemLoc.dma cc1_scratch5.sem) 0
          ∗ Ow d L O W)
        ∗ Transfers.MayWaits (thrG d L) (default : HIx 2) O)
      ⊢ iprop((iprop(Gath m d L q ![1, 0, 0] inb_S2x128x128_S1x128x128_1_0_0 7
          ∗ Free d L ![0, 0, 0] inb_S2x128x128_S1x128x128_0_0_0
          ∗ blk m d L 7
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part35 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part35_eq_skeleton]; unfold k1_part35_skel
  iintro ⟨⟨Hg, Hb1, Ho, Hs5, HO⟩, #Hmw⟩ Hk
  iapply (gather_wait m d L O W q ![0, 0, 0] inb_S2x128x128_S1x128x128_0_0_0 6) $$ [Hg HO]
  · isplitl [Hg]; · iexact Hg
    isplitl [HO]; · iexact HO
    iexact Hmw
  iintro ⟨Hf, Hn, Hb0, Hs4, HO⟩
  iapply (gather_start m d L q ![1, 0, 0] inb_S2x128x128_S1x128x128_1_0_0 7 ![7, 0] inb_S16x128_S1x128_7_0 rfl rfl) $$ [Hf Hn Hb1 Hs4]
  · isplitl [Hf]; · iexact Hf
    isplitl [Hn]; · iexact Hn
    isplitl [Hb1]; · iexact Hb1
    iexact Hs4
  iintro Hg
  iapply (copy_start m d L ![0, 0, 0] inb_S2x128x128_S1x128x128_0_0_0 6) $$ [Hb0 Ho Hs5]
  · isplitl [Hb0]; · iexact Hb0
    isplitl [Ho]; · iexact Ho
    iexact Hs5
  iintro Hc
  iapply (copy_wait m d L O W ![0, 0, 0] inb_S2x128x128_S1x128x128_0_0_0 6) $$ [Hc HO]
  · isplitl [Hc]; · iexact Hc
    isplitl [HO]; · iexact HO
    iexact Hmw
  iintro ⟨Hb0, Ho, Hs5, HO⟩
  sl_step
  iapply Hk
  isplitl [Hg]; · iexact Hg
  isplitl [Hb0]; · iexact Hb0
  isplitl [Ho]; · iexact Ho
  isplitl [Hs5]; · iexact Hs5
  iexact HO

set_option maxHeartbeats 800000 in
theorem part36 {α : Type} {Q : α → sProp 𝕄} (v643 : BitVec 32)
    {k : PUnit → Prog (TpuEff nD τ sig (Elt F) Λ₀ (thrG d L).2) α} :
    iprop((Gath m d L q ![1, 0, 0] inb_S2x128x128_S1x128x128_1_0_0 7
          ∗ Free d L ![0, 0, 0] inb_S2x128x128_S1x128x128_0_0_0
          ∗ blk m d L 7
          ∗ semVal (thrG d L, SemLoc.dma cc1_scratch5.sem) 0
          ∗ Ow d L O W)
        ∗ Transfers.MayWaits (thrG d L) (default : HIx 2) O)
      ⊢ iprop((iprop(((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Filled m d L ![0, 0, 0] inb_S2x128x128_S1x128x128_0_0_0 8
          ∗ Free d L ![1, 0, 0] inb_S2x128x128_S1x128x128_1_0_0
          ∗ blk m d L 8
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part36 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part36_eq_skeleton]; unfold k1_part36_skel
  iintro ⟨⟨Hg, Hb0, Ho, Hs5, HO⟩, #Hmw⟩ Hk
  iapply (gather_wait m d L O W q ![1, 0, 0] inb_S2x128x128_S1x128x128_1_0_0 7) $$ [Hg HO]
  · isplitl [Hg]; · iexact Hg
    isplitl [HO]; · iexact HO
    iexact Hmw
  iintro ⟨Hf, Hn, Hb1, Hs4, HO⟩
  iapply (gather_start m d L q ![0, 0, 0] inb_S2x128x128_S1x128x128_0_0_0 8 ![8, 0] inb_S16x128_S1x128_8_0 rfl rfl) $$ [Hf Hn Hb0 Hs4]
  · isplitl [Hf]; · iexact Hf
    isplitl [Hn]; · iexact Hn
    isplitl [Hb0]; · iexact Hb0
    iexact Hs4
  iintro Hg
  iapply (copy_start m d L ![1, 0, 0] inb_S2x128x128_S1x128x128_1_0_0 7) $$ [Hb1 Ho Hs5]
  · isplitl [Hb1]; · iexact Hb1
    isplitl [Ho]; · iexact Ho
    iexact Hs5
  iintro Hc
  iapply (copy_wait m d L O W ![1, 0, 0] inb_S2x128x128_S1x128x128_1_0_0 7) $$ [Hc HO]
  · isplitl [Hc]; · iexact Hc
    isplitl [HO]; · iexact HO
    iexact Hmw
  iintro ⟨Hb1, Ho, Hs5, HO⟩
  iapply (gather_wait m d L O W q ![0, 0, 0] inb_S2x128x128_S1x128x128_0_0_0 8) $$ [Hg HO]
  · isplitl [Hg]; · iexact Hg
    isplitl [HO]; · iexact HO
    iexact Hmw
  iintro ⟨Hf, Hn, Hb0, Hs4, HO⟩
  sl_step
  iapply Hk
  isplitl [Hf]; · iexact Hf
  isplitl [Hn]; · iexact Hn
  isplitl [Hs4]; · iexact Hs4
  isplitl [Hb0]; · iexact Hb0
  isplitl [Hb1]; · iexact Hb1
  isplitl [Ho]; · iexact Ho
  isplitl [Hs5]; · iexact Hs5
  iexact HO

set_option maxHeartbeats 800000 in
theorem part37 {α : Type} {Q : α → sProp 𝕄} (v643 : BitVec 32)
    {k : PUnit → Prog (TpuEff nD τ sig (Elt F) Λ₀ (thrG d L).2) α} :
    iprop((((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Filled m d L ![0, 0, 0] inb_S2x128x128_S1x128x128_0_0_0 8
          ∗ Free d L ![1, 0, 0] inb_S2x128x128_S1x128x128_1_0_0
          ∗ blk m d L 8
          ∗ semVal (thrG d L, SemLoc.dma cc1_scratch5.sem) 0
          ∗ Ow d L O W)
        ∗ Transfers.MayWaits (thrG d L) (default : HIx 2) O)
      ⊢ iprop((iprop(((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Free d L ![0, 0, 0] inb_S2x128x128_S1x128x128_0_0_0
          ∗ Filled m d L ![1, 0, 0] inb_S2x128x128_S1x128x128_1_0_0 9
          ∗ blk m d L 9
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part37 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part37_eq_skeleton]; unfold k1_part37_skel
  iintro ⟨⟨Hf, Hn, Hs4, Hb0, Hb1, Ho, Hs5, HO⟩, #Hmw⟩ Hk
  iapply (gather_start m d L q ![1, 0, 0] inb_S2x128x128_S1x128x128_1_0_0 9 ![9, 0] inb_S16x128_S1x128_9_0 rfl rfl) $$ [Hf Hn Hb1 Hs4]
  · isplitl [Hf]; · iexact Hf
    isplitl [Hn]; · iexact Hn
    isplitl [Hb1]; · iexact Hb1
    iexact Hs4
  iintro Hg
  iapply (copy_start m d L ![0, 0, 0] inb_S2x128x128_S1x128x128_0_0_0 8) $$ [Hb0 Ho Hs5]
  · isplitl [Hb0]; · iexact Hb0
    isplitl [Ho]; · iexact Ho
    iexact Hs5
  iintro Hc
  iapply (copy_wait m d L O W ![0, 0, 0] inb_S2x128x128_S1x128x128_0_0_0 8) $$ [Hc HO]
  · isplitl [Hc]; · iexact Hc
    isplitl [HO]; · iexact HO
    iexact Hmw
  iintro ⟨Hb0, Ho, Hs5, HO⟩
  iapply (gather_wait m d L O W q ![1, 0, 0] inb_S2x128x128_S1x128x128_1_0_0 9) $$ [Hg HO]
  · isplitl [Hg]; · iexact Hg
    isplitl [HO]; · iexact HO
    iexact Hmw
  iintro ⟨Hf, Hn, Hb1, Hs4, HO⟩
  sl_step
  iapply Hk
  isplitl [Hf]; · iexact Hf
  isplitl [Hn]; · iexact Hn
  isplitl [Hs4]; · iexact Hs4
  isplitl [Hb0]; · iexact Hb0
  isplitl [Hb1]; · iexact Hb1
  isplitl [Ho]; · iexact Ho
  isplitl [Hs5]; · iexact Hs5
  iexact HO

set_option maxHeartbeats 800000 in
theorem part38 {α : Type} {Q : α → sProp 𝕄} (v643 : BitVec 32)
    {k : PUnit → Prog (TpuEff nD τ sig (Elt F) Λ₀ (thrG d L).2) α} :
    iprop((((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Free d L ![0, 0, 0] inb_S2x128x128_S1x128x128_0_0_0
          ∗ Filled m d L ![1, 0, 0] inb_S2x128x128_S1x128x128_1_0_0 9
          ∗ blk m d L 9
          ∗ semVal (thrG d L, SemLoc.dma cc1_scratch5.sem) 0
          ∗ Ow d L O W)
        ∗ Transfers.MayWaits (thrG d L) (default : HIx 2) O)
      ⊢ iprop((iprop(((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Filled m d L ![0, 0, 0] inb_S2x128x128_S1x128x128_0_0_0 10
          ∗ Free d L ![1, 0, 0] inb_S2x128x128_S1x128x128_1_0_0
          ∗ blk m d L 10
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part38 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part38_eq_skeleton]; unfold k1_part38_skel
  iintro ⟨⟨Hf, Hn, Hs4, Hb0, Hb1, Ho, Hs5, HO⟩, #Hmw⟩ Hk
  iapply (gather_start m d L q ![0, 0, 0] inb_S2x128x128_S1x128x128_0_0_0 10 ![10, 0] inb_S16x128_S1x128_10_0 rfl rfl) $$ [Hf Hn Hb0 Hs4]
  · isplitl [Hf]; · iexact Hf
    isplitl [Hn]; · iexact Hn
    isplitl [Hb0]; · iexact Hb0
    iexact Hs4
  iintro Hg
  iapply (copy_start m d L ![1, 0, 0] inb_S2x128x128_S1x128x128_1_0_0 9) $$ [Hb1 Ho Hs5]
  · isplitl [Hb1]; · iexact Hb1
    isplitl [Ho]; · iexact Ho
    iexact Hs5
  iintro Hc
  iapply (copy_wait m d L O W ![1, 0, 0] inb_S2x128x128_S1x128x128_1_0_0 9) $$ [Hc HO]
  · isplitl [Hc]; · iexact Hc
    isplitl [HO]; · iexact HO
    iexact Hmw
  iintro ⟨Hb1, Ho, Hs5, HO⟩
  iapply (gather_wait m d L O W q ![0, 0, 0] inb_S2x128x128_S1x128x128_0_0_0 10) $$ [Hg HO]
  · isplitl [Hg]; · iexact Hg
    isplitl [HO]; · iexact HO
    iexact Hmw
  iintro ⟨Hf, Hn, Hb0, Hs4, HO⟩
  sl_step
  iapply Hk
  isplitl [Hf]; · iexact Hf
  isplitl [Hn]; · iexact Hn
  isplitl [Hs4]; · iexact Hs4
  isplitl [Hb0]; · iexact Hb0
  isplitl [Hb1]; · iexact Hb1
  isplitl [Ho]; · iexact Ho
  isplitl [Hs5]; · iexact Hs5
  iexact HO

set_option maxHeartbeats 800000 in
theorem part39 {α : Type} {Q : α → sProp 𝕄} (v643 : BitVec 32)
    {k : PUnit → Prog (TpuEff nD τ sig (Elt F) Λ₀ (thrG d L).2) α} :
    iprop((((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Filled m d L ![0, 0, 0] inb_S2x128x128_S1x128x128_0_0_0 10
          ∗ Free d L ![1, 0, 0] inb_S2x128x128_S1x128x128_1_0_0
          ∗ blk m d L 10
          ∗ semVal (thrG d L, SemLoc.dma cc1_scratch5.sem) 0
          ∗ Ow d L O W)
        ∗ Transfers.MayWaits (thrG d L) (default : HIx 2) O)
      ⊢ iprop((iprop(Gath m d L q ![0, 0, 0] inb_S2x128x128_S1x128x128_0_0_0 12
          ∗ Filled m d L ![1, 0, 0] inb_S2x128x128_S1x128x128_1_0_0 11
          ∗ blk m d L 11
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part39 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part39_eq_skeleton]; unfold k1_part39_skel
  iintro ⟨⟨Hf, Hn, Hs4, Hb0, Hb1, Ho, Hs5, HO⟩, #Hmw⟩ Hk
  iapply (gather_start m d L q ![1, 0, 0] inb_S2x128x128_S1x128x128_1_0_0 11 ![11, 0] inb_S16x128_S1x128_11_0 rfl rfl) $$ [Hf Hn Hb1 Hs4]
  · isplitl [Hf]; · iexact Hf
    isplitl [Hn]; · iexact Hn
    isplitl [Hb1]; · iexact Hb1
    iexact Hs4
  iintro Hg
  iapply (copy_start m d L ![0, 0, 0] inb_S2x128x128_S1x128x128_0_0_0 10) $$ [Hb0 Ho Hs5]
  · isplitl [Hb0]; · iexact Hb0
    isplitl [Ho]; · iexact Ho
    iexact Hs5
  iintro Hc
  iapply (copy_wait m d L O W ![0, 0, 0] inb_S2x128x128_S1x128x128_0_0_0 10) $$ [Hc HO]
  · isplitl [Hc]; · iexact Hc
    isplitl [HO]; · iexact HO
    iexact Hmw
  iintro ⟨Hb0, Ho, Hs5, HO⟩
  iapply (gather_wait m d L O W q ![1, 0, 0] inb_S2x128x128_S1x128x128_1_0_0 11) $$ [Hg HO]
  · isplitl [Hg]; · iexact Hg
    isplitl [HO]; · iexact HO
    iexact Hmw
  iintro ⟨Hf, Hn, Hb1, Hs4, HO⟩
  iapply (gather_start m d L q ![0, 0, 0] inb_S2x128x128_S1x128x128_0_0_0 12 ![12, 0] inb_S16x128_S1x128_12_0 rfl rfl) $$ [Hf Hn Hb0 Hs4]
  · isplitl [Hf]; · iexact Hf
    isplitl [Hn]; · iexact Hn
    isplitl [Hb0]; · iexact Hb0
    iexact Hs4
  iintro Hg
  sl_step
  iapply Hk
  isplitl [Hg]; · iexact Hg
  isplitl [Hb1]; · iexact Hb1
  isplitl [Ho]; · iexact Ho
  isplitl [Hs5]; · iexact Hs5
  iexact HO

set_option maxHeartbeats 800000 in
theorem part40 {α : Type} {Q : α → sProp 𝕄} (v643 : BitVec 32)
    {k : PUnit → Prog (TpuEff nD τ sig (Elt F) Λ₀ (thrG d L).2) α} :
    iprop((Gath m d L q ![0, 0, 0] inb_S2x128x128_S1x128x128_0_0_0 12
          ∗ Filled m d L ![1, 0, 0] inb_S2x128x128_S1x128x128_1_0_0 11
          ∗ blk m d L 11
          ∗ semVal (thrG d L, SemLoc.dma cc1_scratch5.sem) 0
          ∗ Ow d L O W)
        ∗ Transfers.MayWaits (thrG d L) (default : HIx 2) O)
      ⊢ iprop((iprop(Gath m d L q ![1, 0, 0] inb_S2x128x128_S1x128x128_1_0_0 13
          ∗ Filled m d L ![0, 0, 0] inb_S2x128x128_S1x128x128_0_0_0 12
          ∗ blk m d L 12
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part40 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part40_eq_skeleton]; unfold k1_part40_skel
  iintro ⟨⟨Hg, Hb1, Ho, Hs5, HO⟩, #Hmw⟩ Hk
  iapply (copy_start m d L ![1, 0, 0] inb_S2x128x128_S1x128x128_1_0_0 11) $$ [Hb1 Ho Hs5]
  · isplitl [Hb1]; · iexact Hb1
    isplitl [Ho]; · iexact Ho
    iexact Hs5
  iintro Hc
  iapply (copy_wait m d L O W ![1, 0, 0] inb_S2x128x128_S1x128x128_1_0_0 11) $$ [Hc HO]
  · isplitl [Hc]; · iexact Hc
    isplitl [HO]; · iexact HO
    iexact Hmw
  iintro ⟨Hb1, Ho, Hs5, HO⟩
  iapply (gather_wait m d L O W q ![0, 0, 0] inb_S2x128x128_S1x128x128_0_0_0 12) $$ [Hg HO]
  · isplitl [Hg]; · iexact Hg
    isplitl [HO]; · iexact HO
    iexact Hmw
  iintro ⟨Hf, Hn, Hb0, Hs4, HO⟩
  iapply (gather_start m d L q ![1, 0, 0] inb_S2x128x128_S1x128x128_1_0_0 13 ![13, 0] inb_S16x128_S1x128_13_0 rfl rfl) $$ [Hf Hn Hb1 Hs4]
  · isplitl [Hf]; · iexact Hf
    isplitl [Hn]; · iexact Hn
    isplitl [Hb1]; · iexact Hb1
    iexact Hs4
  iintro Hg
  sl_step
  iapply Hk
  isplitl [Hg]; · iexact Hg
  isplitl [Hb0]; · iexact Hb0
  isplitl [Ho]; · iexact Ho
  isplitl [Hs5]; · iexact Hs5
  iexact HO

set_option maxHeartbeats 800000 in
theorem part41 {α : Type} {Q : α → sProp 𝕄} (v643 : BitVec 32)
    {k : PUnit → Prog (TpuEff nD τ sig (Elt F) Λ₀ (thrG d L).2) α} :
    iprop((Gath m d L q ![1, 0, 0] inb_S2x128x128_S1x128x128_1_0_0 13
          ∗ Filled m d L ![0, 0, 0] inb_S2x128x128_S1x128x128_0_0_0 12
          ∗ blk m d L 12
          ∗ semVal (thrG d L, SemLoc.dma cc1_scratch5.sem) 0
          ∗ Ow d L O W)
        ∗ Transfers.MayWaits (thrG d L) (default : HIx 2) O)
      ⊢ iprop((iprop(Gath m d L q ![0, 0, 0] inb_S2x128x128_S1x128x128_0_0_0 14
          ∗ Filled m d L ![1, 0, 0] inb_S2x128x128_S1x128x128_1_0_0 13
          ∗ blk m d L 13
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part41 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part41_eq_skeleton]; unfold k1_part41_skel
  iintro ⟨⟨Hg, Hb0, Ho, Hs5, HO⟩, #Hmw⟩ Hk
  iapply (copy_start m d L ![0, 0, 0] inb_S2x128x128_S1x128x128_0_0_0 12) $$ [Hb0 Ho Hs5]
  · isplitl [Hb0]; · iexact Hb0
    isplitl [Ho]; · iexact Ho
    iexact Hs5
  iintro Hc
  iapply (copy_wait m d L O W ![0, 0, 0] inb_S2x128x128_S1x128x128_0_0_0 12) $$ [Hc HO]
  · isplitl [Hc]; · iexact Hc
    isplitl [HO]; · iexact HO
    iexact Hmw
  iintro ⟨Hb0, Ho, Hs5, HO⟩
  iapply (gather_wait m d L O W q ![1, 0, 0] inb_S2x128x128_S1x128x128_1_0_0 13) $$ [Hg HO]
  · isplitl [Hg]; · iexact Hg
    isplitl [HO]; · iexact HO
    iexact Hmw
  iintro ⟨Hf, Hn, Hb1, Hs4, HO⟩
  iapply (gather_start m d L q ![0, 0, 0] inb_S2x128x128_S1x128x128_0_0_0 14 ![14, 0] inb_S16x128_S1x128_14_0 rfl rfl) $$ [Hf Hn Hb0 Hs4]
  · isplitl [Hf]; · iexact Hf
    isplitl [Hn]; · iexact Hn
    isplitl [Hb0]; · iexact Hb0
    iexact Hs4
  iintro Hg
  sl_step
  iapply Hk
  isplitl [Hg]; · iexact Hg
  isplitl [Hb1]; · iexact Hb1
  isplitl [Ho]; · iexact Ho
  isplitl [Hs5]; · iexact Hs5
  iexact HO

set_option maxHeartbeats 800000 in
theorem part42 {α : Type} {Q : α → sProp 𝕄} (v643 : BitVec 32)
    {k : PUnit → Prog (TpuEff nD τ sig (Elt F) Λ₀ (thrG d L).2) α} :
    iprop((Gath m d L q ![0, 0, 0] inb_S2x128x128_S1x128x128_0_0_0 14
          ∗ Filled m d L ![1, 0, 0] inb_S2x128x128_S1x128x128_1_0_0 13
          ∗ blk m d L 13
          ∗ semVal (thrG d L, SemLoc.dma cc1_scratch5.sem) 0
          ∗ Ow d L O W)
        ∗ Transfers.MayWaits (thrG d L) (default : HIx 2) O)
      ⊢ iprop((iprop(Gath m d L q ![1, 0, 0] inb_S2x128x128_S1x128x128_1_0_0 15
          ∗ Filled m d L ![0, 0, 0] inb_S2x128x128_S1x128x128_0_0_0 14
          ∗ blk m d L 14
          ∗ semVal (thrG d L, SemLoc.dma cc1_scratch5.sem) 0
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part42 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part42_eq_skeleton]; unfold k1_part42_skel
  iintro ⟨⟨Hg, Hb1, Ho, Hs5, HO⟩, #Hmw⟩ Hk
  iapply (copy_start m d L ![1, 0, 0] inb_S2x128x128_S1x128x128_1_0_0 13) $$ [Hb1 Ho Hs5]
  · isplitl [Hb1]; · iexact Hb1
    isplitl [Ho]; · iexact Ho
    iexact Hs5
  iintro Hc
  iapply (copy_wait m d L O W ![1, 0, 0] inb_S2x128x128_S1x128x128_1_0_0 13) $$ [Hc HO]
  · isplitl [Hc]; · iexact Hc
    isplitl [HO]; · iexact HO
    iexact Hmw
  iintro ⟨Hb1, Ho, Hs5, HO⟩
  iapply (gather_wait m d L O W q ![0, 0, 0] inb_S2x128x128_S1x128x128_0_0_0 14) $$ [Hg HO]
  · isplitl [Hg]; · iexact Hg
    isplitl [HO]; · iexact HO
    iexact Hmw
  iintro ⟨Hf, Hn, Hb0, Hs4, HO⟩
  iapply (gather_start m d L q ![1, 0, 0] inb_S2x128x128_S1x128x128_1_0_0 15 ![15, 0] inb_S16x128_S1x128_15_0 rfl rfl) $$ [Hf Hn Hb1 Hs4]
  · isplitl [Hf]; · iexact Hf
    isplitl [Hn]; · iexact Hn
    isplitl [Hb1]; · iexact Hb1
    iexact Hs4
  iintro Hg
  sl_step
  iapply Hk
  isplitl [Hg]; · iexact Hg
  isplitl [Hb0]; · iexact Hb0
  isplitl [Ho]; · iexact Ho
  isplitl [Hs5]; · iexact Hs5
  iexact HO

set_option maxHeartbeats 800000 in
theorem part43 {α : Type} {Q : α → sProp 𝕄} (v643 : BitVec 32)
    {k : PUnit → Prog (TpuEff nD τ sig (Elt F) Λ₀ (thrG d L).2) α} :
    iprop((Gath m d L q ![1, 0, 0] inb_S2x128x128_S1x128x128_1_0_0 15
          ∗ Filled m d L ![0, 0, 0] inb_S2x128x128_S1x128x128_0_0_0 14
          ∗ blk m d L 14
          ∗ semVal (thrG d L, SemLoc.dma cc1_scratch5.sem) 0
          ∗ Ow d L O W)
        ∗ Transfers.MayWaits (thrG d L) (default : HIx 2) O)
      ⊢ iprop((iprop(((fV).view.loc (thrG d L) ↦{q} (m (fLoc d) : Buf (Elt F) ((fV).view.loc (thrG d L))))
          ∗ ((nS).view.loc (thrG d L) ↦{fullShare} (words m d L : Buf (Elt F) ((nS).view.loc (thrG d L))))
          ∗ semVal (thrG d L, SemLoc.dma cc1_scratch4.sem) 0
          ∗ Free d L ![0, 0, 0] inb_S2x128x128_S1x128x128_0_0_0
          ∗ Copy m d L ![1, 0, 0] inb_S2x128x128_S1x128x128_1_0_0 15
          ∗ Ow d L O W)
          -∗ wp frame (wpE (defs₀ (F := F)) 𝒱₀ (thrG d L) none) Set.univ (k ⟨⟩) Q)
        -∗ wp frame (wpE (defs₀ (F := F)) 𝒱₀ (thrG d L) none) Set.univ
        (k1_part43 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 v643 >>= k) Q) := by
  rw [wp_bind]; simp only [k1_part43_eq_skeleton]; unfold k1_part43_skel
  iintro ⟨⟨Hg, Hb0, Ho, Hs5, HO⟩, #Hmw⟩ Hk
  iapply (copy_start m d L ![0, 0, 0] inb_S2x128x128_S1x128x128_0_0_0 14) $$ [Hb0 Ho Hs5]
  · isplitl [Hb0]; · iexact Hb0
    isplitl [Ho]; · iexact Ho
    iexact Hs5
  iintro Hc
  iapply (copy_wait m d L O W ![0, 0, 0] inb_S2x128x128_S1x128x128_0_0_0 14) $$ [Hc HO]
  · isplitl [Hc]; · iexact Hc
    isplitl [HO]; · iexact HO
    iexact Hmw
  iintro ⟨Hb0, Ho, Hs5, HO⟩
  iapply (gather_wait m d L O W q ![1, 0, 0] inb_S2x128x128_S1x128x128_1_0_0 15) $$ [Hg HO]
  · isplitl [Hg]; · iexact Hg
    isplitl [HO]; · iexact HO
    iexact Hmw
  iintro ⟨Hf, Hn, Hb1, Hs4, HO⟩
  iapply (copy_start m d L ![1, 0, 0] inb_S2x128x128_S1x128x128_1_0_0 15) $$ [Hb1 Ho Hs5]
  · isplitl [Hb1]; · iexact Hb1
    isplitl [Ho]; · iexact Ho
    iexact Hs5
  iintro Hc
  sl_step
  iapply Hk
  isplitl [Hf]; · iexact Hf
  isplitl [Hn]; · iexact Hn
  isplitl [Hs4]; · iexact Hs4
  isplitl [Hb0]; · iexact Hb0
  isplitl [Hc]; · iexact Hc
  iexact HO

end Rows

end Cert.Proof.Calls

end
-- ==== Proof.Body.lean ====
/-
    The gathering call's body: one tile, whole.
-/
module

public import proofs.«01_k».proof.Proof.Stages

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Body

variable [FloatOps F] (m : (ℓ : Loc nD τ sig) → Buf (Elt F) ℓ) (d : Dev nD) (L : grid1.Coords)
variable (q : PosShare TreeShare) (O : CellTallies nD τ sig (HIx 2)) (W : Waits sig (HIx 2))

/-- The slot numbers the tile works through. -/
def mine : IVec S16x128 32 := fun y =>
  slots m d (ix2 (⟨32 * (L 1).val + 16 * (L 0).val + (y 0).val, by
    have h0 : (L 0).val < 2 := (L 0).isLt; have h1 : (L 1).val < 16 := (L 1).isLt; have h2 : (y 0).val < 16 := (y 0).isLt; omega⟩ : Fin 512) (y 1))

omit [FloatOps F] in
theorem mine_lt (hpre : PreOK m) (y : S16x128.Idx) : (mine m d L y).toNat < 16384 := hpre.2 d _

omit [FloatOps F] in
theorem found_zero (T : IVec S16384 32) (I f : IVec S16x128 32) : found T I f 0 = f := by
  funext y
  exact if_neg (by omega)

omit [FloatOps F] in
/-- All 128 groups looked up: the finished list. -/
theorem found_all (f : IVec S16x128 32) : found (tabFin m d) (mine m d L) f 128 = words m d L := by
  funext y
  have h0 : (y 0).val < 16 := (y 0).isLt
  have h1 : (y 1).val < 128 := (y 1).isLt
  exact if_pos (by omega)

omit [FloatOps F] in
theorem slice_mine (x : S16x128.Idx) :
    slots m d ((Rect.unit (s := S512x128) (k1_off1 L) S16x128.size (k1_off1_inb L)).emb x) = mine m d L x := by
  unfold mine
  refine congrArg (slots m d) (funext fun a => Fin.ext ?_)
  have e := k1_off1_eq L
  match a with
  | ⟨0, _⟩ =>
    show k1_off1 L 0 + 1 * (x 0).val = _
    rw [e]; show 32 * (L 1).val + 16 * (L 0).val + 1 * (x 0).val = 32 * (L 1).val + 16 * (L 0).val + (x 0).val; omega
  | ⟨1, _⟩ =>
    show k1_off1 L 1 + 1 * (x 1).val = _
    rw [e]; show 0 + 1 * (x 1).val = (x 1).val; omega

/-- A share of the table and of the slots, as the tile addresses them. -/
abbrev Held : sProp 𝕄 :=
  iprop(((tV).view.loc (thrG d L) ↦{q} (tabFin m d : Buf (Elt F) ((tV).view.loc (thrG d L))))
    ∗ ((xV).view.loc (thrG d L) ↦{q} (slots m d : Buf (Elt F) ((xV).view.loc (thrG d L)))))

/-- The tile's table, slot numbers and list of row numbers, at some contents. -/
abbrev Bufs (f0 : Buf (Elt F) ((thrG d L).loc cc1_scratch0)) (f1 : Buf (Elt F) ((thrG d L).loc cc1_scratch1)) (f2 : IVec S16x128 32) : sProp 𝕄 :=
  iprop(((tS).view.loc (thrG d L) ↦{fullShare} f0) ∗ ((iS).view.loc (thrG d L) ↦{fullShare} f1)
    ∗ ((nS).view.loc (thrG d L) ↦{fullShare} (f2 : Buf (Elt F) ((thrG d L).loc cc1_scratch2))))

set_option maxHeartbeats 800000 in
theorem part1 {α : Type} {Q : α → sProp 𝕄} (hpre : PreOK m)
    (f0 : Buf (Elt F) ((thrG d L).loc cc1_scratch0)) (f1 : Buf (Elt F) ((thrG d L).loc cc1_scratch1)) (f2 : IVec S16x128 32)
    {k : BitVec 32 → Prog (TpuEff nD τ sig (Elt F) Λ₀ (thrG d L).2) α} :
    iprop((Held m d L q ∗ Bufs d L f0 f1 f2
          ∗ semVal (thrG d L, SemLoc.dma cc1_scoped0.sem) 0 ∗ semVal (thrG d L, SemLoc.dma cc1_scoped1.sem) 0 ∗ Ow d L O W)
        ∗ Transfers.MayWaits (thrG d L) (default : HIx 2) O)
      ⊢ iprop((∀ v, iprop(Held m d L q
            ∗ St d L (tabFin m d) (mine m d L) f2 3
            ∗ semVal (thrG d L, SemLoc.dma cc1_scoped0.sem) 0 ∗ semVal (thrG d L, SemLoc.dma cc1_scoped1.sem) 0 ∗ Ow d L O W)
          -∗ wp frame (wpE (defs₀ (F := F)) 𝒱₀ (thrG d L) none) Set.univ (k v) Q)
        -∗ wp frame (wpE (defs₀ (F := F)) 𝒱₀ (thrG d L) none) Set.univ
        (k1_part1 L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1 >>= k) Q) := by
  rw [wp_bind]; simp only [k1_part1_eq_skeleton]; unfold k1_part1_skel
  iintro ⟨⟨⟨Htv, Hxv⟩, ⟨Ht, Hi, Hn⟩, HsA, HsB, HO⟩, #Hmw⟩ Hk
  ihave HO := (Entails.of_eq (show Ow d L O W = iprop(∃ W', ⌜∀ p ∈ W', p ∈ W ∨ p.2 = none⌝ ∗ owes (thrG d L) O W') from rfl)) $$ HO
  icases HO with ⟨%W', %hW', HO⟩
  sl_exec
  let T1 : IVec S16384 32 := View.write (Elt F) (tS).view f0 (part1.sl.dma0 m d) Finset.univ
  let I1 : IVec S16x128 32 := View.write (Elt F) (iS).view f1 (part1.sl.dma0_1 m d L) Finset.univ
  have hT1 : T1 = tabFin m d := View.write_whole_univ _ _ _
  have hI1 : I1 = mine m d L := (View.write_whole_univ _ _ _).trans (funext fun x => slice_mine m d L x)
  have hI : ∀ y, (I1 y).toNat < 16384 := fun y => hI1 ▸ mine_lt m d L hpre y
  ihave Hn := (Entails.of_eq (congrArg (fun g : Buf (Elt F) ((thrG d L).loc cc1_scratch2) => ((nS).view.loc (thrG d L) ↦{fullShare} g : sProp 𝕄)) (found_zero T1 I1 f2).symm)) $$ Hn
  iapply (wp_look d L T1 (nums_lt (F := F) I1 ![0, 0] inb_S16x128_S1x16_0_0 hI) _ (nums_lt (F := F) I1 ![0, 0] inb_S16x128_S1x16_0_0 hI)) $$ Ht; iintro Ht; sl_exec
  ihave Hn := (pts_stored d L T1 I1 f2 ![0, 0] inb_S16x128_S1x16_0_0 0 hI rfl rfl) $$ Hn
  iapply (wp_look d L T1 (nums_lt (F := F) I1 ![0, 16] inb_S16x128_S1x16_0_16 hI) _ (nums_lt (F := F) I1 ![0, 16] inb_S16x128_S1x16_0_16 hI)) $$ Ht; iintro Ht; sl_exec
  ihave Hn := (pts_stored d L T1 I1 f2 ![0, 16] inb_S16x128_S1x16_0_16 1 hI rfl rfl) $$ Hn
  iapply (wp_look d L T1 (nums_lt (F := F) I1 ![0, 32] inb_S16x128_S1x16_0_32 hI) _ (nums_lt (F := F) I1 ![0, 32] inb_S16x128_S1x16_0_32 hI)) $$ Ht; iintro Ht; sl_exec
  ihave Hn := (pts_stored d L T1 I1 f2 ![0, 32] inb_S16x128_S1x16_0_32 2 hI rfl rfl) $$ Hn
  iapply Hk
  isplitl [Htv Hxv]
  · isplitl [Htv]; · iexact Htv
    iexact Hxv
  isplitl [Ht Hi Hn]
  · iapply (Entails.of_eq (show St d L T1 I1 f2 3 = (St d L (tabFin m d) (mine m d L) f2 3 : sProp 𝕄) from by rw [hT1, hI1]))
    isplitl [Ht]; · iexact Ht
    isplitl [Hi]; · iexact Hi
    iexact Hn
  isplitl [HsA]; · iexact HsA
  isplitl [HsB]; · iexact HsB
  iapply (Entails.of_eq (show iprop(∃ W', ⌜∀ p ∈ W', p ∈ W ∨ p.2 = none⌝ ∗ owes (thrG d L) O W') = Ow d L O W from rfl))
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The tile's own buffers and semaphores -/

omit [FloatOps F] in
theorem mem_buf (b : ℕ) (inb : ∀ a, (![b, 0, 0] : Fin 3 → ℕ) a + S1x128x128.size a ≤ S2x128x128.size a) (y : S2x128x128.Idx) :
    y ∈ ((buf ![b, 0, 0] inb).view.set : Finset S2x128x128.Idx) ↔ (y 0).val = b := by
  have e : ((buf ![b, 0, 0] inb).view.set : Finset S2x128x128.Idx) = (Rect.unit (s := S2x128x128) ![b, 0, 0] S1x128x128.size inb).set :=
    (View.set_reshape _ _).trans (View.set_slice_whole cc1_scratch3 _)
  rw [e, Rect.mem_set_unit]
  have h1 : (y 1).val < 128 := (y 1).isLt
  have h2 : (y 2).val < 128 := (y 2).isLt
  constructor
  · intro h
    have h0 : b ≤ (y 0).val ∧ (y 0).val < b + 1 := h 0
    omega
  · intro h a
    match a with
    | ⟨0, _⟩ => show b ≤ (y 0).val ∧ (y 0).val < b + 1; omega
    | ⟨1, _⟩ => show 0 ≤ (y 1).val ∧ (y 1).val < 0 + 128; omega
    | ⟨2, _⟩ => show 0 ≤ (y 2).val ∧ (y 2).val < 0 + 128; omega

omit [FloatOps F] in
theorem rest_buf : (Finset.univ \ (buf ![0, 0, 0] inb_S2x128x128_S1x128x128_0_0_0).view.set : Finset S2x128x128.Idx)
    = (buf ![1, 0, 0] inb_S2x128x128_S1x128x128_1_0_0).view.set := by
  ext y
  have h0 : (y 0).val < 2 := (y 0).isLt
  rw [Finset.mem_sdiff, mem_buf, mem_buf]
  constructor
  · rintro ⟨-, h⟩; omega
  · intro h; exact ⟨Finset.mem_univ _, by omega⟩

omit [FloatOps F] in
/-- The row buffers are the two halves of one array. -/
theorem halve (f : Buf (Elt F) ((thrG d L).loc cc1_scratch3)) :
    ((thrG d L).loc cc1_scratch3 ↦{fullShare} f : sProp 𝕄)
      ⊢ iprop(Free d L ![0, 0, 0] inb_S2x128x128_S1x128x128_0_0_0 ∗ Free d L ![1, 0, 0] inb_S2x128x128_S1x128x128_1_0_0) := by
  iintro H
  ihave H := (pointsTo_split_subset (q := fullShare) (f := f) (ℓ := (thrG d L).loc cc1_scratch3) (I := (buf ![0, 0, 0] inb_S2x128x128_S1x128x128_0_0_0).view.set) (S := Finset.univ) (Finset.subset_univ _)).1 $$ H
  icases H with ⟨H0, H1⟩
  unfold Free
  isplitl [H0]
  · iexists f; iexact H0
  · iexists f
    iapply (Entails.of_eq (congrArg (fun S : Finset S2x128x128.Idx => ((thrG d L).loc cc1_scratch3 ↦[S]{fullShare} f : sProp 𝕄)) rest_buf))
    iexact H1

omit [FloatOps F] in
theorem unhalve :
    iprop(Free d L ![0, 0, 0] inb_S2x128x128_S1x128x128_0_0_0 ∗ Free d L ![1, 0, 0] inb_S2x128x128_S1x128x128_1_0_0)
      ⊢ (iprop(∃ f, (thrG d L).loc cc1_scratch3 ↦{fullShare} f) : sProp 𝕄) := by
  iintro ⟨H0, H1⟩
  unfold Free
  icases H0 with ⟨%g0, H0⟩
  icases H1 with ⟨%g1, H1⟩
  ihave H1 := (Entails.of_eq (congrArg (fun S : Finset S2x128x128.Idx => ((thrG d L).loc cc1_scratch3 ↦[S]{fullShare} g1 : sProp 𝕄)) rest_buf.symm)) $$ H1
  iexists _
  iapply (pointsTo_join_subset (q := fullShare) (ℓ := (thrG d L).loc cc1_scratch3) (g := g0) (f := g1) (I := (buf ![0, 0, 0] inb_S2x128x128_S1x128x128_0_0_0).view.set) (S := Finset.univ) (Finset.subset_univ _))
  isplitl [H0]; · iexact H0
  iexact H1

abbrev gA (d : Dev nD) (L : grid1.Coords) : GSem nD τ sig := (thrG d L, .dma cc1_scoped0.sem)
abbrev gB (d : Dev nD) (L : grid1.Coords) : GSem nD τ sig := (thrG d L, .dma cc1_scoped1.sem)
abbrev g4 (d : Dev nD) (L : grid1.Coords) : GSem nD τ sig := (thrG d L, .dma cc1_scratch4.sem)
abbrev g5 (d : Dev nD) (L : grid1.Coords) : GSem nD τ sig := (thrG d L, .dma cc1_scratch5.sem)

omit [FloatOps F] in
theorem ownSems0_G :
    (ownSems0 (thrG d L) : sProp 𝕄)
      = iprop(semVal (gA d L) 0 ∗ semVal (gB d L) 0 ∗ semVal (g4 d L) 0 ∗ semVal (g5 d L) 0
          ∗ bigSep (((((ownCells (thrG d L)).erase (gA d L)).erase (gB d L)).erase (g4 d L)).erase (g5 d L)) fun g => semVal g 0) := by
  have hne : ∀ {a b : SemLoc sig}, a ≠ b → ((thrG d L, a) : GSem nD τ sig) ≠ (thrG d L, b) := fun h e => h (congrArg Prod.snd e)
  unfold SparseCore.Cfg.ownSems0
  rw [SparseCore.bigSep_erase' ((mem_ownCells (g := gA d L)).mpr ⟨rfl, by
      show (SemLoc.dma cc1_scoped0.sem : SemLoc sig).isScoped .scVector = true; decide⟩),
    SparseCore.bigSep_erase' (Finset.mem_erase.mpr ⟨hne (by decide), (mem_ownCells (g := gB d L)).mpr ⟨rfl, by
      show (SemLoc.dma cc1_scoped1.sem : SemLoc sig).isScoped .scVector = true; decide⟩⟩),
    SparseCore.bigSep_erase' (Finset.mem_erase.mpr ⟨hne (by decide), Finset.mem_erase.mpr ⟨hne (by decide),
      (mem_ownCells (g := g4 d L)).mpr ⟨rfl, by show (SemLoc.dma cc1_scratch4.sem : SemLoc sig).isScoped .scVector = true; decide⟩⟩⟩),
    SparseCore.bigSep_erase' (Finset.mem_erase.mpr ⟨hne (by decide), Finset.mem_erase.mpr ⟨hne (by decide), Finset.mem_erase.mpr ⟨hne (by decide),
      (mem_ownCells (g := g5 d L)).mpr ⟨rfl, by show (SemLoc.dma cc1_scratch5.sem : SemLoc sig).isScoped .scVector = true; decide⟩⟩⟩⟩)]

abbrev gRef (b : Ref sig .scVector) (L : grid1.Coords) : DevRef τ sig := (Proc.scVector (cG L) (jG L)).devRef b

omit [FloatOps F] in
theorem ownBufs_G :
    (ownBufs (thrG d L) : sProp 𝕄)
      = iprop((∃ f, (thrG d L).loc cc1_scratch0 ↦{fullShare} f) ∗ (∃ f, (thrG d L).loc cc1_scratch1 ↦{fullShare} f)
          ∗ (∃ f, (thrG d L).loc cc1_scratch2 ↦{fullShare} f) ∗ (∃ f, (thrG d L).loc cc1_scratch3 ↦{fullShare} f)
          ∗ bigSep (((((ownRefs (τ := τ) (.scVector (cG L) (jG L))).erase (gRef cc1_scratch0 L)).erase (gRef cc1_scratch1 L)).erase (gRef cc1_scratch2 L)).erase (gRef cc1_scratch3 L))
              fun b => iprop(∃ f, ((d, b) : Loc nD τ sig) ↦{fullShare} f)) := by
  have hne : ∀ {a b : Ref sig .scVector}, a ≠ b → gRef a L ≠ gRef b L := fun h e => absurd (Proc.devRef_injective _ e) h
  unfold SparseCore.Cfg.ownBufs
  refine (SparseCore.bigSep_erase' (SparseCore.Cfg.mem_ownRefs_of_owner (p := Proc.scVector (cG L) (jG L)) (b := gRef cc1_scratch0 L) rfl)).trans ?_
  rw [SparseCore.bigSep_erase' (Finset.mem_erase.mpr ⟨hne (by decide),
      SparseCore.Cfg.mem_ownRefs_of_owner (p := Proc.scVector (cG L) (jG L)) (b := gRef cc1_scratch1 L) rfl⟩),
    SparseCore.bigSep_erase' (Finset.mem_erase.mpr ⟨hne (by decide), Finset.mem_erase.mpr ⟨hne (by decide),
      SparseCore.Cfg.mem_ownRefs_of_owner (p := Proc.scVector (cG L) (jG L)) (b := gRef cc1_scratch2 L) rfl⟩⟩),
    SparseCore.bigSep_erase' (Finset.mem_erase.mpr ⟨hne (by decide), Finset.mem_erase.mpr ⟨hne (by decide), Finset.mem_erase.mpr ⟨hne (by decide),
      SparseCore.Cfg.mem_ownRefs_of_owner (p := Proc.scVector (cG L) (jG L)) (b := gRef cc1_scratch3 L) rfl⟩⟩⟩)]

/-- What the tile reads. -/
abbrev share : sProp 𝕄 := iprop((tLoc d ↦{q} tabFin m d) ∗ (xLoc d ↦{q} slots m d) ∗ fLoc d ↦{q} m (fLoc d))

set_option maxHeartbeats 1600000 in
/-- One tile of the gathering call: its sixteen blocks of rows, finished. -/
theorem gather_body (hF : (K (F := F)).Facts) (hpre : PreOK m) (hO : ∀ g, O g none = 0) :
    iprop(levAts (K (F := F)).L (K (F := F)).lev ∗ emp ∗ (share m d q ∗ blk m d L 0)
        ∗ scopedBufs (thrG d L) ∗ scopedSems0 (thrG d L) ∗ owes (thrG d L) O W)
      ⊢ wp frame (wpE (defs₀ (F := F)) 𝒱₀ (thrG d L) none) Set.univ
          (cc1__sc_gather_body L tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _) cc1_scratch4 cc1_scratch5 cc1_scoped0 cc1_scoped1)
          fun _ => iprop((share m d q ∗ blk m d L 16)
            ∗ scopedBufs (thrG d L) ∗ scopedSems0 (thrG d L)
            ∗ ∃ W', ⌜∀ p ∈ W', p ∈ W ∨ p.2 = none⌝ ∗ owes (thrG d L) O W') := by
  have hI := mine_lt m d L hpre
  simp only [cc1__sc_gather_body_eq_skeleton]; unfold cc1__sc_gather_body_skel
  rw [(K (F := F)).scopedBufs_V hF d (cG L) (jG L), SparseCore.Cfg.scopedSems0_V (Val := Elt F) d (cG L) (jG L), ownSems0_G, ownBufs_G]
  iintro ⟨#Hlv, -, ⟨⟨Htv, Hxv, Hf⟩, Ho⟩, ⟨⟨%f0, Ht⟩, ⟨%f1, Hi⟩, ⟨%f2, Hn⟩, ⟨%f3, Hb⟩, Hbufs⟩, ⟨HsA, HsB, Hs4, Hs5, Hsems⟩, HO⟩
  ihave #Hmw := (show levAts (K (F := F)).L (K (F := F)).lev ⊢ Transfers.MayWaits (thrG d L) (default : HIx 2) O from
    (K (F := F)).mayWaits_none (thr := thrG d L) hO) $$ Hlv
  ihave HO := (show (owes (thrG d L) O W : sProp 𝕄) ⊢ Ow d L O W by
    unfold Ow
    iintro HO
    iexists W; isplitr
    · ipureintro; exact fun p hp => .inl hp
    · iexact HO) $$ HO
  ihave Hb := (halve d L f3) $$ Hb
  icases Hb with ⟨Hb0, Hb1⟩
  iapply (part1 m d L q O W hpre f0 f1 f2) $$ [Htv Hxv Ht Hi Hn HsA HsB HO]
  · isplitl [Htv Hxv Ht Hi Hn HsA HsB HO]
    · isplitl [Htv Hxv]
      · isplitl [Htv]; · iexact Htv
        iexact Hxv
      isplitl [Ht Hi Hn]
      · isplitl [Ht]; · iexact Ht
        isplitl [Hi]; · iexact Hi
        iexact Hn
      isplitl [HsA]; · iexact HsA
      isplitl [HsB]; · iexact HsB
      iexact HO
    · iexact Hmw
  iintro %v1 ⟨Hh, HSt, HsA, HsB, HO⟩
  icases Hh with ⟨Htv, Hxv⟩
  iapply (part2 d L (tabFin m d) (mine m d L) f2 hI) $$ HSt; iintro HSt
  iapply (part3 d L (tabFin m d) (mine m d L) f2 hI) $$ HSt; iintro HSt
  iapply (part4 d L (tabFin m d) (mine m d L) f2 hI) $$ HSt; iintro HSt
  iapply (part5 d L (tabFin m d) (mine m d L) f2 hI) $$ HSt; iintro HSt
  iapply (part6 d L (tabFin m d) (mine m d L) f2 hI _) $$ HSt; iintro HSt
  iapply (part7 d L (tabFin m d) (mine m d L) f2 hI) $$ HSt; iintro HSt
  iapply (part8 d L (tabFin m d) (mine m d L) f2 hI _) $$ HSt; iintro HSt
  iapply (part9 d L (tabFin m d) (mine m d L) f2 hI _) $$ HSt; iintro HSt
  iapply (part10 d L (tabFin m d) (mine m d L) f2 hI _) $$ HSt; iintro HSt
  iapply (part11 d L (tabFin m d) (mine m d L) f2 hI) $$ HSt; iintro HSt
  iapply (part12 d L (tabFin m d) (mine m d L) f2 hI) $$ HSt; iintro HSt
  iapply (part13 d L (tabFin m d) (mine m d L) f2 hI) $$ HSt; iintro HSt
  iapply (part14 d L (tabFin m d) (mine m d L) f2 hI) $$ HSt; iintro HSt
  iapply (part15 d L (tabFin m d) (mine m d L) f2 hI) $$ HSt; iintro HSt
  iapply (part16 d L (tabFin m d) (mine m d L) f2 hI) $$ HSt; iintro HSt
  iapply (part17 d L (tabFin m d) (mine m d L) f2 hI) $$ HSt; iintro HSt
  iapply (part18 d L (tabFin m d) (mine m d L) f2 hI) $$ HSt; iintro HSt
  iapply (part19 d L (tabFin m d) (mine m d L) f2 hI _) $$ HSt; iintro HSt
  iapply (part20 d L (tabFin m d) (mine m d L) f2 hI) $$ HSt; iintro HSt
  iapply (part21 d L (tabFin m d) (mine m d L) f2 hI _) $$ HSt; iintro HSt
  iapply (part22 d L (tabFin m d) (mine m d L) f2 hI _) $$ HSt; iintro HSt
  iapply (part23 d L (tabFin m d) (mine m d L) f2 hI _) $$ HSt; iintro HSt
  iapply (part24 d L (tabFin m d) (mine m d L) f2 hI) $$ HSt; iintro HSt
  iapply (part25 d L (tabFin m d) (mine m d L) f2 hI) $$ HSt; iintro HSt
  iapply (part26 d L (tabFin m d) (mine m d L) f2 hI) $$ HSt; iintro HSt
  iapply (part27 d L (tabFin m d) (mine m d L) f2 hI) $$ HSt; iintro HSt
  iapply (part28 d L (tabFin m d) (mine m d L) f2 hI) $$ HSt; iintro HSt
  iapply (part29 m d L q O W (tabFin m d) (mine m d L) f2 hI (found_all m d L f2) _) $$ [HSt Hf Hs4 Hb0 Hb1 Ho Hs5 HO]
  · isplitl [HSt Hf Hs4 Hb0 Hb1 Ho Hs5 HO]
    · isplitl [HSt]; · iexact HSt
      isplitl [Hf]; · iexact Hf
      isplitl [Hs4]; · iexact Hs4
      isplitl [Hb0]; · iexact Hb0
      isplitl [Hb1]; · iexact Hb1
      isplitl [Ho]; · iexact Ho
      isplitl [Hs5]; · iexact Hs5
      iexact HO
    · iexact Hmw
  iintro ⟨Ht, Hi, Hg, Hc, HO⟩
  iapply (part30 m d L q O W _) $$ [Hg Hc HO]
  · isplitl [Hg Hc HO]
    · isplitl [Hg]; · iexact Hg
      isplitl [Hc]; · iexact Hc
      iexact HO
    · iexact Hmw
  iintro ⟨Hg, Hc, HO⟩
  iapply (part31 m d L q O W _) $$ [Hg Hc HO]
  · isplitl [Hg Hc HO]
    · isplitl [Hg]; · iexact Hg
      isplitl [Hc]; · iexact Hc
      iexact HO
    · iexact Hmw
  iintro ⟨Hg, Hc, HO⟩
  iapply (part32 m d L q O W _) $$ [Hg Hc HO]
  · isplitl [Hg Hc HO]
    · isplitl [Hg]; · iexact Hg
      isplitl [Hc]; · iexact Hc
      iexact HO
    · iexact Hmw
  iintro ⟨Hg, Hc, HO⟩
  iapply (part33 m d L q O W _) $$ [Hg Hc HO]
  · isplitl [Hg Hc HO]
    · isplitl [Hg]; · iexact Hg
      isplitl [Hc]; · iexact Hc
      iexact HO
    · iexact Hmw
  iintro ⟨Hg, Hb0, Ho, Hs5, HO⟩
  iapply (part34 m d L q O W _) $$ [Hg Hb0 Ho Hs5 HO]
  · isplitl [Hg Hb0 Ho Hs5 HO]
    · isplitl [Hg]; · iexact Hg
      isplitl [Hb0]; · iexact Hb0
      isplitl [Ho]; · iexact Ho
      isplitl [Hs5]; · iexact Hs5
      iexact HO
    · iexact Hmw
  iintro ⟨Hg, Hb1, Ho, Hs5, HO⟩
  iapply (part35 m d L q O W _) $$ [Hg Hb1 Ho Hs5 HO]
  · isplitl [Hg Hb1 Ho Hs5 HO]
    · isplitl [Hg]; · iexact Hg
      isplitl [Hb1]; · iexact Hb1
      isplitl [Ho]; · iexact Ho
      isplitl [Hs5]; · iexact Hs5
      iexact HO
    · iexact Hmw
  iintro ⟨Hg, Hb0, Ho, Hs5, HO⟩
  iapply (part36 m d L q O W _) $$ [Hg Hb0 Ho Hs5 HO]
  · isplitl [Hg Hb0 Ho Hs5 HO]
    · isplitl [Hg]; · iexact Hg
      isplitl [Hb0]; · iexact Hb0
      isplitl [Ho]; · iexact Ho
      isplitl [Hs5]; · iexact Hs5
      iexact HO
    · iexact Hmw
  iintro ⟨Hf, Hn, Hs4, Hb0, Hb1, Ho, Hs5, HO⟩
  iapply (part37 m d L q O W _) $$ [Hf Hn Hs4 Hb0 Hb1 Ho Hs5 HO]
  · isplitl [Hf Hn Hs4 Hb0 Hb1 Ho Hs5 HO]
    · isplitl [Hf]; · iexact Hf
      isplitl [Hn]; · iexact Hn
      isplitl [Hs4]; · iexact Hs4
      isplitl [Hb0]; · iexact Hb0
      isplitl [Hb1]; · iexact Hb1
      isplitl [Ho]; · iexact Ho
      isplitl [Hs5]; · iexact Hs5
      iexact HO
    · iexact Hmw
  iintro ⟨Hf, Hn, Hs4, Hb0, Hb1, Ho, Hs5, HO⟩
  iapply (part38 m d L q O W _) $$ [Hf Hn Hs4 Hb0 Hb1 Ho Hs5 HO]
  · isplitl [Hf Hn Hs4 Hb0 Hb1 Ho Hs5 HO]
    · isplitl [Hf]; · iexact Hf
      isplitl [Hn]; · iexact Hn
      isplitl [Hs4]; · iexact Hs4
      isplitl [Hb0]; · iexact Hb0
      isplitl [Hb1]; · iexact Hb1
      isplitl [Ho]; · iexact Ho
      isplitl [Hs5]; · iexact Hs5
      iexact HO
    · iexact Hmw
  iintro ⟨Hf, Hn, Hs4, Hb0, Hb1, Ho, Hs5, HO⟩
  iapply (part39 m d L q O W _) $$ [Hf Hn Hs4 Hb0 Hb1 Ho Hs5 HO]
  · isplitl [Hf Hn Hs4 Hb0 Hb1 Ho Hs5 HO]
    · isplitl [Hf]; · iexact Hf
      isplitl [Hn]; · iexact Hn
      isplitl [Hs4]; · iexact Hs4
      isplitl [Hb0]; · iexact Hb0
      isplitl [Hb1]; · iexact Hb1
      isplitl [Ho]; · iexact Ho
      isplitl [Hs5]; · iexact Hs5
      iexact HO
    · iexact Hmw
  iintro ⟨Hg, Hb1, Ho, Hs5, HO⟩
  iapply (part40 m d L q O W _) $$ [Hg Hb1 Ho Hs5 HO]
  · isplitl [Hg Hb1 Ho Hs5 HO]
    · isplitl [Hg]; · iexact Hg
      isplitl [Hb1]; · iexact Hb1
      isplitl [Ho]; · iexact Ho
      isplitl [Hs5]; · iexact Hs5
      iexact HO
    · iexact Hmw
  iintro ⟨Hg, Hb0, Ho, Hs5, HO⟩
  iapply (part41 m d L q O W _) $$ [Hg Hb0 Ho Hs5 HO]
  · isplitl [Hg Hb0 Ho Hs5 HO]
    · isplitl [Hg]; · iexact Hg
      isplitl [Hb0]; · iexact Hb0
      isplitl [Ho]; · iexact Ho
      isplitl [Hs5]; · iexact Hs5
      iexact HO
    · iexact Hmw
  iintro ⟨Hg, Hb1, Ho, Hs5, HO⟩
  iapply (part42 m d L q O W _) $$ [Hg Hb1 Ho Hs5 HO]
  · isplitl [Hg Hb1 Ho Hs5 HO]
    · isplitl [Hg]; · iexact Hg
      isplitl [Hb1]; · iexact Hb1
      isplitl [Ho]; · iexact Ho
      isplitl [Hs5]; · iexact Hs5
      iexact HO
    · iexact Hmw
  iintro ⟨Hg, Hb0, Ho, Hs5, HO⟩
  iapply (part43 m d L q O W _) $$ [Hg Hb0 Ho Hs5 HO]
  · isplitl [Hg Hb0 Ho Hs5 HO]
    · isplitl [Hg]; · iexact Hg
      isplitl [Hb0]; · iexact Hb0
      isplitl [Ho]; · iexact Ho
      isplitl [Hs5]; · iexact Hs5
      iexact HO
    · iexact Hmw
  iintro ⟨Hf, Hn, Hs4, Hb0, Hc, HO⟩
  iapply (copy_wait m d L O W ![1, 0, 0] inb_S2x128x128_S1x128x128_1_0_0 15) $$ [Hc HO]
  · isplitl [Hc]; · iexact Hc
    isplitl [HO]; · iexact HO
    iexact Hmw
  iintro ⟨Hb1, Ho, Hs5, HO⟩
  sl_step
  isplitl [Htv Hxv Hf Ho]
  · isplitl [Htv Hxv Hf]
    · isplitl [Htv]; · iexact Htv
      isplitl [Hxv]; · iexact Hxv
      iexact Hf
    · iexact Ho
  isplitl [Ht Hi Hn Hb0 Hb1 Hbufs]
  · isplitl [Ht]; · iexists _; iexact Ht
    isplitl [Hi]; · iexists _; iexact Hi
    isplitl [Hn]; · iexists _; iexact Hn
    isplitl [Hb0 Hb1]
    · iapply (unhalve d L)
      isplitl [Hb0]; · iexact Hb0
      iexact Hb1
    iexact Hbufs
  isplitl [HsA HsB Hs4 Hs5 Hsems]
  · isplitl [HsA]; · iexact HsA
    isplitl [HsB]; · iexact HsB
    isplitl [Hs4]; · iexact Hs4
    isplitl [Hs5]; · iexact Hs5
    iexact Hsems
  iapply (Entails.of_eq (show Ow d L O W = iprop(∃ W', ⌜∀ p ∈ W', p ∈ W ∨ p.2 = none⌝ ∗ owes (thrG d L) O W') from rfl))
  iexact HO

end Body

end Cert.Proof.Calls

end
-- ==== Proof.Deal.lean ====
/-
    What the gathering call's tiles get, and that it is everything.
-/
module

public import proofs.«01_k».proof.Proof.Body

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 2) (Elt F) ℕ UU ℕ

local notation "tV" => (Memref.whole Cert.KernelIdeal.main_v0_0_scv : Memref Cert.KernelIdeal.sig Kind.scVector Space.hbm Cert.KernelIdeal.S16384 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

section Deal

variable (m : (ℓ : Loc nD τ sig) → Buf (Elt F) ℓ) (d : Dev nD)

/-! ## The shares and the blocks the gathering call's tiles get -/

/-- A whole array as one share for every tile. -/
theorem shares {ℓ : Loc nD τ sig} (f : Buf (Elt F) ℓ) :
    (ℓ ↦{fullShare} f : sProp 𝕄) = bigSep Finset.univ fun c : Fin 2 => bigSep Finset.univ fun s : Fin 16 => (ℓ ↦{rq c s} f : sProp 𝕄) :=
  (pointsTo_leaves Finset.univ f 1 fullShare).trans (bigSep_congr fun c _ => pointsTo_leaves Finset.univ f 4 (leaf 1 fullShare c))

theorem mem_out (L : grid1.Coords) (r : Fin 16) (y : S65536x128.Idx) :
    y ∈ outSet L r ↔ (y 0).val / 128 = 32 * (L 1).val + 16 * (L 0).val + r.val := by
  have e : (outSet L r : Finset S65536x128.Idx)
      = (Rect.unit (s := S65536x128) (k1_off2 L (BitVec.ofNat 32 (128 * r.val))) S128x128.size (k1_off2_inb L r)).set := View.set_slice_whole main_v2_scv _
  have h1 : (y 1).val < 128 := (y 1).isLt
  have ho := k1_off2_eq L r
  rw [e, Rect.mem_set_unit]
  constructor
  · intro h
    have h0 := h 0
    rw [ho] at h0
    have h0' : 4096 * (L 1).val + 2048 * (L 0).val + 128 * r.val ≤ (y 0).val ∧ (y 0).val < 4096 * (L 1).val + 2048 * (L 0).val + 128 * r.val + 128 := h0
    omega
  · intro h a
    rw [ho]
    match a with
    | ⟨0, _⟩ => show 4096 * (L 1).val + 2048 * (L 0).val + 128 * r.val ≤ (y 0).val ∧ (y 0).val < 4096 * (L 1).val + 2048 * (L 0).val + 128 * r.val + 128; omega
    | ⟨1, _⟩ => show 0 ≤ (y 1).val ∧ (y 1).val < 0 + 128; omega

/-- The block of one tile and one stage. -/
abbrev outOf (t : Fin 2 × Fin 16 × Fin 16) : Finset S65536x128.Idx := outSet (coordsG t.1 t.2.1) t.2.2

theorem mem_outOf (t : Fin 2 × Fin 16 × Fin 16) (y : S65536x128.Idx) : y ∈ outOf t ↔ (y 0).val / 128 = 32 * t.2.1.val + 16 * t.1.val + t.2.2.val :=
  mem_out _ _ y

theorem outOf_cover : (Finset.univ.biUnion outOf : Finset S65536x128.Idx) = Finset.univ := by
  ext y
  have hy : (y 0).val < 65536 := (y 0).isLt
  refine ⟨fun _ => Finset.mem_univ _, fun _ => Finset.mem_biUnion.mpr ?_⟩
  refine ⟨(⟨(y 0).val / 128 / 16 % 2, by omega⟩, ⟨(y 0).val / 128 / 32, by omega⟩, ⟨(y 0).val / 128 % 16, by omega⟩), Finset.mem_univ _, (mem_outOf _ y).mpr ?_⟩
  show (y 0).val / 128 = 32 * ((y 0).val / 128 / 32) + 16 * ((y 0).val / 128 / 16 % 2) + (y 0).val / 128 % 16
  omega

theorem outOf_disjoint (t : Fin 2 × Fin 16 × Fin 16) (t' : Fin 2 × Fin 16 × Fin 16) (h : t ≠ t') : Disjoint (outOf t) (outOf t') := by
  rw [Finset.disjoint_left]
  intro y hy hy'
  rw [mem_outOf] at hy hy'
  obtain ⟨c, s, r⟩ := t
  obtain ⟨c', s', r'⟩ := t'
  have e : 32 * s.val + 16 * c.val + r.val = 32 * s'.val + 16 * c'.val + r'.val := hy.symm.trans hy'
  refine h (Prod.ext (Fin.ext ?_) (Prod.ext (Fin.ext ?_) (Fin.ext ?_)))
  · show c.val = c'.val; omega
  · show s.val = s'.val; omega
  · show r.val = r'.val; omega

/-- The array of rows as one block for every tile and stage. -/
theorem all_blocks (f : Buf (Elt F) (vLoc d)) :
    (vLoc d ↦{fullShare} f : sProp 𝕄) = bigSep Finset.univ fun c : Fin 2 => bigSep Finset.univ fun s : Fin 16 => blocks d c s f := by
  have e : (vLoc d ↦[(Finset.univ : Finset (Fin 2 × Fin 16 × Fin 16)).biUnion outOf]{fullShare} f : sProp 𝕄)
      = bigSep Finset.univ fun t : Fin 2 × Fin 16 × Fin 16 => vLoc d ↦[outOf t]{fullShare} f :=
    pointsTo_biUnion (q := fullShare) (f := f) (ℓ := vLoc d) (Finset.univ : Finset (Fin 2 × Fin 16 × Fin 16)) outOf fun t _ t' _ h => outOf_disjoint t t' h
  rw [show (Finset.univ.biUnion outOf : Finset (Idx (vLoc d))) = Finset.univ from outOf_cover] at e
  refine e.trans ((bigSep_univ_prod _).trans (bigSep_congr fun c _ => ?_))
  exact bigSep_univ_prod _

/-- What the gathering call takes or gives, dealt to the tiles. -/
theorem deal (f : Buf (Elt F) (vLoc d)) :
    (bigSep Finset.univ fun c : Fin 2 => bigSep Finset.univ fun s : Fin 16 => iprop(reads m d c s ∗ blocks d c s f) : sProp 𝕄)
      = iprop(((tLoc d ↦{fullShare} tabFin m d) ∗ (xLoc d ↦{fullShare} slots m d) ∗ fLoc d ↦{fullShare} m (fLoc d)) ∗ vLoc d ↦{fullShare} f) := by
  rw [shares (tabFin m d), shares (slots m d), shares (m (fLoc d)), all_blocks]
  rw [show (bigSep Finset.univ fun c : Fin 2 => bigSep Finset.univ fun s : Fin 16 => iprop(reads m d c s ∗ blocks d c s f) : sProp 𝕄)
      = bigSep Finset.univ fun c : Fin 2 => iprop(((bigSep Finset.univ fun s : Fin 16 => tLoc d ↦{rq c s} tabFin m d)
          ∗ (bigSep Finset.univ fun s : Fin 16 => xLoc d ↦{rq c s} slots m d) ∗ bigSep Finset.univ fun s : Fin 16 => fLoc d ↦{rq c s} m (fLoc d))
        ∗ bigSep Finset.univ fun s : Fin 16 => blocks d c s f) from
    bigSep_congr fun c _ => by rw [bigSep_sep', bigSep_sep', bigSep_sep']]
  rw [bigSep_sep', bigSep_sep', bigSep_sep']

variable [FloatOps F]

theorem blk_zero (c : Fin 2) (s : Fin 16) : blk m d (coordsG c s) 0 = blocks d c s (m (vLoc d)) :=
  bigSep_congr fun r _ => by rw [if_neg (Nat.not_lt_zero _)]
theorem blk_all (c : Fin 2) (s : Fin 16) : blk m d (coordsG c s) 16 = blocks d c s (rowsFin m d) :=
  bigSep_congr fun r _ => by rw [if_pos r.isLt]

end Deal

end Cert.Proof.Calls

end
-- ==== Proof.Launch.lean ====
/-
  The run of the two calls: what a tile owes in each, each call's parts handed to the tiles and taken back, `@main`, and
  the memory at the end of a run.
-/
module

public import proofs.«01_k».proof.Proof.Tile
public import proofs.«01_k».proof.Proof.Deal
public import proofs.«01_k».proof.Pre_in_range
public import proofs.«01_k».proof.Proof.Gen.Pre_in_range
public import Idealize.ShloMosaic.Lib.ReduceAll

@[expose] public section

noncomputable section

namespace Cert.Proof.Calls

open Cert.KernelIdeal Cert.KernelIdeal.Gen Cert.CellTable

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 2) (Elt F) ℕ UU ℕ

local notation "aV" => (Memref.whole Cert.KernelIdeal.main_arg0_scv : Memref Cert.KernelIdeal.sig Kind.scVector Space.hbm Cert.KernelIdeal.S65536 EltTy.i32)
local notation "tV" => (Memref.whole Cert.KernelIdeal.main_v0_0_scv : Memref Cert.KernelIdeal.sig Kind.scVector Space.hbm Cert.KernelIdeal.S16384 EltTy.i32)
local notation "nV" => (Memref.whole Cert.KernelIdeal.main_v0_1_scv : Memref Cert.KernelIdeal.sig Kind.scVector Space.hbm Cert.KernelIdeal.S256 EltTy.i32)
local notation "cS" => (Memref.whole Cert.KernelIdeal.cc0_scratch0 : Memref Cert.KernelIdeal.sig Kind.scVector Space.vmem Cert.KernelIdeal.S4096 EltTy.i32)
local notation "tS0" => (Memref.whole Cert.KernelIdeal.cc0_scratch1 : Memref Cert.KernelIdeal.sig Kind.scVector Space.vmem Cert.KernelIdeal.S16384 EltTy.i32)
local notation "nS0" => (Memref.whole Cert.KernelIdeal.cc0_scratch2 : Memref Cert.KernelIdeal.sig Kind.scVector Space.vmem Cert.KernelIdeal.S256 EltTy.i32)
local notation "xV" => (Memref.whole Cert.KernelIdeal.main_v1_scv : Memref Cert.KernelIdeal.sig Kind.scVector Space.hbm Cert.KernelIdeal.S512x128 EltTy.i32)
local notation "fV" => (Memref.whole Cert.KernelIdeal.main_arg2_scv : Memref Cert.KernelIdeal.sig Kind.scVector Space.hbm Cert.KernelIdeal.S65536x128 EltTy.f32)
local notation "vV" => (Memref.whole Cert.KernelIdeal.main_v2_scv : Memref Cert.KernelIdeal.sig Kind.scVector Space.hbm Cert.KernelIdeal.S65536x128 EltTy.f32)
local notation "tS" => (Memref.whole Cert.KernelIdeal.cc1_scratch0 : Memref Cert.KernelIdeal.sig Kind.scVector Space.vmem Cert.KernelIdeal.S16384 EltTy.i32)
local notation "iS" => (Memref.whole Cert.KernelIdeal.cc1_scratch1 : Memref Cert.KernelIdeal.sig Kind.scVector Space.vmem Cert.KernelIdeal.S16x128 EltTy.i32)
local notation "nS" => (Memref.whole Cert.KernelIdeal.cc1_scratch2 : Memref Cert.KernelIdeal.sig Kind.scVector Space.vmem Cert.KernelIdeal.S16x128 EltTy.i32)
local notation "rS" => (Memref.whole Cert.KernelIdeal.cc1_scratch3 : Memref Cert.KernelIdeal.sig Kind.scVector Space.vmem Cert.KernelIdeal.S2x128x128 EltTy.f32)

variable (m : (ℓ : Loc nD τ sig) → Buf (Elt F) ℓ) (ρ : Dev nD → PrngReg)

variable [FloatOps F]

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_count_body (coordsV c s)
          aV (Memref.isWhole_whole _) tV (Memref.isWhole_whole _) nV (Memref.isWhole_whole _)
          cS (Memref.isWhole_whole _) tS0 (Memref.isWhole_whole _) nS0 (Memref.isWhole_whole _) cc0_scoped0 cc0_scoped1 cc0_scoped2) ⟨⟩ c s := rfl

theorem cond_zero : k0_cond1 (coordsV ⟨0, by decide⟩ ⟨0, by decide⟩) = 1#1 := by decide

theorem cond_pos (c : Fin (grid0.bound 0)) (s : Fin (grid0.bound 1)) (h : ¬ (c.val = 0 ∧ s.val = 0)) : ¬ k0_cond1 (coordsV c s) = 1#1 := by
  decide +revert

/-- The body on any other tile does nothing. -/
theorem body_idle (d : Dev nD) (L : grid0.Coords) (h1 : ¬ k0_cond1 L = 1#1) (O : CellTallies nD τ sig (HIx 2)) (W : Waits sig (HIx 2)) :
    iprop(levAts (K (F := F)).L (K (F := F)).lev ∗ emp ∗ (emp : sProp 𝕄)
        ∗ scopedBufs (thr d L) ∗ scopedSems0 (thr d L) ∗ owes (thr d L) O W)
      ⊢ wp frame (wpE (defs₀ (F := F)) 𝒱₀ (thr d L) none) Set.univ
          (cc0__sc_count_body L aV (Memref.isWhole_whole _) tV (Memref.isWhole_whole _) nV (Memref.isWhole_whole _)
            cS (Memref.isWhole_whole _) tS0 (Memref.isWhole_whole _) nS0 (Memref.isWhole_whole _) cc0_scoped0 cc0_scoped1 cc0_scoped2)
          fun _ => iprop((emp : sProp 𝕄)
            ∗ scopedBufs (thr d L) ∗ scopedSems0 (thr d L)
            ∗ ∃ W', ⌜∀ p ∈ W', p ∈ W ∨ p.2 = none⌝ ∗ owes (thr d L) O W') := by
  have k0_h1 := h1
  simp only [cc0__sc_count_body_eq_skeleton]; unfold cc0__sc_count_body_skel
  iintro ⟨-, -, -, Hb, Hs, HO⟩
  sl_exec
  sl_step
  isplitr; · iempintro
  isplitl [Hb]; · iexact Hb
  isplitl [Hs]; · iexact Hs
  iexists W; isplitr
  · ipureintro; exact fun p hp => .inl hp
  · iexact HO

/-- The body on any tile, from its part of what goes in, to its part of what comes back. -/
theorem body_any (d : Dev nD) (c : Fin (grid0.bound 0)) (s : Fin (grid0.bound 1)) (hF : (K (F := F)).Facts) (hpre : PreOK m)
    (O : CellTallies nD τ sig (HIx 2)) (W : Waits sig (HIx 2)) (hO : ∀ g, O g none = 0) :
    iprop(levAts (K (F := F)).L (K (F := F)).lev ∗ emp ∗ onZero (onZero (goesIn m d) c.val) s.val
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0__sc_count_body (coordsV c s) aV (Memref.isWhole_whole _) tV (Memref.isWhole_whole _) nV (Memref.isWhole_whole _)
            cS (Memref.isWhole_whole _) tS0 (Memref.isWhole_whole _) nS0 (Memref.isWhole_whole _) cc0_scoped0 cc0_scoped1 cc0_scoped2)
          fun _ => iprop(onZero (onZero (comesOut m d) c.val) s.val
            ∗ scopedBufs (thr d (coordsV c s)) ∗ scopedSems0 (thr d (coordsV c s))
            ∗ ∃ W', ⌜∀ p ∈ W', p ∈ W ∨ p.2 = none⌝ ∗ owes (thr d (coordsV c s)) O W') := by
  by_cases h : c.val = 0 ∧ s.val = 0
  · obtain ⟨hc, hs⟩ := h
    rw [hc, hs, onZero_zero, onZero_zero, onZero_zero, onZero_zero]
    refine body_zero m d (coordsV c s) hF hpre ?_ O W hO
    have e1 : c = ⟨0, by decide⟩ := Fin.ext hc
    have e2 : s = ⟨0, by decide⟩ := Fin.ext hs
    subst e1; subst e2; exact cond_zero
  · have hz (A : sProp 𝕄) : onZero (onZero A c.val) s.val = iprop(emp) := by
      unfold onZero; split_ifs <;> first | rfl | exact absurd ⟨‹_›, ‹_›⟩ h
    rw [hz, hz]
    exact body_idle d (coordsV c s) (cond_pos c s h) O W

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (body_any m d ⟨_, hci.1⟩ ⟨_, hci.2⟩ hF hpre O W hO).trans (wp_mono frame _ _ fun _ => obl_post)

theorem defs₀_vector1 (c : Fin τ.nSC) (s : Fin τ.nSub) :
    defs₀ (F := F) (.scVector c s) 1 ()
      = SparseCore.onTile hcore1 hsub1 (fun c s => cc1__sc_gather_body (coordsG c s)
          tV (Memref.isWhole_whole _) xV (Memref.isWhole_whole _) fV (Memref.isWhole_whole _) vV (Memref.isWhole_whole _)
          tS (Memref.isWhole_whole _) iS (Memref.isWhole_whole _) nS (Memref.isWhole_whole _) rS (Memref.isWhole_whole _)
          cc1_scratch4 cc1_scratch5 cc1_scoped0 cc1_scoped1) ⟨⟩ c s := rfl

set_option maxRecDepth 65536 in
/-- The gathering body on any tile, from its part of what goes in, to its part of what comes back. -/
theorem body_gather (d : Dev nD) (c : Fin (grid1.bound 0)) (s : Fin (grid1.bound 1)) (hF : (K (F := F)).Facts) (hpre : PreOK m)
    (O : CellTallies nD τ sig (HIx 2)) (W : Waits sig (HIx 2)) (hO : ∀ g, O g none = 0) :
    iprop(levAts (K (F := F)).L (K (F := F)).lev ∗ emp ∗ tileIn m d c s
        ∗ scopedBufs (thrG d (coordsG c s)) ∗ scopedSems0 (thrG d (coordsG c s)) ∗ owes (thrG d (coordsG c s)) O W)
      ⊢ wp frame (wpE (defs₀ (F := F)) 𝒱₀ (thrG d (coordsG c s)) none) Set.univ
          (cc1__sc_gather_body (coordsG c s) tV (Memref.isWhole_whole _) xV (Memref.isWhole_whole _) fV (Memref.isWhole_whole _) vV (Memref.isWhole_whole _)
            tS (Memref.isWhole_whole _) iS (Memref.isWhole_whole _) nS (Memref.isWhole_whole _) rS (Memref.isWhole_whole _)
            cc1_scratch4 cc1_scratch5 cc1_scoped0 cc1_scoped1)
          fun _ => iprop(tileOut m d c s
            ∗ scopedBufs (thrG d (coordsG c s)) ∗ scopedSems0 (thrG d (coordsG c s))
            ∗ ∃ W', ⌜∀ p ∈ W', p ∈ W ∨ p.2 = none⌝ ∗ owes (thrG d (coordsG c s)) O W') := by
  have h := gather_body m d (coordsG c s) (rq c s) O W hF hpre hO
  rw [show blk m d (coordsG c s) 0 = blocks d c s (m (vLoc d)) from blk_zero m d c s, show blk m d (coordsG c s) 16 = blocks d c s (rowsFin m d) from blk_all m d c s] at h
  exact h

set_option maxRecDepth 65536 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  have hb := body_gather m d ⟨_, hci.1⟩ ⟨_, hci.2⟩ hF hpre O W hO
  exact hb.trans (wp_mono frame _ _ fun _ => obl_post)

/-! ## The call's parts -/

omit [FloatOps F] in
theorem bigSep_none {I : Type} (s : Finset I) : (bigSep s fun _ => iprop(emp)) = (iprop(emp) : sProp 𝕄) := bigSep_emp_const s

omit [FloatOps F] in
/-- Of parts that are all nothing but the first, the first is everything. -/
theorem bigSep_onZero (n : ℕ) (A : sProp 𝕄) : (bigSep Finset.univ fun i : Fin (n + 1) => onZero A i.val) = A := by
  rw [SparseCore.bigSep_erase' (Finset.mem_univ (0 : Fin (n + 1)))]
  rw [show (bigSep (Finset.univ.erase (0 : Fin (n + 1))) fun i : Fin (n + 1) => onZero A i.val) = bigSep (Finset.univ.erase (0 : Fin (n + 1))) fun _ => iprop(emp) from
    bigSep_congr fun i hi => onZero_pos A fun e => (Finset.mem_erase.mp hi).1 (Fin.ext e)]
  rw [bigSep_none]
  show iprop(onZero A 0 ∗ emp) = A
  rw [onZero_zero]
  exact equiv_iff.mp Idealize.SL.BI.sep_emp

theorem vecSplit0 : (K (F := F)).VecSplit' (P m) 0 := by
  intro d c
  show onZero (goesIn m d) c.val ⊢ |={Set.univ}=> iprop(
      (bigSep Finset.univ fun i : Fin 16 => onZero (onZero (goesIn m d) c.val) i.val)
      ∗ ((bigSep Finset.univ fun i : Fin 16 => onZero (onZero (comesOut m d) c.val) i.val) -∗ onZero (comesOut m d) c.val))
  rw [bigSep_onZero 15, bigSep_onZero 15]
  iintro H; imodintro
  isplitl [H]; · iexact H
  iintro H; iexact H

theorem vecSplit1 : (K (F := F)).VecSplit' (P m) 1 := by
  intro d c
  show (bigSep Finset.univ fun i : Fin 16 => tileIn m d c i) ⊢ |={Set.univ}=> iprop(
      (bigSep Finset.univ fun i : Fin 16 => tileIn m d c i)
      ∗ ((bigSep Finset.univ fun i : Fin 16 => tileOut m d c i) -∗ bigSep Finset.univ fun i : Fin 16 => tileOut m d c i))
  iintro H; imodintro
  isplitl [H]; · iexact H
  iintro H; iexact H

/-! ## The launch element of the certificate's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 2 => (P (F := F) m).x q thr) = bigSep Finset.univ fun _ => iprop(emp) from
    bigSep_congr fun _ _ => bigSep_none (Finset.univ : Finset (Fin 2)), bigSep_none]
  iempintro

/-! ## `@main` on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (fLoc d ↦{fullShare} W main_arg2)
      ∗ (tLoc d ↦{fullShare} W main_v0_0) ∗ (nLoc d ↦{fullShare} W main_v0_1) ∗ (xLoc d ↦{fullShare} W main_v1) ∗ vLoc d ↦{fullShare} W main_v2) := by
  unfold unscopedBufs
  rw [show (Finset.univ.filter fun b : Ref sig .tc => ¬ b.isScoped) = {main_arg0, main_arg1, main_arg2, main_v0_0, main_v0_1, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem st0_eq (d : Dev nD) : (bigSep Finset.univ fun c : Fin ((K (F := F)).nCore 0) => (P m).st 0 d c) = goesIn m d :=
  bigSep_onZero 1 (goesIn m d)
theorem dn0_eq (d : Dev nD) : (bigSep Finset.univ fun c : Fin ((K (F := F)).nCore 0) => (P m).dn 0 d c) = comesOut m d :=
  bigSep_onZero 1 (comesOut m d)
theorem st1_eq (d : Dev nD) : (bigSep Finset.univ fun c : Fin ((K (F := F)).nCore 1) => (P m).st 1 d c)
    = iprop(((tLoc d ↦{fullShare} tabFin m d) ∗ (xLoc d ↦{fullShare} slots m d) ∗ fLoc d ↦{fullShare} m (fLoc d)) ∗ vLoc d ↦{fullShare} m (vLoc d)) :=
  deal m d (m (vLoc d))
theorem dn1_eq (d : Dev nD) : (bigSep Finset.univ fun c : Fin ((K (F := F)).nCore 1) => (P m).dn 1 d c)
    = iprop(((tLoc d ↦{fullShare} tabFin m d) ∗ (xLoc d ↦{fullShare} slots m d) ∗ fLoc d ↦{fullShare} m (fLoc d)) ∗ vLoc d ↦{fullShare} rowsFin m d) :=
  deal m d (rowsFin m d)

/-! ### The reshape between the two calls -/

/-- The reshape of the slot numbers. -/
abbrev opR : HloOp τ sig (Elt F) := StableHlo.reshape main_arg1 main_v1 (rfl : (.i32 : EltTy) = .i32) shapeCasts_S16x64x64_S512x128

/-- The two arrays the reshape touches. -/
abbrev two : Finset (DevRef τ sig) := {Proc.devRef .tc (main_arg1 : Ref sig .tc), Proc.devRef .tc (main_v1 : Ref sig .tc)}

omit [FloatOps F] in
theorem held_two (d : Dev nD) (V : Valuation τ sig (Elt F)) :
    (held (SparseCore.T d) two V : sProp 𝕄)
      = iprop((iLoc d ↦{fullShare} V (Proc.devRef .tc (main_arg1 : Ref sig .tc))) ∗ xLoc d ↦{fullShare} V (Proc.devRef .tc (main_v1 : Ref sig .tc))) := by
  unfold held two
  rw [SparseCore.bigSep_insert' (by decide), bigSep_singleton]

/-- The contents at launch. -/
def V0 (d : Dev nD) : Valuation τ sig (Elt F) := fun b => m ⟨d, b⟩

omit [FloatOps F] in
theorem opR_sub : (opR (F := F)).bufs ⊆ two := by
  rw [StableHlo.reshape_bufs]

omit [FloatOps F] in
theorem opR_slots (d : Dev nD) : (opR (F := F)).result (V0 m d) (Proc.devRef .tc (main_v1 : Ref sig .tc)) = slots m d :=
  StableHlo.reshape_result main_arg1 main_v1 _ _ _ _ (V0 m d)
omit [FloatOps F] in
theorem opR_arg (d : Dev nD) : (opR (F := F)).result (V0 m d) (Proc.devRef .tc (main_arg1 : Ref sig .tc)) = m (iLoc d) :=
  StableHlo.reshape_result_ne main_arg1 main_v1 _ _ _ _ (V0 m d) (by decide)

/-- What `@main` leaves. -/
abbrev leaves (d : Dev nD) : sProp 𝕄 :=
  iprop((aLoc d ↦{fullShare} m (aLoc d)) ∗ (iLoc d ↦{fullShare} m (iLoc d)) ∗ (fLoc d ↦{fullShare} m (fLoc d))
    ∗ (tLoc d ↦{fullShare} tabFin m d) ∗ (nLoc d ↦{fullShare} cntFin m d) ∗ vLoc d ↦{fullShare} rowsFin m d)

/-- `@main` on device `d`'s TensorCore: the counting call, the reshape, the gathering call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ leaves m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hi, Hf, Ht, Hn, Hx, Hv⟩, Hts, -⟩, -⟩
  iapply ((K (F := F)).wp_run (D (F := F)) 𝒱 (EH := EH) (P := P m) κ d 0) $$ [Hst Ha Hi Hf Ht Hn Hx Hv Hb Hts]
  isplitr; · iexact Hctx
  isplitl [Hst]; · iexact Hst
  isplitl [Ha Ht Hn]
  · rw [st0_eq]
    isplitl [Ha]; · iexact Ha
    isplitl [Ht]; · iexact Ht
    iexact Hn
  iintro ⟨Hst, Hdn⟩
  ihave Hdn' := (Entails.of_eq (dn0_eq m d)) $$ Hdn
  icases Hdn' with ⟨Ha, Ht, Hn⟩
  ihave Hheld := (Entails.of_eq (held_two d (V0 m d)).symm) $$ [Hi Hx]
  · isplitl [Hi]; · iexact Hi
    iexact Hx
  iapply (wp_hlo_within 𝒱 (SparseCore.T d) none Set.univ (op := opR) (S := two) opR_sub (V := V0 m d)) $$ [Hb Hheld]
  · isplitl [Hb] <;> iassumption
  iintro ⟨Hb, Hheld⟩
  ihave Hh := (Entails.of_eq (held_two d _)) $$ Hheld
  rw [opR_slots, opR_arg]
  icases Hh with ⟨Hi, Hx⟩
  rw [wp_ret]; imodintro
  iapply ((K (F := F)).wp_run (D (F := F)) 𝒱 (EH := EH) (P := P m) κ d 1) $$ [Hst Ha Hi Hf Ht Hn Hx Hv Hb Hts]
  isplitr; · iexact Hctx
  isplitl [Hst]; · iexact Hst
  isplitl [Hf Ht Hx Hv]
  · rw [st1_eq]
    isplitl [Hf Ht Hx]
    · isplitl [Ht]; · iexact Ht
      isplitl [Hx]; · iexact Hx
      iexact Hf
    iexact Hv
  iintro ⟨Hst, Hdn⟩
  ihave Hdn' := (Entails.of_eq (dn1_eq m d)) $$ Hdn
  icases Hdn' with ⟨⟨Ht, -, Hf⟩, Hv⟩
  imodintro
  isplitl [Hst]; · iexact Hst
  isplitl [Ha Hi Hf Ht Hn Hv]
  · isplitl [Ha]; · iexact Ha
    isplitl [Hi]; · iexact Hi
    isplitl [Hf]; · iexact Hf
    isplitl [Ht]; · iexact Ht
    isplitl [Hn]; · iexact Hn
    iexact Hv
  isplitl [Hb] <;> iassumption

/-- The memory a run ends in: the arguments as they were, the finished table, the finished counts, the finished rows. -/
def fq (d : Dev nD) (s' : Phys nD τ sig (Elt F)) : Prop :=
  s'.mem.mem (aLoc d) = m (aLoc d) ∧ s'.mem.mem (iLoc d) = m (iLoc d) ∧ s'.mem.mem (fLoc d) = m (fLoc d)
    ∧ s'.mem.mem (tLoc d) = tabFin m d ∧ s'.mem.mem (nLoc d) = cntFin m d ∧ s'.mem.mem (vLoc d) = rowsFin m d

set_option maxRecDepth 16384 in
theorem hfin (d : Dev nD) (s' : Phys nD τ sig (Elt F)) : iprop(leaves m d ∗ SI s') ⊢ (⌜fq m d s'⌝ : sProp 𝕄) := by
  iintro ⟨⟨Ha, Hi, Hf, Ht, Hn, Hv⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h3, HSI, -⟩
  ihave H := (persistent_entails_right (SI_pointsTo_agree (st := s') (ℓ := tLoc d) (I := Finset.univ) (q := fullShare) (f := tabFin m d))) $$ [HSI Ht]
  · isplitl [HSI] <;> iassumption
  icases H with ⟨%h4, HSI, -⟩
  ihave H := (persistent_entails_right (SI_pointsTo_agree (st := s') (ℓ := nLoc d) (I := Finset.univ) (q := fullShare) (f := cntFin m d))) $$ [HSI Hn]
  · isplitl [HSI] <;> iassumption
  icases H with ⟨%h5, HSI, -⟩
  ihave H := (SI_pointsTo_agree (st := s') (ℓ := vLoc d) (I := Finset.univ) (q := fullShare) (f := rowsFin m d)) $$ [HSI Hv]
  · isplitl [HSI] <;> iassumption
  icases H with %h6
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i)⟩

/-! ## The run -/

def QC : PUnit × MemSt nD τ sig (Elt F) → Prop :=
  fun r => (∀ c : Dev nD, r.2.mem (aLoc c) = m (aLoc c) ∧ r.2.mem (iLoc c) = m (iLoc c) ∧ r.2.mem (fLoc c) = m (fLoc c)
    ∧ r.2.mem (tLoc c) = tabFin m c ∧ r.2.mem (nLoc c) = cntFin m c ∧ r.2.mem (vLoc c) = rowsFin m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hpre | 1 => tileObl1 m facts hpre)
    (fun q _ => match q with | 0 => SparseCore.Cfg.VecSplit.of_plain (vecSplit0 m) | 1 => SparseCore.Cfg.VecSplit.of_plain (vecSplit1 m))
    m ρ main (fun _ => iprop(emp)) (leaves m) (u₀ (F := F)) (sep_elim_left.trans (hu₀ m)) (hmain m ρ) (fq m) (hfin m) (QC m) (fun _ h hz => ⟨h, hz⟩)

/-- The precondition, a one on every device, gives what the run asks of the launch memory: every word of the cells,
    non-negative and below 256 as a signed word, is its own value, below 256; and every slot number below 16384. -/
theorem ok_of_pre (h : ∀ c : Dev nD, Cert.Pre_in_range.fn (F := F) (m (aLoc c)) (m (iLoc c)) (m (fLoc c)) = fun _ => 1#1) : PreOK m := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 256#32) = 1#1 → v.toNat < 256 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have key' : ∀ v : BitVec 32, IntOp.andi (IntOp.cmpi .sge v 0#32) (IntOp.cmpi .slt v 16384#32) = 1#1 → v.toNat < 16384 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have both : ∀ a b : BitVec 1, IntOp.andi a b = 1#1 → a = 1#1 ∧ b = 1#1 := by decide
  have sub : Subsingleton Cert.Pre_in_range.S_.Idx := ⟨fun x y => funext fun i => i.elim0⟩
  have two (d : Dev nD) := both _ _ (congrFun (h d) (fun i => i.elim0))
  refine ⟨fun d j => ?_, fun d j => ?_⟩
  · have e := Host.reduce_andi_all _ _ _ _ _ (two d).1 j
    simp only [andi, cmpi, broadcastInDim, constantI] at e
    exact key _ e
  · have e := Host.reduce_andi_all _ _ _ _ _ (two d).2 j
    simp only [andi, cmpi, broadcastInDim, constantI] at e
    exact key' _ e

end Cert.Proof.Calls

end
-- ==== Proof.Rank.lean ====
/-
  The plain statement's table: the voxels of one cell, sorted by number with everything else behind, hold at place `p`
  the cell's `p`-th voxel. By counting: of the sorted row, the places below `v` are as many as the cell's voxels below `v`.
-/
module

public import proofs.«01_k».proof.Proof.Step
public import Idealize.ShloMosaic.Lib.SortFacts

@[expose] public section

namespace Cert.CellTable

open Idealize.ShloMosaic

variable (c : ℕ → BitVec 32) (g : BitVec 32) {n : ℕ}

/-- Voxel `k`'s key in cell `g`'s row: its number, or `n` where it is not in the cell. -/
def rowKey (k : Fin n) : BitVec 32 := if c k.val = g then BitVec.ofNat 32 k.val else BitVec.ofNat 32 n

/-- The row's order. -/
def rowBefore (k k' : Fin n) : Bool := IntOp.cmpi .slt (rowKey c g k) (rowKey c g k') == 1#1

variable (hn : n < 2 ^ 31)
include hn

theorem rowKey_toNat (k : Fin n) : (rowKey c g k).toNat = if c k.val = g then k.val else n := by
  have hk := k.isLt
  unfold rowKey
  split <;> rw [BitVec.toNat_ofNat] <;> omega

theorem rowKey_le (k : Fin n) : (rowKey c g k).toNat ≤ n := by
  rw [rowKey_toNat c g hn]; have := k.isLt; split <;> omega

theorem slt_iff {a b : BitVec 32} (ha : a.toNat ≤ n) (hb : b.toNat ≤ n) : (IntOp.cmpi .slt a b = 1#1) ↔ a.toNat < b.toNat := by
  have hofb (p : Bool) : (BitVec.ofBool p = 1#1) ↔ p = true := by cases p <;> decide
  simp only [IntOp.cmpi, hofb, BitVec.slt_eq_decide, decide_eq_true_eq, BitVec.toInt_eq_toNat_cond]
  omega

theorem rowBefore_iff (k k' : Fin n) : rowBefore c g k k' = true ↔ (rowKey c g k).toNat < (rowKey c g k').toNat := by
  unfold rowBefore
  rw [beq_iff_eq, slt_iff hn (rowKey_le c g hn k) (rowKey_le c g hn k')]

theorem rowBefore_false (k k' : Fin n) : rowBefore c g k k' = false ↔ (rowKey c g k').toNat ≤ (rowKey c g k).toNat := by
  rw [← Bool.not_eq_true, rowBefore_iff c g hn, not_lt]

/-- The key at place `p` of the sorted row. -/
abbrev placed (p : Fin n) : ℕ := (rowKey c g (sortedFrom (rowBefore c g) p)).toNat

theorem placed_mono {i j : Fin n} (h : i ≤ j) : placed c g i ≤ placed c g j := by
  rcases h.lt_or_eq with h | h
  · have e := sortedFrom_noInversion (rowBefore c g) (rowBefore c g)
      (fun a b hab => (rowBefore_false c g hn b a).mpr (le_of_lt ((rowBefore_iff c g hn a b).mp hab)))
      (fun _ _ h => h)
      (fun a b d hab hbd => (rowBefore_false c g hn a d).mpr
        (le_trans ((rowBefore_false c g hn b d).mp hbd) ((rowBefore_false c g hn a b).mp hab))) i j h
    exact (rowBefore_false c g hn _ _).mp e
  · exact le_of_eq (congrArg (placed c g) h)

theorem card_placed_lt {v : ℕ} (hv : v ≤ n) : (Finset.univ.filter fun i : Fin n => placed c g i < v).card = members c g v := by
  rw [members, Nat.count_eq_card_filter_range]
  refine Finset.card_bij (fun i _ => (sortedFrom (rowBefore c g) i).val) ?_ ?_ ?_
  · intro i hi
    have h := (Finset.mem_filter.mp hi).2
    unfold placed at h
    rw [rowKey_toNat c g hn] at h
    split at h
    · next hc => exact Finset.mem_filter.mpr ⟨Finset.mem_range.mpr h, hc⟩
    · omega
  · intro i _ j _ h
    exact sortedFrom_injective (rowBefore c g) (Fin.ext h)
  · intro l hl
    obtain ⟨hlv, hlc⟩ := Finset.mem_filter.mp hl
    rw [Finset.mem_range] at hlv
    obtain ⟨i, hi⟩ := sortedFrom_surjective (rowBefore c g) (⟨l, by omega⟩ : Fin n)
    refine ⟨i, Finset.mem_filter.mpr ⟨Finset.mem_univ _, ?_⟩, congrArg Fin.val hi⟩
    unfold placed
    rw [rowKey_toNat c g hn, hi]
    simp only [hlc, if_true]
    exact hlv

/-- The place `p` holds a key below `v` exactly where the cell has more than `p` voxels below `v`. -/
theorem placed_lt_iff {v : ℕ} (hv : v ≤ n) (p : Fin n) : placed c g p < v ↔ p.val < members c g v := by
  rw [← card_placed_lt c g hn hv]
  constructor
  · intro h
    have hs : Finset.Iic p ⊆ Finset.univ.filter fun i : Fin n => placed c g i < v := fun i hi =>
      Finset.mem_filter.mpr ⟨Finset.mem_univ _, lt_of_le_of_lt (placed_mono c g hn (Finset.mem_Iic.mp hi)) h⟩
    have := Finset.card_le_card hs
    rw [Fin.card_Iic] at this
    omega
  · intro h
    by_contra hp
    have hs : (Finset.univ.filter fun i : Fin n => placed c g i < v) ⊆ Finset.Iio p := fun i hi => by
      refine Finset.mem_Iio.mpr (lt_of_not_ge fun hpi => hp ?_)
      exact lt_of_le_of_lt (placed_mono c g hn hpi) (Finset.mem_filter.mp hi).2
    have := Finset.card_le_card hs
    rw [Fin.card_Iio] at this
    omega

/-- The place `p`, zero where it holds no voxel of the cell, is the cell's `p`-th voxel. -/
theorem placed_slot (p : Fin n) : (if placed c g p < n then placed c g p else 0) = slot c g p.val n := by
  split
  · next h =>
    have e : placed c g p = (sortedFrom (rowBefore c g) p).val ∧ c (sortedFrom (rowBefore c g) p).val = g := by
      unfold placed at h ⊢
      rw [rowKey_toNat c g hn] at h ⊢
      split at h
      · next hc => exact ⟨if_pos hc, hc⟩
      · omega
    generalize (sortedFrom (rowBefore c g) p).val = l at e
    obtain ⟨e1, e2⟩ := e
    have h1 := (placed_lt_iff c g hn (v := l) (by omega) p).not.mp (by omega)
    have h2 := (placed_lt_iff c g hn (v := l + 1) (by omega) p).mp (by omega)
    have h3 : members c g (l + 1) = members c g l + 1 := by
      show Nat.count _ _ = Nat.count _ _ + 1
      rw [Nat.count_succ, if_pos e2]
    rw [e1]
    exact (slot_of c (by omega) e2 (by omega)).symm
  · next h =>
    rw [slot_none]
    rintro ⟨l, hl, hlc, hlp⟩
    refine h (lt_of_lt_of_le ((placed_lt_iff c g hn (v := l + 1) (by omega) p).mpr ?_) (by omega : l + 1 ≤ n))
    show _ < Nat.count _ _
    rw [Nat.count_succ, if_pos hlc]
    have : Nat.count (fun l => c l = g) l = p.val := hlp
    omega

end Cert.CellTable

end
-- ==== Proof.RefValue.lean ====
/-
  The plain statement's two results, read off its operations: the table and the counts of all 65536 voxels.
-/
module

public import proofs.«01_k».proof.Proof.Rank
public import proofs.«01_k».proof.Proof.Gen.ReferenceIdeal.Run
public import Idealize.ShloMosaic.Lib.IndicatorCount
public import Idealize.ShloMosaic.Lib.Pointwise.Reduce
public import Idealize.ShloMosaic.Lib.Pointwise

@[expose] public section

namespace Cert.Proof.Ref

open Cert.ReferenceIdeal Cert.ReferenceIdeal.Gen Cert.CellTable Idealize.ShloMosaic

variable (x : IVec S65536 32)

/-- Whether voxel `j 1` lies in cell `j 0`. -/
abbrev member : IVec S256x65536 1 :=
  cmpi .eq (broadcastInDim S256x65536 ![0, 1] bcast_S1x65536_S256x65536_0_1 (broadcastInDim S1x65536 ![1] bcast_S65536_S1x65536_1 x))
    (broadcastInDim S256x65536 ![0, 1] bcast_S256x1_S256x65536_0_1 (broadcastInDim S256x1 ![0] bcast_S256_S256x1_0 (iotaInDim S256 32 0)))

/-- The voxels' numbers in their cell's row, 65536 elsewhere. -/
abbrev keyed : IVec S256x65536 32 :=
  select (member x) (broadcastInDim S256x65536 ![0, 1] bcast_S1x65536_S256x65536_0_1 (broadcastInDim S1x65536 ![1] bcast_S65536_S1x65536_1 (iotaInDim S65536 32 0)))
    (broadcastInDim S256x65536 ![] bcast_S_S256x65536 (id (constantI S_ 32 65536#32)))

/-- The first 64 places of each sorted row. -/
abbrev firsts : IVec S256x64 32 :=
  extractStridedSlice S256x64 ![0, 0] (Host.sort S256x65536 1 comparator_i32_d1 (keyed x)) slices_S256x65536_S256x64_0_0

abbrev table : IVec S16384 32 :=
  shapeCast S16384 (select (cmpi .slt (firsts x) (broadcastInDim S256x64 ![] bcast_S_S256x64 (constantI S_ 32 65536#32))) (firsts x)
    (broadcastInDim S256x64 ![] bcast_S_S256x64 (id (constantI S_ 32 0#32)))) shapeCasts_S256x64_S16384

abbrev counts : IVec S256 32 :=
  Host.reduce IntOp.addi (extui 32 (member x) natLt_1_32) (constantI S_ 32 0#32) reducesTo_S256x65536_S256_d1 h_S_

theorem ix1_eq (k : Fin 65536) : (ix1 k : (⟨1, ![65536]⟩ : Shape).Idx) = Shape.ofLane (d := ![65536]) k := by
  funext a
  have ha : a = 0 := Subsingleton.elim (α := Fin 1) _ _
  subst ha; rfl

theorem member_apply (g : Fin 256) (k : Fin 65536) : member x (ix2 g k) = 1#1 ↔ cellOf x k.val = BitVec.ofNat 32 g.val := by
  have hofb (p : Bool) : (BitVec.ofBool p = 1#1) ↔ p = true := by cases p <;> decide
  have e : cellOf x k.val = x (Shape.ofLane (d := ![65536]) k) := by unfold cellOf; exact dif_pos k.isLt
  rw [e]
  unfold member
  pointwise
  rw [ix1_eq]
  show BitVec.ofBool (x _ == BitVec.ofNat 32 g.val) = 1#1 ↔ _
  rw [hofb, beq_iff_eq]

theorem keyed_apply (g : Fin 256) (k : Fin 65536) : keyed x (ix2 g k) = rowKey (cellOf x) (BitVec.ofNat 32 g.val) k := by
  have h := member_apply x g k
  have e : keyed x (ix2 g k) = if member x (ix2 g k) = 1#1 then BitVec.ofNat 32 k.val else 65536#32 := by
    unfold keyed
    pointwise
    rfl
  unfold rowKey
  rw [e]
  exact if_congr h rfl rfl

theorem counts_eq : counts x = cntAt (cellOf x) 65536 := by
  funext j
  unfold counts
  rw [Host.reduce_eq_fold, Shape.ReducesTo.fold_fiber_r2_a1]
  refine (IndicatorCount.fold_addi_setWidth_eq_card (w := 32) (fun k : Fin 65536 => member x (ix2 (j 0) k)) Finset.univ).trans ?_
  unfold cntAt
  refine congrArg (BitVec.ofNat 32) ?_
  rw [members, Nat.count_eq_card_filter_range]
  refine Finset.card_bij (fun k _ => k.val) ?_ ?_ ?_
  · intro k hk
    exact Finset.mem_filter.mpr ⟨Finset.mem_range.mpr k.isLt, (member_apply x (j 0) k).mp (Finset.mem_filter.mp hk).2⟩
  · intro i _ k _ h
    exact Fin.ext h
  · intro l hl
    obtain ⟨h1, h2⟩ := Finset.mem_filter.mp hl
    have h1 := Finset.mem_range.mp h1
    exact ⟨⟨l, h1⟩, Finset.mem_filter.mpr ⟨Finset.mem_univ _, (member_apply x (j 0) ⟨l, h1⟩).mpr h2⟩, rfl⟩

theorem along_ix2 (g : Fin 256) (p k : Fin 65536) : (ix2 g p : (⟨2, ![256, 65536]⟩ : Shape).Idx).along 1 k = ix2 g k := by
  funext a
  match a with
  | ⟨0, _⟩ => rfl
  | ⟨1, _⟩ => rfl

theorem sorted_apply (g : Fin 256) (p : Fin 65536) :
    Host.sort S256x65536 1 comparator_i32_d1 (keyed x) (ix2 g p)
      = rowKey (cellOf x) (BitVec.ofNat 32 g.val) (sortedFrom (rowBefore (cellOf x) (BitVec.ofNat 32 g.val)) p) := by
  unfold Host.sort
  rw [dif_pos (show 1 < S256x65536.rank by decide)]
  refine (congrArg (keyed x) (along_ix2 g p _)).trans ?_
  refine (keyed_apply x g _).trans ?_
  refine congrArg (fun B => rowKey _ _ (sortedFrom B p)) (funext fun k => funext fun k' => ?_)
  have e1 := (congrArg (keyed x) (along_ix2 g p k)).trans (keyed_apply x g k)
  have e2 := (congrArg (keyed x) (along_ix2 g p k')).trans (keyed_apply x g k')
  exact congrArg₂ (fun a b => comparator_i32_d1 a b == 1#1) e1 e2

theorem firsts_apply (g : Fin 256) (p : Fin 64) :
    firsts x (ix2 g p) = rowKey (cellOf x) (BitVec.ofNat 32 g.val) (sortedFrom (rowBefore (cellOf x) (BitVec.ofNat 32 g.val)) (⟨p.val, by omega⟩ : Fin 65536)) := by
  rw [← sorted_apply]
  refine congrArg (Host.sort S256x65536 1 comparator_i32_d1 (keyed x)) (funext fun a => Fin.ext ?_)
  match a with
  | ⟨0, _⟩ => exact Nat.zero_add _
  | ⟨1, _⟩ => exact Nat.zero_add _

theorem table_eq : table x = tabAt (cellOf x) 65536 := by
  funext j
  have hj : (j 0).val < 16384 := (j 0).isLt
  have e : table x j = (select (cmpi .slt (firsts x) (broadcastInDim S256x64 ![] bcast_S_S256x64 (constantI S_ 32 65536#32))) (firsts x)
      (broadcastInDim S256x64 ![] bcast_S_S256x64 (id (constantI S_ 32 0#32)))) (ix2 ⟨(j 0).val / 64, by omega⟩ ⟨(j 0).val % 64, by omega⟩) := by
    refine congrArg (select (cmpi .slt (firsts x) (broadcastInDim S256x64 ![] bcast_S_S256x64 (constantI S_ 32 65536#32))) (firsts x)
      (broadcastInDim S256x64 ![] bcast_S_S256x64 (id (constantI S_ 32 0#32)))) (Shape.reshapeEquiv_eq_of_rowMajor _ ?_)
    rw [Shape.rowMajor_val_two, Shape.rowMajor_val_one]
    show (j 0).val / 64 * 64 + (j 0).val % 64 = (j 0).val
    omega
  rw [e]
  generalize hg : (⟨(j 0).val / 64, by omega⟩ : Fin 256) = g
  generalize hp : (⟨(j 0).val % 64, by omega⟩ : Fin 64) = p
  have hn : 65536 < 2 ^ 31 := by decide
  have e2 : select (cmpi .slt (firsts x) (broadcastInDim S256x64 ![] bcast_S_S256x64 (constantI S_ 32 65536#32))) (firsts x)
      (broadcastInDim S256x64 ![] bcast_S_S256x64 (id (constantI S_ 32 0#32))) (ix2 g p)
      = if IntOp.cmpi .slt (firsts x (ix2 g p)) 65536#32 = 1#1 then firsts x (ix2 g p) else 0#32 := rfl
  rw [e2, firsts_apply]
  have hs := placed_slot (cellOf x) (BitVec.ofNat 32 g.val) hn (⟨p.val, by omega⟩ : Fin 65536)
  have hle := rowKey_le (cellOf x) (BitVec.ofNat 32 g.val) hn (sortedFrom (rowBefore (cellOf x) (BitVec.ofNat 32 g.val)) (⟨p.val, by omega⟩ : Fin 65536))
  unfold tabAt
  rw [show (j 0).val / 64 = g.val from congrArg Fin.val hg, show (j 0).val % 64 = p.val from congrArg Fin.val hp, ← hs]
  unfold placed
  generalize rowKey (cellOf x) (BitVec.ofNat 32 g.val) (sortedFrom (rowBefore (cellOf x) (BitVec.ofNat 32 g.val)) (⟨p.val, by omega⟩ : Fin 65536)) = w at hle
  have hiff := slt_iff hn (a := w) (b := 65536#32) hle (by decide)
  rw [show (65536#32 : BitVec 32).toNat = 65536 by decide] at hiff
  by_cases h : w.toNat < 65536
  · rw [if_pos (hiff.mpr h), if_pos h, BitVec.ofNat_toNat, BitVec.setWidth_eq]
  · rw [if_neg fun h' => h (hiff.mp h'), if_neg h]

end Cert.Proof.Ref

end
-- ==== Proof.RefRows.lean ====
/-
  The plain statement's first result, read off its operations: of each slot asked for, the feature row of the voxel the
  table names there. Every slot number lies in the table and every word of the table names a row, so jnp's wrapping of
  negative indices and the gathers' clamping change nothing.
-/
module

public import proofs.«01_k».proof.Proof.RefValue
public import Idealize.ShloMosaic.Lib.Routing.OpsSet

@[expose] public section

namespace Cert.Proof.Ref

open Cert.ReferenceIdeal Cert.ReferenceIdeal.Gen Cert.CellTable Idealize.ShloMosaic

/-- jnp's indices, a negative one counted from the end, as the column a gather takes. -/
abbrev wrapped (N : BitVec 32) (x : IVec S65536 32) : IVec S65536x1 32 :=
  broadcastInDim S65536x1 ![0] bcast_S65536_S65536x1_0 (select (cmpi .slt x (broadcastInDim S65536 ![] bcast_S_S65536 (constantI S_ 32 0#32)))
    (addi x (broadcastInDim S65536 ![] bcast_S_S65536 (constantI S_ 32 N))) x)

/-- The word of the table `T` at each slot of `t`. -/
abbrev voxels (T : IVec S16384 32) (t : IVec S16x64x64 32) : IVec S65536 32 :=
  Host.gather gather_S16384_S65536x1_S65536_n_0_n_n_0_1_1 T (wrapped 16384#32 (shapeCast S65536 t shapeCasts_S16x64x64_S65536))

/-- The rows of `f` these words name. -/
abbrev rows {α : Type} (T : IVec S16384 32) (t : IVec S16x64x64 32) (f : S65536x128.Idx → α) : S65536x128.Idx → α :=
  Host.gather gather_S65536x128_S65536x1_S65536x128_1_0_n_n_0_1_1128 f (wrapped 65536#32 (voxels T t))

/-- An index that is not negative is not wrapped. -/
theorem wrapped_apply (N : BitVec 32) (x : IVec S65536 32) (p : Fin 65536) (h : (x (ix1 p)).toNat < 2 ^ 31) : wrapped N x (ix2 p (0 : Fin 1)) = x (ix1 p) := by
  have e : wrapped N x (ix2 p (0 : Fin 1)) = if IntOp.cmpi .slt (x (ix1 p)) 0#32 = 1#1 then IntOp.addi (x (ix1 p)) N else x (ix1 p) := by
    unfold wrapped
    pointwise
    rfl
  rw [e, if_neg]
  have hofb (p : Bool) : (BitVec.ofBool p = 1#1) ↔ p = true := by cases p <;> decide
  simp only [IntOp.cmpi, hofb, BitVec.slt_eq_decide, decide_eq_true_eq, BitVec.toInt_eq_toNat_cond, BitVec.toNat_ofNat, Nat.reducePow, Nat.reduceMod] at h ⊢
  omega

theorem voxels_apply (T : IVec S16384 32) (t : IVec S16x64x64 32) (ht : ∀ j, (t j).toNat < 16384) (p : Fin 65536) :
    voxels T t (ix1 p) = T (Shape.ofLane (d := ![16384]) (Fin.ofNat 16384 (shapeCast S65536 t shapeCasts_S16x64x64_S65536 (ix1 p)).toNat)) := by
  have hv : (shapeCast S65536 t shapeCasts_S16x64x64_S65536 (ix1 p)).toNat < 16384 := ht _
  refine (Routing.gather_take1 gather_S16384_S65536x1_S65536_n_0_n_n_0_1_1 rfl rfl rfl rfl T _ p
    (Fin.ofNat 16384 (shapeCast S65536 t shapeCasts_S16x64x64_S65536 (ix1 p)).toNat) ?_ (by decide)).trans ?_
  · refine (wrapped_apply _ _ p (lt_trans hv (by decide))).trans ?_
    refine BitVec.eq_of_toNat_eq ?_
    rw [BitVec.toNat_ofNat, Fin.val_ofNat, Nat.mod_eq_of_lt hv, Nat.mod_eq_of_lt (lt_trans hv (by decide))]
  · refine congrArg T (funext fun a => ?_)
    have ha : a = 0 := Subsingleton.elim (α := Fin 1) _ _
    subst ha; rfl

theorem rows_apply {α : Type} (T : IVec S16384 32) (hT : ∀ j, (T j).toNat < 65536) (t : IVec S16x64x64 32) (ht : ∀ j, (t j).toNat < 16384) (f : S65536x128.Idx → α)
    (p : Fin 65536) (y : Fin 128) :
    rows T t f (ix2 p y)
      = f (ix2 (Fin.ofNat 65536 (T (Shape.ofLane (d := ![16384]) (Fin.ofNat 16384 (shapeCast S65536 t shapeCasts_S16x64x64_S65536 (ix1 p)).toNat))).toNat) y) := by
  have hv : (voxels T t (ix1 p)).toNat < 65536 := by rw [voxels_apply T t ht p]; exact hT _
  rw [← voxels_apply T t ht p]
  refine Routing.gather_row gather_S65536x128_S65536x1_S65536x128_1_0_n_n_0_1_1128 rfl rfl rfl rfl rfl f _ p y (Fin.ofNat 65536 (voxels T t (ix1 p)).toNat) ?_ (by decide)
  refine (wrapped_apply _ _ p (lt_trans hv (by decide))).trans ?_
  refine BitVec.eq_of_toNat_eq ?_
  rw [BitVec.toNat_ofNat, Fin.val_ofNat, Nat.mod_eq_of_lt hv, Nat.mod_eq_of_lt (lt_trans hv (by decide))]

/-- The slots in 512 rows of 128, read at a slot's row and place, are the slots in one row, read at the slot. -/
theorem slot_apply (t : IVec S16x64x64 32) (h : S16x64x64.ShapeCasts ⟨2, ![512, 128]⟩) (p : Fin 65536) (a : Fin 512) (b : Fin 128) (e : a.val * 128 + b.val = p.val) :
    shapeCast ⟨2, ![512, 128]⟩ t h (ix2 a b) = shapeCast S65536 t shapeCasts_S16x64x64_S65536 (ix1 p) := by
  refine congrArg t (Shape.reshapeEquiv_eq_of_rowMajor _ ?_)
  rw [Shape.rowMajor_reshapeEquiv, Shape.rowMajor_val_one, Shape.rowMajor_val_two]
  exact e.symm

/-- The generated term of the first result is the rows of the table the statement makes. -/
theorem res_eq {F : FTy → Type} [FloatOps F] (m : (ℓ : Loc nD τ sig) → Buf (Elt F) ℓ) (c : Dev nD) :
    Value.res_out0 m c = rows (table (m ((c.tc : Thread nD τ).loc main_arg0))) (m ((c.tc : Thread nD τ).loc main_arg1)) (m ((c.tc : Thread nD τ).loc main_arg2)) := rfl

end Cert.Proof.Ref

end
-- ==== Proof.Numbers.lean ====
/-
  The cell numbers: what the kernel that packs a voxel's four coordinates into one number leaves in its result, over any
  float values, is the plain statement's term.
-/
module

public import proofs.«01_k».proof.Defs
public import proofs.«01_k».proof.Proof.Gen.CodesIdeal
public import proofs.«01_k».proof.Proof.Gen.CodesIdeal.Skeleton
public import proofs.«01_k».proof.Proof.Gen.CodesIdeal.Frame
public import proofs.«01_k».proof.Proof.Gen.CodesRefIdeal
public import proofs.«01_k».proof.Proof.Gen.CodesRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Numbers

section term
open Cert.CodesRefIdeal Cert.CodesRefIdeal.Gen

/-- A coordinate's column. -/
abbrev column (x : IVec S65536x4 32) (a : Nat) (h : S65536x4.Slices ![0, a] S65536x1) : IVec S65536 32 :=
  shapeCast _ (extractStridedSlice S65536x1 ![0, a] x h) shapeCasts_S65536x1_S65536

/-- Four times a column. -/
abbrev times4 (x : IVec S65536 32) : IVec S65536 32 := muli x (broadcastInDim S65536 ![] bcast_S_S65536 (constantI S_ 32 4#32))

/-- The four coordinates as the digits of a number to the base 4: the plain statement's term. -/
def number (x : IVec S65536x4 32) : IVec S65536 32 :=
  addi (times4 (addi (times4 (addi (times4 (column x 0 slices_S65536x4_S65536x1_0_0)) (column x 1 slices_S65536x4_S65536x1_0_1)))
    (column x 2 slices_S65536x4_S65536x1_0_2))) (column x 3 slices_S65536x4_S65536x1_0_3)

end term

/-- Words: multiplying by 64, 16 and 4 is the same as by 4 three times, twice and once. -/
theorem base4 (a b c d : BitVec 32) :
    IntOp.addi (IntOp.addi (IntOp.addi (IntOp.muli a 64#32) (IntOp.muli b 16#32)) (IntOp.muli c 4#32)) d
      = IntOp.addi (IntOp.muli (IntOp.addi (IntOp.muli (IntOp.addi (IntOp.muli a 4#32) b) 4#32) c) 4#32) d := by
  simp only [IntOp.addi, IntOp.muli]
  rw [BitVec.add_mul, BitVec.add_mul, BitVec.add_mul, BitVec.mul_assoc a, BitVec.mul_assoc a, BitVec.mul_assoc b]
  rfl

open Cert.CodesIdeal Cert.CodesIdeal.Gen

variable {F : FTy → Type} [FloatOps F] (m : (ℓ : Loc nD τ sig) → Buf (Elt F) ℓ)

theorem idx : ∀ t : Fin cfg0.N, win0_0.index t = ![t.val, 0] ∧ win0_1.index t = ![t.val] :=
  (by decide +kernel : ∀ t : Fin grid0.N, _)

/-- What the body stores at a place of its block is the plain term at the place of the array it lies at. -/
theorem point (c : Dev nD) (t : Fin cfg0.N) (y) :
    k0_pay1 (F := F) (iblk m c 0 t) y = number (m ((c : Thread nD τ).loc main_arg0)) (((cfg0.win 1).blk t).view.emb y) := by
  pointwise [k0_pay1, number]
  refine Eq.trans ?_ (base4 _ _ _ _)
  blk_point [iblk, V, idx t]

/-- The result after the run. -/
theorem final (c : Dev nD) : (dats m 0 c).arrAt 1 (cfgs 0).N = number (m ((c : Thread nD τ).loc main_arg0)) := by
  refine (dats m 0 c).arrAt_eq_of_covers 1 _ (by decide +kernel) fun t _ y => ?_
  blk_simp
  rw [after0_1]; frame_out
  exact point m c t y

end Cert.Proof.Numbers

end
-- ==== Proof.Query.lean ====
/-
  The attention of one query over its 64 voxels, as a function of the query's and the voxels' numbers, and the words and
  folds the two programs spell differently.
-/
module

public import Idealize.ShloMosaic.Lib.Affine
public import Idealize.ShloMosaic.Lib.Pointwise

@[expose] public section

set_option maxRecDepth 16384

noncomputable section

open Idealize.ShloMosaic Idealize.ShloMosaic.TcCoe Idealize.SL.Sem

namespace Cert.Proof.Query

/-! ## A cell's coordinates, of its number's word -/

/-- The sign of a word: 0, 1 or -1. -/
abbrev sgn (x : BitVec 32) : BitVec 32 := if x = 0 then 0 else if x.msb then -1 else 1

/-- The remainder of a word by 4, never negative. -/
abbrev rem4 (x : BitVec 32) : BitVec 32 :=
  Scalar.select (IntOp.andi (IntOp.cmpi .slt (x.srem 4#32) 0#32) (IntOp.cmpi .ne (x.srem 4#32) 0#32)) (IntOp.addi (x.srem 4#32) 4#32) (x.srem 4#32)

/-- The quotient of a word by a positive `k`, rounded down. -/
abbrev quo (k x : BitVec 32) : BitVec 32 :=
  Scalar.select (IntOp.andi (IntOp.cmpi .ne (sgn x) 1#32) (IntOp.cmpi .ne (x.srem k) 0#32)) (IntOp.subi (x.sdiv k) 1#32) (x.sdiv k)

theorem rem_4 (u : ArithUnit) (x : BitVec 32) : IntOp.remsi u x 4#32 = x.srem 4#32 := IntOp.remsi_of_pos u (by decide)

theorem rem_16 (u : ArithUnit) (x : BitVec 32) : IntOp.remsi u x 16#32 = x.srem 16#32 := IntOp.remsi_of_pos u (by decide)

theorem div_4 (u : ArithUnit) (x : BitVec 32) : IntOp.divsi u x 4#32 = x.sdiv 4#32 := if_neg (IntOp.not_corner_of_pos (by decide))

theorem div_16 (u : ArithUnit) (x : BitVec 32) : IntOp.divsi u x 16#32 = x.sdiv 16#32 := if_neg (IntOp.not_corner_of_pos (by decide))

theorem four : Scalar.select (IntOp.cmpi .eq 4#32 0#32) 1#32 4#32 = 4#32 := by decide

theorem four_pos : IntOp.cmpi .slt 4#32 0#32 = 0#1 := by decide

theorem xor_zero (a : BitVec 1) : IntOp.xori a 0#1 = a := by revert a; decide

theorem ne_zero (a : BitVec 1) : IntOp.cmpi .ne a 0#1 = a := by revert a; decide

theorem sgn_4 : IntOp.subi (BitVec.setWidth 32 (IntOp.cmpi .sgt 4#32 0#32)) (BitVec.setWidth 32 (IntOp.cmpi .slt 4#32 0#32)) = 1#32 := by decide

theorem sgn_16 : IntOp.subi (BitVec.setWidth 32 (IntOp.cmpi .sgt 16#32 0#32)) (BitVec.setWidth 32 (IntOp.cmpi .slt 16#32 0#32)) = 1#32 := by decide

theorem sgn_four : sgn 4#32 = 1#32 := by decide

theorem sgn_sixteen : sgn 16#32 = 1#32 := by decide

/-- The sign as the difference of two comparisons. -/
theorem sgn_eq (x : BitVec 32) :
    IntOp.subi (BitVec.setWidth 32 (IntOp.cmpi .sgt x 0#32)) (BitVec.setWidth 32 (IntOp.cmpi .slt x 0#32)) = sgn x := by
  have h0 : (0#32).slt x = (decide (x ≠ 0) && !x.msb) := by
    rw [BitVec.slt_eq_decide, BitVec.toInt_zero, BitVec.toInt_eq_msb_cond]
    by_cases h : x = 0
    · subst h; decide
    · have h' : x.toNat ≠ 0 := fun e => h (BitVec.eq_of_toNat_eq (by simpa using e))
      have hl := x.isLt
      cases hm : x.msb
      · simp only [Bool.false_eq_true, if_false, h, ne_eq, not_false_eq_true, decide_true, Bool.not_false, Bool.and_self, decide_eq_true_eq]; omega
      · simp only [if_true, h, ne_eq, not_false_eq_true, decide_true, Bool.not_true, Bool.and_false, decide_eq_false_iff_not]; omega
  have h1 : x.slt 0#32 = x.msb := BitVec.slt_zero_eq_msb
  simp only [IntOp.cmpi, IntOp.subi, h0, h1]
  by_cases h : x = 0
  · subst h; decide
  · have h' : ¬x = 0#32 := h
    cases hm : x.msb <;> simp only [sgn, if_neg h, hm, decide_true, ne_eq, h', not_false_eq_true, h] <;> decide

/-! ## The encoded place, and the attention -/

/-- Of a voxel's cell and a query's place: where the cell's centre lies from the query. -/
def away (cell : BitVec 32) (q : Fin 3 → EReal) : Fin 3 → EReal :=
  ![FloatOps.sitofp (F := Ideal) .f32 (rem4 cell) - Ideal.ofBits .f32 0x3FC00000#32 - q 0,
    FloatOps.sitofp (F := Ideal) .f32 (rem4 (quo 4#32 cell)) - Ideal.ofBits .f32 0x3FC00000#32 - q 1,
    FloatOps.sitofp (F := Ideal) .f32 (quo 16#32 cell) - Ideal.ofBits .f32 0x3FC00000#32 - q 2]

/-- The length of this way. -/
def far (d : Fin 3 → EReal) : EReal := Ideal.sqrt (d 0 * d 0 + d 1 * d 1 + d 2 * d 2 + Ideal.ofBits .f32 0x2B8CBCCC#32)

/-- The encoding's first layer. -/
def hid (d : Fin 3 → EReal) (w : Fin 4 → Fin 128 → EReal) (b : Fin 128 → EReal) (l : Fin 128) : EReal :=
  d 0 * w 0 l + d 1 * w 1 l + d 2 * w 2 l + far d * w 3 l + b l

/-- A row times a matrix, and a bias. -/
def lin (x : Fin 128 → EReal) (w : Fin 128 → Fin 128 → EReal) (b : Fin 128 → EReal) (j : Fin 128) : EReal := ∑ l, x l * w l j + b j

/-- A voxel's features with the encoded place added. -/
def feat (f : Fin 128 → EReal) (d : Fin 3 → EReal) (w1 : Fin 4 → Fin 128 → EReal) (b1 : Fin 128 → EReal) (w2 : Fin 128 → Fin 128 → EReal)
    (b2 : Fin 128 → EReal) (j : Fin 128) : EReal :=
  f j + lin (fun l => max (hid d w1 b1 l) 0) w2 b2 j

/-- A voxel's score for a query: the scaled product of the two rows, or minus 1e30 of a voxel that is not valid. -/
def score (q k : Fin 128 → EReal) (v : EReal) : EReal :=
  if 0 < v then (∑ j, q j * k j) * Ideal.ofBits .f32 0x3DB504F3#32 else Ideal.ofBits .f32 0xF149F2CA#32

/-- The exponential of a score, the greatest taken off. -/
def wgt (s : Fin 64 → EReal) (n : Fin 64) : EReal := Ideal.exp (s n - Finset.univ.fold max (Ideal.ofBits .f32 0xFF800000#32) s)

/-- The mean of the voxels' values, weighted by the scores. -/
def mean (s : Fin 64 → EReal) (v : Fin 64 → Fin 128 → EReal) (j : Fin 128) : EReal := ∑ n, Ideal.div (wgt s n) (∑ k, wgt s k) * v n j

/-- The result of one query: zero where no voxel is valid. -/
def attend (val : Fin 64 → Fin 128 → EReal) (q : Fin 128 → EReal) (wk : Fin 128 → Fin 128 → EReal) (bk : Fin 128 → EReal)
    (wv : Fin 128 → Fin 128 → EReal) (bv : Fin 128 → EReal) (v : Fin 64 → EReal) (wo : Fin 128 → Fin 128 → EReal) (bo : Fin 128 → EReal)
    (j : Fin 128) : EReal :=
  if ∃ n, 0 < v n then lin (mean (fun n => score q (lin (val n) wk bk) (v n)) fun n => lin (val n) wv bv) wo bo j else 0

/-- The same from the operands: the query's features, its voxels' features and cells, its place, its voxels' flags. -/
def one (qf : Fin 128 → EReal) (vf : Fin 64 → Fin 128 → EReal) (cell : Fin 64 → BitVec 32) (q : Fin 3 → EReal) (v : Fin 64 → EReal)
    (w1 : Fin 4 → Fin 128 → EReal) (b1 : Fin 128 → EReal) (w2 : Fin 128 → Fin 128 → EReal) (b2 : Fin 128 → EReal)
    (wq : Fin 128 → Fin 128 → EReal) (bq : Fin 128 → EReal) (wk : Fin 128 → Fin 128 → EReal) (bk : Fin 128 → EReal)
    (wv : Fin 128 → Fin 128 → EReal) (bv : Fin 128 → EReal) (wo : Fin 128 → Fin 128 → EReal) (bo : Fin 128 → EReal) (j : Fin 128) : EReal :=
  attend (fun n => feat (vf n) (away (cell n) q) w1 b1 w2 b2) (lin qf wq bq) wk bk wv bv v wo bo j

/-- The greatest of some numbers is positive where one of them is. -/
theorem positive (v : Fin 64 → EReal) : 0 < Finset.univ.fold max (Ideal.ofBits .f32 0xFF800000#32) v ↔ ∃ n, 0 < v n := by
  have h : ¬0 < Ideal.ofBits .f32 0xFF800000#32 := by simp [Ideal.ofBits, Ideal.ieee]
  rw [Finset.lt_fold_max]
  simp [h]

end Cert.Proof.Query

end
-- ==== Proof.QueryK.lean ====
/-
  The attention kernel's body, read at an index: what it stores for a query is the attention of that query.
-/
module

public import proofs.«01_k».proof.Proof.Query
public import proofs.«01_k».proof.Proof.Gen.AttentionIdeal
public import proofs.«01_k».proof.Proof.Gen.AttentionIdeal.Skeleton

@[expose] public section

set_option maxRecDepth 16384

noncomputable section

open Idealize.ShloMosaic Idealize.ShloMosaic.TcCoe Idealize.SL.Sem

namespace Cert.Proof.Query.Body

open Cert.AttentionIdeal Cert.AttentionIdeal.Gen

/-- The place of a query of the block. -/
abbrev place (x3 : Vec Ideal S1x64x3 .f32) (r : Fin 64) (a : Fin 3) : EReal := x3 (ix3 (0 : Fin 1) r a)

theorem way0 (x2 : Vec Ideal S1x64x64 .i32) (x3 : Vec Ideal S1x64x3 .f32) (r n : Fin 64) :
    k0_pay5 (F := Ideal) x2 x3 (ix2 r n) = away (x2 (ix3 (0 : Fin 1) r n)) (place x3 r) 0 := by
  pointwise [k0_pay5, k0_pay2, Scalar.cmpi, Scalar.subi, Scalar.extui, rem_4, four, four_pos, xor_zero]
  rfl

theorem way1 (x2 : Vec Ideal S1x64x64 .i32) (x3 : Vec Ideal S1x64x3 .f32) (r n : Fin 64) :
    k0_pay8 (F := Ideal) (k0_pay2 x2) (k0_pay3 x3) 4#32 (k0_pay6 x2) (k0_pay7 x2) 0#32 (ix2 r n)
      = away (x2 (ix3 (0 : Fin 1) r n)) (place x3 r) 1 := by
  pointwise [k0_pay8, k0_pay2, k0_pay3, k0_pay6, k0_pay7, Scalar.cmpi, Scalar.subi, Scalar.extui, rem_4, div_4, four, four_pos, xor_zero, sgn_4, sgn_eq]
  rfl

theorem way2 (x2 : Vec Ideal S1x64x64 .i32) (x3 : Vec Ideal S1x64x3 .f32) (r n : Fin 64) :
    k0_pay12 (F := Ideal) (k0_pay2 x2) (k0_pay4 x3) 16#32 (k0_pay9 (k0_pay2 x2)) (k0_pay10 (k0_pay2 x2)) k0_pay11 (ix2 r n)
      = away (x2 (ix3 (0 : Fin 1) r n)) (place x3 r) 2 := by
  pointwise [k0_pay12, k0_pay2, k0_pay4, k0_pay9, k0_pay10, k0_pay11, Scalar.cmpi, Scalar.subi, Scalar.extui, rem_16, div_16, sgn_16, sgn_eq]
  rfl

/-- The features with the encoded place, of the block's voxel `p`. -/
theorem value (v1 : IVec S64x64 32) (v10 : FVec Ideal S64x1 .f32) (v31 v76 : FVec Ideal S64x64 .f32) (c16 : BitVec 32) (v78 v81 v82 : IVec S64x64 32)
    (d : Fin 64 → Fin 64 → Fin 3 → EReal) (h0 : ∀ r n, v31 (ix2 r n) = d r n 0) (h1 : ∀ r n, v76 (ix2 r n) = d r n 1)
    (h2 : ∀ r n, k0_pay12 v1 v10 c16 v78 v81 v82 (ix2 r n) = d r n 2)
    (u0 u1 u2 u3 b1 b2 : Vec Ideal S1x128 .f32) (w2 : Vec Ideal S128x128 .f32) (x1 : Vec Ideal S1x4096x128 .f32) (p : Fin 4096) (j : Fin 128)
    (w1 : Fin 4 → Fin 128 → EReal) (e0 : ∀ l, u0 (ix2 (0 : Fin 1) l) = w1 0 l) (e1 : ∀ l, u1 (ix2 (0 : Fin 1) l) = w1 1 l)
    (e2 : ∀ l, u2 (ix2 (0 : Fin 1) l) = w1 2 l) (e3 : ∀ l, u3 (ix2 (0 : Fin 1) l) = w1 3 l) :
    k0_pay16 (F := Ideal) (k0_pay13 v1 v10 v31 v76 c16 v78 v81 v82) (k0_pay14 v31 v76 u0 u1) (k0_pay15 v1 v10 c16 v78 v81 v82) u2 u3 b1 w2 b2 x1 (ix2 p j)
      = feat (fun j => x1 (ix3 (0 : Fin 1) p j)) (d ⟨p.val / 64, by omega⟩ ⟨p.val % 64, by omega⟩) w1 (fun l => b1 (ix2 (0 : Fin 1) l))
          (fun l j => w2 (ix2 l j)) (fun l => b2 (ix2 (0 : Fin 1) l)) j := by
  pointwise [k0_pay16, k0_pay13, k0_pay14, k0_pay15, feat, lin, hid, far, h0, h1, h2, e0, e1, e2, e3]

/-- The weighted mean of the values, times the last matrix. -/
theorem mixed (v159 : FVec Ideal S4096x128 .f32) (v166 : FVec Ideal S64x128 .f32) (wk wv wo : Vec Ideal S128x128 .f32) (bk bv : Vec Ideal S1x128 .f32)
    (x4 : Vec Ideal S1x64x64 .f32) (r : Fin 64) (j : Fin 128) (val : Fin 64 → Fin 128 → EReal)
    (hv : ∀ (n : Fin 64) (l : Fin 128), v159 (ix2 (⟨r.val * 64 + n.val, by omega⟩ : Fin 4096) l) = val n l) :
    k0_pay18 (F := Ideal) v159 v166 wk bk wv bv x4 wo (ix2 r j)
      = ∑ l, mean (fun n => score (fun l => v166 (ix2 r l)) (lin (val n) (fun l j => wk (ix2 l j)) fun l => bk (ix2 (0 : Fin 1) l)) (x4 (ix3 (0 : Fin 1) r n)))
          (fun n => lin (val n) (fun l j => wv (ix2 l j)) fun l => bv (ix2 (0 : Fin 1) l)) l * wo (ix2 l j) := by
  pointwise [k0_pay18, mean, score, wgt, lin, hv]

/-- The store: the bias added, or zero where the greatest flag is not positive. -/
theorem stored (v205 : FVec Ideal S64x128 .f32) (bo : Vec Ideal S1x128 .f32) (x4 : Vec Ideal S1x64x64 .f32) (r : Fin 64) (j : Fin 128) :
    k0_pay1 (F := Ideal) v205 bo x4 (ix3 (0 : Fin 1) r j)
      = if ∃ n : Fin 64, 0 < x4 (ix3 (0 : Fin 1) r n) then v205 (ix2 r j) + bo (ix2 (0 : Fin 1) j) else 0 := by
  pointwise [k0_pay1]
  exact if_congr (positive _) rfl rfl

theorem query (v166 : Vec Ideal S1x64x128 .f32) (wq : Vec Ideal S128x128 .f32) (bq : Vec Ideal S1x128 .f32) (r : Fin 64) (j : Fin 128) :
    k0_pay17 (F := Ideal) v166 wq bq (ix2 r j) = lin (fun j => v166 (ix3 (0 : Fin 1) r j)) (fun l j => wq (ix2 l j)) (fun j => bq (ix2 (0 : Fin 1) j)) j := by
  pointwise [k0_pay17, lin]

/-- What the body stores for a query: its attention, from the blocks. -/
theorem all (x0 : Vec Ideal S1x64x128 .f32) (x1 : Vec Ideal S1x4096x128 .f32) (x2 : Vec Ideal S1x64x64 .i32) (x3 : Vec Ideal S1x64x3 .f32)
    (x4 : Vec Ideal S1x64x64 .f32) (x5 : Vec Ideal S4x128 .f32) (x6 x8 x10 x12 x14 x16 : Vec Ideal S1x128 .f32)
    (x7 x9 x11 x13 x15 : Vec Ideal S128x128 .f32) (u0 u1 u2 u3 : Vec Ideal S1x128 .f32)
    (e0 : ∀ l, u0 (ix2 (0 : Fin 1) l) = x5 (ix2 (0 : Fin 4) l)) (e1 : ∀ l, u1 (ix2 (0 : Fin 1) l) = x5 (ix2 (1 : Fin 4) l))
    (e2 : ∀ l, u2 (ix2 (0 : Fin 1) l) = x5 (ix2 (2 : Fin 4) l)) (e3 : ∀ l, u3 (ix2 (0 : Fin 1) l) = x5 (ix2 (3 : Fin 4) l))
    (r : Fin 64) (j : Fin 128) :
    k0_pay1 (F := Ideal)
        (k0_pay18 (k0_pay16
            (k0_pay13 (k0_pay2 x2) (k0_pay4 x3) (k0_pay5 x2 x3) (k0_pay8 (k0_pay2 x2) (k0_pay3 x3) 4#32 (k0_pay6 x2) (k0_pay7 x2) 0#32) 16#32
              (k0_pay9 (k0_pay2 x2)) (k0_pay10 (k0_pay2 x2)) k0_pay11)
            (k0_pay14 (k0_pay5 x2 x3) (k0_pay8 (k0_pay2 x2) (k0_pay3 x3) 4#32 (k0_pay6 x2) (k0_pay7 x2) 0#32) u0 u1)
            (k0_pay15 (k0_pay2 x2) (k0_pay4 x3) 16#32 (k0_pay9 (k0_pay2 x2)) (k0_pay10 (k0_pay2 x2)) k0_pay11) u2 u3 x6 x7 x8 x1)
          (k0_pay17 x0 x9 x10) x11 x12 x13 x14 x4 x15) x16 x4 (ix3 (0 : Fin 1) r j)
      = one (fun l => x0 (ix3 (0 : Fin 1) r l)) (fun n l => x1 (ix3 (0 : Fin 1) (⟨r.val * 64 + n.val, by omega⟩ : Fin 4096) l))
          (fun n => x2 (ix3 (0 : Fin 1) r n)) (fun a => x3 (ix3 (0 : Fin 1) r a)) (fun n => x4 (ix3 (0 : Fin 1) r n))
          (fun a l => x5 (ix2 a l)) (fun l => x6 (ix2 (0 : Fin 1) l)) (fun l j => x7 (ix2 l j)) (fun l => x8 (ix2 (0 : Fin 1) l))
          (fun l j => x9 (ix2 l j)) (fun l => x10 (ix2 (0 : Fin 1) l)) (fun l j => x11 (ix2 l j)) (fun l => x12 (ix2 (0 : Fin 1) l))
          (fun l j => x13 (ix2 l j)) (fun l => x14 (ix2 (0 : Fin 1) l)) (fun l j => x15 (ix2 l j)) (fun l => x16 (ix2 (0 : Fin 1) l)) j := by
  refine (stored _ _ _ _ _).trans ?_
  unfold one attend
  refine if_congr Iff.rfl ?_ rfl
  refine congrArg (· + x16 (ix2 (0 : Fin 1) j)) ?_
  refine (mixed _ _ _ _ _ _ _ _ r j
    (fun n => feat (fun l => x1 (ix3 (0 : Fin 1) (⟨r.val * 64 + n.val, by omega⟩ : Fin 4096) l)) (away (x2 (ix3 (0 : Fin 1) r n)) (place x3 r))
      (fun a l => x5 (ix2 a l)) (fun l => x6 (ix2 (0 : Fin 1) l)) (fun l j => x7 (ix2 l j)) (fun l => x8 (ix2 (0 : Fin 1) l)))
    fun n l => ?_).trans ?_
  · refine (value _ _ _ _ _ _ _ _ (fun r n => away (x2 (ix3 (0 : Fin 1) r n)) (place x3 r)) (way0 x2 x3) (way1 x2 x3) (way2 x2 x3)
      u0 u1 u2 u3 x6 x8 x7 x1 _ l (fun a l => x5 (ix2 a l)) e0 e1 e2 e3).trans ?_
    have hr : (⟨(r.val * 64 + n.val) / 64, by omega⟩ : Fin 64) = r := Fin.ext (by show (r.val * 64 + n.val) / 64 = r.val; omega)
    have hn : (⟨(r.val * 64 + n.val) % 64, by omega⟩ : Fin 64) = n := Fin.ext (by show (r.val * 64 + n.val) % 64 = n.val; omega)
    simp only [hr, hn]
  · simp only [query]

end Cert.Proof.Query.Body

end
-- ==== Proof.QueryR.lean ====
/-
  The plain statement of the attention, read at an index: its result at a query is the attention of that query.
-/
module

public import proofs.«01_k».proof.Proof.Query
public import proofs.«01_k».proof.Proof.Gen.AttentionRefIdeal
public import proofs.«01_k».proof.Proof.Gen.AttentionRefIdeal.Run

@[expose] public section

set_option maxRecDepth 16384

noncomputable section

open Idealize.ShloMosaic Idealize.ShloMosaic.TcCoe Idealize.SL.Sem Idealize.ShloMosaic.StableHlo

namespace Cert.Proof.Query.Plain

open Cert.AttentionRefIdeal Cert.AttentionRefIdeal.Gen Cert.AttentionRefIdeal.Value

variable (V0 : Valuation τ sig (Elt Ideal))

/-- The voxels' cells, and the queries' places. -/
abbrev cells : IVec S16x64x64 32 := V0 (Proc.devRef .tc main_arg2)
abbrev places : FVec Ideal S16x64x3 .f32 := V0 (Proc.devRef .tc main_arg3)

theorem call0 : res_main_call0_v0 V0 = constantI S_ 32 4#32 := rfl

theorem call1 : res_main_call1_v0 V0 = constantI S_ 32 4#32 := rfl

theorem call2 : res_main_call2_v0 V0 = constantI S_ 32 4#32 := rfl

theorem call3 : res_main_call3_v0 V0 = constantI S_ 32 16#32 := rfl

theorem call02 : res_main_call0_v2 V0 = constantI S_ 32 4#32 := funext fun _ => four

theorem call22 : res_main_call2_v2 V0 = constantI S_ 32 4#32 := funext fun _ => four

theorem signi_four : signi (constantI S_ 32 4#32) = constantI S_ 32 1#32 := funext fun _ => sgn_four

theorem signi_sixteen : signi (constantI S_ 32 16#32) = constantI S_ 32 1#32 := funext fun _ => sgn_sixteen

/-- Where a voxel's cell lies from the query, one coordinate. -/
theorem way (g : Fin 16) (r n : Fin 64) (a : Fin 3) :
    res_main_v14 V0 (ix4 g r n a) = away (cells V0 (ix3 g r n)) (fun a => places V0 (ix3 g r a)) a := by
  pointwise [res_main_v14, res_main_call0_v4, call02, res_main_call1_v2, call1,
    res_main_call2_v4, call22, res_main_call3_v2, call3, rem_4, rem_16,
    div_4, div_16, signi_four, signi_sixteen, four_pos, ne_zero]
  match a with
  | 0 => rfl
  | 1 => rfl
  | 2 => rfl

/-- The features with the encoded place, of a query's voxel. -/
theorem value (g : Fin 16) (r n : Fin 64) (j : Fin 128) :
    res_main_v32 V0 (ix4 g r n j)
      = feat (fun j => (V0 (Proc.devRef .tc main_arg1) : FVec Ideal S16x4096x128 .f32) (ix3 g (⟨r.val * 64 + n.val, by omega⟩ : Fin 4096) j))
          (away (cells V0 (ix3 g r n)) fun a => places V0 (ix3 g r a))
          (fun a l => (V0 (Proc.devRef .tc main_arg5) : FVec Ideal S4x128 .f32) (ix2 a l))
          (fun l => (V0 (Proc.devRef .tc main_arg6) : FVec Ideal S1x128 .f32) (ix2 (0 : Fin 1) l))
          (fun l j => (V0 (Proc.devRef .tc main_arg7) : FVec Ideal S128x128 .f32) (ix2 l j))
          (fun l => (V0 (Proc.devRef .tc main_arg8) : FVec Ideal S1x128 .f32) (ix2 (0 : Fin 1) l)) j := by
  pointwise [res_main_v32, feat, lin, hid, far, way]
  simp only [Fin.sum_univ_three, Fin.sum_univ_one]
  rfl

/-- The values of a query's voxels. -/
abbrev val (g : Fin 16) (r n : Fin 64) (j : Fin 128) : EReal := res_main_v32 V0 (ix4 g r n j)

/-- The scores of a query's voxels. -/
def scores (g : Fin 16) (r n : Fin 64) : EReal :=
  score (lin (fun l => (V0 (Proc.devRef .tc main_arg0) : FVec Ideal S16x64x128 .f32) (ix3 g r l))
      (fun l j => (V0 (Proc.devRef .tc main_arg9) : FVec Ideal S128x128 .f32) (ix2 l j))
      fun j => (V0 (Proc.devRef .tc main_arg10) : FVec Ideal S1x128 .f32) (ix2 (0 : Fin 1) j))
    (lin (val V0 g r n) (fun l j => (V0 (Proc.devRef .tc main_arg11) : FVec Ideal S128x128 .f32) (ix2 l j))
      fun j => (V0 (Proc.devRef .tc main_arg12) : FVec Ideal S1x128 .f32) (ix2 (0 : Fin 1) j))
    ((V0 (Proc.devRef .tc main_arg4) : FVec Ideal S16x64x64 .f32) (ix3 g r n))

theorem least : id (constant (F := Ideal) S_ .f32 0xF149F2CA#32) = constant S_ .f32 0xF149F2CA#32 := rfl

theorem nought : id (constant (F := Ideal) S_ .f32 0x00000000#32) = constant S_ .f32 0x00000000#32 := rfl

theorem scored (g : Fin 16) (r n : Fin 64) : res_main_v50 V0 (ix3 g r n) = scores V0 g r n := by
  pointwise [res_main_v50, scores, score, lin, val, least]

/-- The exponential of an array, the greatest of each row taken off. -/
theorem softened (x : FVec Ideal S16x64x64 .f32) (g : Fin 16) (r n : Fin 64) :
    Host.exp (subf x (broadcastInDim S16x64x64 ![0, 1, 2] bcast_S16x64x1_S16x64x64_0_1_2 (broadcastInDim S16x64x1 ![0, 1] bcast_S16x64_S16x64x1_0_1
        (Host.reduce FloatOps.maximumf x (constant S_ .f32 0xFF800000#32) reducesTo_S16x64x64_S16x64_d2 h_S_)))) (ix3 g r n)
      = wgt (fun n => x (ix3 g r n)) n := by
  pointwise [wgt]

theorem weighed (g : Fin 16) (r n : Fin 64) : res_main_v55 V0 (ix3 g r n) = wgt (scores V0 g r) n :=
  (softened (res_main_v50 V0) g r n).trans (congrArg (fun s => wgt s n) (funext fun n => scored V0 g r n))

/-- The disjunction of some bits is set where one of them is. -/
theorem some_set {ι : Type} (S : Finset ι) (p : ι → Bool) :
    S.fold IntOp.ori 0#1 (fun n => BitVec.ofBool (p n)) = BitVec.ofBool (decide (∃ n ∈ S, p n = true)) := by
  classical
  induction S using Finset.induction_on with
  | empty => simp
  | insert a S h ih =>
    rw [Finset.fold_insert h, ih]
    have e : ∀ a b : Bool, IntOp.ori (BitVec.ofBool a) (BitVec.ofBool b) = BitVec.ofBool (a || b) := by decide
    rw [e]
    congr 1
    rw [Bool.eq_iff_iff]
    simp

/-- A choice by such a disjunction. -/
theorem chosen (p : Fin 64 → Prop) [DecidablePred p] [Decidable (∃ n, p n)] (a b : EReal) :
    Scalar.select (Finset.univ.fold IntOp.ori 0#1 fun n => BitVec.ofBool (decide (p n))) a b = if ∃ n, p n then a else b := by
  rw [some_set]
  by_cases h : ∃ n, p n <;> simp [Scalar.select, h]

/-- The last steps, of the voxels' weights, flags and features: the plain statement's term. -/
def ending (x v4 : FVec Ideal S16x64x64 .f32) (y : FVec Ideal S16x64x64x128 .f32) (wv wo : FVec Ideal S128x128 .f32) (bv bo : FVec Ideal S1x128 .f32) :
    FVec Ideal S16x64x128 .f32 :=
  select (broadcastInDim S16x64x128 ![0, 1, 2] bcast_S16x64x1_S16x64x128_0_1_2 (broadcastInDim S16x64x1 ![0, 1] bcast_S16x64_S16x64x1_0_1 (Host.reduce IntOp.ori (cmpf .ogt v4 (broadcastInDim S16x64x64 ![] bcast_S_S16x64x64 (constant S_ .f32 0x00000000#32))) (constantI S_ 1 0#1) reducesTo_S16x64x64_S16x64_d2 h_S_))) (addf (Host.dotGeneral dot_S16x64x128_S128x128_S16x64x128_2_0_01_1_n_n none (Host.dotGeneral dot_S16x64x64_S16x64x64x128_S16x64x128_2_2_n_3_01_01 none (Host.divf x (broadcastInDim S16x64x64 ![0, 1, 2] bcast_S16x64x1_S16x64x64_0_1_2 (broadcastInDim S16x64x1 ![0, 1] bcast_S16x64_S16x64x1_0_1 (Host.reduceAdd x (constant S_ .f32 0x00000000#32) reducesTo_S16x64x64_S16x64_d2 h_S_)))) (addf (Host.dotGeneral dot_S16x64x64x128_S128x128_S16x64x64x128_3_0_012_1_n_n none y wv) (broadcastInDim S16x64x64x128 ![0, 1, 2, 3] bcast_S1x1x1x128_S16x64x64x128_0_1_2_3 (broadcastInDim S1x1x1x128 ![2, 3] bcast_S1x128_S1x1x1x128_2_3 bv)))) wo) (broadcastInDim S16x64x128 ![0, 1, 2] bcast_S1x1x128_S16x64x128_0_1_2 (broadcastInDim S1x1x128 ![1, 2] bcast_S1x128_S1x1x128_1_2 bo))) (broadcastInDim S16x64x128 ![] bcast_S_S16x64x128 (id (constant S_ .f32 0x00000000#32)))

/-- The last steps at a query. -/
theorem ended (x v4 : FVec Ideal S16x64x64 .f32) (y : FVec Ideal S16x64x64x128 .f32) (wv wo : FVec Ideal S128x128 .f32) (bv bo : FVec Ideal S1x128 .f32)
    (g : Fin 16) (r : Fin 64) (j : Fin 128) (s : Fin 64 → EReal) (hx : ∀ n, x (ix3 g r n) = wgt s n) :
    ending x v4 y wv wo bv bo (ix3 g r j)
      = if ∃ n, 0 < v4 (ix3 g r n) then
          lin (mean s fun n => lin (fun l => y (ix4 g r n l)) (fun l j => wv (ix2 l j)) fun j => bv (ix2 (0 : Fin 1) j)) (fun l j => wo (ix2 l j))
            (fun j => bo (ix2 (0 : Fin 1) j)) j
        else 0 := by
  pointwise [ending, nought, lin, mean, hx]
  exact chosen (fun n => 0 < v4 (ix3 g r n)) _ _

/-- The result from the operands' arrays: of each query, its attention. -/
def result (a0 : FVec Ideal S16x64x128 .f32) (a1 : FVec Ideal S16x4096x128 .f32) (a2 : IVec S16x64x64 32) (a3 : FVec Ideal S16x64x3 .f32)
    (a4 : FVec Ideal S16x64x64 .f32) (a5 : FVec Ideal S4x128 .f32) (a6 : FVec Ideal S1x128 .f32) (a7 : FVec Ideal S128x128 .f32)
    (a8 : FVec Ideal S1x128 .f32) (a9 : FVec Ideal S128x128 .f32) (a10 : FVec Ideal S1x128 .f32) (a11 : FVec Ideal S128x128 .f32)
    (a12 : FVec Ideal S1x128 .f32) (a13 : FVec Ideal S128x128 .f32) (a14 : FVec Ideal S1x128 .f32) (a15 : FVec Ideal S128x128 .f32)
    (a16 : FVec Ideal S1x128 .f32) : FVec Ideal S16x64x128 .f32 := fun i =>
  one (fun l => a0 (ix3 (i 0) (i 1) l))
    (fun n l => a1 (ix3 (i 0) (⟨(i 1).val * 64 + n.val, by have h : (i 1).val < 64 := (i 1).isLt; omega⟩ : Fin 4096) l))
    (fun n => a2 (ix3 (i 0) (i 1) n)) (fun a => a3 (ix3 (i 0) (i 1) a)) (fun n => a4 (ix3 (i 0) (i 1) n))
    (fun a l => a5 (ix2 a l)) (fun l => a6 (ix2 (0 : Fin 1) l)) (fun l j => a7 (ix2 l j)) (fun l => a8 (ix2 (0 : Fin 1) l))
    (fun l j => a9 (ix2 l j)) (fun l => a10 (ix2 (0 : Fin 1) l)) (fun l j => a11 (ix2 l j)) (fun l => a12 (ix2 (0 : Fin 1) l))
    (fun l j => a13 (ix2 l j)) (fun l => a14 (ix2 (0 : Fin 1) l)) (fun l j => a15 (ix2 l j)) (fun l => a16 (ix2 (0 : Fin 1) l)) (i 2)

/-- The last steps of the arrays the statement makes give this result. -/
theorem ending_eq :
    ending (res_main_v55 V0) (V0 (Proc.devRef .tc main_arg4)) (res_main_v32 V0) (V0 (Proc.devRef .tc main_arg13)) (V0 (Proc.devRef .tc main_arg15))
      (V0 (Proc.devRef .tc main_arg14)) (V0 (Proc.devRef .tc main_arg16))
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  funext i
  obtain ⟨g, r, j, rfl⟩ : ∃ (g : Fin 16) (r : Fin 64) (j : Fin 128), i = ix3 g r j :=
    ⟨i 0, i 1, i 2, by funext a; match a with | ⟨0, _⟩ => rfl | ⟨1, _⟩ => rfl | ⟨2, _⟩ => rfl⟩
  refine (ended _ _ _ _ _ _ _ g r j (scores V0 g r) (weighed V0 g r)).trans ?_
  unfold result one attend scores val
  simp only [value]
  rfl

end Cert.Proof.Query.Plain

end
-- ==== Proof.Attend.lean ====
/-
  The attention: what the kernel leaves in its result is, of every query, the attention that the plain statement
  computes of it.
-/
module

public import proofs.«01_k».proof.Defs
public import proofs.«01_k».proof.Proof.QueryK
public import proofs.«01_k».proof.Proof.QueryR
public import proofs.«01_k».proof.Proof.Gen.AttentionIdeal
public import proofs.«01_k».proof.Proof.Gen.AttentionIdeal.Skeleton
public import proofs.«01_k».proof.Proof.Gen.AttentionIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Query.Call

open Cert.AttentionIdeal Cert.AttentionIdeal.Gen

variable (m : (ℓ : Loc nD τ sig) → Buf (Elt Ideal) ℓ)

/-- Where the blocks of grid point `t` lie: the group's own of the arrays that are cut by group, else the whole array. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0, 0] :=
  (by decide +kernel : ∀ t : Fin grid0.N, _)

theorem blk0 (c : Dev nD) (t : Fin cfg0.N) (r : Fin 64) (l : Fin 128) :
    (iblk m c 0 t : Vec Ideal S1x64x128 .f32) (ix3 (0 : Fin 1) r l) = m ((c : Thread nD τ).loc main_arg0) (ix3 (⟨t.val, t.isLt⟩ : Fin 16) r l) := by
  blk_point [iblk, V, idx t]

theorem blk1 (c : Dev nD) (t : Fin cfg0.N) (r : Fin 4096) (l : Fin 128) :
    (iblk m c 1 t : Vec Ideal S1x4096x128 .f32) (ix3 (0 : Fin 1) r l) = m ((c : Thread nD τ).loc main_arg1) (ix3 (⟨t.val, t.isLt⟩ : Fin 16) r l) := by
  blk_point [iblk, V, idx t]

theorem blk2 (c : Dev nD) (t : Fin cfg0.N) (r : Fin 64) (l : Fin 64) :
    (iblk m c 2 t : Vec Ideal S1x64x64 .i32) (ix3 (0 : Fin 1) r l) = m ((c : Thread nD τ).loc main_arg2) (ix3 (⟨t.val, t.isLt⟩ : Fin 16) r l) := by
  blk_point [iblk, V, idx t]

theorem blk3 (c : Dev nD) (t : Fin cfg0.N) (r : Fin 64) (l : Fin 3) :
    (iblk m c 3 t : Vec Ideal S1x64x3 .f32) (ix3 (0 : Fin 1) r l) = m ((c : Thread nD τ).loc main_arg3) (ix3 (⟨t.val, t.isLt⟩ : Fin 16) r l) := by
  blk_point [iblk, V, idx t]

theorem blk4 (c : Dev nD) (t : Fin cfg0.N) (r : Fin 64) (l : Fin 64) :
    (iblk m c 4 t : Vec Ideal S1x64x64 .f32) (ix3 (0 : Fin 1) r l) = m ((c : Thread nD τ).loc main_arg4) (ix3 (⟨t.val, t.isLt⟩ : Fin 16) r l) := by
  blk_point [iblk, V, idx t]

theorem blk5 (c : Dev nD) (t : Fin cfg0.N) : iblk m c 5 t = m ((c : Thread nD τ).loc main_arg5) := by
  blk_ext! [iblk, V, idx t]

theorem blk6 (c : Dev nD) (t : Fin cfg0.N) : iblk m c 6 t = m ((c : Thread nD τ).loc main_arg6) := by
  blk_ext! [iblk, V, idx t]

theorem blk7 (c : Dev nD) (t : Fin cfg0.N) : iblk m c 7 t = m ((c : Thread nD τ).loc main_arg7) := by
  blk_ext! [iblk, V, idx t]

theorem blk8 (c : Dev nD) (t : Fin cfg0.N) : iblk m c 8 t = m ((c : Thread nD τ).loc main_arg8) := by
  blk_ext! [iblk, V, idx t]

theorem blk9 (c : Dev nD) (t : Fin cfg0.N) : iblk m c 9 t = m ((c : Thread nD τ).loc main_arg9) := by
  blk_ext! [iblk, V, idx t]

theorem blk10 (c : Dev nD) (t : Fin cfg0.N) : iblk m c 10 t = m ((c : Thread nD τ).loc main_arg10) := by
  blk_ext! [iblk, V, idx t]

theorem blk11 (c : Dev nD) (t : Fin cfg0.N) : iblk m c 11 t = m ((c : Thread nD τ).loc main_arg11) := by
  blk_ext! [iblk, V, idx t]

theorem blk12 (c : Dev nD) (t : Fin cfg0.N) : iblk m c 12 t = m ((c : Thread nD τ).loc main_arg12) := by
  blk_ext! [iblk, V, idx t]

theorem blk13 (c : Dev nD) (t : Fin cfg0.N) : iblk m c 13 t = m ((c : Thread nD τ).loc main_arg13) := by
  blk_ext! [iblk, V, idx t]

theorem blk14 (c : Dev nD) (t : Fin cfg0.N) : iblk m c 14 t = m ((c : Thread nD τ).loc main_arg14) := by
  blk_ext! [iblk, V, idx t]

theorem blk15 (c : Dev nD) (t : Fin cfg0.N) : iblk m c 15 t = m ((c : Thread nD τ).loc main_arg15) := by
  blk_ext! [iblk, V, idx t]

theorem blk16 (c : Dev nD) (t : Fin cfg0.N) : iblk m c 16 t = m ((c : Thread nD τ).loc main_arg16) := by
  blk_ext! [iblk, V, idx t]

/-- The place of the result's array that a place of its block lies at. -/
theorem emb (t : Fin cfg0.N) (r : Fin 64) (j : Fin 128) :
    ((cfg0.win 17).blk t).view.emb (ix3 (0 : Fin 1) r j) = (ix3 (⟨t.val, t.isLt⟩ : Fin 16) r j : S16x64x128.Idx) := by
  have h := idx t
  blk_ext! [h]

theorem row0 (x : Vec Ideal S4x128 .f32) (l : Fin 128) : View.ld x r0_2 (ix2 (0 : Fin 1) l) = x (ix2 (0 : Fin 4) l) := by
  pointwise

theorem row1 (x : Vec Ideal S4x128 .f32) (l : Fin 128) : View.ld x r0_3 (ix2 (0 : Fin 1) l) = x (ix2 (1 : Fin 4) l) := by
  pointwise

theorem row2 (x : Vec Ideal S4x128 .f32) (l : Fin 128) : View.ld x r0_4 (ix2 (0 : Fin 1) l) = x (ix2 (2 : Fin 4) l) := by
  pointwise

theorem row3 (x : Vec Ideal S4x128 .f32) (l : Fin 128) : View.ld x r0_5 (ix2 (0 : Fin 1) l) = x (ix2 (3 : Fin 4) l) := by
  pointwise

/-- The result after the run. -/
theorem final (c : Dev nD) : (dats m 0 c).arrAt 17 (cfgs 0).N
    = Plain.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t _ y => ?_
  blk_simp
  rw [after0_17]; unfold_out out0_17; frame_out
  obtain ⟨r, j, rfl⟩ : ∃ (r : Fin 64) (j : Fin 128), y = (ix3 (0 : Fin 1) r j : S1x64x128.Idx) :=
    ⟨y 1, y 2, by funext a; match a with | ⟨0, _⟩ => exact Fin.ext (by have h : (y 0).val < 1 := (y 0).isLt; show (y 0).val = 0; omega) | ⟨1, _⟩ => rfl | ⟨2, _⟩ => rfl⟩
  refine Eq.trans ?_ (congrArg (Plain.result _ _ _ _ _ _ _ _ _ _ _ _ _ _ _ _ _) (emb t r j).symm)
  refine (Body.all _ _ _ _ _ _ _ _ _ _ _ _ _ _ _ _ _ _ _ _ _ (row0 _) (row1 _) (row2 _) (row3 _) r j).trans ?_
  unfold Plain.result
  simp only [blk5, blk6, blk7, blk8, blk9, blk10, blk11, blk12, blk13, blk14, blk15, blk16]
  simp only [blk0, blk1, blk2, blk3, blk4]
  rfl

/-- From operands that agree the result is the same. -/
theorem agreed (m' : (ℓ : Loc AttentionRefIdeal.nD AttentionRefIdeal.τ AttentionRefIdeal.sig) → Buf (Elt Ideal) ℓ) (c : Dev nD)
    (h : m' ((c.tc : Thread AttentionRefIdeal.nD AttentionRefIdeal.τ).loc AttentionRefIdeal.main_arg0) = m ((c.tc : Thread nD τ).loc main_arg0) ∧ m' ((c.tc : Thread AttentionRefIdeal.nD AttentionRefIdeal.τ).loc AttentionRefIdeal.main_arg1) = m ((c.tc : Thread nD τ).loc main_arg1) ∧ m' ((c.tc : Thread AttentionRefIdeal.nD AttentionRefIdeal.τ).loc AttentionRefIdeal.main_arg2) = m ((c.tc : Thread nD τ).loc main_arg2) ∧ m' ((c.tc : Thread AttentionRefIdeal.nD AttentionRefIdeal.τ).loc AttentionRefIdeal.main_arg3) = m ((c.tc : Thread nD τ).loc main_arg3) ∧ m' ((c.tc : Thread AttentionRefIdeal.nD AttentionRefIdeal.τ).loc AttentionRefIdeal.main_arg4) = m ((c.tc : Thread nD τ).loc main_arg4) ∧ m' ((c.tc : Thread AttentionRefIdeal.nD AttentionRefIdeal.τ).loc AttentionRefIdeal.main_arg5) = m ((c.tc : Thread nD τ).loc main_arg5) ∧ m' ((c.tc : Thread AttentionRefIdeal.nD AttentionRefIdeal.τ).loc AttentionRefIdeal.main_arg6) = m ((c.tc : Thread nD τ).loc main_arg6) ∧ m' ((c.tc : Thread AttentionRefIdeal.nD AttentionRefIdeal.τ).loc AttentionRefIdeal.main_arg7) = m ((c.tc : Thread nD τ).loc main_arg7) ∧ m' ((c.tc : Thread AttentionRefIdeal.nD AttentionRefIdeal.τ).loc AttentionRefIdeal.main_arg8) = m ((c.tc : Thread nD τ).loc main_arg8) ∧ m' ((c.tc : Thread AttentionRefIdeal.nD AttentionRefIdeal.τ).loc AttentionRefIdeal.main_arg9) = m ((c.tc : Thread nD τ).loc main_arg9) ∧ m' ((c.tc : Thread AttentionRefIdeal.nD AttentionRefIdeal.τ).loc AttentionRefIdeal.main_arg10) = m ((c.tc : Thread nD τ).loc main_arg10) ∧ m' ((c.tc : Thread AttentionRefIdeal.nD AttentionRefIdeal.τ).loc AttentionRefIdeal.main_arg11) = m ((c.tc : Thread nD τ).loc main_arg11) ∧ m' ((c.tc : Thread AttentionRefIdeal.nD AttentionRefIdeal.τ).loc AttentionRefIdeal.main_arg12) = m ((c.tc : Thread nD τ).loc main_arg12) ∧ m' ((c.tc : Thread AttentionRefIdeal.nD AttentionRefIdeal.τ).loc AttentionRefIdeal.main_arg13) = m ((c.tc : Thread nD τ).loc main_arg13) ∧ m' ((c.tc : Thread AttentionRefIdeal.nD AttentionRefIdeal.τ).loc AttentionRefIdeal.main_arg14) = m ((c.tc : Thread nD τ).loc main_arg14) ∧ m' ((c.tc : Thread AttentionRefIdeal.nD AttentionRefIdeal.τ).loc AttentionRefIdeal.main_arg15) = m ((c.tc : Thread nD τ).loc main_arg15) ∧ m' ((c.tc : Thread AttentionRefIdeal.nD AttentionRefIdeal.τ).loc AttentionRefIdeal.main_arg16) = m ((c.tc : Thread nD τ).loc main_arg16)) :
    Plain.result (m' ((c.tc : Thread AttentionRefIdeal.nD AttentionRefIdeal.τ).loc AttentionRefIdeal.main_arg0)) (m' ((c.tc : Thread AttentionRefIdeal.nD AttentionRefIdeal.τ).loc AttentionRefIdeal.main_arg1)) (m' ((c.tc : Thread AttentionRefIdeal.nD AttentionRefIdeal.τ).loc AttentionRefIdeal.main_arg2)) (m' ((c.tc : Thread AttentionRefIdeal.nD AttentionRefIdeal.τ).loc AttentionRefIdeal.main_arg3)) (m' ((c.tc : Thread AttentionRefIdeal.nD AttentionRefIdeal.τ).loc AttentionRefIdeal.main_arg4)) (m' ((c.tc : Thread AttentionRefIdeal.nD AttentionRefIdeal.τ).loc AttentionRefIdeal.main_arg5)) (m' ((c.tc : Thread AttentionRefIdeal.nD AttentionRefIdeal.τ).loc AttentionRefIdeal.main_arg6)) (m' ((c.tc : Thread AttentionRefIdeal.nD AttentionRefIdeal.τ).loc AttentionRefIdeal.main_arg7)) (m' ((c.tc : Thread AttentionRefIdeal.nD AttentionRefIdeal.τ).loc AttentionRefIdeal.main_arg8)) (m' ((c.tc : Thread AttentionRefIdeal.nD AttentionRefIdeal.τ).loc AttentionRefIdeal.main_arg9)) (m' ((c.tc : Thread AttentionRefIdeal.nD AttentionRefIdeal.τ).loc AttentionRefIdeal.main_arg10)) (m' ((c.tc : Thread AttentionRefIdeal.nD AttentionRefIdeal.τ).loc AttentionRefIdeal.main_arg11)) (m' ((c.tc : Thread AttentionRefIdeal.nD AttentionRefIdeal.τ).loc AttentionRefIdeal.main_arg12)) (m' ((c.tc : Thread AttentionRefIdeal.nD AttentionRefIdeal.τ).loc AttentionRefIdeal.main_arg13)) (m' ((c.tc : Thread AttentionRefIdeal.nD AttentionRefIdeal.τ).loc AttentionRefIdeal.main_arg14)) (m' ((c.tc : Thread AttentionRefIdeal.nD AttentionRefIdeal.τ).loc AttentionRefIdeal.main_arg15)) (m' ((c.tc : Thread AttentionRefIdeal.nD AttentionRefIdeal.τ).loc AttentionRefIdeal.main_arg16))
      = Plain.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨h0, h1, h2, h3, h4, h5, h6, h7, h8, h9, h10, h11, h12, h13, h14, h15, h16⟩ := h
  exact congr (congr (congr (congr (congr (congr (congr (congr (congr (congr (congr (congr (congr (congr (congr (congr (congrArg Plain.result h0) h1) h2) h3) h4) h5) h6) h7) h8) h9) h10) h11) h12) h13) h14) h15) h16

end Cert.Proof.Query.Call

end
-- ==== Proof.Tables.lean ====
/-
  The four TensorCore programs' tables of bodies: the program read over words and the one read over the reals are the same
  text, so what is proved of the one over any float values holds of the other.
-/
module

public import proofs.«01_k».proof.Defs
public import proofs.«01_k».proof.Proof.Gen.Codes
public import proofs.«01_k».proof.Proof.Gen.CodesIdeal
public import proofs.«01_k».proof.Proof.Gen.Attention
public import proofs.«01_k».proof.Proof.Gen.AttentionIdeal
public import proofs.«01_k».proof.Proof.Gen.Ranking
public import proofs.«01_k».proof.Proof.Gen.RankingIdeal
public import proofs.«01_k».proof.Proof.Gen.Slots
public import proofs.«01_k».proof.Proof.Gen.SlotsIdeal

@[expose] public section

set_option maxRecDepth 16384

open Idealize.ShloMosaic Idealize.ShloMosaic.TcCoe Idealize.SL.Sem

namespace Cert.Proof.Tables

theorem body_codes : Cert.Codes.defs₀ (F := Bits) = Cert.CodesIdeal.defs₀ (F := Bits) :=
  congrArg Defs.onTc (funext fun l => match l with
    | ⟨0, _⟩ => rfl
    | ⟨n + 1, h⟩ => absurd h (Nat.not_lt.2 (Nat.le_add_left _ _)))

theorem codes : Cert.Codes.defs (F := Bits) = Cert.CodesIdeal.defs (F := Bits) := congrArg (Pipeline.defs Cert.CodesIdeal.pcfgs) body_codes

theorem body_attention : Cert.Attention.defs₀ (F := Bits) = Cert.AttentionIdeal.defs₀ (F := Bits) :=
  congrArg Defs.onTc (funext fun l => match l with
    | ⟨0, _⟩ => rfl
    | ⟨n + 1, h⟩ => absurd h (Nat.not_lt.2 (Nat.le_add_left _ _)))

theorem attention : Cert.Attention.defs (F := Bits) = Cert.AttentionIdeal.defs (F := Bits) := congrArg (Pipeline.defs Cert.AttentionIdeal.pcfgs) body_attention

theorem body_ranking : Cert.Ranking.defs₀ (F := Bits) = Cert.RankingIdeal.defs₀ (F := Bits) :=
  congrArg Defs.onTc (funext fun l => match l with
    | ⟨0, _⟩ => rfl
    | ⟨n + 1, h⟩ => absurd h (Nat.not_lt.2 (Nat.le_add_left _ _)))

theorem ranking : Cert.Ranking.defs (F := Bits) = Cert.RankingIdeal.defs (F := Bits) := congrArg (Pipeline.defs Cert.RankingIdeal.pcfgs) body_ranking

theorem body_slots : Cert.Slots.defs₀ (F := Bits) = Cert.SlotsIdeal.defs₀ (F := Bits) :=
  congrArg Defs.onTc (funext fun l => match l with
    | ⟨0, _⟩ => rfl
    | ⟨n + 1, h⟩ => absurd h (Nat.not_lt.2 (Nat.le_add_left _ _)))

theorem slots : Cert.Slots.defs (F := Bits) = Cert.SlotsIdeal.defs (F := Bits) := congrArg (Pipeline.defs Cert.SlotsIdeal.pcfgs) body_slots

end Cert.Proof.Tables

end
-- ==== Proof.Order.lean ====
/-
  Numbers in order, the first of equals first: the stable sort puts at place `p` the one that exactly `p` others come before.
-/
module

public import Idealize.ShloMosaic.Lib.SortFacts
public import Idealize.ShloMosaic.Lib.Pointwise
public import Mathlib.Data.EReal.Basic

@[expose] public section

namespace Cert.Proof.Order

open Idealize.ShloMosaic

variable {n : ℕ} (f : Fin n → EReal)

/-- `k` comes before `c`: less, or equal and of a smaller number. -/
def Before (k c : Fin n) : Prop := f k < f c ∨ f k = f c ∧ k < c

noncomputable instance : DecidableRel (Before f) := fun _ _ => inferInstanceAs (Decidable (_ ∨ _))

/-- How many come before `c`. -/
noncomputable def count (c : Fin n) : ℕ := (Finset.univ.filter fun k => Before f k c).card

/-- The one at place `p`. -/
noncomputable def place (p : Fin n) : Fin n := sortedFrom (fun k k' => decide (f k < f k')) p

theorem sort_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Only a later one is asked whether it comes before an earlier: equals stay. -/
theorem at_eq (p : Fin n) : place f p = sortedFrom (fun k k' => decide (Before f k k')) p := by
  have h : sortPositions n (fun k k' => decide (f k < f k')) = sortPositions n (fun k k' => decide (Before f k k')) := by
    refine sort_congr _ _ _ ((List.pairwise_lt_finRange n).imp fun {a b} hab => ?_)
    refine decide_eq_decide.mpr ⟨Or.inl, fun h => h.resolve_right fun h' => ?_⟩
    exact absurd h'.2 (not_lt.mpr hab.le)
  unfold place sortedFrom
  rw [List.get_of_eq h]
  rfl

theorem before_irrefl (a : Fin n) : ¬Before f a a := by
  rintro (h | h)
  · exact lt_irrefl _ h
  · exact lt_irrefl _ h.2

theorem before_trans {a b c : Fin n} (h : Before f a b) (h' : Before f b c) : Before f a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem before_total {a b : Fin n} (h : a ≠ b) : Before f a b ∨ Before f b a := by
  rcases lt_trichotomy (f a) (f b) with e | e | e
  · exact Or.inl (Or.inl e)
  · rcases lt_or_gt_of_ne h with g | g
    · exact Or.inl (Or.inr ⟨e, g⟩)
    · exact Or.inr (Or.inr ⟨e.symm, g⟩)
  · exact Or.inr (Or.inl e)

theorem not_before {a b : Fin n} : ¬Before f a b ↔ a = b ∨ Before f b a := by
  constructor
  · intro h
    by_cases e : a = b
    · exact Or.inl e
    · exact Or.inr ((before_total f e).resolve_left h)
  · rintro (rfl | h) h'
    · exact before_irrefl f a h'
    · exact before_irrefl f a (before_trans f h' h)

theorem at_injective : Function.Injective (place f) := by
  have e : place f = sortedFrom (fun k k' => decide (Before f k k')) := funext (at_eq f)
  rw [e]
  exact sortedFrom_injective _

theorem at_lt {i j : Fin n} (h : i < j) : Before f (place f i) (place f j) := by
  have e := sortedFrom_noInversion (fun k k' => decide (Before f k k')) (fun k k' => decide (Before f k k'))
    (fun a b hab => decide_eq_false ((not_before f).mpr (Or.inr (of_decide_eq_true hab)))) (fun _ _ h => h)
    (fun a b c hab hbc => by
      have hab := (not_before f).mp (of_decide_eq_false hab)
      have hbc := (not_before f).mp (of_decide_eq_false hbc)
      refine decide_eq_false ((not_before f).mpr ?_)
      rcases hab with rfl | hab
      · exact hbc
      · rcases hbc with rfl | hbc
        · exact Or.inr hab
        · exact Or.inr (before_trans f hbc hab)) i j h
  rw [← at_eq, ← at_eq] at e
  exact ((not_before f).mp (of_decide_eq_false e)).resolve_left fun e => h.ne' (at_injective f e)

theorem at_lt_iff {i j : Fin n} : Before f (place f i) (place f j) ↔ i < j := by
  refine ⟨fun h => ?_, at_lt f⟩
  by_contra g
  rcases (not_lt.mp g).lt_or_eq with g | g
  · exact before_irrefl f _ (before_trans f h (at_lt f g))
  · subst g; exact before_irrefl f _ h

/-- As many come before the one at place `p` as there are places before `p`. -/
theorem count_at (p : Fin n) : count f (place f p) = p.val := by
  have hb : Function.Bijective (place f) := Finite.injective_iff_bijective.mp (at_injective f)
  unfold count
  rw [← Fin.card_Iio p]
  refine (Finset.card_bij (fun i _ => place f i) ?_ (fun i _ j _ h => at_injective f h) ?_).symm
  · intro i hi
    exact Finset.mem_filter.mpr ⟨Finset.mem_univ _, at_lt f (Finset.mem_Iio.mp hi)⟩
  · intro k hk
    obtain ⟨i, rfl⟩ := hb.2 k
    exact ⟨i, Finset.mem_Iio.mpr ((at_lt_iff f).mp (Finset.mem_filter.mp hk).2), rfl⟩

theorem count_eq_iff (c p : Fin n) : count f c = p.val ↔ c = place f p := by
  have hb : Function.Bijective (place f) := Finite.injective_iff_bijective.mp (at_injective f)
  constructor
  · intro h
    obtain ⟨i, rfl⟩ := hb.2 c
    rw [count_at] at h
    rw [Fin.ext h]
  · rintro rfl
    exact count_at f p

theorem count_lt (c : Fin n) : count f c < n := by
  obtain ⟨i, rfl⟩ := (Finite.injective_iff_bijective.mp (at_injective f)).2 c
  rw [count_at]
  exact i.isLt

/-- How many of the first `m` come before `c`. -/
noncomputable def countTo (m : ℕ) (c : Fin n) : ℕ := (Finset.univ.filter fun k : Fin n => k.val < m ∧ Before f k c).card

theorem countTo_zero (c : Fin n) : countTo f 0 c = 0 := by
  unfold countTo
  rw [Finset.card_eq_zero, Finset.filter_eq_empty_iff]
  exact fun _ _ h => absurd h.1 (Nat.not_lt_zero _)

theorem countTo_succ (k c : Fin n) : countTo f (k.val + 1) c = countTo f k.val c + if Before f k c then 1 else 0 := by
  unfold countTo
  split
  · next h =>
    have e : (Finset.univ.filter fun i : Fin n => i.val < k.val + 1 ∧ Before f i c)
        = insert k (Finset.univ.filter fun i : Fin n => i.val < k.val ∧ Before f i c) := by
      ext i
      simp only [Finset.mem_filter, Finset.mem_univ, true_and, Finset.mem_insert]
      constructor
      · rintro ⟨g, g'⟩
        rcases Nat.lt_succ_iff_lt_or_eq.mp g with g | g
        · exact Or.inr ⟨g, g'⟩
        · exact Or.inl (Fin.ext g)
      · rintro (rfl | ⟨g, g'⟩)
        · exact ⟨Nat.lt_succ_self _, h⟩
        · exact ⟨Nat.lt_succ_of_lt g, g'⟩
    rw [e, Finset.card_insert_of_notMem]
    simp
  · next h =>
    rw [Nat.add_zero]
    refine congrArg Finset.card (Finset.filter_congr fun i _ => ?_)
    constructor
    · rintro ⟨g, g'⟩
      rcases Nat.lt_succ_iff_lt_or_eq.mp g with g | g
      · exact ⟨g, g'⟩
      · exact absurd (Fin.ext g ▸ g') h
    · rintro ⟨g, g'⟩
      exact ⟨Nat.lt_succ_of_lt g, g'⟩

theorem countTo_all (c : Fin n) : countTo f n c = count f c := by
  unfold countTo count
  exact congrArg Finset.card (Finset.filter_congr fun i _ => ⟨And.right, fun h => ⟨i.isLt, h⟩⟩)

/-! ## What is put in order -/

/-- The centre of cell `c` of 4 by 4 by 4. -/
noncomputable def centre (c : Fin 64) : Fin 3 → EReal :=
  ![FloatOps.sitofp (F := Ideal) .f32 (BitVec.ofNat 32 (c.val % 4)) - Ideal.ofBits .f32 0x3FC00000#32,
    FloatOps.sitofp (F := Ideal) .f32 (BitVec.ofNat 32 (c.val / 4 % 4)) - Ideal.ofBits .f32 0x3FC00000#32,
    FloatOps.sitofp (F := Ideal) .f32 (BitVec.ofNat 32 (c.val / 16)) - Ideal.ofBits .f32 0x3FC00000#32]

/-- The distance of two places, by their squares and their product. -/
noncomputable def dist (q p : Fin 3 → EReal) : EReal :=
  Ideal.sqrt (max (∑ a, q a * q a + ∑ a, p a * p a - Ideal.ofBits .f32 0x40000000#32 * ∑ a, q a * p a) 0)

end Cert.Proof.Order

end
-- ==== Proof.RankK.lean ====
/-
  The ranking kernel's body as steps over the 64 cells: the count of the cells that come before each cell, and the choice
  of the cell whose count is a given place.
-/
module

public import proofs.«01_k».proof.Proof.Gen.RankingIdeal.Frame
public import proofs.«01_k».proof.Proof.Order
public import proofs.«01_k».proof.Proof.Query
public import Idealize.ShloMosaic.Lib.Pointwise
public import Idealize.ShloMosaic.Lib.Affine
public import Idealize.ShloMosaic.Lib.Pipeline.ValueKit

@[expose] public section

set_option maxRecDepth 65536

noncomputable section

open Cert.RankingIdeal Cert.RankingIdeal.Gen Idealize.ShloMosaic Idealize.ShloMosaic.TcCoe Idealize.SL.Sem

namespace Cert.Proof.RankK

/-- A number of the ideal instance at every query and cell, and a word at every query and cell. -/
abbrev Dist := FVec Ideal S1024x64 .f32

abbrev Num := IVec S1024x64 32

theorem slices (k : Fin 64) : S1024x64.Slices ![0, k.val] S1024x1 := by
  revert k; decide

/-- Column `k`. -/
def col {α : Type} (d : S1024x64.Idx → α) (k : Fin 64) : S1024x1.Idx → α := extractStridedSlice S1024x1 ![0, k.val] d (slices k)

/-- Column `k`, at every column. -/
def wide {α : Type} (d : S1024x64.Idx → α) (k : Fin 64) : S1024x64.Idx → α := broadcastTo S1024x64 (col d k) broadcasts_S1024x1_S1024x64

/-- The columns' numbers. -/
def places : Num := iota .tc S1024x64 32 [1] iota_S1024x64_d1_w32

/-- One more where cell `k` is nearer. -/
def less (d : Dist) (k : Fin 64) (acc : Num) : Num := addi acc (extui 32 (cmpf .olt (wide d k) d) natLt_1_32)

/-- Whether cell `k` is as near and of a smaller number. -/
def tie (d : Dist) (k : Fin 64) : IVec S1024x64 1 := andi (cmpf .oeq (wide d k) d) (cmpi .sgt places (broadcast S1024x64 (BitVec.ofNat 32 k.val)))

/-- One more where cell `k` comes before. -/
def step (d : Dist) (k : Fin 64) (acc : Num) : Num := addi (less d k acc) (select (tie d k) (broadcast S1024x64 1#32) (broadcast S1024x64 0#32))

/-- How many of the first `n` cells come before each cell. -/
def ranks (d : Dist) : (n : ℕ) → n ≤ 64 → Num
  | 0, _ => broadcast S1024x64 0#32
  | n + 1, h => step d ⟨n, h⟩ (ranks d n (Nat.le_of_succ_le h))

theorem first (x : Vec Ideal S1024x3 .f32) :
    k0_pay12 (View.ld x r0_0) (k0_pay167 x) (k0_pay168 x) (k0_pay169 x) (Scalar.ofBits .f32 0x3FC00000#32) = less (k0_pay171 x) 0 (broadcast S1024x64 0#32) := rfl

theorem first_tie (x : Vec Ideal S1024x3 .f32) :
    k0_pay13 (View.ld x r0_0) (k0_pay167 x) (k0_pay168 x) (k0_pay169 x) (Scalar.ofBits .f32 0x3FC00000#32) = tie (k0_pay171 x) 0 := rfl

theorem ranks_eq (x : Vec Ideal S1024x3 .f32) : k0_pay175 x = ranks (k0_pay171 x) 64 (Nat.le_refl 64) := by
  unfold k0_pay175 k0_pay172 k0_pay173 k0_pay174
  rw [first, first_tie]
  unfold k0_pay170
  generalize k0_pay171 x = d
  rfl

/-- Cell `k` where its count is the place. -/
def here (r : Num) (k : Fin 64) : IVec S1024x64 1 := cmpi .eq (wide r k) places

/-- Its distance there. -/
def pick (d : Dist) (r : Num) (k : Fin 64) (acc : Dist) : Dist :=
  select (here r k) (broadcastTo S1024x64 (shapeCast S1024x1 (col d k) shapeCasts_S1024x1_S1024x1) broadcasts_S1024x1_S1024x64) acc

/-- Its number there. -/
def pickNum (r : Num) (k : Fin 64) (acc : Num) : Num := select (here r k) (broadcast S1024x64 (BitVec.ofNat 32 k.val)) acc

/-- The distances of the first `n` cells, each at its place. -/
def picks (d : Dist) (r : Num) : (n : ℕ) → n ≤ 64 → Dist
  | 0, _ => k0_pay68
  | n + 1, h => pick d r ⟨n, h⟩ (picks d r n (Nat.le_of_succ_le h))

/-- The numbers of the first `n` cells, each at its place. -/
def pickNums (r : Num) : (n : ℕ) → n ≤ 64 → Num
  | 0, _ => broadcast S1024x64 0#32
  | n + 1, h => pickNum r ⟨n, h⟩ (pickNums r n (Nat.le_of_succ_le h))

theorem out1_eq (x : Vec Ideal S1024x3 .f32) :
    out0_1 x = View.canon [⟨r0_1, picks (k0_pay171 x) (k0_pay175 x) 64 (Nat.le_refl 64)⟩] := by
  unfold out0_1
  refine congrArg (fun v => View.canon [⟨r0_1, v⟩]) ?_
  rw [show k0_pay176 x = wide (k0_pay175 x) 0 from rfl]
  unfold k0_pay170 k0_pay187 k0_pay186 k0_pay185 k0_pay184 k0_pay183 k0_pay182 k0_pay181 k0_pay180 k0_pay179 k0_pay178 k0_pay177
  generalize k0_pay171 x = d
  generalize k0_pay175 x = r
  rfl

theorem out2_eq (x : Vec Ideal S1024x3 .f32) :
    out0_2 x = View.canon [⟨r0_1, pickNums (k0_pay175 x) 64 (Nat.le_refl 64)⟩] := by
  unfold out0_2
  refine congrArg (fun v => View.canon [⟨r0_1, v⟩]) ?_
  rw [show k0_pay176 x = wide (k0_pay175 x) 0 from rfl]
  unfold k0_pay170 k0_pay187 k0_pay186 k0_pay185 k0_pay184 k0_pay183 k0_pay182 k0_pay181 k0_pay180 k0_pay179 k0_pay178 k0_pay177
  generalize k0_pay175 x = r
  rfl

/-! ## The steps at an index -/

variable (q : Fin 1024) (c : Fin 64)

theorem wide_apply {α : Type} (d : S1024x64.Idx → α) (k : Fin 64) : wide d k (ix2 q c) = d (ix2 q k) := by
  unfold wide col
  pointwise

theorem bit (p : Prop) [Decidable p] : BitVec.ofBool (decide p) = 1#1 ↔ p := by
  by_cases h : p <;> simp [h]

theorem gt_iff (k : Fin 64) : IntOp.cmpi .sgt (BitVec.ofNat 32 c.val) (BitVec.ofNat 32 k.val) = BitVec.ofBool (decide (k < c)) := by
  revert k c; decide

/-- A step adds one where cell `k` comes before. -/
theorem step_apply (d : Dist) (k : Fin 64) (acc : Num) :
    step d k acc (ix2 q c) = acc (ix2 q c) + BitVec.ofNat 32 (if Order.Before (fun c => d (ix2 q c)) k c then 1 else 0) := by
  unfold step less tie places
  pointwise [wide_apply, gt_iff]
  unfold Order.Before
  generalize acc (ix2 q c) = w
  by_cases h1 : d (ix2 q k) < d (ix2 q c)
  · have h2 : ¬d (ix2 q k) = d (ix2 q c) := h1.ne
    simp only [h1, h2, decide_true, decide_false, true_or, if_true]
    by_cases h3 : k < c <;> simp only [h3, decide_true, decide_false] <;> simp [IntOp.addi, IntOp.andi, Scalar.select]
  · by_cases h2 : d (ix2 q k) = d (ix2 q c) <;> by_cases h3 : k < c <;>
      simp only [h1, h2, h3, decide_true, decide_false, or_false, false_or, and_true, and_false, if_true, if_false] <;>
      simp [IntOp.addi, IntOp.andi, Scalar.select]

theorem ranks_apply (d : Dist) : ∀ (n : ℕ) (h : n ≤ 64), ranks d n h (ix2 q c) = BitVec.ofNat 32 (Order.countTo (fun c => d (ix2 q c)) n c)
  | 0, _ => by
    rw [Order.countTo_zero]
    rfl
  | n + 1, h => by
    show step d ⟨n, h⟩ (ranks d n (Nat.le_of_succ_le h)) (ix2 q c) = _
    rw [step_apply, ranks_apply d n, ← BitVec.ofNat_add]
    exact congrArg (BitVec.ofNat 32) (Order.countTo_succ (fun c => d (ix2 q c)) ⟨n, h⟩ c).symm

/-- The count at a cell, as a place: `p` exactly of the cell at place `p`. -/
theorem here_apply (d : Dist) (k : Fin 64) :
    here (ranks d 64 (Nat.le_refl 64)) k (ix2 q c) = BitVec.ofBool (decide (k = Order.place (fun c => d (ix2 q c)) c)) := by
  have hk := Order.count_lt (fun c => d (ix2 q c)) k
  have e := Order.count_eq_iff (fun c => d (ix2 q c)) k c
  have hc := c.isLt
  unfold here places
  pointwise [wide_apply, ranks_apply, Order.countTo_all]
  refine congrArg BitVec.ofBool ((Bool.eq_iff_iff.mpr ?_))
  rw [beq_iff_eq, decide_eq_true_eq, ← e]
  constructor
  · intro h
    have h := congrArg BitVec.toNat h
    rw [BitVec.toNat_ofNat, BitVec.toNat_ofNat] at h
    omega
  · intro h
    rw [h]

theorem picks_apply (d : Dist) : ∀ (n : ℕ) (h : n ≤ 64), (Order.place (fun c => d (ix2 q c)) c).val < n →
    picks d (ranks d 64 (Nat.le_refl 64)) n h (ix2 q c) = d (ix2 q (Order.place (fun c => d (ix2 q c)) c))
  | 0, _, g => absurd g (Nat.not_lt_zero _)
  | n + 1, h, g => by
    have e : picks d (ranks d 64 (Nat.le_refl 64)) (n + 1) h (ix2 q c)
        = Scalar.select (here (ranks d 64 (Nat.le_refl 64)) ⟨n, h⟩ (ix2 q c)) (d (ix2 q ⟨n, h⟩))
          (picks d (ranks d 64 (Nat.le_refl 64)) n (Nat.le_of_succ_le h) (ix2 q c)) := by
      show pick d _ ⟨n, h⟩ _ (ix2 q c) = _
      unfold pick col
      pointwise
    rw [e, here_apply]
    by_cases hn : (⟨n, h⟩ : Fin 64) = Order.place (fun c => d (ix2 q c)) c
    · rw [decide_eq_true hn, hn]
      rfl
    · rw [decide_eq_false hn]
      rcases Nat.lt_succ_iff_lt_or_eq.mp g with g | g
      · exact picks_apply d n _ g
      · exact absurd (Fin.ext g.symm) hn

theorem pickNums_apply (d : Dist) : ∀ (n : ℕ) (h : n ≤ 64), (Order.place (fun c => d (ix2 q c)) c).val < n →
    pickNums (ranks d 64 (Nat.le_refl 64)) n h (ix2 q c) = BitVec.ofNat 32 (Order.place (fun c => d (ix2 q c)) c).val
  | 0, _, g => absurd g (Nat.not_lt_zero _)
  | n + 1, h, g => by
    have e : pickNums (ranks d 64 (Nat.le_refl 64)) (n + 1) h (ix2 q c)
        = Scalar.select (here (ranks d 64 (Nat.le_refl 64)) ⟨n, h⟩ (ix2 q c)) (BitVec.ofNat 32 n)
          (pickNums (ranks d 64 (Nat.le_refl 64)) n (Nat.le_of_succ_le h) (ix2 q c)) := rfl
    rw [e, here_apply]
    by_cases hn : (⟨n, h⟩ : Fin 64) = Order.place (fun c => d (ix2 q c)) c
    · rw [decide_eq_true hn, ← hn]
      rfl
    · rw [decide_eq_false hn]
      rcases Nat.lt_succ_iff_lt_or_eq.mp g with g | g
      · exact pickNums_apply d n _ g
      · exact absurd (Fin.ext g.symm) hn

/-! ## The distances -/

theorem coord0 : k0_pay4 (F := Ideal) (ix2 (0 : Fin 1) c) = Order.centre c 0 := by
  unfold k0_pay4
  pointwise
  refine congrArg (fun w => FloatOps.sitofp (F := Ideal) .f32 w - Ideal.ofBits .f32 0x3FC00000#32) ?_
  revert c
  decide

theorem coord1 : k0_pay8 (F := Ideal) k0_pay5 k0_pay6 k0_pay7 (ix2 (0 : Fin 1) c) = Order.centre c 1 := by
  unfold k0_pay8 k0_pay5 k0_pay6 k0_pay7 k0_pay5
  pointwise
  refine congrArg (fun w => FloatOps.sitofp (F := Ideal) .f32 w - Ideal.ofBits .f32 0x3FC00000#32) ?_
  revert c
  decide

theorem coord2 : k0_pay9 (F := Ideal) (iota .tc S1x64 32 [1] iota_S1x64_d1_w32) (ix2 (0 : Fin 1) c) = FloatOps.sitofp (F := Ideal) .f32 (BitVec.ofNat 32 (c.val / 16)) := by
  unfold k0_pay9
  pointwise
  refine congrArg (fun w => FloatOps.sitofp (F := Ideal) .f32 w) ?_
  revert c
  decide

theorem dist_apply (x : Vec Ideal S1024x3 .f32) : k0_pay171 x (ix2 q c) = Order.dist (fun a => x (ix2 q a)) (Order.centre c) := by
  unfold k0_pay171 k0_pay10 k0_pay167 k0_pay168 k0_pay169
  pointwise [coord0, coord1]
  rw [coord2]
  unfold Order.dist
  rw [Fin.sum_univ_three, Fin.sum_univ_three, Fin.sum_univ_three, add_right_comm (x (ix2 q 0) * x (ix2 q 0)),
    show FloatOps.sitofp (F := Ideal) .f32 (BitVec.ofNat 32 (c.val / 16)) - Ideal.ofBits .f32 0x3FC00000#32 = Order.centre c 2 from rfl,
    add_right_comm (Order.centre c 0 * Order.centre c 0)]

/-- The two results at a place. -/
theorem sorted_apply (x : Vec Ideal S1024x3 .f32) :
    out0_1 x (ix2 q c) = Order.dist (fun a => x (ix2 q a)) (Order.centre (Order.place (fun k => Order.dist (fun a => x (ix2 q a)) (Order.centre k)) c)) := by
  have e : (fun k => k0_pay171 x (ix2 q k)) = fun k => Order.dist (fun a => x (ix2 q a)) (Order.centre k) := funext fun k => dist_apply q k x
  rw [out1_eq, ranks_eq, ← dist_apply, ← e, ← picks_apply q c (k0_pay171 x) 64 (Nat.le_refl 64) (Fin.isLt _)]
  frame_out

theorem cells_apply (x : Vec Ideal S1024x3 .f32) :
    out0_2 x (ix2 q c) = BitVec.ofNat 32 (Order.place (fun k => Order.dist (fun a => x (ix2 q a)) (Order.centre k)) c).val := by
  have e : (fun k => k0_pay171 x (ix2 q k)) = fun k => Order.dist (fun a => x (ix2 q a)) (Order.centre k) := funext fun k => dist_apply q k x
  rw [out2_eq, ranks_eq, ← e, ← pickNums_apply q c (k0_pay171 x) 64 (Nat.le_refl 64) (Fin.isLt _)]
  frame_out

end Cert.Proof.RankK

end
-- ==== Proof.RankR.lean ====
/-
  The plain statement of the ranking, read at an index: the distances sorted, and the cells sorted by their distance.
-/
module

public import proofs.«01_k».proof.Proof.Order
public import proofs.«01_k».proof.Proof.Query
public import proofs.«01_k».proof.Proof.Gen.RankingRefIdeal
public import proofs.«01_k».proof.Proof.Gen.RankingRefIdeal.Run

@[expose] public section

set_option maxRecDepth 16384

noncomputable section

open Cert.RankingRefIdeal Cert.RankingRefIdeal.Gen Cert.RankingRefIdeal.Value
open Idealize.ShloMosaic Idealize.ShloMosaic.TcCoe Idealize.SL.Sem

namespace Cert.Proof.RankR

/-- A word at every cell. -/
abbrev every (b : BitVec 32) : IVec S64 32 := broadcastInDim S64 ![] bcast_S_S64 (constantI S_ 32 b)

/-- The 4 that a remainder is taken by. -/
abbrev four : IVec S_ 32 := select (cmpi .eq (id (constantI S_ 32 4#32)) (constantI S_ 32 0#32)) (constantI S_ 32 1#32) (id (constantI S_ 32 4#32))

/-- The remainder by 4. -/
def rem (x : IVec S64 32) : IVec S64 32 :=
  select (andi (cmpi .ne (cmpi .slt (Host.remsi x (broadcastInDim S64 ![] bcast_S_S64 four)) (every 0#32))
      (broadcastInDim S64 ![] bcast_S_S64 (cmpi .slt four (constantI S_ 32 0#32))))
    (cmpi .ne (Host.remsi x (broadcastInDim S64 ![] bcast_S_S64 four)) (every 0#32)))
    (addi (Host.remsi x (broadcastInDim S64 ![] bcast_S_S64 four)) (broadcastInDim S64 ![] bcast_S_S64 four))
    (Host.remsi x (broadcastInDim S64 ![] bcast_S_S64 four))

/-- The quotient by `b`. -/
def quo (b : BitVec 32) (x : IVec S64 32) : IVec S64 32 :=
  select (andi (cmpi .ne (signi x) (broadcastInDim S64 ![] bcast_S_S64 (signi (id (constantI S_ 32 b)))))
    (cmpi .ne (Host.remsi x (broadcastInDim S64 ![] bcast_S_S64 (id (constantI S_ 32 b)))) (every 0#32)))
    (subi (Host.divsi x (broadcastInDim S64 ![] bcast_S_S64 (id (constantI S_ 32 b)))) (every 1#32))
    (Host.divsi x (broadcastInDim S64 ![] bcast_S_S64 (id (constantI S_ 32 b))))

/-- The cells' numbers. -/
abbrev nums : IVec S64 32 := iotaInDim S64 32 0

/-- A coordinate as a column. -/
abbrev column (x : IVec S64 32) : IVec S64x1 32 := broadcastInDim S64x1 ![0] bcast_S64_S64x1_0 x

/-- The cells' coordinates. -/
def coords : IVec S64x3 32 :=
  concatenate S64x3 1 [⟨S64x1, column (rem nums)⟩, ⟨S64x1, column (rem (quo 4#32 nums))⟩, ⟨S64x1, column (quo 16#32 nums)⟩] concatenates_S64x1_S64x1_S64x1_S64x3_d1

/-- The cells' centres. -/
def centres : FVec Ideal S64x3 .f32 := subf (sitofp .f32 coords) (broadcastInDim S64x3 ![] bcast_S_S64x3 (constant S_ .f32 0x3FC00000#32))

/-- The distances, of the places and the centres. -/
def far (x : FVec Ideal S1024x3 .f32) (p : FVec Ideal S64x3 .f32) : FVec Ideal S1024x64 .f32 :=
  Host.sqrt (maximumf (subf (addf
    (broadcastInDim S1024x64 ![0, 1] bcast_S1024x1_S1024x64_0_1 (broadcastInDim S1024x1 ![0] bcast_S1024_S1024x1_0 (Host.reduceAdd (mulf x x) (constant S_ .f32 0x00000000#32) reducesTo_S1024x3_S1024_d1 h_S_)))
    (broadcastInDim S1024x64 ![0, 1] bcast_S1x64_S1024x64_0_1 (broadcastInDim S1x64 ![1] bcast_S64_S1x64_1 (Host.reduceAdd (mulf p p) (constant S_ .f32 0x00000000#32) reducesTo_S64x3_S64_d1 h_S_))))
    (mulf (broadcastInDim S1024x64 ![] bcast_S_S1024x64 (constant S_ .f32 0x40000000#32))
      (Host.dotGeneral dot_S1024x3_S3x64_S1024x64_1_0_0_1_n_n none x (transpose S3x64 [1, 0] p transposes_S64x3_S3x64_1_0))))
    (broadcastInDim S1024x64 ![] bcast_S_S1024x64 (constant S_ .f32 0x00000000#32)))

variable (m : (ℓ : Loc nD τ sig) → Buf (Elt Ideal) ℓ) (c : Dev nD)

theorem res0 : res_main_v29 m c = Host.sort S1024x64 1 comparator_f32_d1 (far (m ((c.tc : Thread nD τ).loc main_arg0)) centres) := rfl

theorem res1 : res_main_v30 m c
    = (Host.sort2 S1024x64 1 comparator_f32_i32_d1 (far (m ((c.tc : Thread nD τ).loc main_arg0)) centres) (iotaInDim S1024x64 32 1)).2 := rfl

/-- The order that the sorts take: of two numbers the less first. -/
theorem canon_zero (a w : EReal) : Scalar.select (Ideal.cmp .une a a) w (Scalar.select (Ideal.cmp .oeq a (Ideal.ofBits .f32 0x00000000#32)) (Ideal.ofBits .f32 0x00000000#32) a) = a := by
  have h : Ideal.cmp .une a a = 0#1 := by simp [Ideal.cmp]
  rw [h]
  show Scalar.select (BitVec.ofBool (decide (a = Ideal.ofBits .f32 0x00000000#32))) (Ideal.ofBits .f32 0x00000000#32) a = a
  by_cases e : a = Ideal.ofBits .f32 0x00000000#32
  · rw [decide_eq_true e, ← e]; rfl
  · rw [decide_eq_false e]; rfl

theorem lt_bit (a b : EReal) : (Ideal.cmp .olt a b == 1#1) = decide (a < b) := by
  show (BitVec.ofBool (decide (a < b)) == 1#1) = decide (a < b)
  by_cases h : a < b <;> simp [h]

theorem before0 (a b : EReal) : (comparator_f32_d1 (F := Ideal) a b == 1#1) = decide (a < b) := by
  rw [← lt_bit]
  exact congrArg (· == 1#1) (congrArg₂ (Ideal.cmp .olt) (canon_zero a _) (canon_zero b _))

theorem before1 (a b : EReal) (i j : BitVec 32) : (comparator_f32_i32_d1 (F := Ideal) (a, i) (b, j) == 1#1) = decide (a < b) := by
  rw [← lt_bit]
  exact congrArg (· == 1#1) (congrArg₂ (Ideal.cmp .olt) (canon_zero a _) (canon_zero b _))

variable (k : Fin 64) (q : Fin 1024)

theorem centres_apply (a : Fin 3) : centres (ix2 k a) = Order.centre k a := by
  unfold centres coords rem quo
  pointwise [Query.rem_4, Query.rem_16, Query.div_4, Query.div_16, Query.four]
  match a with
  | 0 =>
    refine congrArg (fun w => FloatOps.sitofp (F := Ideal) .f32 w - Ideal.ofBits .f32 0x3FC00000#32) ?_
    revert k
    decide
  | 1 =>
    refine congrArg (fun w => FloatOps.sitofp (F := Ideal) .f32 w - Ideal.ofBits .f32 0x3FC00000#32) ?_
    revert k
    decide
  | 2 =>
    refine congrArg (fun w => FloatOps.sitofp (F := Ideal) .f32 w - Ideal.ofBits .f32 0x3FC00000#32) ?_
    revert k
    decide

theorem far_apply (x : FVec Ideal S1024x3 .f32) : far x centres (ix2 q k) = Order.dist (fun a => x (ix2 q a)) (Order.centre k) := by
  unfold far
  pointwise [centres_apply]
  rfl

theorem along_ix2 (p : Fin 64) : (ix2 q p : S1024x64.Idx).along 1 k = ix2 q k := by
  funext a
  match a with
  | ⟨0, _⟩ => rfl
  | ⟨1, _⟩ => rfl

/-- The sorted distances. -/
theorem sorted_apply (x : FVec Ideal S1024x3 .f32) (p : Fin 64) :
    Host.sort S1024x64 1 comparator_f32_d1 (far x centres) (ix2 q p)
      = Order.dist (fun a => x (ix2 q a)) (Order.centre (Order.place (fun k => Order.dist (fun a => x (ix2 q a)) (Order.centre k)) p)) := by
  unfold Host.sort
  rw [dif_pos (show 1 < S1024x64.rank by decide)]
  refine (congrArg (far x centres) (along_ix2 _ q p)).trans ((far_apply _ q x).trans ?_)
  refine congrArg (fun B => Order.dist _ (Order.centre (sortedFrom B p))) (funext fun k => funext fun k' => ?_)
  have e1 := (congrArg (far x centres) (along_ix2 k q p)).trans (far_apply k q x)
  have e2 := (congrArg (far x centres) (along_ix2 k' q p)).trans (far_apply k' q x)
  exact (congrArg₂ (fun a b => comparator_f32_d1 (F := Ideal) a b == 1#1) e1 e2).trans (before0 _ _)

/-- The cells in that order. -/
theorem cells_apply (x : FVec Ideal S1024x3 .f32) (p : Fin 64) :
    (Host.sort2 S1024x64 1 comparator_f32_i32_d1 (far x centres) (iotaInDim S1024x64 32 1)).2 (ix2 q p)
      = BitVec.ofNat 32 (Order.place (fun k => Order.dist (fun a => x (ix2 q a)) (Order.centre k)) p).val := by
  unfold Host.sort2
  rw [dif_pos (show 1 < S1024x64.rank by decide)]
  refine (congrArg (iotaInDim S1024x64 32 1) (along_ix2 _ q p)).trans ?_
  refine congrArg (fun B => BitVec.ofNat 32 (sortedFrom (n := 64) B p).val) (funext fun k => funext fun k' => ?_)
  have e1 := (congrArg (far x centres) (along_ix2 k q p)).trans (far_apply k q x)
  have e2 := (congrArg (far x centres) (along_ix2 k' q p)).trans (far_apply k' q x)
  exact (congrArg₂ (fun a b => comparator_f32_i32_d1 (F := Ideal) (a, _) (b, _) == 1#1) e1 e2).trans (before1 _ _ _ _)

end Cert.Proof.RankR

end
-- ==== Proof.Ranking.lean ====
/-
  The ranking: what the kernel leaves in its two results and what the plain statement computes are, of each query, the
  distances to the cells' centres in order and the cells in that order.
-/
module

public import proofs.«01_k».proof.Defs
public import proofs.«01_k».proof.Proof.RankK
public import proofs.«01_k».proof.Proof.RankR
public import proofs.«01_k».proof.Proof.Gen.RankingIdeal
public import proofs.«01_k».proof.Proof.Gen.RankingIdeal.Skeleton
public import proofs.«01_k».proof.Proof.Gen.RankingIdeal.Frame
public import proofs.«01_k».proof.Proof.Gen.RankingRefIdeal
public import proofs.«01_k».proof.Proof.Gen.RankingRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Ranking

open Cert.RankingIdeal Cert.RankingIdeal.Gen

/-- The cell at place `p` in the order of a query's distances. -/
def nth (x : FVec Ideal S1024x3 .f32) (q : Fin 1024) (p : Fin 64) : Fin 64 :=
  Order.place (fun k => Order.dist (fun a => x (ix2 q a)) (Order.centre k)) p

/-- The distances in order. -/
def sorted (x : FVec Ideal S1024x3 .f32) : FVec Ideal S1024x64 .f32 :=
  fun y => Order.dist (fun a => x (ix2 (y 0) a)) (Order.centre (nth x (y 0) (y 1)))

/-- The cells in that order. -/
def cells (x : FVec Ideal S1024x3 .f32) : IVec S1024x64 32 := fun y => BitVec.ofNat 32 (nth x (y 0) (y 1)).val

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem blk0 (t : Fin cfg0.N) : iblk m c 0 t = m ((c : Thread nD τ).loc main_arg0) := by
  blk_ext! [iblk, V, idx t]

theorem split (y : S1024x64.Idx) : ∃ (q : Fin 1024) (p : Fin 64), y = ix2 q p :=
  ⟨y 0, y 1, by funext a; match a with | ⟨0, _⟩ => rfl | ⟨1, _⟩ => rfl⟩

theorem emb1 (t : Fin cfg0.N) (q : Fin 1024) (p : Fin 64) : ((cfg0.win 1).blk t).view.emb (ix2 q p) = (ix2 q p : S1024x64.Idx) := by
  have h := idx t
  blk_ext! [h]

theorem emb2 (t : Fin cfg0.N) (q : Fin 1024) (p : Fin 64) : ((cfg0.win 2).blk t).view.emb (ix2 q p) = (ix2 q p : S1024x64.Idx) := by
  have h := idx t
  blk_ext! [h]

/-- The first result after the run. -/
theorem final1 : (dats m 0 c).arrAt 1 (cfgs 0).N = sorted (m ((c : Thread nD τ).loc main_arg0)) := by
  refine (dats m 0 c).arrAt_eq_of_covers 1 _ (by decide +kernel) fun t _ y => ?_
  blk_simp
  rw [after0_1]
  obtain ⟨q, p, rfl⟩ := split y
  refine Eq.trans ?_ (congrArg (sorted _) (emb1 t q p)).symm
  refine (RankK.sorted_apply q p _).trans ?_
  rw [blk0]
  rfl

/-- The second result after the run. -/
theorem final2 : (dats m 0 c).arrAt 2 (cfgs 0).N = cells (m ((c : Thread nD τ).loc main_arg0)) := by
  refine (dats m 0 c).arrAt_eq_of_covers 2 _ (by decide +kernel) fun t _ y => ?_
  blk_simp
  rw [after0_2]
  obtain ⟨q, p, rfl⟩ := split y
  refine Eq.trans ?_ (congrArg (cells _) (emb2 t q p)).symm
  refine (RankK.cells_apply q p _).trans ?_
  rw [blk0]
  rfl

variable (m' : (ℓ : Loc RankingRefIdeal.nD RankingRefIdeal.τ RankingRefIdeal.sig) → Buf (Elt Ideal) ℓ)

/-- The plain statement's two results. -/
theorem plain1 (h : m' ((c.tc : Thread RankingRefIdeal.nD RankingRefIdeal.τ).loc RankingRefIdeal.main_arg0) = m ((c.tc : Thread nD τ).loc main_arg0)) :
    RankingRefIdeal.Value.res_main_v29 m' c = sorted (m ((c.tc : Thread nD τ).loc main_arg0)) := by
  rw [RankR.res0, h]
  funext y
  obtain ⟨q, p, rfl⟩ := split y
  exact RankR.sorted_apply q _ p

theorem plain2 (h : m' ((c.tc : Thread RankingRefIdeal.nD RankingRefIdeal.τ).loc RankingRefIdeal.main_arg0) = m ((c.tc : Thread nD τ).loc main_arg0)) :
    RankingRefIdeal.Value.res_main_v30 m' c = cells (m ((c.tc : Thread nD τ).loc main_arg0)) := by
  rw [RankR.res1, h]
  funext y
  obtain ⟨q, p, rfl⟩ := split y
  exact RankR.cells_apply q _ p

end Cert.Proof.Ranking

end
-- ==== Proof.WalkDefs.lean ====
/-
  The values of the slot walk's body up to its branch, as the program computes them from a step's three blocks it reads: the
  distances `x1`, the cells `x2` and the batch's counts `x3`, each under its number in the program.
-/
module

public import proofs.«01_k».proof.Proof.Gen.SlotsIdeal.Frame
public import proofs.«01_k».proof.Proof.Gen.SlotsIdeal.Skeleton

@[expose] public section

set_option maxRecDepth 16384

noncomputable section

namespace Cert.Proof.Walk

open Cert.SlotsIdeal Cert.SlotsIdeal.Gen Idealize.ShloMosaic

variable {F : FTy → Type} [FloatOps F] (i : grid0.Coords) (x1 : Vec F S1x64x64 .f32) (x2 : Vec F S1x64x64 .i32) (x3 : Vec F S1x1x64 .i32)

/-- A whole block. -/
abbrev whole : Rect S1x64x64 := Rect.unit ![0, 0, 0] S1x64x64.size inb_S1x64x64_S1x64x64_0_0_0

def w16 : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)
def w18 : FVec F S64x64 .f32 :=
  k0_pay215 (View.ld x1 whole)
def w20 : IVec S64x64 32 :=
  k0_pay216 (View.ld x2 whole)
def w33 : IVec S64x64 32 :=
  k0_pay217 (View.ld x2 whole) (View.ld x3 (Rect.unit ![0, 0, 0] S1x1x1.size inb_S1x1x64_S1x1x1_0_0_0)) (View.ld x3 (Rect.unit ![0, 0, 1] S1x1x1.size inb_S1x1x64_S1x1x1_0_0_1))
def w35 : IVec S64x64 1 :=
  k0_pay218 (View.ld x2 whole)
def w69 : IVec S64x64 32 :=
  k0_pay219 (w20 x2) (w33 x2 x3) (w35 x2) (View.ld x3 (Rect.unit ![0, 0, 2] S1x1x1.size inb_S1x1x64_S1x1x1_0_0_2)) (View.ld x3 (Rect.unit ![0, 0, 3] S1x1x1.size inb_S1x1x64_S1x1x1_0_0_3)) (View.ld x3 (Rect.unit ![0, 0, 4] S1x1x1.size inb_S1x1x64_S1x1x1_0_0_4)) (View.ld x3 (Rect.unit ![0, 0, 5] S1x1x1.size inb_S1x1x64_S1x1x1_0_0_5)) (View.ld x3 (Rect.unit ![0, 0, 6] S1x1x1.size inb_S1x1x64_S1x1x1_0_0_6)) (View.ld x3 (Rect.unit ![0, 0, 7] S1x1x1.size inb_S1x1x64_S1x1x1_0_0_7))
def w71 : IVec S64x64 1 :=
  k0_pay220 (w20 x2)
def w105 : IVec S64x64 32 :=
  k0_pay221 (w20 x2) (w69 x2 x3) (w71 x2) (View.ld x3 (Rect.unit ![0, 0, 8] S1x1x1.size inb_S1x1x64_S1x1x1_0_0_8)) (View.ld x3 (Rect.unit ![0, 0, 9] S1x1x1.size inb_S1x1x64_S1x1x1_0_0_9)) (View.ld x3 (Rect.unit ![0, 0, 10] S1x1x1.size inb_S1x1x64_S1x1x1_0_0_10)) (View.ld x3 (Rect.unit ![0, 0, 11] S1x1x1.size inb_S1x1x64_S1x1x1_0_0_11)) (View.ld x3 (Rect.unit ![0, 0, 12] S1x1x1.size inb_S1x1x64_S1x1x1_0_0_12)) (View.ld x3 (Rect.unit ![0, 0, 13] S1x1x1.size inb_S1x1x64_S1x1x1_0_0_13))
def w107 : IVec S64x64 1 :=
  k0_pay222 (w20 x2)
def w141 : IVec S64x64 32 :=
  k0_pay223 (w20 x2) (w105 x2 x3) (w107 x2) (View.ld x3 (Rect.unit ![0, 0, 14] S1x1x1.size inb_S1x1x64_S1x1x1_0_0_14)) (View.ld x3 (Rect.unit ![0, 0, 15] S1x1x1.size inb_S1x1x64_S1x1x1_0_0_15)) (View.ld x3 (Rect.unit ![0, 0, 16] S1x1x1.size inb_S1x1x64_S1x1x1_0_0_16)) (View.ld x3 (Rect.unit ![0, 0, 17] S1x1x1.size inb_S1x1x64_S1x1x1_0_0_17)) (View.ld x3 (Rect.unit ![0, 0, 18] S1x1x1.size inb_S1x1x64_S1x1x1_0_0_18)) (View.ld x3 (Rect.unit ![0, 0, 19] S1x1x1.size inb_S1x1x64_S1x1x1_0_0_19))
def w143 : IVec S64x64 1 :=
  k0_pay224 (w20 x2)
def w177 : IVec S64x64 32 :=
  k0_pay225 (w20 x2) (w141 x2 x3) (w143 x2) (View.ld x3 (Rect.unit ![0, 0, 20] S1x1x1.size inb_S1x1x64_S1x1x1_0_0_20)) (View.ld x3 (Rect.unit ![0, 0, 21] S1x1x1.size inb_S1x1x64_S1x1x1_0_0_21)) (View.ld x3 (Rect.unit ![0, 0, 22] S1x1x1.size inb_S1x1x64_S1x1x1_0_0_22)) (View.ld x3 (Rect.unit ![0, 0, 23] S1x1x1.size inb_S1x1x64_S1x1x1_0_0_23)) (View.ld x3 (Rect.unit ![0, 0, 24] S1x1x1.size inb_S1x1x64_S1x1x1_0_0_24)) (View.ld x3 (Rect.unit ![0, 0, 25] S1x1x1.size inb_S1x1x64_S1x1x1_0_0_25))
def w179 : IVec S64x64 1 :=
  k0_pay226 (w20 x2)
def w213 : IVec S64x64 32 :=
  k0_pay227 (w20 x2) (w177 x2 x3) (w179 x2) (View.ld x3 (Rect.unit ![0, 0, 26] S1x1x1.size inb_S1x1x64_S1x1x1_0_0_26)) (View.ld x3 (Rect.unit ![0, 0, 27] S1x1x1.size inb_S1x1x64_S1x1x1_0_0_27)) (View.ld x3 (Rect.unit ![0, 0, 28] S1x1x1.size inb_S1x1x64_S1x1x1_0_0_28)) (View.ld x3 (Rect.unit ![0, 0, 29] S1x1x1.size inb_S1x1x64_S1x1x1_0_0_29)) (View.ld x3 (Rect.unit ![0, 0, 30] S1x1x1.size inb_S1x1x64_S1x1x1_0_0_30)) (View.ld x3 (Rect.unit ![0, 0, 31] S1x1x1.size inb_S1x1x64_S1x1x1_0_0_31))
def w215 : IVec S64x64 1 :=
  k0_pay228 (w20 x2)
def w249 : IVec S64x64 32 :=
  k0_pay229 (w20 x2) (w213 x2 x3) (w215 x2) (View.ld x3 (Rect.unit ![0, 0, 32] S1x1x1.size inb_S1x1x64_S1x1x1_0_0_32)) (View.ld x3 (Rect.unit ![0, 0, 33] S1x1x1.size inb_S1x1x64_S1x1x1_0_0_33)) (View.ld x3 (Rect.unit ![0, 0, 34] S1x1x1.size inb_S1x1x64_S1x1x1_0_0_34)) (View.ld x3 (Rect.unit ![0, 0, 35] S1x1x1.size inb_S1x1x64_S1x1x1_0_0_35)) (View.ld x3 (Rect.unit ![0, 0, 36] S1x1x1.size inb_S1x1x64_S1x1x1_0_0_36)) (View.ld x3 (Rect.unit ![0, 0, 37] S1x1x1.size inb_S1x1x64_S1x1x1_0_0_37))
def w251 : IVec S64x64 1 :=
  k0_pay230 (w20 x2)
def w285 : IVec S64x64 32 :=
  k0_pay231 (w20 x2) (w249 x2 x3) (w251 x2) (View.ld x3 (Rect.unit ![0, 0, 38] S1x1x1.size inb_S1x1x64_S1x1x1_0_0_38)) (View.ld x3 (Rect.unit ![0, 0, 39] S1x1x1.size inb_S1x1x64_S1x1x1_0_0_39)) (View.ld x3 (Rect.unit ![0, 0, 40] S1x1x1.size inb_S1x1x64_S1x1x1_0_0_40)) (View.ld x3 (Rect.unit ![0, 0, 41] S1x1x1.size inb_S1x1x64_S1x1x1_0_0_41)) (View.ld x3 (Rect.unit ![0, 0, 42] S1x1x1.size inb_S1x1x64_S1x1x1_0_0_42)) (View.ld x3 (Rect.unit ![0, 0, 43] S1x1x1.size inb_S1x1x64_S1x1x1_0_0_43))
def w287 : IVec S64x64 1 :=
  k0_pay232 (w20 x2)
def w321 : IVec S64x64 32 :=
  k0_pay233 (w20 x2) (w285 x2 x3) (w287 x2) (View.ld x3 (Rect.unit ![0, 0, 44] S1x1x1.size inb_S1x1x64_S1x1x1_0_0_44)) (View.ld x3 (Rect.unit ![0, 0, 45] S1x1x1.size inb_S1x1x64_S1x1x1_0_0_45)) (View.ld x3 (Rect.unit ![0, 0, 46] S1x1x1.size inb_S1x1x64_S1x1x1_0_0_46)) (View.ld x3 (Rect.unit ![0, 0, 47] S1x1x1.size inb_S1x1x64_S1x1x1_0_0_47)) (View.ld x3 (Rect.unit ![0, 0, 48] S1x1x1.size inb_S1x1x64_S1x1x1_0_0_48)) (View.ld x3 (Rect.unit ![0, 0, 49] S1x1x1.size inb_S1x1x64_S1x1x1_0_0_49))
def w323 : IVec S64x64 1 :=
  k0_pay234 (w20 x2)
def w357 : IVec S64x64 32 :=
  k0_pay235 (w20 x2) (w321 x2 x3) (w323 x2) (View.ld x3 (Rect.unit ![0, 0, 50] S1x1x1.size inb_S1x1x64_S1x1x1_0_0_50)) (View.ld x3 (Rect.unit ![0, 0, 51] S1x1x1.size inb_S1x1x64_S1x1x1_0_0_51)) (View.ld x3 (Rect.unit ![0, 0, 52] S1x1x1.size inb_S1x1x64_S1x1x1_0_0_52)) (View.ld x3 (Rect.unit ![0, 0, 53] S1x1x1.size inb_S1x1x64_S1x1x1_0_0_53)) (View.ld x3 (Rect.unit ![0, 0, 54] S1x1x1.size inb_S1x1x64_S1x1x1_0_0_54)) (View.ld x3 (Rect.unit ![0, 0, 55] S1x1x1.size inb_S1x1x64_S1x1x1_0_0_55))
def w359 : IVec S64x64 1 :=
  k0_pay236 (w20 x2)
def w393 : IVec S64x64 32 :=
  k0_pay237 (w20 x2) (w357 x2 x3) (w359 x2) (View.ld x3 (Rect.unit ![0, 0, 56] S1x1x1.size inb_S1x1x64_S1x1x1_0_0_56)) (View.ld x3 (Rect.unit ![0, 0, 57] S1x1x1.size inb_S1x1x64_S1x1x1_0_0_57)) (View.ld x3 (Rect.unit ![0, 0, 58] S1x1x1.size inb_S1x1x64_S1x1x1_0_0_58)) (View.ld x3 (Rect.unit ![0, 0, 59] S1x1x1.size inb_S1x1x64_S1x1x1_0_0_59)) (View.ld x3 (Rect.unit ![0, 0, 60] S1x1x1.size inb_S1x1x64_S1x1x1_0_0_60)) (View.ld x3 (Rect.unit ![0, 0, 61] S1x1x1.size inb_S1x1x64_S1x1x1_0_0_61))
def w395 : IVec S64x64 1 :=
  k0_pay238 (w20 x2)
def w405 : IVec S64x64 32 :=
  k0_pay239 (w20 x2) (w393 x2 x3) (w395 x2) (View.ld x3 (Rect.unit ![0, 0, 62] S1x1x1.size inb_S1x1x64_S1x1x1_0_0_62)) (View.ld x3 (Rect.unit ![0, 0, 63] S1x1x1.size inb_S1x1x64_S1x1x1_0_0_63))
def w406 : IVec S64x64 32 :=
  iota .tc S64x64 32 [1] iota_S64x64_d1_w32
def w430 : IVec S64x64 32 :=
  k0_pay240 (w20 x2) (w393 x2 x3) (w395 x2) (View.ld x3 (Rect.unit ![0, 0, 62] S1x1x1.size inb_S1x1x64_S1x1x1_0_0_62)) (View.ld x3 (Rect.unit ![0, 0, 63] S1x1x1.size inb_S1x1x64_S1x1x1_0_0_63))
def w431 : IVec S64x64 32 :=
  k0_pay241 (w20 x2) (w393 x2 x3) (w395 x2) (View.ld x3 (Rect.unit ![0, 0, 62] S1x1x1.size inb_S1x1x64_S1x1x1_0_0_62)) (View.ld x3 (Rect.unit ![0, 0, 63] S1x1x1.size inb_S1x1x64_S1x1x1_0_0_63))
def w437 : IVec S64x64 32 :=
  k0_pay242 (w20 x2) (w393 x2 x3) (w395 x2) (View.ld x3 (Rect.unit ![0, 0, 62] S1x1x1.size inb_S1x1x64_S1x1x1_0_0_62)) (View.ld x3 (Rect.unit ![0, 0, 63] S1x1x1.size inb_S1x1x64_S1x1x1_0_0_63))
def w441 : IVec S64x64 32 :=
  k0_pay243 (w20 x2) (w393 x2 x3) (w395 x2) (View.ld x3 (Rect.unit ![0, 0, 62] S1x1x1.size inb_S1x1x64_S1x1x1_0_0_62)) (View.ld x3 (Rect.unit ![0, 0, 63] S1x1x1.size inb_S1x1x64_S1x1x1_0_0_63))
def w497 : IVec S64x64 32 :=
  k0_pay244 w406 (w430 x2 x3) (w437 x2 x3) (w441 x2 x3)
def w501 : IVec S64x64 32 :=
  k0_pay245 w406 (w430 x2 x3)
def w557 : IVec S64x64 32 :=
  k0_pay246 w406 (w430 x2 x3) (w497 x2 x3) (w501 x2 x3)
def w561 : IVec S64x64 32 :=
  k0_pay247 w406 (w430 x2 x3)
def w617 : IVec S64x64 32 :=
  k0_pay248 w406 (w430 x2 x3) (w557 x2 x3) (w561 x2 x3)
def w621 : IVec S64x64 32 :=
  k0_pay249 w406 (w430 x2 x3)
def w677 : IVec S64x64 32 :=
  k0_pay250 w406 (w430 x2 x3) (w617 x2 x3) (w621 x2 x3)
def w681 : IVec S64x64 32 :=
  k0_pay251 w406 (w430 x2 x3)
def w737 : IVec S64x64 32 :=
  k0_pay252 w406 (w430 x2 x3) (w677 x2 x3) (w681 x2 x3)
def w741 : IVec S64x64 32 :=
  k0_pay253 w406 (w430 x2 x3)
def w752 : IVec S64x64 32 :=
  k0_pay254 w406 (w430 x2 x3) (w737 x2 x3) (w741 x2 x3)
def w754 : IVec S64x64 32 :=
  k0_pay255 w406 (w430 x2 x3) (w737 x2 x3) (w741 x2 x3)
def w786 : IVec S64x64 32 :=
  k0_pay259 w406 (w430 x2 x3) (w431 x2 x3) (w737 x2 x3) (w741 x2 x3)
def w788 : IVec S64x64 1 :=
  k0_pay260 w406 (w430 x2 x3) (w737 x2 x3) (w741 x2 x3)
def w792 : IVec S64x64 32 :=
  k0_pay261 (w20 x2) w406 (w430 x2 x3) (w737 x2 x3) (w741 x2 x3)
def w794 : IVec S64x1 32 :=
  k0_pay262 (w431 x2 x3)
def w842 : IVec S64x64 32 :=
  k0_pay268 (w20 x2) (w754 x2 x3) (w792 x2 x3)
def w846 : IVec S64x64 32 :=
  k0_pay269 (w431 x2 x3) (w754 x2 x3) (w786 x2 x3) (w788 x2 x3) (w794 x2 x3)
def w848 : IVec S64x64 1 :=
  k0_pay270 (w754 x2 x3)
def w896 : IVec S64x64 32 :=
  k0_pay275 (w431 x2 x3) (w754 x2 x3) (w846 x2 x3) (w848 x2 x3)
def w898 : IVec S64x64 1 :=
  k0_pay276 (w754 x2 x3)
def w902 : IVec S64x64 32 :=
  k0_pay277 (w20 x2) (w754 x2 x3) (w842 x2 x3) (w848 x2 x3)
def w903 : IVec S64x1 32 :=
  k0_pay278 (w431 x2 x3)
def w952 : IVec S64x64 32 :=
  k0_pay284 (w20 x2) (w754 x2 x3) (w902 x2 x3)
def w956 : IVec S64x64 32 :=
  k0_pay285 (w431 x2 x3) (w754 x2 x3) (w896 x2 x3) (w898 x2 x3) (w903 x2 x3)
def w957 : IVec S64x64 32 :=
  k0_pay286
def w1006 : IVec S64x64 32 :=
  k0_pay292 (w431 x2 x3) (w754 x2 x3) (w956 x2 x3) w957
def w1008 : IVec S64x64 1 :=
  k0_pay293 (w754 x2 x3)
def w1012 : IVec S64x64 32 :=
  k0_pay294 (w20 x2) (w754 x2 x3) (w952 x2 x3) w957
def w1062 : IVec S64x64 32 :=
  k0_pay300 (w20 x2) (w754 x2 x3) (w1012 x2 x3)
def w1066 : IVec S64x64 32 :=
  k0_pay301 (w431 x2 x3) (w754 x2 x3) (w1006 x2 x3) (w1008 x2 x3)
def kc31_i32_183 : BitVec 32 :=
  31#32
def w1112 : IVec S64x64 32 :=
  k0_pay307 (w20 x2) (w754 x2 x3) (w1062 x2 x3) kc31_i32_183
def w1116 : IVec S64x64 32 :=
  k0_pay308 (w431 x2 x3) (w754 x2 x3) (w1066 x2 x3) kc31_i32_183
def w1118 : IVec S64x64 1 :=
  k0_pay309 (w754 x2 x3)
def w1121 : IVec S64x64 32 :=
  k0_pay310 (w20 x2)
def w1172 : IVec S64x64 32 :=
  k0_pay316 (w20 x2) (w754 x2 x3) (w1112 x2 x3) (w1118 x2 x3) (w1121 x2)
def w1176 : IVec S64x64 32 :=
  k0_pay317 (w431 x2 x3) (w754 x2 x3) (w1116 x2 x3) (w1118 x2 x3)
def w1222 : IVec S64x64 32 :=
  k0_pay323 (w20 x2) (w754 x2 x3) (w1172 x2 x3)
def w1226 : IVec S64x64 32 :=
  k0_pay324 (w431 x2 x3) (w754 x2 x3) (w1176 x2 x3)
def w1228 : IVec S64x64 1 :=
  k0_pay325 (w754 x2 x3)
def w1230 : IVec S64x1 32 :=
  k0_pay326 (w20 x2)
def w1276 : IVec S64x64 32 :=
  k0_pay331 (w431 x2 x3) (w754 x2 x3) (w1226 x2 x3) (w1228 x2 x3)
def w1278 : IVec S64x64 1 :=
  k0_pay332 (w754 x2 x3)
def w1282 : IVec S64x64 32 :=
  k0_pay333 (w20 x2) (w754 x2 x3) (w1222 x2 x3) (w1228 x2 x3) (w1230 x2)
def w1285 : IVec S64x64 32 :=
  k0_pay334 (w431 x2 x3)
def w1332 : IVec S64x64 32 :=
  k0_pay340 (w20 x2) (w754 x2 x3) (w1282 x2 x3)
def w1336 : IVec S64x64 32 :=
  k0_pay341 (w431 x2 x3) (w754 x2 x3) (w1276 x2 x3) (w1278 x2 x3) (w1285 x2 x3)
def w1338 : IVec S64x64 1 :=
  k0_pay342 (w754 x2 x3)
def w1339 : IVec S64x1 32 :=
  k0_pay343 (w20 x2)
def w1386 : IVec S64x64 32 :=
  k0_pay348 (w431 x2 x3) (w754 x2 x3) (w1336 x2 x3) (w1338 x2 x3)
def w1388 : IVec S64x64 1 :=
  k0_pay349 (w754 x2 x3)
def w1392 : IVec S64x64 32 :=
  k0_pay350 (w20 x2) (w754 x2 x3) (w1332 x2 x3) (w1338 x2 x3) (w1339 x2)
def w1394 : IVec S64x1 32 :=
  k0_pay351 (w431 x2 x3)
def w1401 : IVec S64x64 32 :=
  k0_pay352 w406 (w1386 x2 x3) (w1388 x2 x3) (w1394 x2 x3)
def w1444 : FVec F S64x64 .f32 :=
  k0_pay353 (w18 x1) (w754 x2 x3)
def w1492 : FVec F S64x64 .f32 :=
  k0_pay354 (w18 x1) (w754 x2 x3) (w1444 x1 x2 x3)
def w1494 : IVec S64x64 1 :=
  k0_pay355 (w754 x2 x3)
def w1495 : FVec F S64x1 .f32 :=
  k0_pay356 (w18 x1)
def w1546 : FVec F S64x64 .f32 :=
  k0_pay357 (w18 x1) (w754 x2 x3) (w1492 x1 x2 x3) (w1494 x2 x3) (w1495 x1)
def kc24_i32_242 : BitVec 32 :=
  24#32
def w1594 : FVec F S64x64 .f32 :=
  k0_pay358 (w18 x1) (w754 x2 x3) (w1546 x1 x2 x3) kc24_i32_242
def w1596 : IVec S64x64 1 :=
  k0_pay359 (w754 x2 x3)
def w1598 : FVec F S64x1 .f32 :=
  k0_pay360 (w18 x1)
def w1648 : FVec F S64x64 .f32 :=
  k0_pay361 (w18 x1) (w754 x2 x3) (w1594 x1 x2 x3) (w1596 x2 x3) (w1598 x1)
def w1649 : IVec S64x64 32 :=
  k0_pay362
def w1696 : FVec F S64x64 .f32 :=
  k0_pay363 (w18 x1) (w754 x2 x3) (w1648 x1 x2 x3) w1649
def w1698 : IVec S64x64 1 :=
  k0_pay364 (w754 x2 x3)
def w1701 : FVec F S64x64 .f32 :=
  k0_pay365 (w18 x1)
def w1750 : FVec F S64x64 .f32 :=
  k0_pay366 (w18 x1) (w754 x2 x3) (w1696 x1 x2 x3) (w1698 x2 x3) (w1701 x1)
def w1752 : IVec S64x64 1 :=
  k0_pay367 (w754 x2 x3)
def w1786 : FVec F S64x64 .f32 :=
  k0_pay368 (w18 x1) (w754 x2 x3) (w1750 x1 x2 x3) (w1752 x2 x3)
def w1791 : IVec S64x64 1 :=
  k0_pay369 (w18 x1) (w752 x2 x3) (w754 x2 x3) (w1750 x1 x2 x3) (w1752 x2 x3)
def w1800 : IVec S1x64x64 32 :=
  k0_pay370 (w16 i) (w1392 x2 x3) (w1401 x2 x3)
def w1838 : IVec S64x64 32 :=
  k0_pay373 (w18 x1)
def w1839 : IVec S64x1 32 :=
  k0_pay374 (w752 x2 x3)
def w1841 : IVec S64x1 32 :=
  k0_pay375 (w752 x2 x3)
def w1842 : IVec S64x1 32 :=
  k0_pay376
def w1843 : IVec S64x1 32 :=
  k0_pay377
def w1844 : IVec S64x1 32 :=
  k0_pay378
def w1845 : IVec S64x1 32 :=
  k0_pay379
def w1846 : IVec S64x1 32 :=
  k0_pay380
def w1886 : IVec S64x1 32 :=
  k0_pay381 (w1838 x1) (w1841 x2 x3) w1842
def w1887 : IVec S64x1 32 :=
  k0_pay382
def w1934 : IVec S64x1 32 :=
  k0_pay383 (w1838 x1) (w1841 x2 x3) (w1886 x1 x2 x3) w1887
def w1935 : IVec S64x1 32 :=
  k0_pay384
def w1982 : IVec S64x1 32 :=
  k0_pay385 (w1838 x1) (w1841 x2 x3) (w1934 x1 x2 x3) w1935
def w1983 : IVec S64x1 32 :=
  k0_pay386
def w2030 : IVec S64x1 32 :=
  k0_pay387 (w1838 x1) (w1841 x2 x3) (w1982 x1 x2 x3) w1983
def w2031 : IVec S64x1 32 :=
  k0_pay388
def w2078 : IVec S64x1 32 :=
  k0_pay389 (w1838 x1) (w1841 x2 x3) (w2030 x1 x2 x3) w2031
def w2079 : IVec S64x1 32 :=
  k0_pay390
def w2102 : IVec S64x1 32 :=
  k0_pay391 (w1838 x1) (w1841 x2 x3) (w2078 x1 x2 x3) w2079
def w2130 : IVec S64x1 32 :=
  k0_pay392 (w1838 x1) (w1841 x2 x3) w1843 (w2078 x1 x2 x3) w2079
def w2134 : IVec S64x1 32 :=
  k0_pay393 (w1838 x1) (w1841 x2 x3) w1844 (w2078 x1 x2 x3) w2079
def w2190 : IVec S64x1 32 :=
  k0_pay394 (w1838 x1) (w2102 x1 x2 x3) (w2134 x1 x2 x3)
def w2194 : IVec S64x1 32 :=
  k0_pay395 (w1838 x1) (w2102 x1 x2 x3) (w2130 x1 x2 x3)
def w2250 : IVec S64x1 32 :=
  k0_pay396 (w1838 x1) (w2102 x1 x2 x3) (w2194 x1 x2 x3)
def w2254 : IVec S64x1 32 :=
  k0_pay397 (w1838 x1) (w2102 x1 x2 x3) (w2190 x1 x2 x3)
def w2310 : IVec S64x1 32 :=
  k0_pay398 (w1838 x1) (w2102 x1 x2 x3) (w2254 x1 x2 x3)
def w2314 : IVec S64x1 32 :=
  k0_pay399 (w1838 x1) (w2102 x1 x2 x3) (w2250 x1 x2 x3)
def w2370 : IVec S64x1 32 :=
  k0_pay400 (w1838 x1) (w2102 x1 x2 x3) (w2314 x1 x2 x3)
def w2374 : IVec S64x1 32 :=
  k0_pay401 (w1838 x1) (w2102 x1 x2 x3) (w2310 x1 x2 x3)
def w2430 : IVec S64x1 32 :=
  k0_pay402 (w1838 x1) (w2102 x1 x2 x3) (w2374 x1 x2 x3)
def w2434 : IVec S64x1 32 :=
  k0_pay403 (w1838 x1) (w2102 x1 x2 x3) (w2370 x1 x2 x3)
def w2490 : IVec S64x1 32 :=
  k0_pay404 (w1838 x1) (w2102 x1 x2 x3) (w2434 x1 x2 x3)
def w2494 : IVec S64x1 32 :=
  k0_pay405 (w1838 x1) (w2102 x1 x2 x3) (w2430 x1 x2 x3)
def w2550 : IVec S64x1 32 :=
  k0_pay406 (w1838 x1) (w2102 x1 x2 x3) (w2494 x1 x2 x3)
def w2554 : IVec S64x1 32 :=
  k0_pay407 (w1838 x1) (w2102 x1 x2 x3) (w2490 x1 x2 x3)
def w2610 : IVec S64x1 32 :=
  k0_pay408 (w1838 x1) (w2102 x1 x2 x3) (w2554 x1 x2 x3)
def w2614 : IVec S64x1 32 :=
  k0_pay409 (w1838 x1) (w2102 x1 x2 x3) (w2550 x1 x2 x3)
def w2616 : IVec S64x1 32 :=
  k0_pay410 (w2614 x1 x2 x3)
def w2656 : IVec S64x1 32 :=
  k0_pay411 (w430 x2 x3) w1846 (w2614 x1 x2 x3)
def w2660 : IVec S64x1 32 :=
  k0_pay412 (w431 x2 x3) w1845 (w2610 x1 x2 x3)
def w2661 : IVec S64x1 32 :=
  k0_pay413
def w2704 : IVec S64x1 32 :=
  k0_pay414 (w430 x2 x3) (w2616 x1 x2 x3) (w2656 x1 x2 x3) w2661
def w2708 : IVec S64x1 32 :=
  k0_pay415 (w431 x2 x3) (w2610 x1 x2 x3) (w2660 x1 x2 x3)
def w2709 : IVec S64x1 32 :=
  k0_pay416
def w2752 : IVec S64x1 32 :=
  k0_pay417 (w430 x2 x3) (w2616 x1 x2 x3) (w2704 x1 x2 x3) w2709
def w2756 : IVec S64x1 32 :=
  k0_pay418 (w431 x2 x3) (w2610 x1 x2 x3) (w2708 x1 x2 x3)
def w2757 : IVec S64x1 32 :=
  k0_pay419
def w2800 : IVec S64x1 32 :=
  k0_pay420 (w430 x2 x3) (w2616 x1 x2 x3) (w2752 x1 x2 x3) w2757
def w2804 : IVec S64x1 32 :=
  k0_pay421 (w431 x2 x3) (w2610 x1 x2 x3) (w2756 x1 x2 x3)
def w2805 : IVec S64x1 32 :=
  k0_pay422
def w2848 : IVec S64x1 32 :=
  k0_pay423 (w430 x2 x3) (w2616 x1 x2 x3) (w2800 x1 x2 x3) w2805
def w2852 : IVec S64x1 32 :=
  k0_pay424 (w431 x2 x3) (w2610 x1 x2 x3) (w2804 x1 x2 x3)
def w2853 : IVec S64x1 32 :=
  k0_pay425
def w2896 : IVec S64x1 32 :=
  k0_pay426 (w430 x2 x3) (w2616 x1 x2 x3) (w2848 x1 x2 x3) w2853
def w2900 : IVec S64x1 32 :=
  k0_pay427 (w431 x2 x3) (w2610 x1 x2 x3) (w2852 x1 x2 x3)
def w2901 : IVec S64x1 32 :=
  k0_pay428
def w2944 : IVec S64x1 32 :=
  k0_pay429 (w430 x2 x3) (w2616 x1 x2 x3) (w2896 x1 x2 x3) w2901
def w2948 : IVec S64x1 32 :=
  k0_pay430 (w431 x2 x3) (w2610 x1 x2 x3) (w2900 x1 x2 x3)
def w2949 : IVec S64x1 32 :=
  k0_pay431
def w2992 : IVec S64x1 32 :=
  k0_pay432 (w430 x2 x3) (w2616 x1 x2 x3) (w2944 x1 x2 x3) w2949
def w2996 : IVec S64x1 32 :=
  k0_pay433 (w431 x2 x3) (w2610 x1 x2 x3) (w2948 x1 x2 x3)
def w2997 : IVec S64x1 32 :=
  k0_pay434
def w3040 : IVec S64x1 32 :=
  k0_pay435 (w430 x2 x3) (w2616 x1 x2 x3) (w2992 x1 x2 x3) w2997
def w3044 : IVec S64x1 32 :=
  k0_pay436 (w431 x2 x3) (w2610 x1 x2 x3) (w2996 x1 x2 x3)
def w3045 : IVec S64x1 32 :=
  k0_pay437
def w3088 : IVec S64x1 32 :=
  k0_pay438 (w430 x2 x3) (w2616 x1 x2 x3) (w3040 x1 x2 x3) w3045
def w3092 : IVec S64x1 32 :=
  k0_pay439 (w431 x2 x3) (w2610 x1 x2 x3) (w3044 x1 x2 x3)
def w3093 : IVec S64x1 32 :=
  k0_pay440
def w3128 : IVec S64x1 32 :=
  k0_pay441 (w430 x2 x3) (w2616 x1 x2 x3) (w3088 x1 x2 x3) w3093
def w3131 : IVec S64x1 32 :=
  k0_pay442 (w2610 x1 x2 x3) (w2616 x1 x2 x3)
def w3133 : IVec S64x1 32 :=
  k0_pay443 (w431 x2 x3) (w2610 x1 x2 x3) (w3092 x1 x2 x3)
def w3134 : FVec F S64x1 .f32 :=
  k0_pay444 (w1786 x1 x2 x3)
def w3139 : IVec S64x1 1 :=
  k0_pay445 (w1839 x2 x3) (w2610 x1 x2 x3) (w2616 x1 x2 x3)
def w3140 : IVec S64x1 32 :=
  k0_pay446
def w3153 : BitVec 32 :=
  extractAt ![0, 0, 0] (k0_pay2 (w3128 x1 x2 x3) (w3131 x1 x2 x3) (w3134 x1 x2 x3) (w3139 x1 x2 x3) w3140) inpos_S1x1x1_p0_0_0
def w3154 : BitVec 1 :=
  Scalar.cmpi .sgt (w3153 x1 x2 x3) 0#32
def w3155 : BitVec 32 :=
  Scalar.extui (w3154 x1 x2 x3)
def w3156 : BitVec 1 :=
  Scalar.cmpi .ne (w3155 x1 x2 x3) 0#32

end Cert.Proof.Walk

end
-- ==== Proof.WalkBody.lean ====
/-
  The slot walk's body where its branch is not taken: from a step's blocks it leaves the three blocks of the plain walk.
-/
module

public import proofs.«01_k».proof.Proof.WalkDefs

@[expose] public section

set_option maxRecDepth 65536

noncomputable section

namespace Cert.Proof.Walk

open Cert.SlotsIdeal Cert.SlotsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three blocks a step leaves: which entry, which cell, and whether there is one. -/
def left4 (i : grid0.Coords) (x2 : Vec F S1x64x64 .i32) (x3 : Vec F S1x1x64 .i32) : Vec F S1x64x64 .i32 := View.canon [⟨whole, w1800 i x2 x3⟩]

def left5 (x2 : Vec F S1x64x64 .i32) (x3 : Vec F S1x1x64 .i32) : Vec F S1x64x64 .i32 := View.canon [⟨whole, k0_pay371 (w1392 x2 x3)⟩]

def left6 (x1 : Vec F S1x64x64 .f32) (x2 : Vec F S1x64x64 .i32) (x3 : Vec F S1x1x64 .i32) : Vec F S1x64x64 .f32 :=
  View.canon [⟨whole, k0_pay372 (w1791 x1 x2 x3)⟩]

theorem covered {α : EltTy} (p : Vec F S1x64x64 α) (y : S1x64x64.Idx) : ∃ pc ∈ ([⟨whole, p⟩] : List (View.Piece (Elt F) S1x64x64 α)), y ∈ pc.1.set :=
  View.cover_of_tiled [⟨whole, p⟩] S1x64x64.size (by rfl) y

set_option maxHeartbeats 40000000 in
/-- The body on seven whole blocks, where the flag it computes is not set. -/
theorem body (c : Dev nD) (E : Set ℕ) (i : grid0.Coords) (a1 : Memref sig .tc .vmem S1x64x64 .f32) (h1 : a1.IsWhole)
    (a2 : Memref sig .tc .vmem S1x64x64 .i32) (h2 : a2.IsWhole) (a3 : Memref sig .tc .vmem S1x1x64 .i32) (h3 : a3.IsWhole)
    (a4 : Memref sig .tc .vmem S1x64x64 .i32) (h4 : a4.IsWhole) (a5 : Memref sig .tc .vmem S1x64x64 .i32) (h5 : a5.IsWhole)
    (a6 : Memref sig .tc .vmem S1x64x64 .i32) (h6 : a6.IsWhole) (a7 : Memref sig .tc .vmem S1x64x64 .f32) (h7 : a7.IsWhole)
    (x1 : Vec F S1x64x64 .f32) (x2 : Vec F S1x64x64 .i32) (x3 : Vec F S1x1x64 .i32) (x4 : Vec F S1x64x64 .i32)
    (hflag : ¬ w3156 x1 x2 x3 = 1#1) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ (∃ d, owns (c : Thread nD τ) a5 fullShare d)
        ∗ (∃ d, owns (c : Thread nD τ) a6 fullShare d) ∗ (∃ d, owns (c : Thread nD τ) a7 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare (left4 i x2 x3)
            ∗ owns (c : Thread nD τ) a6 fullShare (left5 x2 x3) ∗ owns (c : Thread nD τ) a7 fullShare (left6 x1 x2 x3)) -∗ K ⟨⟩))
      ⊢ wp frame (wpE (defs₀ (F := F)) Variants.none c none) E (cc0__slots_body i a1 h1 a2 h2 a3 h3 a4 h4 a5 h5 a6 h6 a7 h7) K := by
  simp only [cc0__slots_body_eq_skeleton]; unfold cc0__slots_body_skel
  simp only [k0_part114_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [dif_neg]
    · refine (View.read_writes_eq_canon _ _ _ (covered _)).trans ?_
      rfl
    · exact hflag
  isplitl [H6]
  · iexists _; isplitr
    swap; · iexact H6
    ipureintro
    rw [dif_neg]
    · refine (View.read_writes_eq_canon _ _ _ (covered _)).trans ?_
      rfl
    · exact hflag
  iexists _; isplitr
  swap; · iexact H7
  ipureintro
  refine (View.read_writes_eq_canon _ _ _ (covered _)).trans ?_
  rfl

end Cert.Proof.Walk

end
-- ==== Proof.WalkRun.lean ====
/-
  The slot walk's run, from arrays where no step's flag is set: every step leaves the plain walk's blocks, and the machine
  comes to rest with the arguments as they were.
-/
module

public import proofs.«01_k».proof.Proof.WalkBody
public import Idealize.ShloMosaic.Lib.Claim

@[expose] public section

set_option maxRecDepth 16384

noncomputable section

namespace Cert.Proof.Walk

open Cert.SlotsIdeal Cert.SlotsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No step finds a run of equal distances to put in order. -/
def Clear : Prop := ∀ (c : Dev nD) (t : Fin cfg0.N), ¬ w3156 (iblk m c 0 t) (iblk m c 1 t) (iblk m c 2 t) = 1#1

/-- What each window's buffer holds after a step. -/
def walked (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left4 (grid0.coords t) (iblk m c 1 t) (iblk m c 2 t)
    | ⟨5, _⟩ => left5 (iblk m c 1 t) (iblk m c 2 t)
    | ⟨6, _⟩ => left6 (iblk m c 0 t) (iblk m c 1 t) (iblk m c 2 t)
  Φ _ := Pipeline.ΦA spec0 c
  q _ := fullShare
  owed _ := 0

theorem walked_A (c : Dev nD) (w : Fin cfg0.W) : (walked m 0 c).A w = V m c (Pipeline.arrRef spec0 w) := by
  dsimp only [walked]

section Buffers

variable (c : Dev nD) (t : Fin cfg0.N)

theorem in0 : (walked m 0 c).after 0 t = iblk m c 0 t := by dsimp only [walked]

theorem in1 : (walked m 0 c).after 1 t = iblk m c 1 t := by dsimp only [walked]

theorem in2 : (walked m 0 c).after 2 t = iblk m c 2 t := by dsimp only [walked]

theorem in3 : (walked m 0 c).after 3 t = iblk m c 3 t := by dsimp only [walked]

theorem out4 : (walked m 0 c).after 4 t = left4 (grid0.coords t) (iblk m c 1 t) (iblk m c 2 t) := by dsimp only [walked]

theorem out5 : (walked m 0 c).after 5 t = left5 (iblk m c 1 t) (iblk m c 2 t) := by dsimp only [walked]

theorem out6 : (walked m 0 c).after 6 t = left6 (iblk m c 0 t) (iblk m c 1 t) (iblk m c 2 t) := by dsimp only [walked]

theorem found0 (d) : (walked m 0 c).before 0 t d = iblk m c 0 t := before0_0_of m (walked m 0 c) (walked_A m c 0) (in0 m c) t d

theorem found1 (d) : (walked m 0 c).before 1 t d = iblk m c 1 t := before0_1_of m (walked m 0 c) (walked_A m c 1) (in1 m c) t d

theorem found2 (d) : (walked m 0 c).before 2 t d = iblk m c 2 t := before0_2_of m (walked m 0 c) (walked_A m c 2) (in2 m c) t d

theorem found3 (d) : (walked m 0 c).before 3 t d = iblk m c 3 t := before0_3_of m (walked m 0 c) (walked_A m c 3) (in3 m c) t d

/-- A step on the buffers as the pipeline hands them over. -/
theorem step (hm : Clear m) :
    iprop((walked m 0 c).Φ t.castSucc ∗ (walked m 0 c).owesAt () t.castSucc
        ∗ (∃ d, owns (c : Thread nD τ) (st0_0 t) fullShare ((walked m 0 c).before 0 t d))
        ∗ (∃ d, owns (c : Thread nD τ) (st0_1 t) fullShare ((walked m 0 c).before 1 t d))
        ∗ (∃ d, owns (c : Thread nD τ) (st0_2 t) fullShare ((walked m 0 c).before 2 t d))
        ∗ (∃ d, owns (c : Thread nD τ) (st0_3 t) fullShare ((walked m 0 c).before 3 t d))
        ∗ (∃ d, owns (c : Thread nD τ) (st0_4 t) fullShare ((walked m 0 c).before 4 t d))
        ∗ (∃ d, owns (c : Thread nD τ) (st0_5 t) fullShare ((walked m 0 c).before 5 t d))
        ∗ (∃ d, owns (c : Thread nD τ) (st0_6 t) fullShare ((walked m 0 c).before 6 t d)))
      ⊢ wp frame (wpE (defs₀ (F := F)) Variants.none c none) Set.univ (bodyAt0 t) (fun _ =>
        iprop((walked m 0 c).Φ t.succ ∗ (walked m 0 c).owesAt () t.succ
          ∗ owns (c : Thread nD τ) (st0_0 t) fullShare ((walked m 0 c).after 0 t)
          ∗ owns (c : Thread nD τ) (st0_1 t) fullShare ((walked m 0 c).after 1 t)
          ∗ owns (c : Thread nD τ) (st0_2 t) fullShare ((walked m 0 c).after 2 t)
          ∗ owns (c : Thread nD τ) (st0_3 t) fullShare ((walked m 0 c).after 3 t)
          ∗ owns (c : Thread nD τ) (st0_4 t) fullShare ((walked m 0 c).after 4 t)
          ∗ owns (c : Thread nD τ) (st0_5 t) fullShare ((walked m 0 c).after 5 t)
          ∗ owns (c : Thread nD τ) (st0_6 t) fullShare ((walked m 0 c).after 6 t))) := by
  unfold bodyAt0
  simp only [found0, found1, found2, found3]
  rw [show (walked m 0 c).Φ t.succ = (walked m 0 c).Φ t.castSucc from rfl,
    show (walked m 0 c).owesAt () t.succ = (walked m 0 c).owesAt () t.castSucc from rfl,
    in0, in1, in2, in3, out4, out5, out6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c Set.univ _ _ _ _ _ _ _ _ _ _ _ _ _ _ _ (iblk m c 0 t) (iblk m c 1 t) (iblk m c 2 t) (iblk m c 3 t) (hm c t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row : defs₀ (F := F) .tc cfg0.body (cfg0.bodyArgs t (cfg0.slots t)) = bodyAt0 t := by
  unfold defs₀; rw [Defs.onTc_tc]

end Buffers

theorem steps (hm : Clear m) (c : Dev nD) : BodyObligation (walked (F := F) m 0 c) (defs₀ (F := F)) Variants.none () Set.univ := fun t => by
  rw [bigSep_W0, bigSep_W0, row]
  exact triple_restated (step m c t hm) rfl .rfl fun _ => .rfl

set_option backward.isDefEq.respectTransparency.types false in
set_option maxHeartbeats 800000 in
/-- The run, and every counter at zero at its end. -/
theorem rests (hm : Clear m) :
    θ_run defs (onTc (τ := τ) (main (F := F))) (s₀ m ρ) (fun r => (Pipeline.FramePost cfgs (walked m) 0 (V m)) r ∧ r.2.sem = fun _ => 0) :=
  Pipeline.θ_run_frame (Q' := _) cfgs (walked m) (0 : Fin 1) launch0 defs₀ Variants.none m ρ main
    (hbody := fun c => (steps m hm c).loose) (hshare := fun c => (walked m 0 c).share_full fun _ => rfl)
    (howed := fun _ _ => rfl) (V := V m) (hmain := hmain m Variants.none) (hA := walked_A m) (hΦ := fun _ _ => rfl)

theorem runs (hm : Clear m) : θ_run defs (onTc (τ := τ) (main (F := F))) (s₀ m ρ) (Pipeline.FramePost cfgs (walked m) 0 (V m)) :=
  (θ_run defs _ _).mono (fun _ h => h.1) (rests m ρ hm)

/-- The arguments are as they were, and every counter is zero. -/
theorem frames (hm : Clear m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (walked m) (walked_A m) (runs m ρ hm)) ((θ_run defs _ _).mono (fun _ h => h.2) (rests m ρ hm))

end Cert.Proof.Walk

end
-- ==== Proof.WalkSum.lean ====
/-
  The slot walk of one query, as sums over its 64 cells, and the two ways of reaching such a sum a step at a time: choosing
  among 64 values by a number, and adding up a row by doubling.
-/
module

public import Mathlib.Data.BitVec
public import Mathlib.Algebra.BigOperators.Fin
public import Mathlib.Algebra.BigOperators.Intervals
public import Idealize.ShloMosaic.Lib.Pointwise

@[expose] public section

namespace Cert.Proof.Walk

/-! ## The walk of one query -/

section Spec

variable (cell : Fin 64 → BitVec 32) (counts : Fin 64 → BitVec 32)

/-- How many voxels the `r`-th cell of the query holds. -/
def count (r : Fin 64) : BitVec 32 := ∑ k : Fin 64, if cell r = BitVec.ofNat 32 k.val then counts k else 0#32

/-- How many the first cells up to the `r`-th hold together. -/
def stop (r : Fin 64) : BitVec 32 := ∑ k : Fin 64, if k ≤ r then count cell counts k else 0#32

/-- How many of the query's cells are used up before slot `t`. -/
def passed (t : Fin 64) : BitVec 32 := ∑ r : Fin 64, if (stop cell counts r).sle (BitVec.ofNat 32 t.val) then 1#32 else 0#32

/-- Which of them slot `t` takes from: the next, the last when none is left. -/
def turn (t : Fin 64) : BitVec 32 := if (passed cell counts t).slt 63#32 then passed cell counts t else 63#32

/-- Its cell. -/
def slotCell (t : Fin 64) : BitVec 32 := ∑ r : Fin 64, if turn cell counts t = BitVec.ofNat 32 r.val then cell r else 0#32

/-- The first slot that takes from it. -/
def start (t : Fin 64) : BitVec 32 :=
  ∑ r : Fin 64, if turn cell counts t = BitVec.ofNat 32 r.val then stop cell counts r - count cell counts r else 0#32

theorem sum_bits (p : Fin 64 → Bool) : ∃ n : ℕ, n ≤ 64 ∧ (∑ r : Fin 64, if p r then 1#32 else 0#32) = BitVec.ofNat 32 n := by
  have key : ∀ s : Finset (Fin 64), (∑ r ∈ s, if p r then 1#32 else 0#32) = BitVec.ofNat 32 (s.filter fun r => p r = true).card := by
    intro s
    induction s using Finset.induction_on with
    | empty => rfl
    | insert a s ha ih =>
      rw [Finset.sum_insert ha, Finset.filter_insert, ih]
      by_cases h : p a = true
      · rw [if_pos h, if_pos h, Finset.card_insert_of_notMem (fun hm => ha (Finset.mem_filter.mp hm).1), Nat.add_comm, BitVec.ofNat_add]
      · rw [if_neg h, if_neg h]
        exact BitVec.zero_add _
  refine ⟨_, ?_, key Finset.univ⟩
  exact (Finset.card_le_univ _).trans (le_of_eq (Fintype.card_fin 64))

/-- The cell a slot takes from is one of the 64. -/
theorem turn_lt (t : Fin 64) : ∃ r : Fin 64, turn cell counts t = BitVec.ofNat 32 r.val := by
  obtain ⟨n, hn, e⟩ := sum_bits fun r => (stop cell counts r).sle (BitVec.ofNat 32 t.val)
  unfold turn
  rw [show passed cell counts t = BitVec.ofNat 32 n from e]
  by_cases h : n < 63
  · refine ⟨⟨n, by omega⟩, if_pos ?_⟩
    have h2 : ∀ k : Fin 63, (BitVec.ofNat 32 k.val).slt 63#32 = true := by decide
    exact h2 ⟨n, h⟩
  · refine ⟨63, if_neg ?_⟩
    have h2 : ∀ k : Fin 2, ¬ (BitVec.ofNat 32 (63 + k.val)).slt 63#32 = true := by decide
    have h3 := h2 ⟨n - 63, by omega⟩
    rwa [show 63 + (n - 63) = n by omega] at h3

end Spec

/-! ## Choosing by a number -/

theorem ofNat_inj {a b : ℕ} (ha : a < 4294967296) (hb : b < 4294967296) (h : BitVec.ofNat 32 a = BitVec.ofNat 32 b) : a = b := by
  have h := congrArg BitVec.toNat h
  rw [BitVec.toNat_ofNat, BitVec.toNat_ofNat] at h
  omega

/-- A value replaced at each number it is to be chosen at, from zero on: the sum of those chosen. -/
theorem chosen (w : BitVec 32) (f x : ℕ → BitVec 32) (h0 : x 0 = 0#32)
    (hx : ∀ n, n < 64 → x (n + 1) = if w = BitVec.ofNat 32 n then f n else x n) :
    x 64 = ∑ r : Fin 64, if w = BitVec.ofNat 32 r.val then f r.val else 0#32 := by
  have key : ∀ n, n ≤ 64 → x n = ∑ r ∈ Finset.range n, if w = BitVec.ofNat 32 r then f r else 0#32 := by
    intro n
    induction n with
    | zero => intro _; exact h0
    | succ n ih =>
      intro hn
      rw [hx n hn, Finset.sum_range_succ, ← ih (by omega)]
      by_cases h : w = BitVec.ofNat 32 n
      · rw [if_pos h, if_pos h, ih (by omega), Finset.sum_eq_zero, zero_add]
        intro r hr
        have hr := Finset.mem_range.mp hr
        exact if_neg fun e => absurd (ofNat_inj (by omega) (by omega) (e.symm.trans h)) (by omega)
      · rw [if_neg h, if_neg h]
        exact (BitVec.add_zero _).symm
  exact (key 64 (Nat.le_refl 64)).trans (Finset.sum_range fun r => if w = BitVec.ofNat 32 r then f r else 0#32)

/-- A sum reached one summand at a time. -/
theorem summed (f x : ℕ → BitVec 32) (h0 : x 0 = 0#32) (hx : ∀ n, n < 64 → x (n + 1) = x n + f n) : x 64 = ∑ r : Fin 64, f r.val := by
  have key : ∀ n, n ≤ 64 → x n = ∑ r ∈ Finset.range n, f r := by
    intro n
    induction n with
    | zero => intro _; exact h0
    | succ n ih =>
      intro hn
      rw [hx n hn, Finset.sum_range_succ, ← ih (by omega)]
  exact (key 64 (Nat.le_refl 64)).trans (Finset.sum_range f)

/-! ## Adding up by doubling -/

/-- The last `n` values up to the `j`-th, together. -/
def window (f : ℕ → BitVec 32) (n j : ℕ) : BitVec 32 := ∑ i ∈ Finset.range n, if i ≤ j then f (j - i) else 0#32

theorem window_one (f : ℕ → BitVec 32) (j : ℕ) : window f 1 j = f j := by
  unfold window
  rw [Finset.sum_range_one, if_pos (Nat.zero_le j), Nat.sub_zero]

theorem window_double (f : ℕ → BitVec 32) (n j : ℕ) :
    window f n j + (if j < n then 0#32 else window f n (j - n)) = window f (n + n) j := by
  unfold window
  rw [Finset.sum_range_add]
  refine congrArg _ ?_
  by_cases h : j < n
  · rw [if_pos h, Finset.sum_eq_zero]
    · rfl
    · intro i _
      exact if_neg (by omega)
  · rw [if_neg h]
    refine Finset.sum_congr rfl fun i _ => ?_
    by_cases h2 : i ≤ j - n
    · rw [if_pos h2, if_pos (by omega), show j - n - i = j - (n + i) by omega]
    · rw [if_neg h2, if_neg (by omega)]

theorem window_all (f : ℕ → BitVec 32) (j : Fin 64) : window f 64 j.val = ∑ r : Fin 64, if r ≤ j then f r.val else 0#32 := by
  have cut : ∀ g : ℕ → BitVec 32, (∑ i ∈ Finset.range 64, if i ≤ j.val then g i else 0#32) = ∑ i ∈ Finset.range (j.val + 1), g i := by
    intro g
    obtain ⟨j, hj⟩ := j
    show (∑ i ∈ Finset.range 64, if i ≤ j then g i else 0#32) = ∑ i ∈ Finset.range (j + 1), g i
    rw [show (64 : ℕ) = (j + 1) + (63 - j) by omega, Finset.sum_range_add]
    have z : (∑ x ∈ Finset.range (63 - j), if j + 1 + x ≤ j then g (j + 1 + x) else 0#32) = 0 :=
      Finset.sum_eq_zero fun x _ => if_neg (by omega)
    rw [z, add_zero]
    exact Finset.sum_congr rfl fun x hx => if_pos (by have := Finset.mem_range.mp hx; omega)
  unfold window
  rw [cut fun i => f (j.val - i)]
  have e : (∑ i ∈ Finset.range (j.val + 1), f (j.val - i)) = ∑ i ∈ Finset.range (j.val + 1), f i := by
    rw [← Finset.sum_range_reflect f (j.val + 1)]
    rfl
  rw [e, ← cut f, Finset.sum_range]
  rfl

end Cert.Proof.Walk

end
-- ==== Proof.WalkK.lean ====
/-
  The slot walk's values as steps over the 64 cells, and as the sums of the walk of one query.
-/
module

public import proofs.«01_k».proof.Proof.WalkDefs
public import proofs.«01_k».proof.Proof.WalkSum
public import Idealize.ShloMosaic.Lib.Pointwise
public import Idealize.ShloMosaic.Lib.Affine
public import Idealize.ShloMosaic.Lib.Pipeline.ValueKit

@[expose] public section

set_option maxRecDepth 65536

noncomputable section

namespace Cert.Proof.Walk

open Cert.SlotsIdeal Cert.SlotsIdeal.Gen Idealize.ShloMosaic

variable {F : FTy → Type} [FloatOps F]

/-- A word for each of the 64 queries and 64 columns, and for each query. -/
abbrev Num := IVec S64x64 32

abbrev Col := IVec S64x1 32

theorem slices (k : Fin 64) : S64x64.Slices ![0, k.val] S64x1 := by
  revert k; decide

/-- Column `k`, and the same at every column. -/
def col {α : Type} (d : S64x64.Idx → α) (k : Fin 64) : S64x1.Idx → α := extractStridedSlice S64x1 ![0, k.val] d (slices k)

def wide {α : Type} (d : S64x64.Idx → α) (k : Fin 64) : S64x64.Idx → α := broadcastTo S64x64 (col d k) broadcasts_S64x1_S64x64

def wide' {α : Type} (d : S64x64.Idx → α) (k : Fin 64) : S64x64.Idx → α :=
  broadcastTo S64x64 (shapeCast S64x1 (col d k) shapeCasts_S64x1_S64x1) broadcasts_S64x1_S64x64

theorem inb (k : Fin 64) : ∀ a, (![0, 0, k.val] : Fin 3 → Nat) a + S1x1x1.size a ≤ S1x1x64.size a := by
  revert k; decide

/-- The count of cell `k`. -/
def held (x3 : Vec F S1x1x64 .i32) (k : Fin 64) : BitVec 32 :=
  extractAt ![0, 0, 0] (View.ld x3 (Rect.unit ![0, 0, k.val] S1x1x1.size (inb k))) inpos_S1x1x1_p0_0_0

def counting (cell : Num) (x3 : Vec F S1x1x64 .i32) : (n : ℕ) → n ≤ 64 → Num
  | 0, _ => broadcast S64x64 0#32
  | n + 1, h => select (cmpi .eq cell (broadcast S64x64 (BitVec.ofNat 32 n))) (broadcast S64x64 (held x3 ⟨n, h⟩)) (counting cell x3 n (Nat.le_of_succ_le h))

/-- A row added to itself `a` columns on. -/
def moved (a b : ℕ) (v : Num) (hs : S64x64.Slices ![0, 0] ⟨2, ![64, b]⟩) (hc : Shape.Concatenates [⟨2, ![64, a]⟩, ⟨2, ![64, b]⟩] S64x64 1) : Num :=
  addi v (concatenate S64x64 1 [⟨⟨2, ![64, a]⟩, broadcast ⟨2, ![64, a]⟩ 0#32⟩, ⟨⟨2, ![64, b]⟩, extractStridedSlice ⟨2, ![64, b]⟩ ![0, 0] v hs⟩] hc)

def summing (v : Num) : Num :=
  let v1 := moved 1 63 v slices_S64x64_o0_0_S64x63 concatenates_S64x1_S64x63_S64x64_d1
  let v2 := moved 2 62 v1 slices_S64x64_o0_0_S64x62 concatenates_S64x2_S64x62_S64x64_d1
  let v3 := moved 4 60 v2 slices_S64x64_o0_0_S64x60 concatenates_S64x4_S64x60_S64x64_d1
  let v4 := moved 8 56 v3 slices_S64x64_o0_0_S64x56 concatenates_S64x8_S64x56_S64x64_d1
  let v5 := moved 16 48 v4 slices_S64x64_o0_0_S64x48 concatenates_S64x16_S64x48_S64x64_d1
  moved 32 32 v5 slices_S64x64_o0_0_S64x32 concatenates_S64x32_S64x32_S64x64_d1

def passing (s : Num) : (n : ℕ) → n ≤ 64 → Num
  | 0, _ => broadcast S64x64 0#32
  | n + 1, h => addi (passing s n (Nat.le_of_succ_le h)) (extui 32 (cmpi .sle (wide s ⟨n, h⟩) w406) natLt_1_32)

def choosing {α : Type} (rc : Num) (d : S64x64.Idx → α) (z : α) : (n : ℕ) → n ≤ 64 → (S64x64.Idx → α)
  | 0, _ => broadcast S64x64 z
  | n + 1, h => select (cmpi .eq rc (broadcast S64x64 (BitVec.ofNat 32 n))) (wide' d ⟨n, h⟩) (choosing rc d z n (Nat.le_of_succ_le h))

def choosingCol (rc : Col) (d : Num) : (n : ℕ) → n ≤ 64 → Col
  | 0, _ => broadcast S64x1 0#32
  | n + 1, h => select (cmpi .eq rc (broadcast S64x1 (BitVec.ofNat 32 n))) (col d ⟨n, h⟩) (choosingCol rc d n (Nat.le_of_succ_le h))

def comparing (p : CmpIPredicate) (d : Num) (s : Col) : (n : ℕ) → n ≤ 64 → Col
  | 0, _ => broadcast S64x1 0#32
  | n + 1, h => addi (comparing p d s n (Nat.le_of_succ_le h)) (extui 32 (cmpi p (col d ⟨n, h⟩) s) natLt_1_32)

/-- One where a column differs from the one before, zero in the first. -/
def apart (d : FVec F S64x64 .f32) : Num :=
  concatenate S64x64 1 [⟨S64x1, broadcast S64x1 0#32⟩, ⟨S64x63, extui 32 (cmpf .one (extractStridedSlice S64x63 ![0, 1] d slices_S64x64_o0_1_S64x63)
    (extractStridedSlice S64x63 ![0, 0] d slices_S64x64_o0_0_S64x63)) natLt_1_32⟩] concatenates_S64x1_S64x63_S64x64_d1

section Steps

variable (i : grid0.Coords) (x1 : Vec F S1x64x64 .f32) (x2 : Vec F S1x64x64 .i32) (x3 : Vec F S1x1x64 .i32)

theorem counting_eq : w405 x2 x3 = counting (w20 x2) x3 64 (Nat.le_refl 64) := rfl

theorem summing_eq : w430 x2 x3 = summing (w405 x2 x3) := rfl

theorem before_eq : w431 x2 x3 = subi (w430 x2 x3) (w405 x2 x3) := rfl

theorem passing_eq : w752 x2 x3 = passing (w430 x2 x3) 64 (Nat.le_refl 64) := by
  unfold w752 w741 w737 w681 w677 w621 w617 w561 w557 w501 w497
  rw [show w437 x2 x3 = passing (w430 x2 x3) 1 (by decide) from rfl,
    show w441 x2 x3 = extui 32 (cmpi .sle (wide (w430 x2 x3) 1) w406) natLt_1_32 from rfl]
  generalize w430 x2 x3 = s
  rfl

theorem turning_eq : w754 x2 x3 = minsi (w752 x2 x3) (broadcast S64x64 63#32) := rfl

theorem cells_eq : w1392 x2 x3 = choosing (w754 x2 x3) (w20 x2) 0#32 64 (Nat.le_refl 64) := by
  unfold w1392 w1339 w1338 w1332 w1282 w1230 w1228 w1222 w1172 w1121 w1118 w1112 w1062 w1012 w957 w952 w902 w848 w842
  rw [show w792 x2 x3 = choosing (w754 x2 x3) (w20 x2) 0#32 4 (by decide) from rfl]
  generalize w754 x2 x3 = rc
  generalize w20 x2 = d
  rfl

theorem places_eq : w1401 x2 x3 = minsi (broadcast S64x64 63#32) (maxsi (broadcast S64x64 0#32) (subi w406 (choosing (w754 x2 x3) (w431 x2 x3) 0#32 64 (Nat.le_refl 64)))) := by
  unfold w1401 w1394 w1388 w1386 w1338 w1336 w1285 w1278 w1276 w1228 w1226 w1176 w1118 w1116 w1066 w1008 w1006 w957 w956 w903 w898 w896 w848 w846 w794
  rw [show w786 x2 x3 = choosing (w754 x2 x3) (w431 x2 x3) 0#32 3 (by decide) from rfl,
    show w788 x2 x3 = cmpi .eq (w754 x2 x3) (broadcast S64x64 3#32) from rfl]
  generalize w754 x2 x3 = rc
  generalize w431 x2 x3 = d
  rfl

theorem dists_eq : w1786 x1 x2 x3 = choosing (w754 x2 x3) (w18 x1) (Scalar.ofBits .f32 0x00000000#32) 64 (Nat.le_refl 64) := by
  unfold w1786 w1752 w1750 w1701 w1698 w1696 w1649 w1648 w1598 w1596 w1594 w1546 w1495 w1494 w1492 w1444
  generalize w754 x2 x3 = rc
  generalize w18 x1 = d
  rfl

theorem valid_eq : w1791 x1 x2 x3 = andi (cmpi .slt (w752 x2 x3) (broadcast S64x64 64#32)) (cmpf .ole (w1786 x1 x2 x3) (broadcast S64x64 (Scalar.ofBits .f32 0x3FC00000#32))) := rfl

theorem runs_eq : w1838 x1 = summing (apart (w18 x1)) := rfl

theorem run_eq : w2102 x1 x2 x3 = choosingCol (w1841 x2 x3) (w1838 x1) 64 (Nat.le_refl 64) := by
  unfold w2102 w2079 w2078 w2031 w2030 w1983 w1982 w1935 w1934 w1887 w1886 w1842
  generalize w1841 x2 x3 = rc
  generalize w1838 x1 = d
  rfl

theorem low_eq : w2610 x1 x2 x3 = comparing .slt (w1838 x1) (w2102 x1 x2 x3) 64 (Nat.le_refl 64) := by
  unfold w2610 w2554 w2490 w2434 w2370 w2314 w2250 w2194 w2130
  rw [show k0_pay392 (w1838 x1) (w1841 x2 x3) w1843 (w2078 x1 x2 x3) w2079 = comparing .slt (w1838 x1) (w2102 x1 x2 x3) 4 (by decide) from rfl]
  generalize w2102 x1 x2 x3 = s
  generalize w1838 x1 = d
  rfl

theorem high_eq : w2614 x1 x2 x3 = comparing .sle (w1838 x1) (w2102 x1 x2 x3) 64 (Nat.le_refl 64) := by
  unfold w2614 w2550 w2494 w2430 w2374 w2310 w2254 w2190 w2134
  rw [show k0_pay393 (w1838 x1) (w1841 x2 x3) w1844 (w2078 x1 x2 x3) w2079 = comparing .sle (w1838 x1) (w2102 x1 x2 x3) 4 (by decide) from rfl]
  generalize w2102 x1 x2 x3 = s
  generalize w1838 x1 = d
  rfl

end Steps

end Cert.Proof.Walk

end
-- ==== Proof.WalkV.lean ====
/-
  The slot walk's values at a slot of a query: the three blocks of a step are the walk's sums, and where no two neighbouring
  distances are equal the step's flag is not set.
-/
module

public import proofs.«01_k».proof.Proof.WalkK
public import proofs.«01_k».proof.Proof.WalkBody

@[expose] public section

set_option maxRecDepth 16384

noncomputable section

namespace Cert.Proof.Walk

open Cert.SlotsIdeal Cert.SlotsIdeal.Gen Idealize.ShloMosaic

variable {F : FTy → Type} [FloatOps F]

/-! ## Words -/

theorem select_eq {α : Type} (a b : BitVec 32) (x y : α) : Scalar.select (IntOp.cmpi .eq a b) x y = if a = b then x else y := by
  show (if BitVec.ofBool (a == b) = 1#1 then x else y) = _
  by_cases h : a = b
  · subst h; simp
  · rw [if_neg h, beq_eq_false_iff_ne.mpr h]
    exact if_neg (by decide)

theorem bit_word (p : Bool) : (BitVec.ofBool p).setWidth 32 = if p then 1#32 else 0#32 := by
  cases p <;> decide

section Steps

variable (q t r : Fin 64)

theorem col_apply {α : Type} (d : S64x64.Idx → α) (k : Fin 64) : col d k (ix2 q 0) = d (ix2 q k) := by
  unfold col
  pointwise

theorem wide_apply {α : Type} (d : S64x64.Idx → α) (k : Fin 64) : wide d k (ix2 q t) = d (ix2 q k) := by
  unfold wide col
  pointwise

theorem wide'_apply {α : Type} (d : S64x64.Idx → α) (k : Fin 64) : wide' d k (ix2 q t) = d (ix2 q k) := by
  unfold wide' col
  pointwise

/-- A sequence of 65 arrays read at one place. -/
def along {α : Type} (z : α) (x : (n : ℕ) → n ≤ 64 → α) (n : ℕ) : α := if h : n ≤ 64 then x n h else z

theorem along_at {α : Type} (z : α) (x : (n : ℕ) → n ≤ 64 → α) (n : ℕ) (h : n ≤ 64) : along z x n = x n h := dif_pos h

/-- 64 words as a sequence. -/
def word (f : Fin 64 → BitVec 32) (n : ℕ) : BitVec 32 := if h : n < 64 then f ⟨n, h⟩ else 0#32

theorem word_at (f : Fin 64 → BitVec 32) (r : Fin 64) : word f r.val = f r := dif_pos r.isLt

theorem counting_apply (cell : Num) (x3 : Vec F S1x1x64 .i32) :
    counting cell x3 64 (Nat.le_refl 64) (ix2 q r) = ∑ k : Fin 64, if cell (ix2 q r) = BitVec.ofNat 32 k.val then held x3 k else 0#32 := by
  have e := chosen (cell (ix2 q r)) (word (held x3)) (along 0#32 fun n h => counting cell x3 n h (ix2 q r)) rfl (fun n hn => ?_)
  · rw [along_at _ _ 64 (Nat.le_refl 64)] at e
    refine e.trans (Finset.sum_congr rfl fun k _ => ?_)
    rw [word_at]
  · rw [along_at _ _ (n + 1) hn, along_at _ _ n (Nat.le_of_succ_le hn)]
    refine (select_eq _ _ _ _).trans ?_
    rw [show word (held x3) n = held x3 ⟨n, hn⟩ from dif_pos hn]
    rfl

theorem choosing_apply (rc : Num) (d : Num) :
    choosing rc d 0#32 64 (Nat.le_refl 64) (ix2 q t) = ∑ k : Fin 64, if rc (ix2 q t) = BitVec.ofNat 32 k.val then d (ix2 q k) else 0#32 := by
  have e := chosen (rc (ix2 q t)) (word fun k => d (ix2 q k)) (along 0#32 fun n h => choosing rc d 0#32 n h (ix2 q t)) rfl (fun n hn => ?_)
  · rw [along_at _ _ 64 (Nat.le_refl 64)] at e
    refine e.trans (Finset.sum_congr rfl fun k _ => ?_)
    rw [word_at]
  · rw [along_at _ _ (n + 1) hn, along_at _ _ n (Nat.le_of_succ_le hn)]
    refine (select_eq _ _ _ _).trans ?_
    rw [show word (fun k => d (ix2 q k)) n = d (ix2 q ⟨n, hn⟩) from dif_pos hn, wide'_apply]
    rfl

theorem choosing_at {α : Type} (rc : Num) (d : S64x64.Idx → α) (z : α) (ρ : Fin 64) (hρ : rc (ix2 q t) = BitVec.ofNat 32 ρ.val) :
    ∀ (n : ℕ) (h : n ≤ 64), ρ.val < n → choosing rc d z n h (ix2 q t) = d (ix2 q ρ)
  | 0, _, g => absurd g (Nat.not_lt_zero _)
  | n + 1, h, g => by
    refine (select_eq (rc (ix2 q t)) (BitVec.ofNat 32 n) _ _).trans ?_
    rw [hρ]
    by_cases e : ρ.val = n
    · rw [if_pos (congrArg _ e), wide'_apply]
      exact congrArg (fun k => d (ix2 q k)) (Fin.ext e.symm)
    · rw [if_neg fun e' => e (ofNat_inj (by omega) (by omega) e')]
      exact choosing_at rc d z ρ hρ n _ (by omega)

theorem choosingCol_at (rc : Col) (d : Num) (ρ : Fin 64) (hρ : rc (ix2 q 0) = BitVec.ofNat 32 ρ.val) :
    ∀ (n : ℕ) (h : n ≤ 64), ρ.val < n → choosingCol rc d n h (ix2 q 0) = d (ix2 q ρ)
  | 0, _, g => absurd g (Nat.not_lt_zero _)
  | n + 1, h, g => by
    refine (select_eq (rc (ix2 q 0)) (BitVec.ofNat 32 n) _ _).trans ?_
    rw [hρ]
    by_cases e : ρ.val = n
    · rw [if_pos (congrArg _ e), col_apply]
      exact congrArg (fun k => d (ix2 q k)) (Fin.ext e.symm)
    · rw [if_neg fun e' => e (ofNat_inj (by omega) (by omega) e')]
      exact choosingCol_at rc d ρ hρ n _ (by omega)

theorem passing_apply (s : Num) :
    passing s 64 (Nat.le_refl 64) (ix2 q t) = ∑ k : Fin 64, if (s (ix2 q k)).sle (BitVec.ofNat 32 t.val) then 1#32 else 0#32 := by
  have e := summed (word fun k => if (s (ix2 q k)).sle (BitVec.ofNat 32 t.val) then 1#32 else 0#32) (along 0#32 fun n h => passing s n h (ix2 q t)) rfl (fun n hn => ?_)
  · rw [along_at _ _ 64 (Nat.le_refl 64)] at e
    refine e.trans (Finset.sum_congr rfl fun k _ => ?_)
    rw [word_at]
  · rw [along_at _ _ (n + 1) hn, along_at _ _ n (Nat.le_of_succ_le hn)]
    refine congrArg (passing s n (Nat.le_of_succ_le hn) (ix2 q t) + ·) ?_
    rw [show word (fun k => if (s (ix2 q k)).sle (BitVec.ofNat 32 t.val) then 1#32 else 0#32) n
      = if (s (ix2 q ⟨n, hn⟩)).sle (BitVec.ofNat 32 t.val) then 1#32 else 0#32 from dif_pos hn, ← bit_word]
    unfold w406
    pointwise [wide_apply]
    rfl

theorem comparing_apply (p : CmpIPredicate) (d : Num) (s : Col) :
    comparing p d s 64 (Nat.le_refl 64) (ix2 q 0) = ∑ k : Fin 64, (IntOp.cmpi p (d (ix2 q k)) (s (ix2 q 0))).setWidth 32 := by
  have e := summed (word fun k => (IntOp.cmpi p (d (ix2 q k)) (s (ix2 q 0))).setWidth 32) (along 0#32 fun n h => comparing p d s n h (ix2 q 0)) rfl (fun n hn => ?_)
  · rw [along_at _ _ 64 (Nat.le_refl 64)] at e
    refine e.trans (Finset.sum_congr rfl fun k _ => ?_)
    rw [word_at]
  · rw [along_at _ _ (n + 1) hn, along_at _ _ n (Nat.le_of_succ_le hn)]
    refine congrArg (comparing p d s n (Nat.le_of_succ_le hn) (ix2 q 0) + ·) ?_
    rw [show word (fun k => (IntOp.cmpi p (d (ix2 q k)) (s (ix2 q 0))).setWidth 32) n
      = (IntOp.cmpi p (d (ix2 q ⟨n, hn⟩)) (s (ix2 q 0))).setWidth 32 from dif_pos hn]
    pointwise [col_apply]

theorem moved_apply {a b : ℕ} (hab : a + b = 64) (v : Num) (hs : S64x64.Slices ![0, 0] ⟨2, ![64, b]⟩)
    (hc : Shape.Concatenates [⟨2, ![64, a]⟩, ⟨2, ![64, b]⟩] S64x64 1) (f : ℕ → BitVec 32) (hv : ∀ j : Fin 64, v (ix2 q j) = window f a j.val) (j : Fin 64) :
    moved a b v hs hc (ix2 q j) = window f (a + a) j.val := by
  rw [← window_double]
  unfold moved
  show v (ix2 q j) + concatenate S64x64 1 [⟨⟨2, ![64, a]⟩, broadcast ⟨2, ![64, a]⟩ 0#32⟩, ⟨⟨2, ![64, b]⟩, extractStridedSlice ⟨2, ![64, b]⟩ ![0, 0] v hs⟩] hc (ix2 q j) = _
  rw [hv]
  refine congrArg (window f a j.val + ·) ?_
  by_cases h : j.val < a
  · rw [if_pos h]
    exact concatenate_pair_apply_left 1 _ _ hc (ix2 q j) rfl (ix2 q ⟨j.val, h⟩) (fun x => match x with | ⟨0, _⟩ => rfl | ⟨1, _⟩ => rfl)
  · rw [if_neg h]
    refine (concatenate_pair_apply_right 1 _ _ hc (ix2 q j) rfl rfl (ix2 q ⟨j.val - a, by omega⟩)
      (fun x => match x with | ⟨0, _⟩ => fun _ => rfl | ⟨1, _⟩ => fun g => absurd rfl g) (by show j.val - a + a = j.val; omega)).trans ?_
    refine Eq.trans ?_ (hv ⟨j.val - a, by omega⟩)
    refine congrArg v ?_
    funext x
    match x with
    | ⟨0, _⟩ => exact Fin.ext (by simp)
    | ⟨1, _⟩ => exact Fin.ext (by simp)

theorem summing_apply (v : Num) : summing v (ix2 q t) = ∑ r : Fin 64, if r ≤ t then v (ix2 q r) else 0#32 := by
  have h0 : ∀ j : Fin 64, v (ix2 q j) = window (word fun k => v (ix2 q k)) 1 j.val := fun j => by
    rw [window_one, word_at]
  have h1 := moved_apply q (a := 1) (b := 63) rfl v slices_S64x64_o0_0_S64x63 concatenates_S64x1_S64x63_S64x64_d1 _ h0
  have h2 := moved_apply q (a := 2) (b := 62) rfl _ slices_S64x64_o0_0_S64x62 concatenates_S64x2_S64x62_S64x64_d1 _ h1
  have h3 := moved_apply q (a := 4) (b := 60) rfl _ slices_S64x64_o0_0_S64x60 concatenates_S64x4_S64x60_S64x64_d1 _ h2
  have h4 := moved_apply q (a := 8) (b := 56) rfl _ slices_S64x64_o0_0_S64x56 concatenates_S64x8_S64x56_S64x64_d1 _ h3
  have h5 := moved_apply q (a := 16) (b := 48) rfl _ slices_S64x64_o0_0_S64x48 concatenates_S64x16_S64x48_S64x64_d1 _ h4
  have h6 := moved_apply q (a := 32) (b := 32) rfl _ slices_S64x64_o0_0_S64x32 concatenates_S64x32_S64x32_S64x64_d1 _ h5
  refine (h6 t).trans ((window_all _ t).trans (Finset.sum_congr rfl fun r _ => ?_))
  rw [word_at]

end Steps

/-! ## A step's values -/

section Values

variable (i : grid0.Coords) (x1 : Vec F S1x64x64 .f32) (x2 : Vec F S1x64x64 .i32) (x3 : Vec F S1x1x64 .i32) (q t r : Fin 64)

/-- The query's cells. -/
abbrev cells : Fin 64 → BitVec 32 := fun r => x2 (ix3 0 q r)

abbrev heldBy : Fin 64 → BitVec 32 := fun k => x3 (ix3 0 0 k)

theorem ld_whole {α : EltTy} (x : Vec F S1x64x64 α) : View.ld x whole = x := View.ld_unit_lit _ x (fun a => by fin_cases a <;> rfl)

theorem w20_apply : w20 x2 (ix2 q r) = x2 (ix3 0 q r) := by
  unfold w20 k0_pay216
  rw [ld_whole]
  pointwise

theorem w18_apply : w18 x1 (ix2 q r) = x1 (ix3 0 q r) := by
  unfold w18 k0_pay215
  rw [ld_whole]
  pointwise

theorem held_apply (k : Fin 64) : held x3 k = x3 (ix3 0 0 k) := by
  unfold held
  pointwise

theorem count_apply : w405 x2 x3 (ix2 q r) = count (cells x2 q) (heldBy x3) r := by
  rw [counting_eq, counting_apply, w20_apply]
  unfold count
  simp only [held_apply]

theorem stop_apply : w430 x2 x3 (ix2 q r) = stop (cells x2 q) (heldBy x3) r := by
  rw [summing_eq, summing_apply]
  unfold stop
  simp only [count_apply]

theorem passed_apply : w752 x2 x3 (ix2 q t) = passed (cells x2 q) (heldBy x3) t := by
  rw [passing_eq, passing_apply]
  unfold passed
  simp only [stop_apply]

theorem turn_apply : w754 x2 x3 (ix2 q t) = turn (cells x2 q) (heldBy x3) t := by
  rw [turning_eq]
  show IntOp.minsi (w752 x2 x3 (ix2 q t)) 63#32 = _
  rw [passed_apply]
  rfl

theorem slotCell_apply : w1392 x2 x3 (ix2 q t) = slotCell (cells x2 q) (heldBy x3) t := by
  rw [cells_eq, choosing_apply, turn_apply]
  unfold slotCell
  simp only [w20_apply]

theorem place_apply : w1401 x2 x3 (ix2 q t)
    = IntOp.minsi 63#32 (IntOp.maxsi 0#32 (BitVec.ofNat 32 t.val - start (cells x2 q) (heldBy x3) t)) := by
  have e : choosing (w754 x2 x3) (w431 x2 x3) 0#32 64 (Nat.le_refl 64) (ix2 q t) = start (cells x2 q) (heldBy x3) t := by
    rw [choosing_apply, turn_apply]
    unfold start
    refine Finset.sum_congr rfl fun k _ => ?_
    rw [← stop_apply, ← count_apply]
    rfl
  rw [places_eq]
  unfold w406
  pointwise [e]
  rfl

theorem batch_word : w16 i = BitVec.ofNat 32 ((i 0).val / 4) := by
  have h : ∀ k : Fin 16, Scalar.select (Scalar.andi (Scalar.cmpi .ne (Scalar.subi (Scalar.extui (Scalar.cmpi .sgt (BitVec.ofNat 32 k.val) 0#32)) (Scalar.extui (Scalar.cmpi .slt (BitVec.ofNat 32 k.val) 0#32))) (Scalar.subi (Scalar.extui (Scalar.cmpi .sgt 4#32 0#32)) (Scalar.extui (Scalar.cmpi .slt 4#32 0#32)))) (Scalar.cmpi .ne (Scalar.remsi (BitVec.ofNat 32 k.val) 4#32) 0#32)) (Scalar.subi (Scalar.divsi (BitVec.ofNat 32 k.val) 4#32) 1#32) (Scalar.divsi (BitVec.ofNat 32 k.val) 4#32)
      = BitVec.ofNat 32 (k.val / 4) := by decide +kernel
  exact h (i 0)

theorem left4_apply : left4 i x2 x3 (ix3 0 q t)
    = (BitVec.ofNat 32 ((i 0).val / 4) * 64#32 + slotCell (cells x2 q) (heldBy x3) t) * 64#32
      + IntOp.minsi 63#32 (IntOp.maxsi 0#32 (BitVec.ofNat 32 t.val - start (cells x2 q) (heldBy x3) t)) := by
  unfold left4 whole
  rw [View.canon_cons_unit_lit _ _ _ (fun a => by fin_cases a <;> rfl)]
  unfold w1800 k0_pay370
  pointwise [slotCell_apply, place_apply, batch_word]
  rfl

theorem left5_apply : left5 x2 x3 (ix3 0 q t) = slotCell (cells x2 q) (heldBy x3) t := by
  unfold left5 whole
  rw [View.canon_cons_unit_lit _ _ _ (fun a => by fin_cases a <;> rfl)]
  unfold k0_pay371
  pointwise [slotCell_apply]

theorem left6_apply (ρ : Fin 64) (h : turn (cells x2 q) (heldBy x3) t = BitVec.ofNat 32 ρ.val) : left6 x1 x2 x3 (ix3 0 q t)
    = FloatOps.sitofp .f32 ((IntOp.andi (IntOp.cmpi .slt (passed (cells x2 q) (heldBy x3) t) 64#32)
      (FloatOps.cmpf .ole (x1 (ix3 0 q ρ)) (Scalar.ofBits .f32 0x3FC00000#32))).setWidth 32) := by
  have e : w1786 x1 x2 x3 (ix2 q t) = x1 (ix3 0 q ρ) := by
    rw [dists_eq, choosing_at q t _ _ _ ρ ((turn_apply x2 x3 q t).trans h) 64 (Nat.le_refl 64) ρ.isLt, w18_apply]
  unfold left6 whole
  rw [View.canon_cons_unit_lit _ _ _ (fun a => by fin_cases a <;> rfl)]
  unfold k0_pay372
  rw [valid_eq]
  pointwise [passed_apply, e]

/-! ## The flag -/

/-- No distance is the one before it. -/
def Apart : Prop := ∀ (q : Fin 64) (k : Fin 63), FloatOps.cmpf .one (x1 (ix3 0 q k.succ)) (x1 (ix3 0 q k.castSucc)) = 1#1

theorem apart_apply (h : Apart x1) : apart (w18 x1) (ix2 q r) = if r = 0 then 0#32 else 1#32 := by
  unfold apart
  by_cases e : r = 0
  · subst e
    rw [if_pos rfl]
    exact concatenate_pair_apply_left (t := S64x64) (s₁ := S64x1) (s₂ := S64x63) 1 _ _ concatenates_S64x1_S64x63_S64x64_d1 (ix2 q 0) rfl (ix2 q 0)
      (fun x => match x with | ⟨0, _⟩ => rfl | ⟨1, _⟩ => rfl)
  · rw [if_neg e]
    have hr : 0 < r.val := Nat.pos_of_ne_zero fun z => e (Fin.ext z)
    refine (concatenate_pair_apply_right (t := S64x64) (s₁ := S64x1) (s₂ := S64x63) 1 _ _ concatenates_S64x1_S64x63_S64x64_d1 (ix2 q r) rfl rfl (ix2 q ⟨r.val - 1, by omega⟩)
      (fun x => match x with | ⟨0, _⟩ => fun _ => rfl | ⟨1, _⟩ => fun g => absurd rfl g) (by show r.val - 1 + 1 = r.val; omega)).trans ?_
    have e1 : extractStridedSlice S64x63 ![0, 1] (w18 x1) slices_S64x64_o0_1_S64x63 (ix2 q ⟨r.val - 1, by omega⟩) = x1 (ix3 0 q (⟨r.val - 1, by omega⟩ : Fin 63).succ) := by
      refine Eq.trans (congrArg (w18 x1) ?_) (w18_apply x1 q _)
      funext x
      match x with
      | ⟨0, _⟩ => exact Fin.ext (by simp)
      | ⟨1, _⟩ => exact Fin.ext (by simp; omega)
    have e2 : extractStridedSlice S64x63 ![0, 0] (w18 x1) slices_S64x64_o0_0_S64x63 (ix2 q ⟨r.val - 1, by omega⟩) = x1 (ix3 0 q (⟨r.val - 1, by omega⟩ : Fin 63).castSucc) := by
      refine Eq.trans (congrArg (w18 x1) ?_) (w18_apply x1 q _)
      funext x
      match x with
      | ⟨0, _⟩ => exact Fin.ext (by simp)
      | ⟨1, _⟩ => exact Fin.ext (by simp)
    show (FloatOps.cmpf .one _ _).setWidth 32 = _
    rw [e1, e2, h]
    rfl

/-- So each stands in a run of its own. -/
theorem runs_apply (h : Apart x1) : w1838 x1 (ix2 q r) = BitVec.ofNat 32 r.val := by
  have e : ∀ r : Fin 64, (∑ k : Fin 64, if k ≤ r then (if k = 0 then 0#32 else 1#32) else 0#32) = BitVec.ofNat 32 r.val := by decide +kernel
  rw [runs_eq, summing_apply, ← e r]
  simp only [apart_apply x1 q _ h]

theorem run_length (ρ : Fin 64) : (∑ k : Fin 64, (IntOp.cmpi .sle (BitVec.ofNat 32 k.val) (BitVec.ofNat 32 ρ.val)).setWidth 32)
    - 1#32 - (∑ k : Fin 64, (IntOp.cmpi .slt (BitVec.ofNat 32 k.val) (BitVec.ofNat 32 ρ.val)).setWidth 32) + 1#32 = 1#32 := by
  revert ρ; decide +kernel

theorem long_apply (h : Apart x1) : w3139 x1 x2 x3 (ix2 q 0) = 0#1 := by
  obtain ⟨ρ, hρ⟩ := turn_lt (cells x2 q) (heldBy x3) 63
  have e1 : w1841 x2 x3 (ix2 q 0) = BitVec.ofNat 32 ρ.val := by
    rw [← hρ, ← turn_apply, turning_eq]
    show k0_pay375 (w752 x2 x3) (ix2 q 0) = _
    unfold k0_pay375 k0_pay374
    pointwise
  have e2 : w2102 x1 x2 x3 (ix2 q 0) = BitVec.ofNat 32 ρ.val := by
    rw [run_eq, choosingCol_at q _ _ ρ e1 64 (Nat.le_refl 64) ρ.isLt, runs_apply x1 q ρ h]
  have e3 : k0_pay442 (w2610 x1 x2 x3) (w2616 x1 x2 x3) (ix2 q 0) = 1#32 := by
    rw [← run_length ρ]
    show w2614 x1 x2 x3 (ix2 q 0) - 1#32 - w2610 x1 x2 x3 (ix2 q 0) + 1#32 = _
    rw [high_eq, low_eq, comparing_apply, comparing_apply, e2]
    simp only [runs_apply x1 q _ h]
  show IntOp.andi (IntOp.cmpi .slt (w1839 x2 x3 (ix2 q 0)) 64#32) (IntOp.cmpi .sge (k0_pay442 (w2610 x1 x2 x3) (w2616 x1 x2 x3) (ix2 q 0)) 2#32) = 0#1
  rw [e3]
  generalize IntOp.cmpi .slt (w1839 x2 x3 (ix2 q 0)) 64#32 = b
  revert b; decide

/-- The largest of words that are all zero is zero, or of no words the least word. -/
theorem zeros_max (u : Shape) {s : Shape} {axes : List (Fin s.rank)} (h : s.Reduces axes u) (hn : 2147483648#32 = IKind.maxsi.neutral) (y : u.Idx) :
    multiReductionI .maxsi axes u (fun _ => 0#32) 2147483648#32 h hn y = 0#32 ∨ multiReductionI .maxsi axes u (fun _ => 0#32) 2147483648#32 h hn y = 2147483648#32 := by
  rw [multiReductionI_eq_fold]
  generalize (Finset.univ.filter fun i => h.drop i = y) = A
  induction A using Finset.induction_on with
  | empty => exact Or.inr rfl
  | insert a A ha ih =>
    rw [Finset.fold_insert ha]
    refine Or.inl ?_
    rcases ih with ih | ih <;> rw [ih] <;> decide

theorem flag_clear (h : Apart x1) : ¬ w3156 x1 x2 x3 = 1#1 := by
  have z : k0_pay1 (w3128 x1 x2 x3) (w3131 x1 x2 x3) (w3134 x1 x2 x3) (w3139 x1 x2 x3) w3140 = fun _ => 0#1 := by
    funext y
    obtain ⟨q, rfl⟩ : ∃ q : Fin 64, y = ix2 q 0 := ⟨y 0, by
      funext a
      match a with
      | ⟨0, _⟩ => rfl
      | ⟨1, _⟩ => exact Fin.ext (Nat.lt_one_iff.mp (y 1).isLt)⟩
    show IntOp.andi (IntOp.andi (IntOp.andi (w3139 x1 x2 x3 (ix2 q 0)) _) _) _ = 0#1
    rw [long_apply x1 x2 x3 q h]
    unfold IntOp.andi
    rw [BitVec.zero_and, BitVec.zero_and, BitVec.zero_and]
  have zz : ∀ y, k0_pay2 (w3128 x1 x2 x3) (w3131 x1 x2 x3) (w3134 x1 x2 x3) (w3139 x1 x2 x3) w3140 y = 0#32
      ∨ k0_pay2 (w3128 x1 x2 x3) (w3131 x1 x2 x3) (w3134 x1 x2 x3) (w3139 x1 x2 x3) w3140 y = 2147483648#32 := by
    intro y
    unfold k0_pay2
    rw [z]
    exact zeros_max S1 reduces_S1x64x1_S1 rfl _
  unfold w3156 w3155 w3154 w3153
  have e := zz (fun a => ⟨![0, 0, 0] a, inpos_S1x1x1_p0_0_0 a⟩)
  generalize k0_pay2 (w3128 x1 x2 x3) (w3131 x1 x2 x3) (w3134 x1 x2 x3) (w3139 x1 x2 x3) w3140 = u at e ⊢
  have e' : extractAt ![0, 0, 0] u inpos_S1x1x1_p0_0_0 = 0#32 ∨ extractAt ![0, 0, 0] u inpos_S1x1x1_p0_0_0 = 2147483648#32 := e
  rcases e' with e' | e' <;> rw [e'] <;> decide

end Values

end Cert.Proof.Walk

end
-- ==== Proof.WalkR.lean ====
/-
  The plain statement of the slot walk, read at a slot of a query: the sums over the query's 64 cells.
-/
module

public import proofs.«01_k».proof.Proof.WalkSum
public import proofs.«01_k».proof.Proof.Gen.SlotsRefIdeal
public import proofs.«01_k».proof.Proof.Gen.SlotsRefIdeal.Run
public import Idealize.ShloMosaic.Lib.Pipeline.ValueKit
public import Idealize.ShloMosaic.Lib.Pointwise

@[expose] public section

set_option maxRecDepth 16384

noncomputable section

open Cert.SlotsRefIdeal Cert.SlotsRefIdeal.Gen Cert.SlotsRefIdeal.Value
open Idealize.ShloMosaic Idealize.ShloMosaic.TcCoe Idealize.SL.Sem

namespace Cert.Proof.WalkR

variable {F : FTy → Type} [FloatOps F]

/-- A word of each slot (or cell) of each query. -/
abbrev Each := IVec S16x64x64 32

/-- A value at each pair of a slot and a cell, of each query: by the slot, by the cell. -/
abbrev perSlot {α : Type} (x : S16x64x64.Idx → α) : S16x64x64x64.Idx → α :=
  broadcastInDim S16x64x64x64 ![0, 1, 2, 3] bcast_S16x64x64x1_S16x64x64x64_0_1_2_3 (broadcastInDim S16x64x64x1 ![0, 1, 2] bcast_S16x64x64_S16x64x64x1_0_1_2 x)

abbrev perCell {α : Type} (x : S16x64x64.Idx → α) : S16x64x64x64.Idx → α :=
  broadcastInDim S16x64x64x64 ![0, 1, 2, 3] bcast_S16x64x1x64_S16x64x64x64_0_1_2_3 (broadcastInDim S16x64x1x64 ![0, 1, 3] bcast_S16x64x64_S16x64x1x64_0_1_3 x)

/-- The number of the cell, at each pair. -/
abbrev number : IVec S16x64x64x64 32 :=
  broadcastInDim S16x64x64x64 ![0, 1, 2, 3] bcast_S1x1x1x64_S16x64x64x64_0_1_2_3 (broadcastInDim S1x1x1x64 ![3] bcast_S64_S1x1x1x64_3 (iotaInDim S64 32 0))

abbrev none : IVec S16x64x64x64 32 := broadcastInDim S16x64x64x64 ![] bcast_S_S16x64x64x64 (id (constantI S_ 32 0#32))

/-- The sum over the cells. -/
abbrev total (x : IVec S16x64x64x64 32) : Each := Host.reduce IntOp.addi x (constantI S_ 32 0#32) reducesTo_S16x64x64x64_S16x64x64_d3 h_S_

def counts (cell : Each) (held : IVec S4x1x64 32) : Each :=
  total (select (cmpi .eq (perSlot cell) number)
    (broadcastInDim S16x64x64x64 ![0, 1, 2, 3] bcast_S16x1x1x64_S16x64x64x64_0_1_2_3 (broadcastInDim S16x1x1x64 ![0, 1, 3] bcast_S16x1x64_S16x1x1x64_0_1_3
      (shapeCast _ (broadcastInDim S4x4x1x64 ![0, 2, 3] bcast_S4x1x64_S4x4x1x64_0_2_3 held) shapeCasts_S4x4x1x64_S16x1x64))) none)

def stops (count : Each) : Each :=
  total (select (broadcastInDim S16x64x64x64 ![2, 3] bcast_S64x64_S16x64x64x64_2_3
    (cmpi .sle (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (iotaInDim S64 32 0))))) (perCell count) none)

def passes (stop : Each) : Each :=
  total (extui 32 (cmpi .sle (perCell stop) (broadcastInDim S16x64x64x64 ![0, 1, 2, 3] bcast_S1x1x64x1_S16x64x64x64_0_1_2_3
    (broadcastInDim S1x1x64x1 ![2, 3] bcast_S64x1_S1x1x64x1_2_3 (broadcastInDim S64x1 ![0] bcast_S64_S64x1_0 (iotaInDim S64 32 0))))) natLt_1_32)

def turns (passed : Each) : IVec S16x64x64x64 1 :=
  cmpi .eq (perSlot (minsi passed (broadcastInDim S16x64x64 ![] bcast_S_S16x64x64 (constantI S_ 32 63#32)))) number

def picks (here : IVec S16x64x64x64 1) (x : Each) : Each := total (select here (perCell x) none)

def entries (cell start : Each) : Each :=
  addi (muli (addi (broadcastInDim S16x64x64 ![0, 1, 2] bcast_S16x1x1_S16x64x64_0_1_2 (muli (broadcastInDim S16x1x1 ![0] bcast_S16_S16x1x1_0
      (shapeCast _ (broadcastInDim S4x4 ![0] bcast_S4_S4x4_0 (iotaInDim S4 32 0)) shapeCasts_S4x4_S16))
      (broadcastInDim S16x1x1 ![] bcast_S_S16x1x1 (constantI S_ 32 64#32)))) cell)
      (broadcastInDim S16x64x64 ![] bcast_S_S16x64x64 (constantI S_ 32 64#32)))
    (minsi (broadcastInDim S16x64x64 ![] bcast_S_S16x64x64 (id (constantI S_ 32 63#32))) (maxsi (broadcastInDim S16x64x64 ![] bcast_S_S16x64x64 (id (constantI S_ 32 0#32)))
      (subi (broadcastInDim S16x64x64 ![0, 1, 2] bcast_S1x1x64_S16x64x64_0_1_2 (broadcastInDim S1x1x64 ![2] bcast_S64_S1x1x64_2 (iotaInDim S64 32 0))) start)))

def reached (dist : FVec F S16x64x64 .f32) (passed : Each) (here : IVec S16x64x64x64 1) : FVec F S16x64x64 .f32 :=
  sitofp .f32 (extui 32 (andi (cmpi .slt passed (broadcastInDim S16x64x64 ![] bcast_S_S16x64x64 (constantI S_ 32 64#32)))
    (Host.reduce IntOp.ori (andi here (broadcastInDim S16x64x64x64 ![0, 1, 2, 3] bcast_S16x64x1x64_S16x64x64x64_0_1_2_3
      (cmpf .ole (broadcastInDim S16x64x1x64 ![0, 1, 3] bcast_S16x64x64_S16x64x1x64_0_1_3 dist) (broadcastInDim S16x64x1x64 ![] bcast_S_S16x64x1x64 (constant S_ .f32 0x3FC00000#32)))))
      (constantI S_ 1 0#1) reducesTo_S16x64x64x64_S16x64x64_d3 h_S_)) natLt_1_32)

/-- The three results, of the arguments. -/
def result1 (cell : Each) (held : IVec S4x1x64 32) : Each := picks (turns (passes (stops (counts cell held)))) cell

def result0 (cell : Each) (held : IVec S4x1x64 32) : Each :=
  entries (result1 cell held) (picks (turns (passes (stops (counts cell held)))) (subi (stops (counts cell held)) (counts cell held)))

def result2 (dist : FVec F S16x64x64 .f32) (cell : Each) (held : IVec S4x1x64 32) : FVec F S16x64x64 .f32 :=
  reached dist (passes (stops (counts cell held))) (turns (passes (stops (counts cell held))))

variable (m : (ℓ : Loc nD τ sig) → Buf (Elt F) ℓ) (c : Dev nD)

theorem res0 : res_main_v62 m c = result0 (m ((c.tc : Thread nD τ).loc main_arg1)) (m ((c.tc : Thread nD τ).loc main_arg2)) := rfl

theorem res2 : res_main_v67 m c = result2 (m ((c.tc : Thread nD τ).loc main_arg0)) (m ((c.tc : Thread nD τ).loc main_arg1)) (m ((c.tc : Thread nD τ).loc main_arg2)) := rfl

/-! ## The steps at an index -/

variable (g : Fin 16) (q t r : Fin 64)

theorem fold_sum (f : Fin 64 → BitVec 32) : (Finset.univ : Finset (Fin 64)).fold IntOp.addi 0#32 f = ∑ r : Fin 64, f r := rfl

theorem total_apply (x : IVec S16x64x64x64 32) : total x (ix3 g q t) = ∑ r : Fin 64, x (ix4 g q t r) := by
  unfold total
  rw [Host.reduce_eq_fold, Shape.ReducesTo.fold_fiber_r4_a3]
  rfl

theorem held_apply (held : IVec S4x1x64 32) :
    shapeCast S16x1x64 (broadcastInDim S4x4x1x64 ![0, 2, 3] bcast_S4x1x64_S4x4x1x64_0_2_3 held) shapeCasts_S4x4x1x64_S16x1x64 (ix3 g 0 r)
      = held (ix3 (⟨g.val / 4, by omega⟩ : Fin 4) 0 r) := by
  refine (shapeCast_apply _ _ _ (ix4 (⟨g.val / 4, by omega⟩ : Fin 4) (⟨g.val % 4, by omega⟩ : Fin 4) 0 r) ?_).trans ?_
  · revert g r; decide +kernel
  · pointwise

theorem batch_apply : shapeCast S16 (broadcastInDim S4x4 ![0] bcast_S4_S4x4_0 (iotaInDim S4 32 0)) shapeCasts_S4x4_S16 (ix1 g) = BitVec.ofNat 32 (g.val / 4) := by
  refine (shapeCast_apply _ _ _ (ix2 (⟨g.val / 4, by omega⟩ : Fin 4) (⟨g.val % 4, by omega⟩ : Fin 4)) ?_).trans ?_
  · revert g; decide +kernel
  · pointwise

variable (cell : Each) (held : IVec S4x1x64 32)

/-- The query's cells, and what each cell of its batch holds. -/
abbrev cellsOf : Fin 64 → BitVec 32 := fun r => cell (ix3 g q r)

abbrev heldOf : Fin 64 → BitVec 32 := fun k => held (ix3 (⟨g.val / 4, by omega⟩ : Fin 4) 0 k)

theorem eq_iff (a b : BitVec 32) : (IntOp.cmpi .eq a b = 1#1) = (a = b) := by
  show (BitVec.ofBool (a == b) = 1#1) = (a = b)
  by_cases h : a = b
  · subst h; simp
  · rw [beq_eq_false_iff_ne.mpr h]
    exact propext ⟨fun e => absurd e (by decide), fun e => absurd e h⟩

theorem pick (a b x y : BitVec 32) : Scalar.select (IntOp.cmpi .eq a b) x y = if a = b then x else y := by
  show (if IntOp.cmpi .eq a b = 1#1 then x else y) = _
  simp only [eq_iff]

theorem counts_apply : counts cell held (ix3 g q r) = Walk.count (cellsOf g q cell) (heldOf g held) r := by
  unfold counts
  rw [total_apply]
  refine Finset.sum_congr rfl fun k _ => ?_
  pointwise [pick, held_apply]
  rfl

theorem le_word (a b : Fin 64) : IntOp.cmpi .sle (BitVec.ofNat 32 a.val) (BitVec.ofNat 32 b.val) = BitVec.ofBool (decide (a ≤ b)) := by
  revert a b; decide +kernel

theorem pick_bit (p : Prop) [Decidable p] (x y : BitVec 32) : Scalar.select (BitVec.ofBool (decide p)) x y = if p then x else y := by
  by_cases h : p <;> simp [h, Scalar.select]

theorem stops_apply : stops (counts cell held) (ix3 g q r) = Walk.stop (cellsOf g q cell) (heldOf g held) r := by
  unfold stops
  rw [total_apply]
  refine Finset.sum_congr rfl fun k _ => ?_
  pointwise [le_word, pick_bit]
  rw [← counts_apply]
  rfl

theorem one_bit (p : Bool) : (BitVec.ofBool p).setWidth 32 = if p then 1#32 else 0#32 := by
  cases p <;> decide

theorem passes_apply : passes (stops (counts cell held)) (ix3 g q t) = Walk.passed (cellsOf g q cell) (heldOf g held) t := by
  unfold passes
  rw [total_apply]
  refine Finset.sum_congr rfl fun k _ => ?_
  pointwise [stops_apply]
  exact one_bit _

theorem turns_apply : turns (passes (stops (counts cell held))) (ix4 g q t r)
    = IntOp.cmpi .eq (Walk.turn (cellsOf g q cell) (heldOf g held) t) (BitVec.ofNat 32 r.val) := by
  unfold turns
  pointwise [passes_apply]
  rfl

theorem picks_apply (x : Each) : picks (turns (passes (stops (counts cell held)))) x (ix3 g q t)
    = ∑ r : Fin 64, if Walk.turn (cellsOf g q cell) (heldOf g held) t = BitVec.ofNat 32 r.val then x (ix3 g q r) else 0#32 := by
  unfold picks
  rw [total_apply]
  refine Finset.sum_congr rfl fun k _ => ?_
  pointwise [turns_apply, pick]
  rfl

theorem result1_apply : result1 cell held (ix3 g q t) = Walk.slotCell (cellsOf g q cell) (heldOf g held) t := picks_apply g q t cell held cell

theorem result0_apply : result0 cell held (ix3 g q t)
    = (BitVec.ofNat 32 (g.val / 4) * 64#32 + Walk.slotCell (cellsOf g q cell) (heldOf g held) t) * 64#32
      + IntOp.minsi 63#32 (IntOp.maxsi 0#32 (BitVec.ofNat 32 t.val - Walk.start (cellsOf g q cell) (heldOf g held) t)) := by
  have e : picks (turns (passes (stops (counts cell held)))) (subi (stops (counts cell held)) (counts cell held)) (ix3 g q t)
      = Walk.start (cellsOf g q cell) (heldOf g held) t := by
    rw [picks_apply]
    refine Finset.sum_congr rfl fun k _ => ?_
    rw [← stops_apply, ← counts_apply]
    rfl
  unfold result0 entries
  pointwise [batch_apply, result1_apply, e]
  rfl

/-- The cell a slot takes from is within the radius exactly where the distance at its turn is. -/
theorem near_apply (b : Fin 64 → BitVec 1) (w : BitVec 32) (ρ : Fin 64) (h : w = BitVec.ofNat 32 ρ.val) :
    (Finset.univ : Finset (Fin 64)).fold IntOp.ori 0#1 (fun r => IntOp.andi (IntOp.cmpi .eq w (BitVec.ofNat 32 r.val)) (b r)) = b ρ := by
  subst h
  rw [← Finset.insert_erase (Finset.mem_univ ρ), Finset.fold_insert (Finset.notMem_erase _ _)]
  have z : ((Finset.univ : Finset (Fin 64)).erase ρ).fold IntOp.ori 0#1 (fun r => IntOp.andi (IntOp.cmpi .eq (BitVec.ofNat 32 ρ.val) (BitVec.ofNat 32 r.val)) (b r))
      = ((Finset.univ : Finset (Fin 64)).erase ρ).fold IntOp.ori 0#1 (fun _ => 0#1) := by
    refine Finset.fold_congr fun k hk => ?_
    have ne : ¬ (BitVec.ofNat 32 ρ.val = BitVec.ofNat 32 k.val) := fun e =>
      Finset.ne_of_mem_erase hk (Fin.ext (Walk.ofNat_inj (by omega) (by omega) e)).symm
    show BitVec.ofBool (BitVec.ofNat 32 ρ.val == BitVec.ofNat 32 k.val) &&& b k = 0#1
    rw [beq_eq_false_iff_ne.mpr ne]
    exact BitVec.zero_and
  have zz : ∀ s : Finset (Fin 64), s.fold IntOp.ori 0#1 (fun _ => 0#1) = 0#1 := fun s => by
    induction s using Finset.induction_on with
    | empty => rfl
    | insert a s ha ih => rw [Finset.fold_insert ha, ih]; rfl
  rw [z, zz]
  show (BitVec.ofBool (BitVec.ofNat 32 ρ.val == BitVec.ofNat 32 ρ.val) &&& b ρ) ||| 0#1 = b ρ
  rw [beq_self_eq_true]
  generalize b ρ = x
  revert x; decide

theorem result2_apply (dist : FVec F S16x64x64 .f32) (ρ : Fin 64) (h : Walk.turn (cellsOf g q cell) (heldOf g held) t = BitVec.ofNat 32 ρ.val) :
    result2 dist cell held (ix3 g q t) = FloatOps.sitofp .f32 ((IntOp.andi (IntOp.cmpi .slt (Walk.passed (cellsOf g q cell) (heldOf g held) t) 64#32)
      (FloatOps.cmpf .ole (dist (ix3 g q ρ)) (Scalar.ofBits .f32 0x3FC00000#32))).setWidth 32) := by
  unfold result2 reached
  pointwise [passes_apply, turns_apply]
  exact congrArg (fun b => FloatOps.sitofp .f32 ((IntOp.andi (IntOp.cmpi .slt (Walk.passed (cellsOf g q cell) (heldOf g held) t) 64#32) b).setWidth 32))
    (near_apply (fun r => FloatOps.cmpf .ole (dist (ix3 g q r)) (FloatOps.ofBits .f32 0x3FC00000#32)) _ ρ h)

end Cert.Proof.WalkR

end
-- ==== Proof.Slots.lean ====
/-
  The slot walk: where no two neighbouring distances are equal, what the kernel leaves in its three results is what the plain
  statement computes of the same distances, cells and counts.
-/
module

public import proofs.«01_k».proof.Defs
public import proofs.«01_k».proof.Proof.Gen.Pre_no_ties
public import proofs.«01_k».proof.Proof.Gen.Slots
public import proofs.«01_k».proof.Proof.Gen.SlotsIdeal
public import proofs.«01_k».proof.Proof.Gen.SlotsIdeal.Skeleton
public import proofs.«01_k».proof.Proof.Gen.SlotsIdeal.Frame
public import proofs.«01_k».proof.Proof.Gen.SlotsRef
public import proofs.«01_k».proof.Proof.Gen.SlotsRef.Run
public import proofs.«01_k».proof.Proof.Gen.SlotsRefIdeal
public import proofs.«01_k».proof.Proof.Gen.SlotsRefIdeal.Run
public import proofs.«01_k».proof.Proof.WalkRun
public import proofs.«01_k».proof.Proof.WalkV
public import proofs.«01_k».proof.Proof.WalkR
public import Idealize.ShloMosaic.Lib.Pipeline.ValueKit
public import Idealize.ShloMosaic.Lib.Pointwise
public import Idealize.ShloMosaic.Lib.Claim
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Proof.Slots

open Cert.SlotsIdeal Cert.SlotsIdeal.Gen Cert.Proof.Walk

variable {F : FTy → Type} [FloatOps F]
variable (m : (ℓ : Loc nD τ sig) → Buf (Elt F) ℓ) (c : Dev nD)

/-- The distances, the cells and the counts a run starts from. -/
abbrev dist : FVec F S16x64x64 .f32 := m ((c.tc : Thread nD τ).loc main_arg0)

abbrev cell : IVec S16x64x64 32 := m ((c.tc : Thread nD τ).loc main_arg1)

abbrev held : IVec S4x1x64 32 := m ((c.tc : Thread nD τ).loc main_arg2)

theorem idx : ∀ t : Fin cfg0.N, win0_0.index t = ![t.val, 0, 0] ∧ win0_1.index t = ![t.val, 0, 0] ∧ win0_2.index t = ![t.val / 4, 0, 0]
    ∧ win0_4.index t = ![t.val, 0, 0] ∧ win0_5.index t = ![t.val, 0, 0] ∧ win0_6.index t = ![t.val, 0, 0] :=
  (by decide +kernel : ∀ t : Fin grid0.N, _)

theorem place_lt (t : Fin cfg0.N) : t.val < 16 := (show cfg0.N = 16 from N_0) ▸ t.isLt

/-- A step's number, as a row of the arrays. -/
abbrev place (t : Fin cfg0.N) : Fin 16 := ⟨t.val, place_lt t⟩

theorem blk0 (t : Fin cfg0.N) : iblk m c 0 t = fun y => dist m c (ix3 (place t) (y 1) (y 2)) := by
  blk_ext! [iblk, V, idx t]

theorem blk1 (t : Fin cfg0.N) : iblk m c 1 t = fun y => cell m c (ix3 (place t) (y 1) (y 2)) := by
  blk_ext! [iblk, V, idx t]

theorem blk2 (t : Fin cfg0.N) : iblk m c 2 t = fun y => held m c (ix3 (⟨(place t).val / 4, by have := (place t).isLt; omega⟩ : Fin 4) 0 (y 2)) := by
  blk_ext! [iblk, V, idx t]

theorem emb4 (t : Fin cfg0.N) (q p : Fin 64) : ((cfg0.win 4).blk t).view.emb (ix3 0 q p) = (ix3 (place t) q p : S16x64x64.Idx) := by
  have h := idx t
  blk_ext! [h]

theorem emb5 (t : Fin cfg0.N) (q p : Fin 64) : ((cfg0.win 5).blk t).view.emb (ix3 0 q p) = (ix3 (place t) q p : S16x64x64.Idx) := by
  have h := idx t
  blk_ext! [h]

theorem emb6 (t : Fin cfg0.N) (q p : Fin 64) : ((cfg0.win 6).blk t).view.emb (ix3 0 q p) = (ix3 (place t) q p : S16x64x64.Idx) := by
  have h := idx t
  blk_ext! [h]

theorem split (y : S1x64x64.Idx) : ∃ q p : Fin 64, y = ix3 0 q p :=
  ⟨y 1, y 2, by
    funext a
    match a with
    | ⟨0, _⟩ => exact Fin.ext (Nat.lt_one_iff.mp (y 0).isLt)
    | ⟨1, _⟩ => rfl
    | ⟨2, _⟩ => rfl⟩

theorem coord (t : Fin cfg0.N) : ((grid0.coords t) 0).val = t.val :=
  (by decide +kernel : ∀ t : Fin grid0.N, ((grid0.coords t) 0).val = t.val) t

theorem cells_blk (t : Fin cfg0.N) (q : Fin 64) : cells (iblk m c 1 t) q = WalkR.cellsOf (place t) q (cell m c) := by
  rw [blk1]; rfl

theorem held_blk (t : Fin cfg0.N) : heldBy (iblk m c 2 t) = WalkR.heldOf (place t) (held m c) := by
  rw [blk2]; rfl

/-- The entries after the run, -/
theorem final4 : (walked m 0 c).arrAt 4 (cfgs 0).N = WalkR.result0 (cell m c) (held m c) := by
  refine (walked m 0 c).arrAt_eq_of_covers 4 _ (by decide +kernel) fun t _ y => ?_
  blk_simp
  rw [out4]
  obtain ⟨q, p, rfl⟩ := split y
  refine Eq.trans ?_ (congrArg (WalkR.result0 _ _) (emb4 t q p)).symm
  rw [WalkR.result0_apply, ← cells_blk, ← held_blk]
  refine (left4_apply _ _ _ q p).trans ?_
  rw [coord]

/-- the cells, -/
theorem final5 : (walked m 0 c).arrAt 5 (cfgs 0).N = WalkR.result1 (cell m c) (held m c) := by
  refine (walked m 0 c).arrAt_eq_of_covers 5 _ (by decide +kernel) fun t _ y => ?_
  blk_simp
  rw [out5]
  obtain ⟨q, p, rfl⟩ := split y
  refine Eq.trans ?_ (congrArg (WalkR.result1 _ _) (emb5 t q p)).symm
  rw [WalkR.result1_apply, ← cells_blk, ← held_blk]
  exact left5_apply _ _ q p

/-- and which of the slots are reached. -/
theorem final6 : (walked m 0 c).arrAt 6 (cfgs 0).N = WalkR.result2 (dist m c) (cell m c) (held m c) := by
  refine (walked m 0 c).arrAt_eq_of_covers 6 _ (by decide +kernel) fun t _ y => ?_
  blk_simp
  rw [out6]
  obtain ⟨q, p, rfl⟩ := split y
  refine Eq.trans ?_ (congrArg (WalkR.result2 _ _ _) (emb6 t q p)).symm
  obtain ⟨r, hr⟩ := turn_lt (cells (iblk m c 1 t) q) (heldBy (iblk m c 2 t)) p
  have hr' := hr
  rw [cells_blk, held_blk] at hr'
  rw [WalkR.result2_apply _ _ _ _ _ _ r hr', ← cells_blk, ← held_blk]
  refine (left6_apply _ _ _ q p r hr).trans ?_
  rw [blk0]
  rfl

/-- No two neighbouring distances are equal, on any device. -/
def Parted : Prop := ∀ (c : Dev nD) (g : Fin 16) (q : Fin 64) (k : Fin 63),
  FloatOps.cmpf .one (dist m c (ix3 g q k.succ)) (dist m c (ix3 g q k.castSucc)) = 1#1

theorem clear (h : Parted m) : Clear m := fun c t => flag_clear _ _ _ (fun q k => by rw [blk0]; exact h c (place t) q k)

/-- The results and the arguments of every run. -/
theorem run (ρ : Dev nD → PrngReg) (h : Parted m) : θ_run defs (onTc (τ := τ) (main (F := F))) ⟨m, fun _ => 0, ρ⟩ (fun r => ∀ c : Dev nD,
      r.2.mem ((c.tc : Thread nD τ).loc main_v0_0) = WalkR.result0 (cell m c) (held m c)
      ∧ r.2.mem ((c.tc : Thread nD τ).loc main_v0_1) = WalkR.result1 (cell m c) (held m c)
      ∧ r.2.mem ((c.tc : Thread nD τ).loc main_v0_2) = WalkR.result2 (dist m c) (cell m c) (held m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ e c => ⟨((e.1 c).1 4).trans (final4 m c), ((e.1 c).1 5).trans (final5 m c), ((e.1 c).1 6).trans (final6 m c), e.2.1 c⟩)
    (θ_run_and (runs m ρ (clear m h)) (frames m ρ (clear m h)))

/-- The precondition, read at its places. -/
theorem parted_of (hc : ∀ x y : F .f32, FloatOps.cmpf .une x y = FloatOps.cmpf .one x y)
    (h : ∀ c : Dev nD, Cert.Pre_no_ties.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : Parted m := fun c g q k => by
  have sub : Subsingleton Cert.Pre_no_ties.S_.Idx := ⟨fun x y => funext fun i => i.elim0⟩
  have e := Host.reduce_andi_all _ _ _ _ _ (congrFun (h c) (fun i => i.elim0)) (ix3 g q k : Cert.Pre_no_ties.S16x64x63.Idx)
  rw [← hc, ← e]
  refine congrArg₂ (FloatOps.cmpf .une) (congrArg (dist m c) ?_) (congrArg (dist m c) ?_)
  · funext a
    match a with
    | ⟨0, _⟩ => exact Fin.ext (by simp)
    | ⟨1, _⟩ => exact Fin.ext (by simp)
    | ⟨2, _⟩ => exact Fin.ext (by simp; omega)
  · funext a
    match a with
    | ⟨0, _⟩ => exact Fin.ext (by simp)
    | ⟨1, _⟩ => exact Fin.ext (by simp)
    | ⟨2, _⟩ => exact Fin.ext (by simp)

theorem words_agree (x y : Bits .f32) : FloatOps.cmpf (F := Bits) .une x y = FloatOps.cmpf .one x y := rfl

theorem reals_agree (x y : Ideal .f32) : FloatOps.cmpf (F := Ideal) .une x y = FloatOps.cmpf .one x y := rfl

/-- The plain statement's results and arguments, of every run, -/
theorem plain (m : (ℓ : Loc Cert.SlotsRefIdeal.nD Cert.SlotsRefIdeal.τ Cert.SlotsRefIdeal.sig) → Buf (Elt F) ℓ) (ρ : Dev Cert.SlotsRefIdeal.nD → PrngReg) :
    θ_run (Cert.SlotsRefIdeal.defs (F := F)) (onTc (τ := Cert.SlotsRefIdeal.τ) (Cert.SlotsRefIdeal.main (F := F))) ⟨m, fun _ => 0, ρ⟩ (fun r => ∀ c : Dev Cert.SlotsRefIdeal.nD,
      r.2.mem ((c.tc : Thread Cert.SlotsRefIdeal.nD Cert.SlotsRefIdeal.τ).loc Cert.SlotsRefIdeal.main_v62) = WalkR.result0 (m ((c.tc : Thread Cert.SlotsRefIdeal.nD Cert.SlotsRefIdeal.τ).loc Cert.SlotsRefIdeal.main_arg1)) (m ((c.tc : Thread Cert.SlotsRefIdeal.nD Cert.SlotsRefIdeal.τ).loc Cert.SlotsRefIdeal.main_arg2))
      ∧ r.2.mem ((c.tc : Thread Cert.SlotsRefIdeal.nD Cert.SlotsRefIdeal.τ).loc Cert.SlotsRefIdeal.main_v40) = WalkR.result1 (m ((c.tc : Thread Cert.SlotsRefIdeal.nD Cert.SlotsRefIdeal.τ).loc Cert.SlotsRefIdeal.main_arg1)) (m ((c.tc : Thread Cert.SlotsRefIdeal.nD Cert.SlotsRefIdeal.τ).loc Cert.SlotsRefIdeal.main_arg2))
      ∧ r.2.mem ((c.tc : Thread Cert.SlotsRefIdeal.nD Cert.SlotsRefIdeal.τ).loc Cert.SlotsRefIdeal.main_v67) = WalkR.result2 (m ((c.tc : Thread Cert.SlotsRefIdeal.nD Cert.SlotsRefIdeal.τ).loc Cert.SlotsRefIdeal.main_arg0)) (m ((c.tc : Thread Cert.SlotsRefIdeal.nD Cert.SlotsRefIdeal.τ).loc Cert.SlotsRefIdeal.main_arg1)) (m ((c.tc : Thread Cert.SlotsRefIdeal.nD Cert.SlotsRefIdeal.τ).loc Cert.SlotsRefIdeal.main_arg2))
      ∧ r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0)
      ∧ r.2.mem ((c.tc : Thread Cert.SlotsRefIdeal.nD Cert.SlotsRefIdeal.τ).loc Cert.SlotsRefIdeal.main_arg1) = m ((c.tc : Thread Cert.SlotsRefIdeal.nD Cert.SlotsRefIdeal.τ).loc Cert.SlotsRefIdeal.main_arg1)
      ∧ r.2.mem ((c.tc : Thread Cert.SlotsRefIdeal.nD Cert.SlotsRefIdeal.τ).loc Cert.SlotsRefIdeal.main_arg2) = m ((c.tc : Thread Cert.SlotsRefIdeal.nD Cert.SlotsRefIdeal.τ).loc Cert.SlotsRefIdeal.main_arg2)
      ∧ r.2.mem ((c.tc : Thread Cert.SlotsRefIdeal.nD Cert.SlotsRefIdeal.τ).loc Cert.SlotsRefIdeal.main_arg3) = m ((c.tc : Thread Cert.SlotsRefIdeal.nD Cert.SlotsRefIdeal.τ).loc Cert.SlotsRefIdeal.main_arg3)) := by
  refine (θ_run Cert.SlotsRefIdeal.defs _ _).mono (fun r h c => ?_) (Cert.SlotsRefIdeal.Value.run m ρ)
  obtain ⟨e0, e1, e2, ea⟩ := h c
  refine ⟨e0.trans ?_, e1.trans ?_, e2.trans ?_, ea⟩
  · rfl
  · rfl
  · rfl

/-- printed for the words as for the reals. -/
theorem plain' (m : (ℓ : Loc Cert.SlotsRef.nD Cert.SlotsRef.τ Cert.SlotsRef.sig) → Buf (Elt F) ℓ) (ρ : Dev Cert.SlotsRef.nD → PrngReg) :
    θ_run (Cert.SlotsRef.defs (F := F)) (onTc (τ := Cert.SlotsRef.τ) (Cert.SlotsRef.main (F := F))) ⟨m, fun _ => 0, ρ⟩ (fun r => ∀ c : Dev Cert.SlotsRef.nD,
      r.2.mem ((c.tc : Thread Cert.SlotsRef.nD Cert.SlotsRef.τ).loc Cert.SlotsRef.main_v62) = WalkR.result0 (m ((c.tc : Thread Cert.SlotsRef.nD Cert.SlotsRef.τ).loc Cert.SlotsRef.main_arg1)) (m ((c.tc : Thread Cert.SlotsRef.nD Cert.SlotsRef.τ).loc Cert.SlotsRef.main_arg2))
      ∧ r.2.mem ((c.tc : Thread Cert.SlotsRef.nD Cert.SlotsRef.τ).loc Cert.SlotsRef.main_v40) = WalkR.result1 (m ((c.tc : Thread Cert.SlotsRef.nD Cert.SlotsRef.τ).loc Cert.SlotsRef.main_arg1)) (m ((c.tc : Thread Cert.SlotsRef.nD Cert.SlotsRef.τ).loc Cert.SlotsRef.main_arg2))
      ∧ r.2.mem ((c.tc : Thread Cert.SlotsRef.nD Cert.SlotsRef.τ).loc Cert.SlotsRef.main_v67) = WalkR.result2 (m ((c.tc : Thread Cert.SlotsRef.nD Cert.SlotsRef.τ).loc Cert.SlotsRef.main_arg0)) (m ((c.tc : Thread Cert.SlotsRef.nD Cert.SlotsRef.τ).loc Cert.SlotsRef.main_arg1)) (m ((c.tc : Thread Cert.SlotsRef.nD Cert.SlotsRef.τ).loc Cert.SlotsRef.main_arg2))
      ∧ r.2.mem ((c.tc : Thread Cert.SlotsRef.nD Cert.SlotsRef.τ).loc Cert.SlotsRef.main_arg0) = m ((c.tc : Thread Cert.SlotsRef.nD Cert.SlotsRef.τ).loc Cert.SlotsRef.main_arg0)
      ∧ r.2.mem ((c.tc : Thread Cert.SlotsRef.nD Cert.SlotsRef.τ).loc Cert.SlotsRef.main_arg1) = m ((c.tc : Thread Cert.SlotsRef.nD Cert.SlotsRef.τ).loc Cert.SlotsRef.main_arg1)
      ∧ r.2.mem ((c.tc : Thread Cert.SlotsRef.nD Cert.SlotsRef.τ).loc Cert.SlotsRef.main_arg2) = m ((c.tc : Thread Cert.SlotsRef.nD Cert.SlotsRef.τ).loc Cert.SlotsRef.main_arg2)
      ∧ r.2.mem ((c.tc : Thread Cert.SlotsRef.nD Cert.SlotsRef.τ).loc Cert.SlotsRef.main_arg3) = m ((c.tc : Thread Cert.SlotsRef.nD Cert.SlotsRef.τ).loc Cert.SlotsRef.main_arg3)) := by
  refine (θ_run Cert.SlotsRef.defs _ _).mono (fun r h c => ?_) (Cert.SlotsRef.Value.run m ρ)
  obtain ⟨e0, e1, e2, ea⟩ := h c
  refine ⟨e0.trans ?_, e1.trans ?_, e2.trans ?_, ea⟩
  · rfl
  · rfl
  · rfl

end Cert.Proof.Slots

end
-- ==== Proof.lean ====
/-
  The claims of this certificate. Of the kernel, at either instance: every run of its two SparseCore calls ends with the
  arguments as they were and every counter at zero, in the table and the counts of all 65536 voxels, and in the feature
  rows the slots name. Of the plain statement: every run ends in the same three. The same of the call that numbers the
  cells, of the call that walks the slots where no two neighbouring distances are equal, and, over the reals, of the calls
  that rank the cells and that attend: each ends in what its plain statement computes.
-/
module

public import proofs.«01_k».proof.Defs
public import proofs.«01_k».proof.Proof.Launch
public import proofs.«01_k».proof.Proof.RefRows
public import proofs.«01_k».proof.Proof.Numbers
public import proofs.«01_k».proof.Proof.Attend
public import proofs.«01_k».proof.Proof.Tables
public import proofs.«01_k».proof.Proof.Ranking
public import proofs.«01_k».proof.Proof.Slots
public import proofs.«01_k».proof.Proof.Gen.Kernel
public import proofs.«01_k».proof.Proof.Gen.Reference
public import proofs.«01_k».proof.Proof.Gen.Reference.Run
public import proofs.«01_k».proof.Proof.Gen.Codes
public import proofs.«01_k».proof.Proof.Gen.CodesRef
public import proofs.«01_k».proof.Proof.Gen.CodesRef.Run
public import proofs.«01_k».proof.Proof.Gen.Attention
public import proofs.«01_k».proof.Proof.Gen.Ranking
public import proofs.«01_k».proof.Proof.Gen.Slots
public import proofs.«01_k».proof.Proof.Gen.SlotsRef
public import proofs.«01_k».proof.Proof.Gen.SlotsRef.Run
public import proofs.«01_k».proof.Proof.Gen.Pre_no_ties

@[expose] public section

namespace Cert.Proof

open Idealize.ShloMosaic Idealize.SL.Sem

/-- The finished rows, as the plain statement gathers them from the finished table. -/
theorem rowsFin_eq {F : FTy → Type} [FloatOps F] (m : (ℓ : Loc Cert.KernelIdeal.nD Cert.KernelIdeal.τ Cert.KernelIdeal.sig) → Buf (Elt F) ℓ) (hpre : Calls.PreOK m)
    (d : Dev Cert.KernelIdeal.nD) : Ref.rows (Calls.tabFin m d) (m (Calls.iLoc d)) (m (Calls.fLoc d)) = Calls.rowsFin m d := by
  funext y
  have hy : (y 0).val < 65536 := (y 0).isLt
  have ey : y = ix2 (⟨(y 0).val, hy⟩ : Fin 65536) (y 1) := by
    funext a
    match a with
    | ⟨0, _⟩ => rfl
    | ⟨1, _⟩ => rfl
  refine (congrArg (Ref.rows (Calls.tabFin m d) (m (Calls.iLoc d)) (m (Calls.fLoc d))) ey).trans ?_
  refine (Ref.rows_apply (Calls.tabFin m d) (Calls.tabFin_lt m d) (m (Calls.iLoc d)) (hpre.2 d) (m (Calls.fLoc d)) ⟨(y 0).val, hy⟩ (y 1)).trans ?_
  rw [← Ref.slot_apply (m (Calls.iLoc d)) Cert.KernelIdeal.Gen.facts.shapeCasts_S16x64x64_S512x128 ⟨(y 0).val, hy⟩ ⟨(y 0).val / 128, by omega⟩ ⟨(y 0).val % 128, by omega⟩
    (by show (y 0).val / 128 * 128 + (y 0).val % 128 = (y 0).val; omega)]
  rfl

section Values

variable {F : FTy → Type} [FloatOps F]
  (m : (ℓ : Loc Cert.KernelIdeal.nD Cert.KernelIdeal.τ Cert.KernelIdeal.sig) → Buf (Elt F) ℓ)
  (a : IVec Cert.KernelIdeal.S65536 32) (t : IVec Cert.KernelIdeal.S16x64x64 32) (f : Cert.KernelIdeal.S65536x128.Idx → F .f32)
  (d : Dev Cert.KernelIdeal.nD)

/-- The statement's table of the kernel's cells is the kernel's, -/
theorem table_of (ha : a = m (Calls.aLoc d)) : Ref.table a = Calls.tabFin m d := by
  subst ha; exact Ref.table_eq _
/-- its counts are the kernel's, -/
theorem counts_of (ha : a = m (Calls.aLoc d)) : Ref.counts a = Calls.cntFin m d := by
  subst ha; exact Ref.counts_eq _
/-- and its rows, of the kernel's slots and features, are the kernel's. -/
theorem rows_of (hpre : Calls.PreOK m) (ha : a = m (Calls.aLoc d)) (ht : t = m (Calls.iLoc d)) (hf : f = m (Calls.fLoc d)) :
    Ref.rows (Ref.table a) t f = Calls.rowsFin m d := by
  rw [table_of m a d ha]; subst ht; subst hf
  exact rowsFin_eq m hpre d

end Values

theorem frame_Kernel : Cert.quiescent_Kernel := fun m ρ hpre =>
  (θ_run Cert.KernelIdeal.defs _ _).mono (fun _ h => ⟨fun c => ⟨(h.1 c).1, (h.1 c).2.1, (h.1 c).2.2.1⟩, h.2⟩) (Calls.run_main (F := Bits) m ρ (Calls.ok_of_pre m hpre))

theorem frame_KernelIdeal : Cert.quiescent_KernelIdeal := fun m ρ hpre =>
  (θ_run Cert.KernelIdeal.defs _ _).mono (fun _ h => ⟨fun c => ⟨(h.1 c).1, (h.1 c).2.1, (h.1 c).2.2.1⟩, h.2⟩) (Calls.run_main (F := Ideal) m ρ (Calls.ok_of_pre m hpre))

theorem algebraic : Cert.algebraic_KernelIdeal_ReferenceIdeal := fun m ρ m' ρ' hpre hagree =>
  ⟨fun c => Calls.rowsFin m c, fun c => Calls.tabFin m c, fun c => Calls.cntFin m c,
    (θ_run Cert.KernelIdeal.defs _ _).mono (fun _ h c => ⟨(h.1 c).2.2.2.2.2, (h.1 c).2.2.2.1, (h.1 c).2.2.2.2.1, (h.1 c).1, (h.1 c).2.1, (h.1 c).2.2.1⟩)
      (Calls.run_main (F := Ideal) m ρ (Calls.ok_of_pre m hpre)),
    (θ_run Cert.ReferenceIdeal.defs _ _).mono (fun _ h c => ⟨(h c).1.trans (rows_of m _ _ _ c (Calls.ok_of_pre m hpre) (hagree c).1 (hagree c).2.1 (hagree c).2.2),
      (h c).2.1.trans (table_of m _ c (hagree c).1), (h c).2.2.1.trans (counts_of m _ c (hagree c).1), (h c).2.2.2⟩)
      (Cert.ReferenceIdeal.Value.run (F := Ideal) m' ρ')⟩

theorem bitexact : Cert.bitexact_Kernel_Reference := fun m ρ m' ρ' hpre hagree =>
  ⟨fun c => Calls.rowsFin (F := Bits) m c, fun c => Calls.tabFin (F := Bits) m c, fun c => Calls.cntFin (F := Bits) m c,
    (θ_run Cert.KernelIdeal.defs _ _).mono (fun _ h c => ⟨(h.1 c).2.2.2.2.2, (h.1 c).2.2.2.1, (h.1 c).2.2.2.2.1, (h.1 c).1, (h.1 c).2.1, (h.1 c).2.2.1⟩)
      (Calls.run_main (F := Bits) m ρ (Calls.ok_of_pre m hpre)),
    (θ_run Cert.Reference.defs _ _).mono (fun _ h c => ⟨(h c).1.trans (rows_of (F := Bits) m _ _ _ c (Calls.ok_of_pre m hpre) (hagree c).1 (hagree c).2.1 (hagree c).2.2),
      (h c).2.1.trans (table_of (F := Bits) m _ c (hagree c).1), (h c).2.2.1.trans (counts_of (F := Bits) m _ c (hagree c).1), (h c).2.2.2⟩)
      (Cert.Reference.Value.run (F := Bits) m' ρ')⟩

/-- The plain statement declares no semaphore, so its counters end at zero. -/
theorem frame_ReferenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_Reference : Cert.quiescent_Reference := fun m ρ _ =>
  (θ_run Cert.Reference.defs _ _).mono (fun r h => ⟨fun c => (h c).2.2.2, sem_eq_zero_of_no_sems (by decide) r.2⟩)
    (Cert.Reference.Value.run (F := Bits) m ρ)

theorem frame_Codes : Cert.quiescent_Codes := fun m ρ _ => by
  rw [Tables.codes]
  exact Cert.CodesIdeal.Gen.frame (F := Bits) m ρ

theorem frame_CodesIdeal : Cert.quiescent_CodesIdeal := fun m ρ _ => Cert.CodesIdeal.Gen.frame (F := Ideal) m ρ

theorem frame_CodesRefIdeal : Cert.quiescent_CodesRefIdeal := fun m ρ _ =>
  (θ_run Cert.CodesRefIdeal.defs _ _).mono (fun r h => ⟨fun c => (h c).2, sem_eq_zero_of_no_sems (by decide) r.2⟩)
    (Cert.CodesRefIdeal.Value.run (F := Ideal) m ρ)

theorem frame_CodesRef : Cert.quiescent_CodesRef := fun m ρ _ =>
  (θ_run Cert.CodesRef.defs _ _).mono (fun r h => ⟨fun c => (h c).2, sem_eq_zero_of_no_sems (by decide) r.2⟩)
    (Cert.CodesRef.Value.run (F := Bits) m ρ)

theorem frame_Attention : Cert.quiescent_Attention := fun m ρ _ => by
  rw [Tables.attention]
  exact Cert.AttentionIdeal.Gen.frame (F := Bits) m ρ

theorem frame_AttentionIdeal : Cert.quiescent_AttentionIdeal := fun m ρ _ => Cert.AttentionIdeal.Gen.frame (F := Ideal) m ρ

theorem frame_AttentionRefIdeal : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)

/-- The cell numbers' result and its argument, of every run, over any float values. -/
theorem run_numbers {F : FTy → Type} [FloatOps F] (m : (ℓ : Loc Cert.CodesIdeal.nD Cert.CodesIdeal.τ Cert.CodesIdeal.sig) → Buf (Elt F) ℓ)
    (ρ : Dev Cert.CodesIdeal.nD → PrngReg) :
    θ_run (Cert.CodesIdeal.defs (F := F)) (onTc (τ := Cert.CodesIdeal.τ) (Cert.CodesIdeal.main (F := F))) ⟨m, fun _ => 0, ρ⟩ (fun r => ∀ c : Dev Cert.CodesIdeal.nD,
      r.2.mem ((c.tc : Thread Cert.CodesIdeal.nD Cert.CodesIdeal.τ).loc Cert.CodesIdeal.main_v0)
          = Numbers.number (m ((c.tc : Thread Cert.CodesIdeal.nD Cert.CodesIdeal.τ).loc Cert.CodesIdeal.main_arg0))
        ∧ r.2.mem ((c.tc : Thread Cert.CodesIdeal.nD Cert.CodesIdeal.τ).loc Cert.CodesIdeal.main_arg0)
          = m ((c.tc : Thread Cert.CodesIdeal.nD Cert.CodesIdeal.τ).loc Cert.CodesIdeal.main_arg0)) :=
  (θ_run Cert.CodesIdeal.defs _ _).mono (fun _ h c => ⟨((h.1 c).1 1).trans (Numbers.final m c), h.2.1 c⟩)
    (θ_run_and (Cert.CodesIdeal.Gen.run_main m ρ) (Cert.CodesIdeal.Gen.frame m ρ))

theorem algebraic_numbers : Cert.algebraic_CodesIdeal_CodesRefIdeal := fun m ρ m' ρ' _ hagree =>
  ⟨fun c => Numbers.number (m ((c.tc : Thread Cert.CodesIdeal.nD Cert.CodesIdeal.τ).loc Cert.CodesIdeal.main_arg0)), run_numbers (F := Ideal) m ρ,
    (θ_run Cert.CodesRefIdeal.defs _ _).mono (fun _ h c => ⟨(h c).1.trans (congrArg Numbers.number (hagree c)), (h c).2⟩)
      (Cert.CodesRefIdeal.Value.run (F := Ideal) m' ρ')⟩

theorem bitexact_numbers : Cert.bitexact_Codes_CodesRef := fun m ρ m' ρ' _ hagree =>
  ⟨fun c => Numbers.number (m ((c.tc : Thread Cert.CodesIdeal.nD Cert.CodesIdeal.τ).loc Cert.CodesIdeal.main_arg0)), by rw [Tables.codes]; exact run_numbers (F := Bits) m ρ,
    (θ_run Cert.CodesRef.defs _ _).mono (fun _ h c => ⟨(h c).1.trans (congrArg Numbers.number (hagree c)), (h c).2⟩)
      (Cert.CodesRef.Value.run (F := Bits) m' ρ')⟩

theorem algebraic_attention : Cert.algebraic_AttentionIdeal_AttentionRefIdeal := fun m ρ m' ρ' _ hagree =>
  ⟨fun c => (Cert.AttentionIdeal.Gen.dats m 0 c).arrAt 17 (Cert.AttentionIdeal.cfgs 0).N,
    (θ_run Cert.AttentionIdeal.defs _ _).mono (fun _ h c => ⟨(h.1 c).1 17, h.2.1 c⟩)
      (θ_run_and (Cert.AttentionIdeal.Gen.run_main m ρ) (Cert.AttentionIdeal.Gen.frame m ρ)),
    (θ_run Cert.AttentionRefIdeal.defs _ _).mono
      (fun _ h c => ⟨((h c).1.trans (Query.Plain.ending_eq _)).trans (Eq.trans (Query.Call.agreed m m' c (hagree c)) (Query.Call.final m c).symm), (h c).2⟩)
      (Cert.AttentionRefIdeal.Value.run (F := Ideal) m' ρ')⟩

theorem frame_Ranking : Cert.quiescent_Ranking := fun m ρ _ => by
  rw [Tables.ranking]
  exact Cert.RankingIdeal.Gen.frame (F := Bits) m ρ

theorem frame_RankingIdeal : Cert.quiescent_RankingIdeal := fun m ρ _ => Cert.RankingIdeal.Gen.frame (F := Ideal) m ρ

theorem frame_RankingRefIdeal : Cert.quiescent_RankingRefIdeal := fun m ρ _ =>
  (θ_run Cert.RankingRefIdeal.defs _ _).mono (fun r h => ⟨fun c => (h c).2.2, sem_eq_zero_of_no_sems (by decide) r.2⟩)
    (Cert.RankingRefIdeal.Value.run (F := Ideal) m ρ)

theorem algebraic_ranking : Cert.algebraic_RankingIdeal_RankingRefIdeal := fun m ρ m' ρ' _ hagree =>
  ⟨fun c => Ranking.sorted (m ((c.tc : Thread Cert.RankingIdeal.nD Cert.RankingIdeal.τ).loc Cert.RankingIdeal.main_arg0)),
    fun c => Ranking.cells (m ((c.tc : Thread Cert.RankingIdeal.nD Cert.RankingIdeal.τ).loc Cert.RankingIdeal.main_arg0)),
    (θ_run Cert.RankingIdeal.defs _ _).mono
      (fun _ h c => ⟨((h.1 c).1 1).trans (Ranking.final1 m c), ((h.1 c).1 2).trans (Ranking.final2 m c), h.2.1 c⟩)
      (θ_run_and (Cert.RankingIdeal.Gen.run_main m ρ) (Cert.RankingIdeal.Gen.frame m ρ)),
    (θ_run Cert.RankingRefIdeal.defs _ _).mono
      (fun _ h c => ⟨(h c).1.trans (Ranking.plain1 m c m' (hagree c)), (h c).2.1.trans (Ranking.plain2 m c m' (hagree c)), (h c).2.2⟩)
      (Cert.RankingRefIdeal.Value.run (F := Ideal) m' ρ')⟩

theorem frame_Slots : Cert.quiescent_Slots := fun m ρ hpre => by
  rw [Tables.slots]
  exact Walk.frames (F := Bits) m ρ (Slots.clear m (Slots.parted_of (F := Bits) m Slots.words_agree hpre))

theorem frame_SlotsIdeal : Cert.quiescent_SlotsIdeal := fun m ρ hpre =>
  Walk.frames (F := Ideal) m ρ (Slots.clear m (Slots.parted_of (F := Ideal) m Slots.reals_agree hpre))

theorem frame_SlotsRefIdeal : Cert.quiescent_SlotsRefIdeal := fun m ρ _ =>
  (θ_run Cert.SlotsRefIdeal.defs _ _).mono (fun r h => ⟨fun c => (h c).2.2.2, sem_eq_zero_of_no_sems (by decide) r.2⟩)
    (Cert.SlotsRefIdeal.Value.run (F := Ideal) m ρ)

theorem frame_SlotsRef : Cert.quiescent_SlotsRef := fun m ρ _ =>
  (θ_run Cert.SlotsRef.defs _ _).mono (fun r h => ⟨fun c => (h c).2.2.2, sem_eq_zero_of_no_sems (by decide) r.2⟩)
    (Cert.SlotsRef.Value.run (F := Bits) m ρ)

section Walked

variable {F : FTy → Type} [FloatOps F]
  (m : (ℓ : Loc Cert.SlotsIdeal.nD Cert.SlotsIdeal.τ Cert.SlotsIdeal.sig) → Buf (Elt F) ℓ)
  (d : FVec F Cert.SlotsIdeal.S16x64x64 .f32) (a : IVec Cert.SlotsIdeal.S16x64x64 32) (h : IVec Cert.SlotsIdeal.S4x1x64 32) (c : Dev Cert.SlotsIdeal.nD)

/-- Of the kernel's distances, cells and counts the statement's three results are the kernel's. -/
theorem entries_of (ea : a = Slots.cell m c) (eh : h = Slots.held m c) : WalkR.result0 a h = WalkR.result0 (Slots.cell m c) (Slots.held m c) := by
  subst ea; subst eh; rfl

theorem cells_of (ea : a = Slots.cell m c) (eh : h = Slots.held m c) : WalkR.result1 a h = WalkR.result1 (Slots.cell m c) (Slots.held m c) := by
  subst ea; subst eh; rfl

theorem reached_of (ed : d = Slots.dist m c) (ea : a = Slots.cell m c) (eh : h = Slots.held m c) :
    WalkR.result2 d a h = WalkR.result2 (Slots.dist m c) (Slots.cell m c) (Slots.held m c) := by
  subst ed; subst ea; subst eh; rfl

end Walked

theorem algebraic_slots : Cert.algebraic_SlotsIdeal_SlotsRefIdeal := fun m ρ m' ρ' hpre hagree =>
  ⟨fun c => WalkR.result0 (Slots.cell m c) (Slots.held m c), fun c => WalkR.result1 (Slots.cell m c) (Slots.held m c),
    fun c => WalkR.result2 (Slots.dist m c) (Slots.cell m c) (Slots.held m c),
    Slots.run (F := Ideal) m ρ (Slots.parted_of (F := Ideal) m Slots.reals_agree hpre),
    (θ_run Cert.SlotsRefIdeal.defs _ _).mono
      (fun _ h c => ⟨(h c).1.trans (entries_of (F := Ideal) m _ _ c (hagree c).2.1 (hagree c).2.2.1), (h c).2.1.trans (cells_of (F := Ideal) m _ _ c (hagree c).2.1 (hagree c).2.2.1),
        (h c).2.2.1.trans (reached_of (F := Ideal) m _ _ _ c (hagree c).1 (hagree c).2.1 (hagree c).2.2.1), (h c).2.2.2⟩)
      (Slots.plain (F := Ideal) m' ρ')⟩

theorem bitexact_slots : Cert.bitexact_Slots_SlotsRef := fun m ρ m' ρ' hpre hagree =>
  ⟨fun c => WalkR.result0 (Slots.cell m c) (Slots.held m c), fun c => WalkR.result1 (Slots.cell m c) (Slots.held m c),
    fun c => WalkR.result2 (F := Bits) (Slots.dist m c) (Slots.cell m c) (Slots.held m c),
    by rw [Tables.slots]; exact Slots.run (F := Bits) m ρ (Slots.parted_of (F := Bits) m Slots.words_agree hpre),
    (θ_run Cert.SlotsRef.defs _ _).mono
      (fun _ h c => ⟨(h c).1.trans (entries_of (F := Bits) m _ _ c (hagree c).2.1 (hagree c).2.2.1), (h c).2.1.trans (cells_of (F := Bits) m _ _ c (hagree c).2.1 (hagree c).2.2.1),
        (h c).2.2.1.trans (reached_of (F := Bits) m _ _ _ c (hagree c).1 (hagree c).2.1 (hagree c).2.2.1), (h c).2.2.2⟩)
      (Slots.plain' (F := Bits) m' ρ')⟩

theorem claim : Cert.Claim :=
  ⟨Cert.Kernel.Gen.facts, Cert.KernelIdeal.Gen.facts, Cert.ReferenceIdeal.Gen.facts, Cert.Reference.Gen.facts,
    Cert.Codes.Gen.facts, Cert.CodesIdeal.Gen.facts, Cert.CodesRefIdeal.Gen.facts, Cert.CodesRef.Gen.facts,
    Cert.Attention.Gen.facts, Cert.AttentionIdeal.Gen.facts, Cert.AttentionRefIdeal.Gen.facts,
    Cert.Ranking.Gen.facts, Cert.RankingIdeal.Gen.facts, Cert.RankingRefIdeal.Gen.facts,
    Cert.Slots.Gen.facts, Cert.SlotsIdeal.Gen.facts, Cert.SlotsRefIdeal.Gen.facts, Cert.SlotsRef.Gen.facts, Cert.Pre_in_range.Gen.facts, Cert.Pre_no_ties.Gen.facts,
    frame_Kernel, frame_KernelIdeal, frame_ReferenceIdeal, fun m ρ _ => frame_ReferenceIdeal m ρ trivial, frame_Reference,
    frame_Codes, frame_CodesIdeal, frame_CodesRefIdeal, frame_CodesRef, frame_Attention, frame_AttentionIdeal, frame_AttentionRefIdeal,
    frame_Ranking, frame_RankingIdeal, frame_RankingRefIdeal,
    frame_Slots, frame_SlotsIdeal, frame_SlotsRefIdeal, fun m ρ _ => frame_SlotsRefIdeal m ρ trivial, frame_SlotsRef,
    trivial, algebraic, bitexact, trivial, algebraic_numbers, bitexact_numbers, trivial, algebraic_attention,
    trivial, algebraic_ranking, trivial, algebraic_slots, bitexact_slots⟩

end Cert.Proof

end
